-- ==== Defs.lean ====
def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_mem_finite [hPre_mem_finite : Cert.Pre_mem_finite.Facts] (m : (ℓ : Loc Cert.MemIdeal.nD Cert.MemIdeal.τ Cert.MemIdeal.sig) → Buf (Elt Ideal) ℓ) : Prop :=
  ∀ c : Dev Cert.MemIdeal.nD,
    (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3))) = (fun _ => 1#1)

def Pre_MemGradIdeal (m : (ℓ : Loc Cert.MemGradIdeal.nD Cert.MemGradIdeal.τ Cert.MemGradIdeal.sig) → Buf (Elt Ideal) ℓ) : Prop :=
  True

def Pre_MemGradIdeal_mem_finite [hPre_mem_finite : Cert.Pre_mem_finite.Facts] (m : (ℓ : Loc Cert.MemGradIdeal.nD Cert.MemGradIdeal.τ Cert.MemGradIdeal.sig) → Buf (Elt Ideal) ℓ) : Prop :=
  ∀ c : Dev Cert.MemGradIdeal.nD,
    (Cert.Pre_mem_finite.fn (F := Ideal) (m ((c.tc : Thread Cert.MemGradIdeal.nD Cert.MemGradIdeal.τ).loc Cert.MemGradIdeal.main_arg0)) (m ((c.tc : Thread Cert.MemGradIdeal.nD Cert.MemGradIdeal.τ).loc Cert.MemGradIdeal.main_arg1)) (m ((c.tc : Thread Cert.MemGradIdeal.nD Cert.MemGradIdeal.τ).loc Cert.MemGradIdeal.main_arg2)) (m ((c.tc : Thread Cert.MemGradIdeal.nD Cert.MemGradIdeal.τ).loc Cert.MemGradIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpGradIdeal (m : (ℓ : Loc Cert.MlpGradIdeal.nD Cert.MlpGradIdeal.τ Cert.MlpGradIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownGradIdeal (m : (ℓ : Loc Cert.DownGradIdeal.nD Cert.DownGradIdeal.τ Cert.DownGradIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpGradIdeal (m : (ℓ : Loc Cert.UpGradIdeal.nD Cert.UpGradIdeal.τ Cert.UpGradIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjPlainIdeal (m : (ℓ : Loc Cert.ProjPlainIdeal.nD Cert.ProjPlainIdeal.τ Cert.ProjPlainIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXGradIdeal (m : (ℓ : Loc Cert.InXGradIdeal.nD Cert.InXGradIdeal.τ Cert.InXGradIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InAGradIdeal (m : (ℓ : Loc Cert.InAGradIdeal.nD Cert.InAGradIdeal.τ Cert.InAGradIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBGradIdeal (m : (ℓ : Loc Cert.InBGradIdeal.nD Cert.InBGradIdeal.τ Cert.InBGradIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutGradIdeal (m : (ℓ : Loc Cert.OutGradIdeal.nD Cert.OutGradIdeal.τ Cert.OutGradIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchGradIdeal (m : (ℓ : Loc Cert.BranchGradIdeal.nD Cert.BranchGradIdeal.τ Cert.BranchGradIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergePlainIdeal (m : (ℓ : Loc Cert.MergePlainIdeal.nD Cert.MergePlainIdeal.τ Cert.MergePlainIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixGradIdeal (m : (ℓ : Loc Cert.MixGradIdeal.nD Cert.MixGradIdeal.τ Cert.MixGradIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendPlainIdeal (m : (ℓ : Loc Cert.AttendPlainIdeal.nD Cert.AttendPlainIdeal.τ Cert.AttendPlainIdeal.sig) → Buf (Elt Ideal) ℓ) : Prop :=
  True

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ r.2.sem = fun _ => 0)

def quiescent_MemIdeal_pre_mem_finite [hMemIdeal : Cert.MemIdeal.Facts] [hPre_mem_finite : Cert.Pre_mem_finite.Facts] : Prop :=
  ∀ (m : (ℓ : Loc Cert.MemIdeal.nD Cert.MemIdeal.τ Cert.MemIdeal.sig) → Buf (Elt Ideal) ℓ) (g : Dev Cert.MemIdeal.nD → PrngReg), Pre_MemIdeal_mem_finite m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ r.2.sem = fun _ => 0)

def quiescent_MemGradIdeal [hMemGradIdeal : Cert.MemGradIdeal.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2)
      ∧ r.2.mem ((c.tc : Thread Cert.MemGradIdeal.nD Cert.MemGradIdeal.τ).loc Cert.MemGradIdeal.main_arg3) = m ((c.tc : Thread Cert.MemGradIdeal.nD Cert.MemGradIdeal.τ).loc Cert.MemGradIdeal.main_arg3))
      ∧ r.2.sem = fun _ => 0)

def quiescent_MemGradIdeal_pre_mem_finite [hMemGradIdeal : Cert.MemGradIdeal.Facts] [hPre_mem_finite : Cert.Pre_mem_finite.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal_mem_finite m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2)
      ∧ r.2.mem ((c.tc : Thread Cert.MemGradIdeal.nD Cert.MemGradIdeal.τ).loc Cert.MemGradIdeal.main_arg3) = m ((c.tc : Thread Cert.MemGradIdeal.nD Cert.MemGradIdeal.τ).loc Cert.MemGradIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpGradIdeal [hMlpGradIdeal : Cert.MlpGradIdeal.Facts] : Prop :=
  ∀ (m : (ℓ : Loc Cert.MlpGradIdeal.nD Cert.MlpGradIdeal.τ Cert.MlpGradIdeal.sig) → Buf (Elt Ideal) ℓ) (g : Dev Cert.MlpGradIdeal.nD → PrngReg), Pre_MlpGradIdeal m →
    θ_run (Cert.MlpGradIdeal.defs (F := Ideal)) (onTc (τ := Cert.MlpGradIdeal.τ) (Cert.MlpGradIdeal.main (F := Ideal))) ⟨m, fun _ => 0, g⟩ (fun r => (∀ c : Dev Cert.MlpGradIdeal.nD,
      r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
      ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
      ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2)
      ∧ r.2.mem ((c.tc : Thread Cert.MlpGradIdeal.nD Cert.MlpGradIdeal.τ).loc Cert.MlpGradIdeal.main_arg3) = m ((c.tc : Thread Cert.MlpGradIdeal.nD Cert.MlpGradIdeal.τ).loc Cert.MlpGradIdeal.main_arg3)
      ∧ r.2.mem ((c.tc : Thread Cert.MlpGradIdeal.nD Cert.MlpGradIdeal.τ).loc Cert.MlpGradIdeal.main_arg4) = m ((c.tc : Thread Cert.MlpGradIdeal.nD Cert.MlpGradIdeal.τ).loc Cert.MlpGradIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjPlainIdeal [hProjPlainIdeal : Cert.ProjPlainIdeal.Facts] : Prop :=
  ∀ (m : (ℓ : Loc Cert.ProjPlainIdeal.nD Cert.ProjPlainIdeal.τ Cert.ProjPlainIdeal.sig) → Buf (Elt Ideal) ℓ) (g : Dev Cert.ProjPlainIdeal.nD → PrngReg), Pre_ProjPlainIdeal m →
    θ_run (Cert.ProjPlainIdeal.defs (F := Ideal)) (onTc (τ := Cert.ProjPlainIdeal.τ) (Cert.ProjPlainIdeal.main (F := Ideal))) ⟨m, fun _ => 0, g⟩ (fun r => (∀ c : Dev Cert.ProjPlainIdeal.nD,
      r.2.mem ((c.tc : Thread Cert.ProjPlainIdeal.nD Cert.ProjPlainIdeal.τ).loc Cert.ProjPlainIdeal.main_arg0) = m ((c.tc : Thread Cert.ProjPlainIdeal.nD Cert.ProjPlainIdeal.τ).loc Cert.ProjPlainIdeal.main_arg0)
      ∧ r.2.mem ((c.tc : Thread Cert.ProjPlainIdeal.nD Cert.ProjPlainIdeal.τ).loc Cert.ProjPlainIdeal.main_arg1) = m ((c.tc : Thread Cert.ProjPlainIdeal.nD Cert.ProjPlainIdeal.τ).loc Cert.ProjPlainIdeal.main_arg1)
      ∧ r.2.mem ((c.tc : Thread Cert.ProjPlainIdeal.nD Cert.ProjPlainIdeal.τ).loc Cert.ProjPlainIdeal.main_arg2) = m ((c.tc : Thread Cert.ProjPlainIdeal.nD Cert.ProjPlainIdeal.τ).loc Cert.ProjPlainIdeal.main_arg2))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ r.2.sem = fun _ => 0)

def quiescent_InXGradIdeal [hInXGradIdeal : Cert.InXGradIdeal.Facts] : Prop :=
  ∀ (m : (ℓ : Loc Cert.InXGradIdeal.nD Cert.InXGradIdeal.τ Cert.InXGradIdeal.sig) → Buf (Elt Ideal) ℓ) (g : Dev Cert.InXGradIdeal.nD → PrngReg), Pre_InXGradIdeal m →
    θ_run (Cert.InXGradIdeal.defs (F := Ideal)) (onTc (τ := Cert.InXGradIdeal.τ) (Cert.InXGradIdeal.main (F := Ideal))) ⟨m, fun _ => 0, g⟩ (fun r => (∀ c : Dev Cert.InXGradIdeal.nD,
      r.2.mem ((c.tc : Thread Cert.InXGradIdeal.nD Cert.InXGradIdeal.τ).loc Cert.InXGradIdeal.main_arg0) = m ((c.tc : Thread Cert.InXGradIdeal.nD Cert.InXGradIdeal.τ).loc Cert.InXGradIdeal.main_arg0)
      ∧ r.2.mem ((c.tc : Thread Cert.InXGradIdeal.nD Cert.InXGradIdeal.τ).loc Cert.InXGradIdeal.main_arg1) = m ((c.tc : Thread Cert.InXGradIdeal.nD Cert.InXGradIdeal.τ).loc Cert.InXGradIdeal.main_arg1)
      ∧ r.2.mem ((c.tc : Thread Cert.InXGradIdeal.nD Cert.InXGradIdeal.τ).loc Cert.InXGradIdeal.main_arg2) = m ((c.tc : Thread Cert.InXGradIdeal.nD Cert.InXGradIdeal.τ).loc Cert.InXGradIdeal.main_arg2)
      ∧ r.2.mem ((c.tc : Thread Cert.InXGradIdeal.nD Cert.InXGradIdeal.τ).loc Cert.InXGradIdeal.main_arg3) = m ((c.tc : Thread Cert.InXGradIdeal.nD Cert.InXGradIdeal.τ).loc Cert.InXGradIdeal.main_arg3)
      ∧ r.2.mem ((c.tc : Thread Cert.InXGradIdeal.nD Cert.InXGradIdeal.τ).loc Cert.InXGradIdeal.main_arg4) = m ((c.tc : Thread Cert.InXGradIdeal.nD Cert.InXGradIdeal.τ).loc Cert.InXGradIdeal.main_arg4))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InAGradIdeal [hInAGradIdeal : Cert.InAGradIdeal.Facts] : Prop :=
  ∀ (m : (ℓ : Loc Cert.InAGradIdeal.nD Cert.InAGradIdeal.τ Cert.InAGradIdeal.sig) → Buf (Elt Ideal) ℓ) (g : Dev Cert.InAGradIdeal.nD → PrngReg), Pre_InAGradIdeal m →
    θ_run (Cert.InAGradIdeal.defs (F := Ideal)) (onTc (τ := Cert.InAGradIdeal.τ) (Cert.InAGradIdeal.main (F := Ideal))) ⟨m, fun _ => 0, g⟩ (fun r => (∀ c : Dev Cert.InAGradIdeal.nD,
      r.2.mem ((c.tc : Thread Cert.InAGradIdeal.nD Cert.InAGradIdeal.τ).loc Cert.InAGradIdeal.main_arg0) = m ((c.tc : Thread Cert.InAGradIdeal.nD Cert.InAGradIdeal.τ).loc Cert.InAGradIdeal.main_arg0)
      ∧ r.2.mem ((c.tc : Thread Cert.InAGradIdeal.nD Cert.InAGradIdeal.τ).loc Cert.InAGradIdeal.main_arg1) = m ((c.tc : Thread Cert.InAGradIdeal.nD Cert.InAGradIdeal.τ).loc Cert.InAGradIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBGradIdeal [hInBGradIdeal : Cert.InBGradIdeal.Facts] : Prop :=
  ∀ (m : (ℓ : Loc Cert.InBGradIdeal.nD Cert.InBGradIdeal.τ Cert.InBGradIdeal.sig) → Buf (Elt Ideal) ℓ) (g : Dev Cert.InBGradIdeal.nD → PrngReg), Pre_InBGradIdeal m →
    θ_run (Cert.InBGradIdeal.defs (F := Ideal)) (onTc (τ := Cert.InBGradIdeal.τ) (Cert.InBGradIdeal.main (F := Ideal))) ⟨m, fun _ => 0, g⟩ (fun r => (∀ c : Dev Cert.InBGradIdeal.nD,
      r.2.mem ((c.tc : Thread Cert.InBGradIdeal.nD Cert.InBGradIdeal.τ).loc Cert.InBGradIdeal.main_arg0) = m ((c.tc : Thread Cert.InBGradIdeal.nD Cert.InBGradIdeal.τ).loc Cert.InBGradIdeal.main_arg0)
      ∧ r.2.mem ((c.tc : Thread Cert.InBGradIdeal.nD Cert.InBGradIdeal.τ).loc Cert.InBGradIdeal.main_arg1) = m ((c.tc : Thread Cert.InBGradIdeal.nD Cert.InBGradIdeal.τ).loc Cert.InBGradIdeal.main_arg1)
      ∧ r.2.mem ((c.tc : Thread Cert.InBGradIdeal.nD Cert.InBGradIdeal.τ).loc Cert.InBGradIdeal.main_arg2) = m ((c.tc : Thread Cert.InBGradIdeal.nD Cert.InBGradIdeal.τ).loc Cert.InBGradIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ r.2.sem = fun _ => 0)

def quiescent_BranchGradIdeal [hBranchGradIdeal : Cert.BranchGradIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg), Pre_BranchGradIdeal m →
    θ_run (Cert.BranchGradIdeal.defs (F := Ideal)) (onTc (τ := Cert.BranchGradIdeal.τ) (Cert.BranchGradIdeal.main (F := Ideal))) ⟨m, fun _ => 0, g⟩ (fun r => (∀ c : Dev Cert.BranchGradIdeal.nD,
      r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
      ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1)
      ∧ r.2.mem ((c.tc : Thread Cert.BranchGradIdeal.nD Cert.BranchGradIdeal.τ).loc Cert.BranchGradIdeal.main_arg2) = m ((c.tc : Thread Cert.BranchGradIdeal.nD Cert.BranchGradIdeal.τ).loc Cert.BranchGradIdeal.main_arg2)
      ∧ r.2.mem ((c.tc : Thread Cert.BranchGradIdeal.nD Cert.BranchGradIdeal.τ).loc Cert.BranchGradIdeal.main_arg3) = m ((c.tc : Thread Cert.BranchGradIdeal.nD Cert.BranchGradIdeal.τ).loc Cert.BranchGradIdeal.main_arg3)
      ∧ r.2.mem ((c.tc : Thread Cert.BranchGradIdeal.nD Cert.BranchGradIdeal.τ).loc Cert.BranchGradIdeal.main_arg4) = m ((c.tc : Thread Cert.BranchGradIdeal.nD Cert.BranchGradIdeal.τ).loc Cert.BranchGradIdeal.main_arg4)
      ∧ r.2.mem ((c.tc : Thread Cert.BranchGradIdeal.nD Cert.BranchGradIdeal.τ).loc Cert.BranchGradIdeal.main_arg5) = m ((c.tc : Thread Cert.BranchGradIdeal.nD Cert.BranchGradIdeal.τ).loc Cert.BranchGradIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergePlainIdeal [hMergePlainIdeal : Cert.MergePlainIdeal.Facts] : Prop :=
  ∀ (m : (ℓ : Loc Cert.MergePlainIdeal.nD Cert.MergePlainIdeal.τ Cert.MergePlainIdeal.sig) → Buf (Elt Ideal) ℓ) (g : Dev Cert.MergePlainIdeal.nD → PrngReg), Pre_MergePlainIdeal m →
    θ_run (Cert.MergePlainIdeal.defs (F := Ideal)) (onTc (τ := Cert.MergePlainIdeal.τ) (Cert.MergePlainIdeal.main (F := Ideal))) ⟨m, fun _ => 0, g⟩ (fun r => (∀ c : Dev Cert.MergePlainIdeal.nD,
      r.2.mem ((c.tc : Thread Cert.MergePlainIdeal.nD Cert.MergePlainIdeal.τ).loc Cert.MergePlainIdeal.main_arg0) = m ((c.tc : Thread Cert.MergePlainIdeal.nD Cert.MergePlainIdeal.τ).loc Cert.MergePlainIdeal.main_arg0)
      ∧ r.2.mem ((c.tc : Thread Cert.MergePlainIdeal.nD Cert.MergePlainIdeal.τ).loc Cert.MergePlainIdeal.main_arg1) = m ((c.tc : Thread Cert.MergePlainIdeal.nD Cert.MergePlainIdeal.τ).loc Cert.MergePlainIdeal.main_arg1)
      ∧ r.2.mem ((c.tc : Thread Cert.MergePlainIdeal.nD Cert.MergePlainIdeal.τ).loc Cert.MergePlainIdeal.main_arg2) = m ((c.tc : Thread Cert.MergePlainIdeal.nD Cert.MergePlainIdeal.τ).loc Cert.MergePlainIdeal.main_arg2)
      ∧ r.2.mem ((c.tc : Thread Cert.MergePlainIdeal.nD Cert.MergePlainIdeal.τ).loc Cert.MergePlainIdeal.main_arg3) = m ((c.tc : Thread Cert.MergePlainIdeal.nD Cert.MergePlainIdeal.τ).loc Cert.MergePlainIdeal.main_arg3)
      ∧ r.2.mem ((c.tc : Thread Cert.MergePlainIdeal.nD Cert.MergePlainIdeal.τ).loc Cert.MergePlainIdeal.main_arg4) = m ((c.tc : Thread Cert.MergePlainIdeal.nD Cert.MergePlainIdeal.τ).loc Cert.MergePlainIdeal.main_arg4)
      ∧ r.2.mem ((c.tc : Thread Cert.MergePlainIdeal.nD Cert.MergePlainIdeal.τ).loc Cert.MergePlainIdeal.main_arg5) = m ((c.tc : Thread Cert.MergePlainIdeal.nD Cert.MergePlainIdeal.τ).loc Cert.MergePlainIdeal.main_arg5)
      ∧ r.2.mem ((c.tc : Thread Cert.MergePlainIdeal.nD Cert.MergePlainIdeal.τ).loc Cert.MergePlainIdeal.main_arg6) = m ((c.tc : Thread Cert.MergePlainIdeal.nD Cert.MergePlainIdeal.τ).loc Cert.MergePlainIdeal.main_arg6)
      ∧ r.2.mem ((c.tc : Thread Cert.MergePlainIdeal.nD Cert.MergePlainIdeal.τ).loc Cert.MergePlainIdeal.main_arg7) = m ((c.tc : Thread Cert.MergePlainIdeal.nD Cert.MergePlainIdeal.τ).loc Cert.MergePlainIdeal.main_arg7)
      ∧ r.2.mem ((c.tc : Thread Cert.MergePlainIdeal.nD Cert.MergePlainIdeal.τ).loc Cert.MergePlainIdeal.main_arg8) = m ((c.tc : Thread Cert.MergePlainIdeal.nD Cert.MergePlainIdeal.τ).loc Cert.MergePlainIdeal.main_arg8)
      ∧ r.2.mem ((c.tc : Thread Cert.MergePlainIdeal.nD Cert.MergePlainIdeal.τ).loc Cert.MergePlainIdeal.main_arg9) = m ((c.tc : Thread Cert.MergePlainIdeal.nD Cert.MergePlainIdeal.τ).loc Cert.MergePlainIdeal.main_arg9)
      ∧ r.2.mem ((c.tc : Thread Cert.MergePlainIdeal.nD Cert.MergePlainIdeal.τ).loc Cert.MergePlainIdeal.main_arg10) = m ((c.tc : Thread Cert.MergePlainIdeal.nD Cert.MergePlainIdeal.τ).loc Cert.MergePlainIdeal.main_arg10))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
      ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendPlainIdeal [hAttendPlainIdeal : Cert.AttendPlainIdeal.Facts] : Prop :=
  ∀ (m : (ℓ : Loc Cert.AttendPlainIdeal.nD Cert.AttendPlainIdeal.τ Cert.AttendPlainIdeal.sig) → Buf (Elt Ideal) ℓ) (g : Dev Cert.AttendPlainIdeal.nD → PrngReg), Pre_AttendPlainIdeal m →
    θ_run (Cert.AttendPlainIdeal.defs (F := Ideal)) (onTc (τ := Cert.AttendPlainIdeal.τ) (Cert.AttendPlainIdeal.main (F := Ideal))) ⟨m, fun _ => 0, g⟩ (fun r => (∀ c : Dev Cert.AttendPlainIdeal.nD,
      r.2.mem ((c.tc : Thread Cert.AttendPlainIdeal.nD Cert.AttendPlainIdeal.τ).loc Cert.AttendPlainIdeal.main_arg0) = m ((c.tc : Thread Cert.AttendPlainIdeal.nD Cert.AttendPlainIdeal.τ).loc Cert.AttendPlainIdeal.main_arg0)
      ∧ r.2.mem ((c.tc : Thread Cert.AttendPlainIdeal.nD Cert.AttendPlainIdeal.τ).loc Cert.AttendPlainIdeal.main_arg1) = m ((c.tc : Thread Cert.AttendPlainIdeal.nD Cert.AttendPlainIdeal.τ).loc Cert.AttendPlainIdeal.main_arg1)
      ∧ r.2.mem ((c.tc : Thread Cert.AttendPlainIdeal.nD Cert.AttendPlainIdeal.τ).loc Cert.AttendPlainIdeal.main_arg2) = m ((c.tc : Thread Cert.AttendPlainIdeal.nD Cert.AttendPlainIdeal.τ).loc Cert.AttendPlainIdeal.main_arg2))
      ∧ r.2.sem = fun _ => 0)

def preserves_Mem_MemIdeal : Prop :=
  True

def algebraic_MemIdeal_MemGradIdeal_pre_mem_finite [hMemIdeal : Cert.MemIdeal.Facts] [hMemGradIdeal : Cert.MemGradIdeal.Facts] [hPre_mem_finite : Cert.Pre_mem_finite.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemGradIdeal.nD Cert.MemGradIdeal.τ Cert.MemGradIdeal.sig) → Buf (Elt Ideal) ℓ) (g' : Dev Cert.MemGradIdeal.nD → PrngReg), Pre_MemIdeal_mem_finite m →
    (∀ c : Dev Cert.MemIdeal.nD,
      m' ((c.tc : Thread Cert.MemGradIdeal.nD Cert.MemGradIdeal.τ).loc Cert.MemGradIdeal.main_arg0) = m ((c.tc : Thread Cert.MemIdeal.nD Cert.MemIdeal.τ).loc Cert.MemIdeal.main_arg0)
      ∧ m' ((c.tc : Thread Cert.MemGradIdeal.nD Cert.MemGradIdeal.τ).loc Cert.MemGradIdeal.main_arg1) = m ((c.tc : Thread Cert.MemIdeal.nD Cert.MemIdeal.τ).loc Cert.MemIdeal.main_arg1)
      ∧ m' ((c.tc : Thread Cert.MemGradIdeal.nD Cert.MemGradIdeal.τ).loc Cert.MemGradIdeal.main_arg2) = m ((c.tc : Thread Cert.MemIdeal.nD Cert.MemIdeal.τ).loc Cert.MemIdeal.main_arg2)
      ∧ m' ((c.tc : Thread Cert.MemGradIdeal.nD Cert.MemGradIdeal.τ).loc Cert.MemGradIdeal.main_arg3) = m ((c.tc : Thread Cert.MemIdeal.nD Cert.MemIdeal.τ).loc Cert.MemIdeal.main_arg3)) →
    ∃ (v0 : (c : Dev Cert.MemIdeal.nD) → Buf (Elt Ideal) ((c.tc : Thread Cert.MemIdeal.nD Cert.MemIdeal.τ).loc Cert.MemIdeal.main_v0_0)) (v1 : (c : Dev Cert.MemIdeal.nD) → Buf (Elt Ideal) ((c.tc : Thread Cert.MemIdeal.nD Cert.MemIdeal.τ).loc Cert.MemIdeal.main_v0_1)) (v2 : (c : Dev Cert.MemIdeal.nD) → Buf (Elt Ideal) ((c.tc : Thread Cert.MemIdeal.nD Cert.MemIdeal.τ).loc Cert.MemIdeal.main_v0_2)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0_0) = v0 c
          ∧ r.2.mem ((c.tc : Thread Cert.MemIdeal.nD Cert.MemIdeal.τ).loc Cert.MemIdeal.main_v0_1) = v1 c
          ∧ r.2.mem ((c.tc : Thread Cert.MemIdeal.nD Cert.MemIdeal.τ).loc Cert.MemIdeal.main_v0_2) = v2 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ θ_run (Cert.MemGradIdeal.defs (F := Ideal)) (onTc (τ := Cert.MemGradIdeal.τ) (Cert.MemGradIdeal.main (F := Ideal))) ⟨m', fun _ => 0, g'⟩ (fun r => ∀ c : Dev Cert.MemGradIdeal.nD,
          r.2.mem ((c.tc : Thread Cert.MemGradIdeal.nD Cert.MemGradIdeal.τ).loc Cert.MemGradIdeal.main_v67) = v0 c
          ∧ r.2.mem ((c.tc : Thread Cert.MemGradIdeal.nD Cert.MemGradIdeal.τ).loc Cert.MemGradIdeal.main_v65) = v1 c
          ∧ r.2.mem ((c.tc : Thread Cert.MemGradIdeal.nD Cert.MemGradIdeal.τ).loc Cert.MemGradIdeal.main_v64) = v2 c
          ∧ r.2.mem ((c.tc : Thread Cert.MemGradIdeal.nD Cert.MemGradIdeal.τ).loc Cert.MemGradIdeal.main_arg0) = m' ((c.tc : Thread Cert.MemGradIdeal.nD Cert.MemGradIdeal.τ).loc Cert.MemGradIdeal.main_arg0)
          ∧ r.2.mem ((c.tc : Thread Cert.MemGradIdeal.nD Cert.MemGradIdeal.τ).loc Cert.MemGradIdeal.main_arg1) = m' ((c.tc : Thread Cert.MemGradIdeal.nD Cert.MemGradIdeal.τ).loc Cert.MemGradIdeal.main_arg1)
          ∧ r.2.mem ((c.tc : Thread Cert.MemGradIdeal.nD Cert.MemGradIdeal.τ).loc Cert.MemGradIdeal.main_arg2) = m' ((c.tc : Thread Cert.MemGradIdeal.nD Cert.MemGradIdeal.τ).loc Cert.MemGradIdeal.main_arg2)
          ∧ r.2.mem ((c.tc : Thread Cert.MemGradIdeal.nD Cert.MemGradIdeal.τ).loc Cert.MemGradIdeal.main_arg3) = m' ((c.tc : Thread Cert.MemGradIdeal.nD Cert.MemGradIdeal.τ).loc Cert.MemGradIdeal.main_arg3))

def preserves_Mlp_MlpIdeal : Prop :=
  True

def algebraic_MlpIdeal_MlpGradIdeal [hMlpIdeal : Cert.MlpIdeal.Facts] [hMlpGradIdeal : Cert.MlpGradIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpGradIdeal.nD Cert.MlpGradIdeal.τ Cert.MlpGradIdeal.sig) → Buf (Elt Ideal) ℓ) (g' : Dev Cert.MlpGradIdeal.nD → PrngReg), Pre_MlpIdeal m →
    (∀ c : Dev Cert.MlpIdeal.nD,
      m' ((c.tc : Thread Cert.MlpGradIdeal.nD Cert.MlpGradIdeal.τ).loc Cert.MlpGradIdeal.main_arg0) = m ((c.tc : Thread Cert.MlpIdeal.nD Cert.MlpIdeal.τ).loc Cert.MlpIdeal.main_arg0)
      ∧ m' ((c.tc : Thread Cert.MlpGradIdeal.nD Cert.MlpGradIdeal.τ).loc Cert.MlpGradIdeal.main_arg1) = m ((c.tc : Thread Cert.MlpIdeal.nD Cert.MlpIdeal.τ).loc Cert.MlpIdeal.main_arg1)
      ∧ m' ((c.tc : Thread Cert.MlpGradIdeal.nD Cert.MlpGradIdeal.τ).loc Cert.MlpGradIdeal.main_arg2) = m ((c.tc : Thread Cert.MlpIdeal.nD Cert.MlpIdeal.τ).loc Cert.MlpIdeal.main_arg2)
      ∧ m' ((c.tc : Thread Cert.MlpGradIdeal.nD Cert.MlpGradIdeal.τ).loc Cert.MlpGradIdeal.main_arg3) = m ((c.tc : Thread Cert.MlpIdeal.nD Cert.MlpIdeal.τ).loc Cert.MlpIdeal.main_arg3)
      ∧ m' ((c.tc : Thread Cert.MlpGradIdeal.nD Cert.MlpGradIdeal.τ).loc Cert.MlpGradIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v16_2)) (v1 : (c : Dev Cert.MlpIdeal.nD) → Buf (Elt Ideal) ((c.tc : Thread Cert.MlpIdeal.nD Cert.MlpIdeal.τ).loc Cert.MlpIdeal.main_v18_0)) (v2 : (c : Dev Cert.MlpIdeal.nD) → Buf (Elt Ideal) ((c.tc : Thread Cert.MlpIdeal.nD Cert.MlpIdeal.τ).loc Cert.MlpIdeal.main_v18_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v16_2) = v0 c
          ∧ r.2.mem ((c.tc : Thread Cert.MlpIdeal.nD Cert.MlpIdeal.τ).loc Cert.MlpIdeal.main_v18_0) = v1 c
          ∧ r.2.mem ((c.tc : Thread Cert.MlpIdeal.nD Cert.MlpIdeal.τ).loc Cert.MlpIdeal.main_v18_1) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpGradIdeal.defs (F := Ideal)) (onTc (τ := Cert.MlpGradIdeal.τ) (Cert.MlpGradIdeal.main (F := Ideal))) ⟨m', fun _ => 0, g'⟩ (fun r => ∀ c : Dev Cert.MlpGradIdeal.nD,
          r.2.mem ((c.tc : Thread Cert.MlpGradIdeal.nD Cert.MlpGradIdeal.τ).loc Cert.MlpGradIdeal.main_v70) = v0 c
          ∧ r.2.mem ((c.tc : Thread Cert.MlpGradIdeal.nD Cert.MlpGradIdeal.τ).loc Cert.MlpGradIdeal.main_v69) = v1 c
          ∧ r.2.mem ((c.tc : Thread Cert.MlpGradIdeal.nD Cert.MlpGradIdeal.τ).loc Cert.MlpGradIdeal.main_v71) = v2 c
          ∧ r.2.mem ((c.tc : Thread Cert.MlpGradIdeal.nD Cert.MlpGradIdeal.τ).loc Cert.MlpGradIdeal.main_arg0) = m' ((c.tc : Thread Cert.MlpGradIdeal.nD Cert.MlpGradIdeal.τ).loc Cert.MlpGradIdeal.main_arg0)
          ∧ r.2.mem ((c.tc : Thread Cert.MlpGradIdeal.nD Cert.MlpGradIdeal.τ).loc Cert.MlpGradIdeal.main_arg1) = m' ((c.tc : Thread Cert.MlpGradIdeal.nD Cert.MlpGradIdeal.τ).loc Cert.MlpGradIdeal.main_arg1)
          ∧ r.2.mem ((c.tc : Thread Cert.MlpGradIdeal.nD Cert.MlpGradIdeal.τ).loc Cert.MlpGradIdeal.main_arg2) = m' ((c.tc : Thread Cert.MlpGradIdeal.nD Cert.MlpGradIdeal.τ).loc Cert.MlpGradIdeal.main_arg2)
          ∧ r.2.mem ((c.tc : Thread Cert.MlpGradIdeal.nD Cert.MlpGradIdeal.τ).loc Cert.MlpGradIdeal.main_arg3) = m' ((c.tc : Thread Cert.MlpGradIdeal.nD Cert.MlpGradIdeal.τ).loc Cert.MlpGradIdeal.main_arg3)
          ∧ r.2.mem ((c.tc : Thread Cert.MlpGradIdeal.nD Cert.MlpGradIdeal.τ).loc Cert.MlpGradIdeal.main_arg4) = m' ((c.tc : Thread Cert.MlpGradIdeal.nD Cert.MlpGradIdeal.τ).loc Cert.MlpGradIdeal.main_arg4))

def preserves_Down_DownIdeal : Prop :=
  True

def algebraic_DownIdeal_DownGradIdeal [hDownIdeal : Cert.DownIdeal.Facts] [hDownGradIdeal : Cert.DownGradIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownGradIdeal.nD Cert.DownGradIdeal.τ Cert.DownGradIdeal.sig) → Buf (Elt Ideal) ℓ) (g' : Dev Cert.DownGradIdeal.nD → PrngReg), Pre_DownIdeal m →
    (∀ c : Dev Cert.DownIdeal.nD,
      m' ((c.tc : Thread Cert.DownGradIdeal.nD Cert.DownGradIdeal.τ).loc Cert.DownGradIdeal.main_arg0) = m ((c.tc : Thread Cert.DownIdeal.nD Cert.DownIdeal.τ).loc Cert.DownIdeal.main_arg0)
      ∧ m' ((c.tc : Thread Cert.DownGradIdeal.nD Cert.DownGradIdeal.τ).loc Cert.DownGradIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownGradIdeal.defs (F := Ideal)) (onTc (τ := Cert.DownGradIdeal.τ) (Cert.DownGradIdeal.main (F := Ideal))) ⟨m', fun _ => 0, g'⟩ (fun r => ∀ c : Dev Cert.DownGradIdeal.nD,
          r.2.mem ((c.tc : Thread Cert.DownGradIdeal.nD Cert.DownGradIdeal.τ).loc Cert.DownGradIdeal.main_v6) = v0 c
          ∧ r.2.mem ((c.tc : Thread Cert.DownGradIdeal.nD Cert.DownGradIdeal.τ).loc Cert.DownGradIdeal.main_arg0) = m' ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m' ((c.tc : Thread Cert.DownGradIdeal.nD Cert.DownGradIdeal.τ).loc Cert.DownGradIdeal.main_arg1))

def preserves_Up_UpIdeal : Prop :=
  True

def algebraic_UpIdeal_UpGradIdeal [hUpIdeal : Cert.UpIdeal.Facts] [hUpGradIdeal : Cert.UpGradIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpGradIdeal.nD Cert.UpGradIdeal.τ Cert.UpGradIdeal.sig) → Buf (Elt Ideal) ℓ) (g' : Dev Cert.UpGradIdeal.nD → PrngReg), Pre_UpIdeal m →
    (∀ c : Dev Cert.UpIdeal.nD,
      m' ((c.tc : Thread Cert.UpGradIdeal.nD Cert.UpGradIdeal.τ).loc Cert.UpGradIdeal.main_arg0) = m ((c.tc : Thread Cert.UpIdeal.nD Cert.UpIdeal.τ).loc Cert.UpIdeal.main_arg0)
      ∧ m' ((c.tc : Thread Cert.UpGradIdeal.nD Cert.UpGradIdeal.τ).loc Cert.UpGradIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpGradIdeal.defs (F := Ideal)) (onTc (τ := Cert.UpGradIdeal.τ) (Cert.UpGradIdeal.main (F := Ideal))) ⟨m', fun _ => 0, g'⟩ (fun r => ∀ c : Dev Cert.UpGradIdeal.nD,
          r.2.mem ((c.tc : Thread Cert.UpGradIdeal.nD Cert.UpGradIdeal.τ).loc Cert.UpGradIdeal.main_v8) = v0 c
          ∧ r.2.mem ((c.tc : Thread Cert.UpGradIdeal.nD Cert.UpGradIdeal.τ).loc Cert.UpGradIdeal.main_arg0) = m' ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m' ((c.tc : Thread Cert.UpGradIdeal.nD Cert.UpGradIdeal.τ).loc Cert.UpGradIdeal.main_arg1))

def preserves_Proj_ProjIdeal : Prop :=
  True

def algebraic_ProjIdeal_ProjPlainIdeal [hProjIdeal : Cert.ProjIdeal.Facts] [hProjPlainIdeal : Cert.ProjPlainIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjPlainIdeal.nD Cert.ProjPlainIdeal.τ Cert.ProjPlainIdeal.sig) → Buf (Elt Ideal) ℓ) (g' : Dev Cert.ProjPlainIdeal.nD → PrngReg), Pre_ProjIdeal m →
    (∀ c : Dev Cert.ProjIdeal.nD,
      m' ((c.tc : Thread Cert.ProjPlainIdeal.nD Cert.ProjPlainIdeal.τ).loc Cert.ProjPlainIdeal.main_arg0) = m ((c.tc : Thread Cert.ProjIdeal.nD Cert.ProjIdeal.τ).loc Cert.ProjIdeal.main_arg0)
      ∧ m' ((c.tc : Thread Cert.ProjPlainIdeal.nD Cert.ProjPlainIdeal.τ).loc Cert.ProjPlainIdeal.main_arg1) = m ((c.tc : Thread Cert.ProjIdeal.nD Cert.ProjIdeal.τ).loc Cert.ProjIdeal.main_arg1)
      ∧ m' ((c.tc : Thread Cert.ProjPlainIdeal.nD Cert.ProjPlainIdeal.τ).loc Cert.ProjPlainIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)) (v1 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_v3) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjPlainIdeal.defs (F := Ideal)) (onTc (τ := Cert.ProjPlainIdeal.τ) (Cert.ProjPlainIdeal.main (F := Ideal))) ⟨m', fun _ => 0, g'⟩ (fun r => ∀ c : Dev Cert.ProjPlainIdeal.nD,
          r.2.mem ((c.tc : Thread Cert.ProjPlainIdeal.nD Cert.ProjPlainIdeal.τ).loc Cert.ProjPlainIdeal.main_v16) = v0 c
          ∧ r.2.mem ((c.tc : Thread Cert.ProjPlainIdeal.nD Cert.ProjPlainIdeal.τ).loc Cert.ProjPlainIdeal.main_v17) = v1 c
          ∧ r.2.mem ((c.tc : Thread Cert.ProjPlainIdeal.nD Cert.ProjPlainIdeal.τ).loc Cert.ProjPlainIdeal.main_arg0) = m' ((c.tc : Thread Cert.ProjPlainIdeal.nD Cert.ProjPlainIdeal.τ).loc Cert.ProjPlainIdeal.main_arg0)
          ∧ r.2.mem ((c.tc : Thread Cert.ProjPlainIdeal.nD Cert.ProjPlainIdeal.τ).loc Cert.ProjPlainIdeal.main_arg1) = m' ((c.tc : Thread Cert.ProjPlainIdeal.nD Cert.ProjPlainIdeal.τ).loc Cert.ProjPlainIdeal.main_arg1)
          ∧ r.2.mem ((c.tc : Thread Cert.ProjPlainIdeal.nD Cert.ProjPlainIdeal.τ).loc Cert.ProjPlainIdeal.main_arg2) = m' ((c.tc : Thread Cert.ProjPlainIdeal.nD Cert.ProjPlainIdeal.τ).loc Cert.ProjPlainIdeal.main_arg2))

def preserves_InX_InXIdeal : Prop :=
  True

def algebraic_InXIdeal_InXGradIdeal [hInXIdeal : Cert.InXIdeal.Facts] [hInXGradIdeal : Cert.InXGradIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXGradIdeal.nD Cert.InXGradIdeal.τ Cert.InXGradIdeal.sig) → Buf (Elt Ideal) ℓ) (g' : Dev Cert.InXGradIdeal.nD → PrngReg), Pre_InXIdeal m →
    (∀ c : Dev Cert.InXIdeal.nD,
      m' ((c.tc : Thread Cert.InXGradIdeal.nD Cert.InXGradIdeal.τ).loc Cert.InXGradIdeal.main_arg0) = m ((c.tc : Thread Cert.InXIdeal.nD Cert.InXIdeal.τ).loc Cert.InXIdeal.main_arg0)
      ∧ m' ((c.tc : Thread Cert.InXGradIdeal.nD Cert.InXGradIdeal.τ).loc Cert.InXGradIdeal.main_arg1) = m ((c.tc : Thread Cert.InXIdeal.nD Cert.InXIdeal.τ).loc Cert.InXIdeal.main_arg1)
      ∧ m' ((c.tc : Thread Cert.InXGradIdeal.nD Cert.InXGradIdeal.τ).loc Cert.InXGradIdeal.main_arg2) = m ((c.tc : Thread Cert.InXIdeal.nD Cert.InXIdeal.τ).loc Cert.InXIdeal.main_arg2)
      ∧ m' ((c.tc : Thread Cert.InXGradIdeal.nD Cert.InXGradIdeal.τ).loc Cert.InXGradIdeal.main_arg3) = m ((c.tc : Thread Cert.InXIdeal.nD Cert.InXIdeal.τ).loc Cert.InXIdeal.main_arg3)
      ∧ m' ((c.tc : Thread Cert.InXGradIdeal.nD Cert.InXGradIdeal.τ).loc Cert.InXGradIdeal.main_arg4) = m ((c.tc : Thread Cert.InXIdeal.nD Cert.InXIdeal.τ).loc Cert.InXIdeal.main_arg4)) →
    ∃ (v0 : (c : Dev Cert.InXIdeal.nD) → Buf (Elt Ideal) ((c.tc : Thread Cert.InXIdeal.nD Cert.InXIdeal.τ).loc Cert.InXIdeal.main_v0_0)) (v1 : (c : Dev Cert.InXIdeal.nD) → Buf (Elt Ideal) ((c.tc : Thread Cert.InXIdeal.nD Cert.InXIdeal.τ).loc Cert.InXIdeal.main_v0_1)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0_0) = v0 c
          ∧ r.2.mem ((c.tc : Thread Cert.InXIdeal.nD Cert.InXIdeal.τ).loc Cert.InXIdeal.main_v0_1) = v1 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ θ_run (Cert.InXGradIdeal.defs (F := Ideal)) (onTc (τ := Cert.InXGradIdeal.τ) (Cert.InXGradIdeal.main (F := Ideal))) ⟨m', fun _ => 0, g'⟩ (fun r => ∀ c : Dev Cert.InXGradIdeal.nD,
          r.2.mem ((c.tc : Thread Cert.InXGradIdeal.nD Cert.InXGradIdeal.τ).loc Cert.InXGradIdeal.main_v41) = v0 c
          ∧ r.2.mem ((c.tc : Thread Cert.InXGradIdeal.nD Cert.InXGradIdeal.τ).loc Cert.InXGradIdeal.main_v42) = v1 c
          ∧ r.2.mem ((c.tc : Thread Cert.InXGradIdeal.nD Cert.InXGradIdeal.τ).loc Cert.InXGradIdeal.main_arg0) = m' ((c.tc : Thread Cert.InXGradIdeal.nD Cert.InXGradIdeal.τ).loc Cert.InXGradIdeal.main_arg0)
          ∧ r.2.mem ((c.tc : Thread Cert.InXGradIdeal.nD Cert.InXGradIdeal.τ).loc Cert.InXGradIdeal.main_arg1) = m' ((c.tc : Thread Cert.InXGradIdeal.nD Cert.InXGradIdeal.τ).loc Cert.InXGradIdeal.main_arg1)
          ∧ r.2.mem ((c.tc : Thread Cert.InXGradIdeal.nD Cert.InXGradIdeal.τ).loc Cert.InXGradIdeal.main_arg2) = m' ((c.tc : Thread Cert.InXGradIdeal.nD Cert.InXGradIdeal.τ).loc Cert.InXGradIdeal.main_arg2)
          ∧ r.2.mem ((c.tc : Thread Cert.InXGradIdeal.nD Cert.InXGradIdeal.τ).loc Cert.InXGradIdeal.main_arg3) = m' ((c.tc : Thread Cert.InXGradIdeal.nD Cert.InXGradIdeal.τ).loc Cert.InXGradIdeal.main_arg3)
          ∧ r.2.mem ((c.tc : Thread Cert.InXGradIdeal.nD Cert.InXGradIdeal.τ).loc Cert.InXGradIdeal.main_arg4) = m' ((c.tc : Thread Cert.InXGradIdeal.nD Cert.InXGradIdeal.τ).loc Cert.InXGradIdeal.main_arg4))

def preserves_InA_InAIdeal : Prop :=
  True

def algebraic_InAIdeal_InAGradIdeal [hInAIdeal : Cert.InAIdeal.Facts] [hInAGradIdeal : Cert.InAGradIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InAGradIdeal.nD Cert.InAGradIdeal.τ Cert.InAGradIdeal.sig) → Buf (Elt Ideal) ℓ) (g' : Dev Cert.InAGradIdeal.nD → PrngReg), Pre_InAIdeal m →
    (∀ c : Dev Cert.InAIdeal.nD,
      m' ((c.tc : Thread Cert.InAGradIdeal.nD Cert.InAGradIdeal.τ).loc Cert.InAGradIdeal.main_arg0) = m ((c.tc : Thread Cert.InAIdeal.nD Cert.InAIdeal.τ).loc Cert.InAIdeal.main_arg0)
      ∧ m' ((c.tc : Thread Cert.InAGradIdeal.nD Cert.InAGradIdeal.τ).loc Cert.InAGradIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v0)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v0) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InAGradIdeal.defs (F := Ideal)) (onTc (τ := Cert.InAGradIdeal.τ) (Cert.InAGradIdeal.main (F := Ideal))) ⟨m', fun _ => 0, g'⟩ (fun r => ∀ c : Dev Cert.InAGradIdeal.nD,
          r.2.mem ((c.tc : Thread Cert.InAGradIdeal.nD Cert.InAGradIdeal.τ).loc Cert.InAGradIdeal.main_v7) = v0 c
          ∧ r.2.mem ((c.tc : Thread Cert.InAGradIdeal.nD Cert.InAGradIdeal.τ).loc Cert.InAGradIdeal.main_arg0) = m' ((c.tc : Thread Cert.InAGradIdeal.nD Cert.InAGradIdeal.τ).loc Cert.InAGradIdeal.main_arg0)
          ∧ r.2.mem ((c.tc : Thread Cert.InAGradIdeal.nD Cert.InAGradIdeal.τ).loc Cert.InAGradIdeal.main_arg1) = m' ((c.tc : Thread Cert.InAGradIdeal.nD Cert.InAGradIdeal.τ).loc Cert.InAGradIdeal.main_arg1))

def preserves_InB_InBIdeal : Prop :=
  True

def algebraic_InBIdeal_InBGradIdeal [hInBIdeal : Cert.InBIdeal.Facts] [hInBGradIdeal : Cert.InBGradIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBGradIdeal.nD Cert.InBGradIdeal.τ Cert.InBGradIdeal.sig) → Buf (Elt Ideal) ℓ) (g' : Dev Cert.InBGradIdeal.nD → PrngReg), Pre_InBIdeal m →
    (∀ c : Dev Cert.InBIdeal.nD,
      m' ((c.tc : Thread Cert.InBGradIdeal.nD Cert.InBGradIdeal.τ).loc Cert.InBGradIdeal.main_arg0) = m ((c.tc : Thread Cert.InBIdeal.nD Cert.InBIdeal.τ).loc Cert.InBIdeal.main_arg0)
      ∧ m' ((c.tc : Thread Cert.InBGradIdeal.nD Cert.InBGradIdeal.τ).loc Cert.InBGradIdeal.main_arg1) = m ((c.tc : Thread Cert.InBIdeal.nD Cert.InBIdeal.τ).loc Cert.InBIdeal.main_arg1)
      ∧ m' ((c.tc : Thread Cert.InBGradIdeal.nD Cert.InBGradIdeal.τ).loc Cert.InBGradIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBGradIdeal.defs (F := Ideal)) (onTc (τ := Cert.InBGradIdeal.τ) (Cert.InBGradIdeal.main (F := Ideal))) ⟨m', fun _ => 0, g'⟩ (fun r => ∀ c : Dev Cert.InBGradIdeal.nD,
          r.2.mem ((c.tc : Thread Cert.InBGradIdeal.nD Cert.InBGradIdeal.τ).loc Cert.InBGradIdeal.main_v7) = v0 c
          ∧ r.2.mem ((c.tc : Thread Cert.InBGradIdeal.nD Cert.InBGradIdeal.τ).loc Cert.InBGradIdeal.main_arg0) = m' ((c.tc : Thread Cert.InBGradIdeal.nD Cert.InBGradIdeal.τ).loc Cert.InBGradIdeal.main_arg0)
          ∧ r.2.mem ((c.tc : Thread Cert.InBGradIdeal.nD Cert.InBGradIdeal.τ).loc Cert.InBGradIdeal.main_arg1) = m' ((c.tc : Thread Cert.InBGradIdeal.nD Cert.InBGradIdeal.τ).loc Cert.InBGradIdeal.main_arg1)
          ∧ r.2.mem ((c.tc : Thread Cert.InBGradIdeal.nD Cert.InBGradIdeal.τ).loc Cert.InBGradIdeal.main_arg2) = m' ((c.tc : Thread Cert.InBGradIdeal.nD Cert.InBGradIdeal.τ).loc Cert.InBGradIdeal.main_arg2))

def preserves_Out_OutIdeal : Prop :=
  True

def algebraic_OutIdeal_OutGradIdeal [hOutIdeal : Cert.OutIdeal.Facts] [hOutGradIdeal : Cert.OutGradIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutGradIdeal.nD Cert.OutGradIdeal.τ Cert.OutGradIdeal.sig) → Buf (Elt Ideal) ℓ) (g' : Dev Cert.OutGradIdeal.nD → PrngReg), Pre_OutIdeal m →
    (∀ c : Dev Cert.OutIdeal.nD,
      m' ((c.tc : Thread Cert.OutGradIdeal.nD Cert.OutGradIdeal.τ).loc Cert.OutGradIdeal.main_arg0) = m ((c.tc : Thread Cert.OutIdeal.nD Cert.OutIdeal.τ).loc Cert.OutIdeal.main_arg0)
      ∧ m' ((c.tc : Thread Cert.OutGradIdeal.nD Cert.OutGradIdeal.τ).loc Cert.OutGradIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutGradIdeal.defs (F := Ideal)) (onTc (τ := Cert.OutGradIdeal.τ) (Cert.OutGradIdeal.main (F := Ideal))) ⟨m', fun _ => 0, g'⟩ (fun r => ∀ c : Dev Cert.OutGradIdeal.nD,
          r.2.mem ((c.tc : Thread Cert.OutGradIdeal.nD Cert.OutGradIdeal.τ).loc Cert.OutGradIdeal.main_v5) = v0 c
          ∧ r.2.mem ((c.tc : Thread Cert.OutGradIdeal.nD Cert.OutGradIdeal.τ).loc Cert.OutGradIdeal.main_arg0) = m' ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m' ((c.tc : Thread Cert.OutGradIdeal.nD Cert.OutGradIdeal.τ).loc Cert.OutGradIdeal.main_arg1))

def preserves_Branch_BranchIdeal : Prop :=
  True

def algebraic_BranchIdeal_BranchGradIdeal [hBranchIdeal : Cert.BranchIdeal.Facts] [hBranchGradIdeal : Cert.BranchGradIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchGradIdeal.nD Cert.BranchGradIdeal.τ Cert.BranchGradIdeal.sig) → Buf (Elt Ideal) ℓ) (g' : Dev Cert.BranchGradIdeal.nD → PrngReg), Pre_BranchIdeal m →
    (∀ c : Dev Cert.BranchIdeal.nD,
      m' ((c.tc : Thread Cert.BranchGradIdeal.nD Cert.BranchGradIdeal.τ).loc Cert.BranchGradIdeal.main_arg0) = m ((c.tc : Thread Cert.BranchIdeal.nD Cert.BranchIdeal.τ).loc Cert.BranchIdeal.main_arg0)
      ∧ m' ((c.tc : Thread Cert.BranchGradIdeal.nD Cert.BranchGradIdeal.τ).loc Cert.BranchGradIdeal.main_arg1) = m ((c.tc : Thread Cert.BranchIdeal.nD Cert.BranchIdeal.τ).loc Cert.BranchIdeal.main_arg1)
      ∧ m' ((c.tc : Thread Cert.BranchGradIdeal.nD Cert.BranchGradIdeal.τ).loc Cert.BranchGradIdeal.main_arg2) = m ((c.tc : Thread Cert.BranchIdeal.nD Cert.BranchIdeal.τ).loc Cert.BranchIdeal.main_arg2)
      ∧ m' ((c.tc : Thread Cert.BranchGradIdeal.nD Cert.BranchGradIdeal.τ).loc Cert.BranchGradIdeal.main_arg3) = m ((c.tc : Thread Cert.BranchIdeal.nD Cert.BranchIdeal.τ).loc Cert.BranchIdeal.main_arg3)
      ∧ m' ((c.tc : Thread Cert.BranchGradIdeal.nD Cert.BranchGradIdeal.τ).loc Cert.BranchGradIdeal.main_arg4) = m ((c.tc : Thread Cert.BranchIdeal.nD Cert.BranchIdeal.τ).loc Cert.BranchIdeal.main_arg4)
      ∧ m' ((c.tc : Thread Cert.BranchGradIdeal.nD Cert.BranchGradIdeal.τ).loc Cert.BranchGradIdeal.main_arg5) = m ((c.tc : Thread Cert.BranchIdeal.nD Cert.BranchIdeal.τ).loc Cert.BranchIdeal.main_arg5)) →
    ∃ (v0 : (c : Dev Cert.BranchIdeal.nD) → Buf (Elt Ideal) ((c.tc : Thread Cert.BranchIdeal.nD Cert.BranchIdeal.τ).loc Cert.BranchIdeal.main_v0_0)) (v1 : (c : Dev Cert.BranchIdeal.nD) → Buf (Elt Ideal) ((c.tc : Thread Cert.BranchIdeal.nD Cert.BranchIdeal.τ).loc Cert.BranchIdeal.main_v0_1)) (v2 : (c : Dev Cert.BranchIdeal.nD) → Buf (Elt Ideal) ((c.tc : Thread Cert.BranchIdeal.nD Cert.BranchIdeal.τ).loc Cert.BranchIdeal.main_v0_2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0_0) = v0 c
          ∧ r.2.mem ((c.tc : Thread Cert.BranchIdeal.nD Cert.BranchIdeal.τ).loc Cert.BranchIdeal.main_v0_1) = v1 c
          ∧ r.2.mem ((c.tc : Thread Cert.BranchIdeal.nD Cert.BranchIdeal.τ).loc Cert.BranchIdeal.main_v0_2) = v2 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ θ_run (Cert.BranchGradIdeal.defs (F := Ideal)) (onTc (τ := Cert.BranchGradIdeal.τ) (Cert.BranchGradIdeal.main (F := Ideal))) ⟨m', fun _ => 0, g'⟩ (fun r => ∀ c : Dev Cert.BranchGradIdeal.nD,
          r.2.mem ((c.tc : Thread Cert.BranchGradIdeal.nD Cert.BranchGradIdeal.τ).loc Cert.BranchGradIdeal.main_v6) = v0 c
          ∧ r.2.mem ((c.tc : Thread Cert.BranchGradIdeal.nD Cert.BranchGradIdeal.τ).loc Cert.BranchGradIdeal.main_v13) = v1 c
          ∧ r.2.mem ((c.tc : Thread Cert.BranchGradIdeal.nD Cert.BranchGradIdeal.τ).loc Cert.BranchGradIdeal.main_v20) = v2 c
          ∧ r.2.mem ((c.tc : Thread Cert.BranchGradIdeal.nD Cert.BranchGradIdeal.τ).loc Cert.BranchGradIdeal.main_arg0) = m' ((c.tc : Thread Cert.BranchGradIdeal.nD Cert.BranchGradIdeal.τ).loc Cert.BranchGradIdeal.main_arg0)
          ∧ r.2.mem ((c.tc : Thread Cert.BranchGradIdeal.nD Cert.BranchGradIdeal.τ).loc Cert.BranchGradIdeal.main_arg1) = m' ((c.tc : Thread Cert.BranchGradIdeal.nD Cert.BranchGradIdeal.τ).loc Cert.BranchGradIdeal.main_arg1)
          ∧ r.2.mem ((c.tc : Thread Cert.BranchGradIdeal.nD Cert.BranchGradIdeal.τ).loc Cert.BranchGradIdeal.main_arg2) = m' ((c.tc : Thread Cert.BranchGradIdeal.nD Cert.BranchGradIdeal.τ).loc Cert.BranchGradIdeal.main_arg2)
          ∧ r.2.mem ((c.tc : Thread Cert.BranchGradIdeal.nD Cert.BranchGradIdeal.τ).loc Cert.BranchGradIdeal.main_arg3) = m' ((c.tc : Thread Cert.BranchGradIdeal.nD Cert.BranchGradIdeal.τ).loc Cert.BranchGradIdeal.main_arg3)
          ∧ r.2.mem ((c.tc : Thread Cert.BranchGradIdeal.nD Cert.BranchGradIdeal.τ).loc Cert.BranchGradIdeal.main_arg4) = m' ((c.tc : Thread Cert.BranchGradIdeal.nD Cert.BranchGradIdeal.τ).loc Cert.BranchGradIdeal.main_arg4)
          ∧ r.2.mem ((c.tc : Thread Cert.BranchGradIdeal.nD Cert.BranchGradIdeal.τ).loc Cert.BranchGradIdeal.main_arg5) = m' ((c.tc : Thread Cert.BranchGradIdeal.nD Cert.BranchGradIdeal.τ).loc Cert.BranchGradIdeal.main_arg5))

def preserves_Merge_MergeIdeal : Prop :=
  True

def algebraic_MergeIdeal_MergePlainIdeal [hMergeIdeal : Cert.MergeIdeal.Facts] [hMergePlainIdeal : Cert.MergePlainIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergePlainIdeal.nD Cert.MergePlainIdeal.τ Cert.MergePlainIdeal.sig) → Buf (Elt Ideal) ℓ) (g' : Dev Cert.MergePlainIdeal.nD → PrngReg), Pre_MergeIdeal m →
    (∀ c : Dev Cert.MergeIdeal.nD,
      m' ((c.tc : Thread Cert.MergePlainIdeal.nD Cert.MergePlainIdeal.τ).loc Cert.MergePlainIdeal.main_arg0) = m ((c.tc : Thread Cert.MergeIdeal.nD Cert.MergeIdeal.τ).loc Cert.MergeIdeal.main_arg0)
      ∧ m' ((c.tc : Thread Cert.MergePlainIdeal.nD Cert.MergePlainIdeal.τ).loc Cert.MergePlainIdeal.main_arg1) = m ((c.tc : Thread Cert.MergeIdeal.nD Cert.MergeIdeal.τ).loc Cert.MergeIdeal.main_arg1)
      ∧ m' ((c.tc : Thread Cert.MergePlainIdeal.nD Cert.MergePlainIdeal.τ).loc Cert.MergePlainIdeal.main_arg2) = m ((c.tc : Thread Cert.MergeIdeal.nD Cert.MergeIdeal.τ).loc Cert.MergeIdeal.main_arg2)
      ∧ m' ((c.tc : Thread Cert.MergePlainIdeal.nD Cert.MergePlainIdeal.τ).loc Cert.MergePlainIdeal.main_arg3) = m ((c.tc : Thread Cert.MergeIdeal.nD Cert.MergeIdeal.τ).loc Cert.MergeIdeal.main_arg3)
      ∧ m' ((c.tc : Thread Cert.MergePlainIdeal.nD Cert.MergePlainIdeal.τ).loc Cert.MergePlainIdeal.main_arg4) = m ((c.tc : Thread Cert.MergeIdeal.nD Cert.MergeIdeal.τ).loc Cert.MergeIdeal.main_arg4)
      ∧ m' ((c.tc : Thread Cert.MergePlainIdeal.nD Cert.MergePlainIdeal.τ).loc Cert.MergePlainIdeal.main_arg5) = m ((c.tc : Thread Cert.MergeIdeal.nD Cert.MergeIdeal.τ).loc Cert.MergeIdeal.main_arg5)
      ∧ m' ((c.tc : Thread Cert.MergePlainIdeal.nD Cert.MergePlainIdeal.τ).loc Cert.MergePlainIdeal.main_arg6) = m ((c.tc : Thread Cert.MergeIdeal.nD Cert.MergeIdeal.τ).loc Cert.MergeIdeal.main_arg6)
      ∧ m' ((c.tc : Thread Cert.MergePlainIdeal.nD Cert.MergePlainIdeal.τ).loc Cert.MergePlainIdeal.main_arg7) = m ((c.tc : Thread Cert.MergeIdeal.nD Cert.MergeIdeal.τ).loc Cert.MergeIdeal.main_arg7)
      ∧ m' ((c.tc : Thread Cert.MergePlainIdeal.nD Cert.MergePlainIdeal.τ).loc Cert.MergePlainIdeal.main_arg8) = m ((c.tc : Thread Cert.MergeIdeal.nD Cert.MergeIdeal.τ).loc Cert.MergeIdeal.main_arg8)
      ∧ m' ((c.tc : Thread Cert.MergePlainIdeal.nD Cert.MergePlainIdeal.τ).loc Cert.MergePlainIdeal.main_arg9) = m ((c.tc : Thread Cert.MergeIdeal.nD Cert.MergeIdeal.τ).loc Cert.MergeIdeal.main_arg9)
      ∧ m' ((c.tc : Thread Cert.MergePlainIdeal.nD Cert.MergePlainIdeal.τ).loc Cert.MergePlainIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergePlainIdeal.defs (F := Ideal)) (onTc (τ := Cert.MergePlainIdeal.τ) (Cert.MergePlainIdeal.main (F := Ideal))) ⟨m', fun _ => 0, g'⟩ (fun r => ∀ c : Dev Cert.MergePlainIdeal.nD,
          r.2.mem ((c.tc : Thread Cert.MergePlainIdeal.nD Cert.MergePlainIdeal.τ).loc Cert.MergePlainIdeal.main_v35) = v0 c
          ∧ r.2.mem ((c.tc : Thread Cert.MergePlainIdeal.nD Cert.MergePlainIdeal.τ).loc Cert.MergePlainIdeal.main_v50) = v1 c
          ∧ r.2.mem ((c.tc : Thread Cert.MergePlainIdeal.nD Cert.MergePlainIdeal.τ).loc Cert.MergePlainIdeal.main_v51) = v2 c
          ∧ r.2.mem ((c.tc : Thread Cert.MergePlainIdeal.nD Cert.MergePlainIdeal.τ).loc Cert.MergePlainIdeal.main_arg0) = m' ((c.tc : Thread Cert.MergePlainIdeal.nD Cert.MergePlainIdeal.τ).loc Cert.MergePlainIdeal.main_arg0)
          ∧ r.2.mem ((c.tc : Thread Cert.MergePlainIdeal.nD Cert.MergePlainIdeal.τ).loc Cert.MergePlainIdeal.main_arg1) = m' ((c.tc : Thread Cert.MergePlainIdeal.nD Cert.MergePlainIdeal.τ).loc Cert.MergePlainIdeal.main_arg1)
          ∧ r.2.mem ((c.tc : Thread Cert.MergePlainIdeal.nD Cert.MergePlainIdeal.τ).loc Cert.MergePlainIdeal.main_arg2) = m' ((c.tc : Thread Cert.MergePlainIdeal.nD Cert.MergePlainIdeal.τ).loc Cert.MergePlainIdeal.main_arg2)
          ∧ r.2.mem ((c.tc : Thread Cert.MergePlainIdeal.nD Cert.MergePlainIdeal.τ).loc Cert.MergePlainIdeal.main_arg3) = m' ((c.tc : Thread Cert.MergePlainIdeal.nD Cert.MergePlainIdeal.τ).loc Cert.MergePlainIdeal.main_arg3)
          ∧ r.2.mem ((c.tc : Thread Cert.MergePlainIdeal.nD Cert.MergePlainIdeal.τ).loc Cert.MergePlainIdeal.main_arg4) = m' ((c.tc : Thread Cert.MergePlainIdeal.nD Cert.MergePlainIdeal.τ).loc Cert.MergePlainIdeal.main_arg4)
          ∧ r.2.mem ((c.tc : Thread Cert.MergePlainIdeal.nD Cert.MergePlainIdeal.τ).loc Cert.MergePlainIdeal.main_arg5) = m' ((c.tc : Thread Cert.MergePlainIdeal.nD Cert.MergePlainIdeal.τ).loc Cert.MergePlainIdeal.main_arg5)
          ∧ r.2.mem ((c.tc : Thread Cert.MergePlainIdeal.nD Cert.MergePlainIdeal.τ).loc Cert.MergePlainIdeal.main_arg6) = m' ((c.tc : Thread Cert.MergePlainIdeal.nD Cert.MergePlainIdeal.τ).loc Cert.MergePlainIdeal.main_arg6)
          ∧ r.2.mem ((c.tc : Thread Cert.MergePlainIdeal.nD Cert.MergePlainIdeal.τ).loc Cert.MergePlainIdeal.main_arg7) = m' ((c.tc : Thread Cert.MergePlainIdeal.nD Cert.MergePlainIdeal.τ).loc Cert.MergePlainIdeal.main_arg7)
          ∧ r.2.mem ((c.tc : Thread Cert.MergePlainIdeal.nD Cert.MergePlainIdeal.τ).loc Cert.MergePlainIdeal.main_arg8) = m' ((c.tc : Thread Cert.MergePlainIdeal.nD Cert.MergePlainIdeal.τ).loc Cert.MergePlainIdeal.main_arg8)
          ∧ r.2.mem ((c.tc : Thread Cert.MergePlainIdeal.nD Cert.MergePlainIdeal.τ).loc Cert.MergePlainIdeal.main_arg9) = m' ((c.tc : Thread Cert.MergePlainIdeal.nD Cert.MergePlainIdeal.τ).loc Cert.MergePlainIdeal.main_arg9)
          ∧ r.2.mem ((c.tc : Thread Cert.MergePlainIdeal.nD Cert.MergePlainIdeal.τ).loc Cert.MergePlainIdeal.main_arg10) = m' ((c.tc : Thread Cert.MergePlainIdeal.nD Cert.MergePlainIdeal.τ).loc Cert.MergePlainIdeal.main_arg10))

def preserves_Mix_MixIdeal : Prop :=
  True

def algebraic_MixIdeal_MixGradIdeal [hMixIdeal : Cert.MixIdeal.Facts] [hMixGradIdeal : Cert.MixGradIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixGradIdeal.nD Cert.MixGradIdeal.τ Cert.MixGradIdeal.sig) → Buf (Elt Ideal) ℓ) (g' : Dev Cert.MixGradIdeal.nD → PrngReg), Pre_MixIdeal m →
    (∀ c : Dev Cert.MixIdeal.nD,
      m' ((c.tc : Thread Cert.MixGradIdeal.nD Cert.MixGradIdeal.τ).loc Cert.MixGradIdeal.main_arg0) = m ((c.tc : Thread Cert.MixIdeal.nD Cert.MixIdeal.τ).loc Cert.MixIdeal.main_arg0)
      ∧ m' ((c.tc : Thread Cert.MixGradIdeal.nD Cert.MixGradIdeal.τ).loc Cert.MixGradIdeal.main_arg1) = m ((c.tc : Thread Cert.MixIdeal.nD Cert.MixIdeal.τ).loc Cert.MixIdeal.main_arg1)
      ∧ m' ((c.tc : Thread Cert.MixGradIdeal.nD Cert.MixGradIdeal.τ).loc Cert.MixGradIdeal.main_arg2) = m ((c.tc : Thread Cert.MixIdeal.nD Cert.MixIdeal.τ).loc Cert.MixIdeal.main_arg2)
      ∧ m' ((c.tc : Thread Cert.MixGradIdeal.nD Cert.MixGradIdeal.τ).loc Cert.MixGradIdeal.main_arg3) = m ((c.tc : Thread Cert.MixIdeal.nD Cert.MixIdeal.τ).loc Cert.MixIdeal.main_arg3)
      ∧ m' ((c.tc : Thread Cert.MixGradIdeal.nD Cert.MixGradIdeal.τ).loc Cert.MixGradIdeal.main_arg4) = m ((c.tc : Thread Cert.MixIdeal.nD Cert.MixIdeal.τ).loc Cert.MixIdeal.main_arg4)
      ∧ m' ((c.tc : Thread Cert.MixGradIdeal.nD Cert.MixGradIdeal.τ).loc Cert.MixGradIdeal.main_arg5) = m ((c.tc : Thread Cert.MixIdeal.nD Cert.MixIdeal.τ).loc Cert.MixIdeal.main_arg5)
      ∧ m' ((c.tc : Thread Cert.MixGradIdeal.nD Cert.MixGradIdeal.τ).loc Cert.MixGradIdeal.main_arg6) = m ((c.tc : Thread Cert.MixIdeal.nD Cert.MixIdeal.τ).loc Cert.MixIdeal.main_arg6)
      ∧ m' ((c.tc : Thread Cert.MixGradIdeal.nD Cert.MixGradIdeal.τ).loc Cert.MixGradIdeal.main_arg7) = m ((c.tc : Thread Cert.MixIdeal.nD Cert.MixIdeal.τ).loc Cert.MixIdeal.main_arg7)
      ∧ m' ((c.tc : Thread Cert.MixGradIdeal.nD Cert.MixGradIdeal.τ).loc Cert.MixGradIdeal.main_arg8) = m ((c.tc : Thread Cert.MixIdeal.nD Cert.MixIdeal.τ).loc Cert.MixIdeal.main_arg8)
      ∧ m' ((c.tc : Thread Cert.MixGradIdeal.nD Cert.MixGradIdeal.τ).loc Cert.MixGradIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v1)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)) (v4 : (c : Dev Cert.MixIdeal.nD) → Buf (Elt Ideal) ((c.tc : Thread Cert.MixIdeal.nD Cert.MixIdeal.τ).loc Cert.MixIdeal.main_v0_4)) (v5 : (c : Dev Cert.MixIdeal.nD) → Buf (Elt Ideal) ((c.tc : Thread Cert.MixIdeal.nD Cert.MixIdeal.τ).loc Cert.MixIdeal.main_v0_5)) (v6 : (c : Dev Cert.MixIdeal.nD) → Buf (Elt Ideal) ((c.tc : Thread Cert.MixIdeal.nD Cert.MixIdeal.τ).loc Cert.MixIdeal.main_v0_6)) (v7 : (c : Dev Cert.MixIdeal.nD) → Buf (Elt Ideal) ((c.tc : Thread Cert.MixIdeal.nD Cert.MixIdeal.τ).loc Cert.MixIdeal.main_v0_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_v0_4) = v4 c
          ∧ r.2.mem ((c.tc : Thread Cert.MixIdeal.nD Cert.MixIdeal.τ).loc Cert.MixIdeal.main_v0_5) = v5 c
          ∧ r.2.mem ((c.tc : Thread Cert.MixIdeal.nD Cert.MixIdeal.τ).loc Cert.MixIdeal.main_v0_6) = v6 c
          ∧ r.2.mem ((c.tc : Thread Cert.MixIdeal.nD Cert.MixIdeal.τ).loc Cert.MixIdeal.main_v0_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixGradIdeal.defs (F := Ideal)) (onTc (τ := Cert.MixGradIdeal.τ) (Cert.MixGradIdeal.main (F := Ideal))) ⟨m', fun _ => 0, g'⟩ (fun r => ∀ c : Dev Cert.MixGradIdeal.nD,
          r.2.mem ((c.tc : Thread Cert.MixGradIdeal.nD Cert.MixGradIdeal.τ).loc Cert.MixGradIdeal.main_v65) = v0 c
          ∧ r.2.mem ((c.tc : Thread Cert.MixGradIdeal.nD Cert.MixGradIdeal.τ).loc Cert.MixGradIdeal.main_v66) = v1 c
          ∧ r.2.mem ((c.tc : Thread Cert.MixGradIdeal.nD Cert.MixGradIdeal.τ).loc Cert.MixGradIdeal.main_v67) = v2 c
          ∧ r.2.mem ((c.tc : Thread Cert.MixGradIdeal.nD Cert.MixGradIdeal.τ).loc Cert.MixGradIdeal.main_v68) = v3 c
          ∧ r.2.mem ((c.tc : Thread Cert.MixGradIdeal.nD Cert.MixGradIdeal.τ).loc Cert.MixGradIdeal.main_v69) = v4 c
          ∧ r.2.mem ((c.tc : Thread Cert.MixGradIdeal.nD Cert.MixGradIdeal.τ).loc Cert.MixGradIdeal.main_v70) = v5 c
          ∧ r.2.mem ((c.tc : Thread Cert.MixGradIdeal.nD Cert.MixGradIdeal.τ).loc Cert.MixGradIdeal.main_v71) = v6 c
          ∧ r.2.mem ((c.tc : Thread Cert.MixGradIdeal.nD Cert.MixGradIdeal.τ).loc Cert.MixGradIdeal.main_v72) = v7 c
          ∧ r.2.mem ((c.tc : Thread Cert.MixGradIdeal.nD Cert.MixGradIdeal.τ).loc Cert.MixGradIdeal.main_arg0) = m' ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m' ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m' ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m' ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m' ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m' ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m' ((c.tc : Thread Cert.MixGradIdeal.nD Cert.MixGradIdeal.τ).loc Cert.MixGradIdeal.main_arg6)
          ∧ r.2.mem ((c.tc : Thread Cert.MixGradIdeal.nD Cert.MixGradIdeal.τ).loc Cert.MixGradIdeal.main_arg7) = m' ((c.tc : Thread Cert.MixGradIdeal.nD Cert.MixGradIdeal.τ).loc Cert.MixGradIdeal.main_arg7)
          ∧ r.2.mem ((c.tc : Thread Cert.MixGradIdeal.nD Cert.MixGradIdeal.τ).loc Cert.MixGradIdeal.main_arg8) = m' ((c.tc : Thread Cert.MixGradIdeal.nD Cert.MixGradIdeal.τ).loc Cert.MixGradIdeal.main_arg8)
          ∧ r.2.mem ((c.tc : Thread Cert.MixGradIdeal.nD Cert.MixGradIdeal.τ).loc Cert.MixGradIdeal.main_arg9) = m' ((c.tc : Thread Cert.MixGradIdeal.nD Cert.MixGradIdeal.τ).loc Cert.MixGradIdeal.main_arg9))

def preserves_Attend_AttendIdeal : Prop :=
  True

def algebraic_AttendIdeal_AttendPlainIdeal [hAttendIdeal : Cert.AttendIdeal.Facts] [hAttendPlainIdeal : Cert.AttendPlainIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendPlainIdeal.nD Cert.AttendPlainIdeal.τ Cert.AttendPlainIdeal.sig) → Buf (Elt Ideal) ℓ) (g' : Dev Cert.AttendPlainIdeal.nD → PrngReg), Pre_AttendIdeal m →
    (∀ c : Dev Cert.AttendIdeal.nD,
      m' ((c.tc : Thread Cert.AttendPlainIdeal.nD Cert.AttendPlainIdeal.τ).loc Cert.AttendPlainIdeal.main_arg0) = m ((c.tc : Thread Cert.AttendIdeal.nD Cert.AttendIdeal.τ).loc Cert.AttendIdeal.main_arg0)
      ∧ m' ((c.tc : Thread Cert.AttendPlainIdeal.nD Cert.AttendPlainIdeal.τ).loc Cert.AttendPlainIdeal.main_arg1) = m ((c.tc : Thread Cert.AttendIdeal.nD Cert.AttendIdeal.τ).loc Cert.AttendIdeal.main_arg1)
      ∧ m' ((c.tc : Thread Cert.AttendPlainIdeal.nD Cert.AttendPlainIdeal.τ).loc Cert.AttendPlainIdeal.main_arg2) = m ((c.tc : Thread Cert.AttendIdeal.nD Cert.AttendIdeal.τ).loc Cert.AttendIdeal.main_arg2)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ θ_run (Cert.AttendPlainIdeal.defs (F := Ideal)) (onTc (τ := Cert.AttendPlainIdeal.τ) (Cert.AttendPlainIdeal.main (F := Ideal))) ⟨m', fun _ => 0, g'⟩ (fun r => ∀ c : Dev Cert.AttendPlainIdeal.nD,
          r.2.mem ((c.tc : Thread Cert.AttendPlainIdeal.nD Cert.AttendPlainIdeal.τ).loc Cert.AttendPlainIdeal.main_v23) = v0 c
          ∧ r.2.mem ((c.tc : Thread Cert.AttendPlainIdeal.nD Cert.AttendPlainIdeal.τ).loc Cert.AttendPlainIdeal.main_arg0) = m' ((c.tc : Thread Cert.AttendPlainIdeal.nD Cert.AttendPlainIdeal.τ).loc Cert.AttendPlainIdeal.main_arg0)
          ∧ r.2.mem ((c.tc : Thread Cert.AttendPlainIdeal.nD Cert.AttendPlainIdeal.τ).loc Cert.AttendPlainIdeal.main_arg1) = m' ((c.tc : Thread Cert.AttendPlainIdeal.nD Cert.AttendPlainIdeal.τ).loc Cert.AttendPlainIdeal.main_arg1)
          ∧ r.2.mem ((c.tc : Thread Cert.AttendPlainIdeal.nD Cert.AttendPlainIdeal.τ).loc Cert.AttendPlainIdeal.main_arg2) = m' ((c.tc : Thread Cert.AttendPlainIdeal.nD Cert.AttendPlainIdeal.τ).loc Cert.AttendPlainIdeal.main_arg2))

def Claim : Prop :=
  ∃ (hMem : Cert.Mem.Facts) (hMemIdeal : Cert.MemIdeal.Facts) (hMemGradIdeal : Cert.MemGradIdeal.Facts) (hMlp : Cert.Mlp.Facts) (hMlpIdeal : Cert.MlpIdeal.Facts) (hMlpGradIdeal : Cert.MlpGradIdeal.Facts) (hDown : Cert.Down.Facts) (hDownIdeal : Cert.DownIdeal.Facts) (hDownGradIdeal : Cert.DownGradIdeal.Facts) (hUp : Cert.Up.Facts) (hUpIdeal : Cert.UpIdeal.Facts) (hUpGradIdeal : Cert.UpGradIdeal.Facts) (hProj : Cert.Proj.Facts) (hProjIdeal : Cert.ProjIdeal.Facts) (hProjPlainIdeal : Cert.ProjPlainIdeal.Facts) (hInX : Cert.InX.Facts) (hInXIdeal : Cert.InXIdeal.Facts) (hInXGradIdeal : Cert.InXGradIdeal.Facts) (hInA : Cert.InA.Facts) (hInAIdeal : Cert.InAIdeal.Facts) (hInAGradIdeal : Cert.InAGradIdeal.Facts) (hInB : Cert.InB.Facts) (hInBIdeal : Cert.InBIdeal.Facts) (hInBGradIdeal : Cert.InBGradIdeal.Facts) (hOut : Cert.Out.Facts) (hOutIdeal : Cert.OutIdeal.Facts) (hOutGradIdeal : Cert.OutGradIdeal.Facts) (hBranch : Cert.Branch.Facts) (hBranchIdeal : Cert.BranchIdeal.Facts) (hBranchGradIdeal : Cert.BranchGradIdeal.Facts) (hMerge : Cert.Merge.Facts) (hMergeIdeal : Cert.MergeIdeal.Facts) (hMergePlainIdeal : Cert.MergePlainIdeal.Facts) (hMix : Cert.Mix.Facts) (hMixIdeal : Cert.MixIdeal.Facts) (hMixGradIdeal : Cert.MixGradIdeal.Facts) (hAttend : Cert.Attend.Facts) (hAttendIdeal : Cert.AttendIdeal.Facts) (hAttendPlainIdeal : Cert.AttendPlainIdeal.Facts) (hPre_mem_finite : Cert.Pre_mem_finite.Facts),
    quiescent_Mem (hMem := hMem)
    ∧ quiescent_MemIdeal (hMemIdeal := hMemIdeal)
    ∧ quiescent_MemIdeal_pre_mem_finite (hMemIdeal := hMemIdeal) (hPre_mem_finite := hPre_mem_finite)
    ∧ quiescent_MemGradIdeal (hMemGradIdeal := hMemGradIdeal)
    ∧ quiescent_MemGradIdeal_pre_mem_finite (hMemGradIdeal := hMemGradIdeal) (hPre_mem_finite := hPre_mem_finite)
    ∧ quiescent_Mlp (hMlp := hMlp)
    ∧ quiescent_MlpIdeal (hMlpIdeal := hMlpIdeal)
    ∧ quiescent_MlpGradIdeal (hMlpGradIdeal := hMlpGradIdeal)
    ∧ quiescent_Down (hDown := hDown)
    ∧ quiescent_DownIdeal (hDownIdeal := hDownIdeal)
    ∧ quiescent_DownGradIdeal (hDownGradIdeal := hDownGradIdeal)
    ∧ quiescent_Up (hUp := hUp)
    ∧ quiescent_UpIdeal (hUpIdeal := hUpIdeal)
    ∧ quiescent_UpGradIdeal (hUpGradIdeal := hUpGradIdeal)
    ∧ quiescent_Proj (hProj := hProj)
    ∧ quiescent_ProjIdeal (hProjIdeal := hProjIdeal)
    ∧ quiescent_ProjPlainIdeal (hProjPlainIdeal := hProjPlainIdeal)
    ∧ quiescent_InX (hInX := hInX)
    ∧ quiescent_InXIdeal (hInXIdeal := hInXIdeal)
    ∧ quiescent_InXGradIdeal (hInXGradIdeal := hInXGradIdeal)
    ∧ quiescent_InA (hInA := hInA)
    ∧ quiescent_InAIdeal (hInAIdeal := hInAIdeal)
    ∧ quiescent_InAGradIdeal (hInAGradIdeal := hInAGradIdeal)
    ∧ quiescent_InB (hInB := hInB)
    ∧ quiescent_InBIdeal (hInBIdeal := hInBIdeal)
    ∧ quiescent_InBGradIdeal (hInBGradIdeal := hInBGradIdeal)
    ∧ quiescent_Out (hOut := hOut)
    ∧ quiescent_OutIdeal (hOutIdeal := hOutIdeal)
    ∧ quiescent_OutGradIdeal (hOutGradIdeal := hOutGradIdeal)
    ∧ quiescent_Branch (hBranch := hBranch)
    ∧ quiescent_BranchIdeal (hBranchIdeal := hBranchIdeal)
    ∧ quiescent_BranchGradIdeal (hBranchGradIdeal := hBranchGradIdeal)
    ∧ quiescent_Merge (hMerge := hMerge)
    ∧ quiescent_MergeIdeal (hMergeIdeal := hMergeIdeal)
    ∧ quiescent_MergePlainIdeal (hMergePlainIdeal := hMergePlainIdeal)
    ∧ quiescent_Mix (hMix := hMix)
    ∧ quiescent_MixIdeal (hMixIdeal := hMixIdeal)
    ∧ quiescent_MixGradIdeal (hMixGradIdeal := hMixGradIdeal)
    ∧ quiescent_Attend (hAttend := hAttend)
    ∧ quiescent_AttendIdeal (hAttendIdeal := hAttendIdeal)
    ∧ quiescent_AttendPlainIdeal (hAttendPlainIdeal := hAttendPlainIdeal)
    ∧ preserves_Mem_MemIdeal
    ∧ algebraic_MemIdeal_MemGradIdeal_pre_mem_finite (hMemIdeal := hMemIdeal) (hMemGradIdeal := hMemGradIdeal) (hPre_mem_finite := hPre_mem_finite)
    ∧ preserves_Mlp_MlpIdeal
    ∧ algebraic_MlpIdeal_MlpGradIdeal (hMlpIdeal := hMlpIdeal) (hMlpGradIdeal := hMlpGradIdeal)
    ∧ preserves_Down_DownIdeal
    ∧ algebraic_DownIdeal_DownGradIdeal (hDownIdeal := hDownIdeal) (hDownGradIdeal := hDownGradIdeal)
    ∧ preserves_Up_UpIdeal
    ∧ algebraic_UpIdeal_UpGradIdeal (hUpIdeal := hUpIdeal) (hUpGradIdeal := hUpGradIdeal)
    ∧ preserves_Proj_ProjIdeal
    ∧ algebraic_ProjIdeal_ProjPlainIdeal (hProjIdeal := hProjIdeal) (hProjPlainIdeal := hProjPlainIdeal)
    ∧ preserves_InX_InXIdeal
    ∧ algebraic_InXIdeal_InXGradIdeal (hInXIdeal := hInXIdeal) (hInXGradIdeal := hInXGradIdeal)
    ∧ preserves_InA_InAIdeal
    ∧ algebraic_InAIdeal_InAGradIdeal (hInAIdeal := hInAIdeal) (hInAGradIdeal := hInAGradIdeal)
    ∧ preserves_InB_InBIdeal
    ∧ algebraic_InBIdeal_InBGradIdeal (hInBIdeal := hInBIdeal) (hInBGradIdeal := hInBGradIdeal)
    ∧ preserves_Out_OutIdeal
    ∧ algebraic_OutIdeal_OutGradIdeal (hOutIdeal := hOutIdeal) (hOutGradIdeal := hOutGradIdeal)
    ∧ preserves_Branch_BranchIdeal
    ∧ algebraic_BranchIdeal_BranchGradIdeal (hBranchIdeal := hBranchIdeal) (hBranchGradIdeal := hBranchGradIdeal)
    ∧ preserves_Merge_MergeIdeal
    ∧ algebraic_MergeIdeal_MergePlainIdeal (hMergeIdeal := hMergeIdeal) (hMergePlainIdeal := hMergePlainIdeal)
    ∧ preserves_Mix_MixIdeal
    ∧ algebraic_MixIdeal_MixGradIdeal (hMixIdeal := hMixIdeal) (hMixGradIdeal := hMixGradIdeal)
    ∧ preserves_Attend_AttendIdeal
    ∧ algebraic_AttendIdeal_AttendPlainIdeal (hAttendIdeal := hAttendIdeal) (hAttendPlainIdeal := hAttendPlainIdeal)
-- ==== Pre_mem_finite.lean ====
abbrev S4096x512 : Shape := ⟨2, ![4096, 512]⟩
abbrev S256x512 : Shape := ⟨2, ![256, 512]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S4096x512 .bf16) (main_arg1 : FVec F S256x512 .bf16) (main_arg2 : FVec F S256x512 .bf16) (main_arg3 : FVec F S4096x512 .bf16) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S256x512 .f32 := (extf .f32 · bitsLt_bf16_f32) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  main_v10
-- ==== Mem.lean ====
abbrev S4096x512 : Shape := ⟨2, ![4096, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .bf16⟩
  | .hbm, ⟨4, _⟩ => ⟨S4096x512, .bf16⟩
  | .hbm, ⟨5, _⟩ => ⟨S256x512, .f32⟩
  | .hbm, ⟨6, _⟩ => ⟨S256x512, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S256x512, .f32⟩
  | .local _ .vmem, ⟨9, _⟩ => ⟨S256x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemGradIdeal.lean ====
abbrev S4096x512 : Shape := ⟨2, ![4096, 512]⟩
abbrev S256x512 : Shape := ⟨2, ![256, 512]⟩
abbrev S4096x4x128 : Shape := ⟨3, ![4096, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .bf16⟩
  | .hbm, ⟨4, _⟩ => ⟨S4096x512, .f32⟩
  | .hbm, ⟨5, _⟩ => ⟨S256x512, .f32⟩
  | .hbm, ⟨6, _⟩ => ⟨S256x512, .f32⟩
  | .hbm, ⟨7, _⟩ => ⟨S4096x4x128, .f32⟩
  | .hbm, ⟨8, _⟩ => ⟨S256x4x128, .f32⟩
  | .hbm, ⟨9, _⟩ => ⟨S256x4x128, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x128x4096, .f32⟩
  | .hbm, ⟨53, _⟩ => ⟨S4096x4x128, .f32⟩
  | .hbm, ⟨54, _⟩ => ⟨S4096x512, .f32⟩
  | .hbm, ⟨55, _⟩ => ⟨S4096x512, .f32⟩
  | .hbm, ⟨56, _⟩ => ⟨S4096x4x128, .f32⟩
  | .hbm, ⟨57, _⟩ => ⟨S4x128x4096, .f32⟩
  | .hbm, ⟨58, _⟩ => ⟨S4x4096x256, .f32⟩
  | .hbm, ⟨59, _⟩ => ⟨S4x128x256, .f32⟩
  | .hbm, ⟨60, _⟩ => ⟨S256x4x128, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x128, .f32⟩
  | .hbm, ⟨79, _⟩ => ⟨S256x4x128, .f32⟩
  | .hbm, ⟨80, _⟩ => ⟨S4x4096x128, .f32⟩
  | .hbm, ⟨81, _⟩ => ⟨S4096x4x128, .f32⟩
  | .hbm, ⟨82, _⟩ => ⟨S256x512, .f32⟩
  | .hbm, ⟨83, _⟩ => ⟨S256x512, .f32⟩
  | .hbm, ⟨84, _⟩ => ⟨S4096x512, .f32⟩
  | .hbm, ⟨85, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Mlp.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024x8x512 : Shape := ⟨3, ![1024, 8, 512]⟩
abbrev S8x1024x512 : Shape := ⟨3, ![8, 1024, 512]⟩
abbrev S4096x4096 : Shape := ⟨2, ![4096, 4096]⟩
abbrev S1024x1024 : Shape := ⟨2, ![1024, 1024]⟩
abbrev S1x1024x512 : Shape := ⟨3, ![1, 1024, 512]⟩
abbrev S1024x512 : Shape := ⟨2, ![1024, 512]⟩
abbrev S1x1 : Shape := ⟨2, ![1, 1]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S256x512 : Shape := ⟨2, ![256, 512]⟩
abbrev S1024 : Shape := ⟨1, ![1024]⟩

abbrev nBuf : Space → Nat
  | .hbm => 30
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x8x512, .bf16⟩
  | .hbm, ⟨22, _⟩ => ⟨S8x1024x512, .bf16⟩
  | .hbm, ⟨23, _⟩ => ⟨S4096x4096, .bf16⟩
  | .hbm, ⟨24, _⟩ => ⟨S4096x1024, .f32⟩
  | .hbm, ⟨25, _⟩ => ⟨S4096x1024, .bf16⟩
  | .hbm, ⟨26, _⟩ => ⟨S1x1, .f32⟩
  | .hbm, ⟨27, _⟩ => ⟨S4096x4096, .bf16⟩
  | .hbm, ⟨28, _⟩ => ⟨S4096x1024, .f32⟩
  | .hbm, ⟨29, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | .local _ .vmem, ⟨6, _⟩ => ⟨S256x4096, .bf16⟩
  | .local _ .vmem, ⟨7, _⟩ => ⟨S256x4096, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S256x4096, .bf16⟩
  | .local _ .vmem, ⟨27, _⟩ => ⟨S256x4096, .bf16⟩
  | .local _ .vmem, ⟨28, _⟩ => ⟨S8x1024x512, .bf16⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S1x1024, .f32⟩
  | .local _ .vmem, ⟨34, _⟩ => ⟨S256x1024, .f32⟩
  | .local _ .vmem, ⟨35, _⟩ => ⟨S256x1024, .f32⟩
  | .local _ .vmem, ⟨36, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem5_0 : DmaSem sig := 34
abbrev cc3_sem5_1 : DmaSem sig := 35
abbrev cc3_sem6_0 : DmaSem sig := 36

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x1024x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]
-- ==== MlpGradIdeal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S1x1, .f32⟩
  | .hbm, ⟨99, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_cst_11 : Ref sig .tc := ⟨.hbm, 57, rfl⟩
abbrev main_cst_12 : Ref sig .tc := ⟨.hbm, 58, rfl⟩
abbrev main_v38 : Ref sig .tc := ⟨.hbm, 59, rfl⟩
abbrev main_v39 : Ref sig .tc := ⟨.hbm, 60, rfl⟩
abbrev main_cst_13 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_15 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_18 : Ref sig .tc := ⟨.hbm, 88, rfl⟩
abbrev main_v62 : Ref sig .tc := ⟨.hbm, 89, rfl⟩
abbrev main_v63 : Ref sig .tc := ⟨.hbm, 90, rfl⟩
abbrev main_cst_19 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S4096x1024 : Shape := ⟨2, ![4096, 1024]⟩
abbrev S4096x4096 : Shape := ⟨2, ![4096, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S1024x6144 : Shape := ⟨2, ![1024, 6144]⟩
abbrev S512x1024 : Shape := ⟨2, ![512, 1024]⟩
abbrev S512 : Shape := ⟨1, ![512]⟩
abbrev S512x1 : Shape := ⟨2, ![512, 1]⟩
abbrev S4096x6144 : Shape := ⟨2, ![4096, 6144]⟩
abbrev S1024x1536 : Shape := ⟨2, ![1024, 1536]⟩
abbrev S512x1536 : Shape := ⟨2, ![512, 1536]⟩
abbrev S1024x128 : Shape := ⟨2, ![1024, 128]⟩
abbrev S4096x128 : Shape := ⟨2, ![4096, 128]⟩
abbrev S512x128 : Shape := ⟨2, ![512, 128]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S4096x1024, .bf16⟩
  | .hbm, ⟨4, _⟩ => ⟨S4096x6144, .bf16⟩
  | .hbm, ⟨5, _⟩ => ⟨S1024x128, .bf16⟩
  | .hbm, ⟨6, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1536, .bf16⟩
  | .local _ .vmem, ⟨8, _⟩ => ⟨S1024x1536, .bf16⟩
  | .local _ .vmem, ⟨9, _⟩ => ⟨S512x1536, .bf16⟩
  | .local _ .vmem, ⟨10, _⟩ => ⟨S512x1536, .bf16⟩
  | .local _ .vmem, ⟨11, _⟩ => ⟨S512x1024, .bf16⟩
  | .local _ .vmem, ⟨12, _⟩ => ⟨S512x1024, .bf16⟩
  | .local _ .vmem, ⟨13, _⟩ => ⟨S1024x128, .bf16⟩
  | .local _ .vmem, ⟨14, _⟩ => ⟨S512x128, .f32⟩
  | .local _ .vmem, ⟨15, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S1024x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ProjPlainIdeal.lean ====
abbrev S4096x1024 : Shape := ⟨2, ![4096, 1024]⟩
abbrev S1x1024 : Shape := ⟨2, ![1, 1024]⟩
abbrev S1024x6144 : Shape := ⟨2, ![1024, 6144]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩
abbrev S4096x128 : Shape := ⟨2, ![4096, 128]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x6144, .f32⟩
  | .hbm, ⟨21, _⟩ => ⟨S4096x6144, .f32⟩
  | .hbm, ⟨22, _⟩ => ⟨S4096x6144, .bf16⟩
  | .hbm, ⟨23, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== InX.lean ====
abbrev S4096x1024 : Shape := ⟨2, ![4096, 1024]⟩
abbrev S1x1024 : Shape := ⟨2, ![1, 1024]⟩
abbrev S1024x6144 : Shape := ⟨2, ![1024, 6144]⟩
abbrev S4096x6144 : Shape := ⟨2, ![4096, 6144]⟩
abbrev S256x6144 : Shape := ⟨2, ![256, 6144]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S4096x6144, .bf16⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S256x6144, .bf16⟩
  | .local _ .vmem, ⟨1, _⟩ => ⟨S256x6144, .bf16⟩
  | .local _ .vmem, ⟨2, _⟩ => ⟨S1024x6144, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InXGradIdeal.lean ====
abbrev S4096x1024 : Shape := ⟨2, ![4096, 1024]⟩
abbrev S1x1024 : Shape := ⟨2, ![1, 1024]⟩
abbrev S1024x6144 : Shape := ⟨2, ![1024, 6144]⟩
abbrev S4096x6144 : Shape := ⟨2, ![4096, 6144]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .bf16⟩
  | .hbm, ⟨3, _⟩ => ⟨S4096x6144, .bf16⟩
  | .hbm, ⟨4, _⟩ => ⟨S4096x1024, .f32⟩
  | .hbm, ⟨5, _⟩ => ⟨S1024x6144, .f32⟩
  | .hbm, ⟨6, _⟩ => ⟨S4096x6144, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x6144, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== InA.lean ====
abbrev S4096x1024 : Shape := ⟨2, ![4096, 1024]⟩
abbrev S4096x6144 : Shape := ⟨2, ![4096, 6144]⟩
abbrev S512x6144 : Shape := ⟨2, ![512, 6144]⟩
abbrev S1024x512 : Shape := ⟨2, ![1024, 512]⟩
abbrev S1024x3072 : Shape := ⟨2, ![1024, 3072]⟩
abbrev S512x3072 : Shape := ⟨2, ![512, 3072]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S512x6144, .bf16⟩
  | .local _ .vmem, ⟨0, _⟩ => ⟨S1024x512, .bf16⟩
  | .local _ .vmem, ⟨1, _⟩ => ⟨S1024x512, .bf16⟩
  | .local _ .vmem, ⟨2, _⟩ => ⟨S1024x3072, .bf16⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAGradIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S512x6144 : Shape := ⟨2, ![512, 6144]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S4096x6144, .f32⟩
  | .hbm, ⟨4, _⟩ => ⟨S_, .f32⟩
  | .hbm, ⟨5, _⟩ => ⟨S1024x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | .hbm, ⟨10, _⟩ => ⟨S512x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InB.lean ====
abbrev S4096x1024 : Shape := ⟨2, ![4096, 1024]⟩
abbrev S4096x6144 : Shape := ⟨2, ![4096, 6144]⟩
abbrev S512x6144 : Shape := ⟨2, ![512, 6144]⟩
abbrev S1024x512 : Shape := ⟨2, ![1024, 512]⟩
abbrev S1024x3072 : Shape := ⟨2, ![1024, 3072]⟩
abbrev S512x3072 : Shape := ⟨2, ![512, 3072]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S512x6144, .bf16⟩
  | .hbm, ⟨3, _⟩ => ⟨S512x6144, .bf16⟩
  | .local _ .vmem, ⟨0, _⟩ => ⟨S1024x512, .bf16⟩
  | .local _ .vmem, ⟨1, _⟩ => ⟨S1024x512, .bf16⟩
  | .local _ .vmem, ⟨2, _⟩ => ⟨S1024x3072, .bf16⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBGradIdeal.lean ====
abbrev S4096x1024 : Shape := ⟨2, ![4096, 1024]⟩
abbrev S4096x6144 : Shape := ⟨2, ![4096, 6144]⟩
abbrev S512x6144 : Shape := ⟨2, ![512, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S512x6144, .bf16⟩
  | .hbm, ⟨3, _⟩ => ⟨S4096x1024, .f32⟩
  | .hbm, ⟨4, _⟩ => ⟨S4096x6144, .f32⟩
  | .hbm, ⟨5, _⟩ => ⟨S_, .f32⟩
  | .hbm, ⟨6, _⟩ => ⟨S1024x6144, .f32⟩
  | .hbm, ⟨7, _⟩ => ⟨S4096x6144, .f32⟩
  | .hbm, ⟨8, _⟩ => ⟨S6144x1024, .f32⟩
  | .hbm, ⟨9, _⟩ => ⟨S1024x6144, .f32⟩
  | .hbm, ⟨10, _⟩ => ⟨S1024x6144, .bf16⟩
  | .hbm, ⟨11, _⟩ => ⟨S512x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Branch.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S512x1024, .bf16⟩
  | .hbm, ⟨7, _⟩ => ⟨S512x1024, .bf16⟩
  | .hbm, ⟨8, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c1_i32_16 : BitVec 32 := 1#32
  let v21 : BitVec 1 := Scalar.cmpi .eq arg0 c1_i32_16
  let v22 : BitVec 32 := Scalar.extui v21
  let c0_i32_17 : BitVec 32 := 0#32
  let v23 : BitVec 1 := Scalar.cmpi .ne v22 c0_i32_17
  v23

def k0_cond9 (i : grid0.Coords) : BitVec 1 :=
  let arg0 : BitVec 32 := BitVec.ofNat 32 (i 0).val
  let c1_i32_27 : BitVec 32 := 1#32
  let v33 : BitVec 1 := Scalar.cmpi .eq arg0 c1_i32_27
  let v34 : BitVec 32 := Scalar.extui v33
  let c0_i32_28 : BitVec 32 := 0#32
  let v35 : BitVec 1 := Scalar.cmpi .ne v34 c0_i32_28
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BranchGradIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x512, .f32⟩
  | .hbm, ⟨7, _⟩ => ⟨S4096x1024, .f32⟩
  | .hbm, ⟨8, _⟩ => ⟨S_, .f32⟩
  | .hbm, ⟨9, _⟩ => ⟨S512x1024, .f32⟩
  | .hbm, ⟨10, _⟩ => ⟨S4096x1024, .f32⟩
  | .hbm, ⟨11, _⟩ => ⟨S1024x512, .f32⟩
  | .hbm, ⟨12, _⟩ => ⟨S512x1024, .f32⟩
  | .hbm, ⟨13, _⟩ => ⟨S512x1024, .bf16⟩
  | .hbm, ⟨14, _⟩ => ⟨S4096x512, .f32⟩
  | .hbm, ⟨15, _⟩ => ⟨S4096x1024, .f32⟩
  | .hbm, ⟨16, _⟩ => ⟨S_, .f32⟩
  | .hbm, ⟨17, _⟩ => ⟨S512x1024, .f32⟩
  | .hbm, ⟨18, _⟩ => ⟨S4096x1024, .f32⟩
  | .hbm, ⟨19, _⟩ => ⟨S1024x512, .f32⟩
  | .hbm, ⟨20, _⟩ => ⟨S512x1024, .f32⟩
  | .hbm, ⟨21, _⟩ => ⟨S512x1024, .bf16⟩
  | .hbm, ⟨22, _⟩ => ⟨S4096x512, .f32⟩
  | .hbm, ⟨23, _⟩ => ⟨S4096x1024, .f32⟩
  | .hbm, ⟨24, _⟩ => ⟨S_, .f32⟩
  | .hbm, ⟨25, _⟩ => ⟨S512x1024, .f32⟩
  | .hbm, ⟨26, _⟩ => ⟨S4096x1024, .f32⟩
  | .hbm, ⟨27, _⟩ => ⟨S1024x512, .f32⟩
  | .hbm, ⟨28, _⟩ => ⟨S512x1024, .f32⟩
  | .hbm, ⟨29, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Merge.lean ====
abbrev S4096x1024 : Shape := ⟨2, ![4096, 1024]⟩
abbrev S4096x512 : Shape := ⟨2, ![4096, 512]⟩
abbrev S4096x6144 : Shape := ⟨2, ![4096, 6144]⟩
abbrev S1x3072 : Shape := ⟨2, ![1, 3072]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S3x512x3072 : Shape := ⟨3, ![3, 512, 3072]⟩
abbrev S3 : Shape := ⟨1, ![3]⟩
abbrev S1 : Shape := ⟨1, ![1]⟩
abbrev S_ : Shape := ⟨0, ![]⟩
abbrev S1x512x3072 : Shape := ⟨3, ![1, 512, 3072]⟩
abbrev S512x3072 : Shape := ⟨2, ![512, 3072]⟩
abbrev S512 : Shape := ⟨1, ![512]⟩
abbrev S512x1 : Shape := ⟨2, ![512, 1]⟩

abbrev nBuf : Space → Nat
  | .hbm => 14
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x6144, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x3072, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S3x512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c2_i32 : BitVec 32 := 2#32
  let v7 : BitVec 32 := Scalar.addi arg0 c2_i32
  let c8_i32 : BitVec 32 := 8#32
  let v8 : BitVec 1 := Scalar.cmpi .slt v7 c8_i32
  let v9 : BitVec 32 := Scalar.extui v8
  let c0_i32_3 : BitVec 32 := 0#32
  let v10 : BitVec 1 := Scalar.cmpi .ne v9 c0_i32_3
  v10

def k0_off1 (i : grid0.Coords) : Fin 1 → Nat :=
  let arg0 : BitVec 32 := BitVec.ofNat 32 (i 0).val
  let c2_i32_71 : BitVec 32 := 2#32
  let v115 : BitVec 32 := Scalar.addi arg0 c2_i32_71
  let c3_i32_72 : BitVec 32 := 3#32
  let c0_i32_73 : BitVec 32 := 0#32
  let v116 : BitVec 1 := Scalar.cmpi .eq c3_i32_72 c0_i32_73
  let c1_i32_74 : BitVec 32 := 1#32
  let v117 : BitVec 32 := Scalar.select v116 c1_i32_74 c3_i32_72
  let v118 : BitVec 32 := Scalar.remsi v115 v117
  let c0_i32_76 : BitVec 32 := 0#32
  let v120 : BitVec 1 := Scalar.cmpi .slt v118 c0_i32_76
  let c0_i32_77 : BitVec 32 := 0#32
  let v121 : BitVec 1 := Scalar.cmpi .slt v117 c0_i32_77
  let v122 : BitVec 1 := Scalar.xori v120 v121
  let c0_i32_75 : BitVec 32 := 0#32
  let v119 : BitVec 1 := Scalar.cmpi .ne v118 c0_i32_75
  let v123 : BitVec 1 := Scalar.andi v122 v119
  let v124 : BitVec 32 := Scalar.addi v118 v117
  let v125 : BitVec 32 := Scalar.select v123 v124 v118
  ![v125.toNat]
def k0_off2 (i : grid0.Coords) : Fin 3 → Nat :=
  let arg0 : BitVec 32 := BitVec.ofNat 32 (i 0).val
  let c2_i32_71 : BitVec 32 := 2#32
  let v115 : BitVec 32 := Scalar.addi arg0 c2_i32_71
  let c3_i32_72 : BitVec 32 := 3#32
  let c0_i32_73 : BitVec 32 := 0#32
  let v116 : BitVec 1 := Scalar.cmpi .eq c3_i32_72 c0_i32_73
  let c1_i32_74 : BitVec 32 := 1#32
  let v117 : BitVec 32 := Scalar.select v116 c1_i32_74 c3_i32_72
  let v118 : BitVec 32 := Scalar.remsi v115 v117
  let c0_i32_76 : BitVec 32 := 0#32
  let v120 : BitVec 1 := Scalar.cmpi .slt v118 c0_i32_76
  let c0_i32_77 : BitVec 32 := 0#32
  let v121 : BitVec 1 := Scalar.cmpi .slt v117 c0_i32_77
  let v122 : BitVec 1 := Scalar.xori v120 v121
  let c0_i32_75 : BitVec 32 := 0#32
  let v119 : BitVec 1 := Scalar.cmpi .ne v118 c0_i32_75
  let v123 : BitVec 1 := Scalar.andi v122 v119
  let v124 : BitVec 32 := Scalar.addi v118 v117
  let v125 : BitVec 32 := Scalar.select v123 v124 v118
  let c0_i32_79 : BitVec 32 := 0#32
  let c0_i32_80 : BitVec 32 := 0#32
  ![v125.toNat, 0, 0]
def k0_off3 (i : grid0.Coords) : Fin 2 → Nat :=
  let arg0 : BitVec 32 := BitVec.ofNat 32 (i 0).val
  let c2_i32_71 : BitVec 32 := 2#32
  let v115 : BitVec 32 := Scalar.addi arg0 c2_i32_71
  let c512_i32_78 : BitVec 32 := 512#32
  let v126 : BitVec 32 := Scalar.muli v115 c512_i32_78
  let c0_i32_81 : BitVec 32 := 0#32
  ![v126.toNat, 0]
def k0_off4 (i : grid0.Coords) : Fin 1 → Nat :=
  let arg0 : BitVec 32 := BitVec.ofNat 32 (i 0).val
  let c3_i32 : BitVec 32 := 3#32
  let c0_i32_4 : BitVec 32 := 0#32
  let v11 : BitVec 1 := Scalar.cmpi .eq c3_i32 c0_i32_4
  let c1_i32 : BitVec 32 := 1#32
  let v12 : BitVec 32 := Scalar.select v11 c1_i32 c3_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  ![v20.toNat]
def k0_off5 (i : grid0.Coords) : Fin 3 → Nat :=
  let arg0 : BitVec 32 := BitVec.ofNat 32 (i 0).val
  let c3_i32 : BitVec 32 := 3#32
  let c0_i32_4 : BitVec 32 := 0#32
  let v11 : BitVec 1 := Scalar.cmpi .eq c3_i32 c0_i32_4
  let c1_i32 : BitVec 32 := 1#32
  let v12 : BitVec 32 := Scalar.select v11 c1_i32 c3_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_8 : BitVec 32 := 0#32
  let c0_i32_9 : BitVec 32 := 0#32
  ![v20.toNat, 0, 0]
def k0_off6 (i : grid0.Coords) : Fin 2 → Nat :=
  let arg0 : BitVec 32 := BitVec.ofNat 32 (i 0).val
  let c512_i32 : BitVec 32 := 512#32
  let v21 : BitVec 32 := Scalar.muli arg0 c512_i32
  let c0_i32_10 : BitVec 32 := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergePlainIdeal.lean ====
abbrev S4096x1024 : Shape := ⟨2, ![4096, 1024]⟩
abbrev S4096x512 : Shape := ⟨2, ![4096, 512]⟩
abbrev S4096x6144 : Shape := ⟨2, ![4096, 6144]⟩
abbrev S1x3072 : Shape := ⟨2, ![1, 3072]⟩
abbrev S512x1024 : Shape := ⟨2, ![512, 1024]⟩
abbrev S1024x1024 : Shape := ⟨2, ![1024, 1024]⟩
abbrev S1x1024 : Shape := ⟨2, ![1, 1024]⟩
abbrev S4096x3072 : Shape := ⟨2, ![4096, 3072]⟩
abbrev S3072 : Shape := ⟨1, ![3072]⟩
abbrev S_ : Shape := ⟨0, ![]⟩
abbrev S4096x3x1024 : Shape := ⟨3, ![4096, 3, 1024]⟩
abbrev S4096x1x1024 : Shape := ⟨3, ![4096, 1, 1024]⟩
abbrev S1024 : Shape := ⟨1, ![1024]⟩
abbrev S4096 : Shape := ⟨1, ![4096]⟩
abbrev S4096x1 : Shape := ⟨2, ![4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x6144, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x6144, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1024x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x3072, .f32⟩
  | .hbm, ⟨23, _⟩ => ⟨S3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S_, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S4096x3x1024, .f32⟩
  | .hbm, ⟨36, _⟩ => ⟨S4096x1x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .bf16⟩
  | .hbm, ⟨67, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Mix.lean ====
abbrev S4096x1024 : Shape := ⟨2, ![4096, 1024]⟩
abbrev S4096x512 : Shape := ⟨2, ![4096, 512]⟩
abbrev S4096x6144 : Shape := ⟨2, ![4096, 6144]⟩
abbrev S1x3072 : Shape := ⟨2, ![1, 3072]⟩
abbrev S512x1024 : Shape := ⟨2, ![512, 1024]⟩
abbrev S1024x1024 : Shape := ⟨2, ![1024, 1024]⟩
abbrev S512x4096 : Shape := ⟨2, ![512, 4096]⟩
abbrev S512x512 : Shape := ⟨2, ![512, 512]⟩
abbrev S512x3072 : Shape := ⟨2, ![512, 3072]⟩
abbrev S3x512x3072 : Shape := ⟨3, ![3, 512, 3072]⟩
abbrev S3 : Shape := ⟨1, ![3]⟩
abbrev S1 : Shape := ⟨1, ![1]⟩
abbrev S_ : Shape := ⟨0, ![]⟩
abbrev S1x512x3072 : Shape := ⟨3, ![1, 512, 3072]⟩
abbrev S1x1024 : Shape := ⟨2, ![1, 1024]⟩
abbrev S1024 : Shape := ⟨1, ![1024]⟩
abbrev S4096x3072 : Shape := ⟨2, ![4096, 3072]⟩

abbrev nBuf : Space → Nat
  | .hbm => 19
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x6144, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S4096x6144, .bf16⟩
  | .hbm, ⟨11, _⟩ => ⟨S4096x512, .bf16⟩
  | .hbm, ⟨12, _⟩ => ⟨S512x4096, .bf16⟩
  | .hbm, ⟨13, _⟩ => ⟨S4096x512, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S1x3072, .f32⟩
  | .hbm, ⟨18, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x3072, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x3072, .bf16⟩
  | .local _ .vmem, ⟨14, _⟩ => ⟨S512x3072, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S1x3072, .f32⟩
  | .local _ .vmem, ⟨28, _⟩ => ⟨S3x512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c2_i32 : BitVec 32 := 2#32
  let v7 : BitVec 32 := Scalar.addi arg0 c2_i32
  let c8_i32 : BitVec 32 := 8#32
  let v8 : BitVec 1 := Scalar.cmpi .slt v7 c8_i32
  let v9 : BitVec 32 := Scalar.extui v8
  let c0_i32_3 : BitVec 32 := 0#32
  let v10 : BitVec 1 := Scalar.cmpi .ne v9 c0_i32_3
  v10

def k0_off1 (i : grid0.Coords) : Fin 1 → Nat :=
  let arg0 : BitVec 32 := BitVec.ofNat 32 (i 0).val
  let c2_i32_107 : BitVec 32 := 2#32
  let v156 : BitVec 32 := Scalar.addi arg0 c2_i32_107
  let c3_i32_108 : BitVec 32 := 3#32
  let c0_i32_109 : BitVec 32 := 0#32
  let v157 : BitVec 1 := Scalar.cmpi .eq c3_i32_108 c0_i32_109
  let c1_i32_110 : BitVec 32 := 1#32
  let v158 : BitVec 32 := Scalar.select v157 c1_i32_110 c3_i32_108
  let v159 : BitVec 32 := Scalar.remsi v156 v158
  let c0_i32_112 : BitVec 32 := 0#32
  let v161 : BitVec 1 := Scalar.cmpi .slt v159 c0_i32_112
  let c0_i32_113 : BitVec 32 := 0#32
  let v162 : BitVec 1 := Scalar.cmpi .slt v158 c0_i32_113
  let v163 : BitVec 1 := Scalar.xori v161 v162
  let c0_i32_111 : BitVec 32 := 0#32
  let v160 : BitVec 1 := Scalar.cmpi .ne v159 c0_i32_111
  let v164 : BitVec 1 := Scalar.andi v163 v160
  let v165 : BitVec 32 := Scalar.addi v159 v158
  let v166 : BitVec 32 := Scalar.select v164 v165 v159
  ![v166.toNat]
def k0_off2 (i : grid0.Coords) : Fin 3 → Nat :=
  let arg0 : BitVec 32 := BitVec.ofNat 32 (i 0).val
  let c2_i32_107 : BitVec 32 := 2#32
  let v156 : BitVec 32 := Scalar.addi arg0 c2_i32_107
  let c3_i32_108 : BitVec 32 := 3#32
  let c0_i32_109 : BitVec 32 := 0#32
  let v157 : BitVec 1 := Scalar.cmpi .eq c3_i32_108 c0_i32_109
  let c1_i32_110 : BitVec 32 := 1#32
  let v158 : BitVec 32 := Scalar.select v157 c1_i32_110 c3_i32_108
  let v159 : BitVec 32 := Scalar.remsi v156 v158
  let c0_i32_112 : BitVec 32 := 0#32
  let v161 : BitVec 1 := Scalar.cmpi .slt v159 c0_i32_112
  let c0_i32_113 : BitVec 32 := 0#32
  let v162 : BitVec 1 := Scalar.cmpi .slt v158 c0_i32_113
  let v163 : BitVec 1 := Scalar.xori v161 v162
  let c0_i32_111 : BitVec 32 := 0#32
  let v160 : BitVec 1 := Scalar.cmpi .ne v159 c0_i32_111
  let v164 : BitVec 1 := Scalar.andi v163 v160
  let v165 : BitVec 32 := Scalar.addi v159 v158
  let v166 : BitVec 32 := Scalar.select v164 v165 v159
  let c0_i32_115 : BitVec 32 := 0#32
  let c0_i32_116 : BitVec 32 := 0#32
  ![v166.toNat, 0, 0]
def k0_off3 (i : grid0.Coords) : Fin 2 → Nat :=
  let arg0 : BitVec 32 := BitVec.ofNat 32 (i 0).val
  let c2_i32_107 : BitVec 32 := 2#32
  let v156 : BitVec 32 := Scalar.addi arg0 c2_i32_107
  let c512_i32_114 : BitVec 32 := 512#32
  let v167 : BitVec 32 := Scalar.muli v156 c512_i32_114
  let c0_i32_117 : BitVec 32 := 0#32
  ![v167.toNat, 0]
def k0_off4 (i : grid0.Coords) : Fin 1 → Nat :=
  let arg0 : BitVec 32 := BitVec.ofNat 32 (i 0).val
  let c3_i32 : BitVec 32 := 3#32
  let c0_i32_4 : BitVec 32 := 0#32
  let v11 : BitVec 1 := Scalar.cmpi .eq c3_i32 c0_i32_4
  let c1_i32 : BitVec 32 := 1#32
  let v12 : BitVec 32 := Scalar.select v11 c1_i32 c3_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  ![v20.toNat]
def k0_off5 (i : grid0.Coords) : Fin 3 → Nat :=
  let arg0 : BitVec 32 := BitVec.ofNat 32 (i 0).val
  let c3_i32 : BitVec 32 := 3#32
  let c0_i32_4 : BitVec 32 := 0#32
  let v11 : BitVec 1 := Scalar.cmpi .eq c3_i32 c0_i32_4
  let c1_i32 : BitVec 32 := 1#32
  let v12 : BitVec 32 := Scalar.select v11 c1_i32 c3_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c0_i32_8 : BitVec 32 := 0#32
  let c0_i32_9 : BitVec 32 := 0#32
  ![v20.toNat, 0, 0]
def k0_off6 (i : grid0.Coords) : Fin 2 → Nat :=
  let arg0 : BitVec 32 := BitVec.ofNat 32 (i 0).val
  let c512_i32 : BitVec 32 := 512#32
  let v21 : BitVec 32 := Scalar.muli arg0 c512_i32
  let c0_i32_10 : BitVec 32 := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixGradIdeal.lean ====
abbrev S4096x1024 : Shape := ⟨2, ![4096, 1024]⟩
abbrev S4096x512 : Shape := ⟨2, ![4096, 512]⟩
abbrev S4096x6144 : Shape := ⟨2, ![4096, 6144]⟩
abbrev S1x3072 : Shape := ⟨2, ![1, 3072]⟩
abbrev S512x1024 : Shape := ⟨2, ![512, 1024]⟩
abbrev S1024x1024 : Shape := ⟨2, ![1024, 1024]⟩
abbrev S4096x3072 : Shape := ⟨2, ![4096, 3072]⟩
abbrev S3072 : Shape := ⟨1, ![3072]⟩
abbrev S_ : Shape := ⟨0, ![]⟩
abbrev S4096x3x1024 : Shape := ⟨3, ![4096, 3, 1024]⟩
abbrev S4096x1x1024 : Shape := ⟨3, ![4096, 1, 1024]⟩
abbrev S512x4096 : Shape := ⟨2, ![512, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x6144, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x6144, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x3072, .f32⟩
  | .hbm, ⟨22, _⟩ => ⟨S3072, .f32⟩
  | .hbm, ⟨23, _⟩ => ⟨S1x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S_, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1x1024, .f32⟩
  | .hbm, ⟨55, _⟩ => ⟨S_, .f32⟩
  | .hbm, ⟨56, _⟩ => ⟨S4096x3x1024, .f32⟩
  | .hbm, ⟨57, _⟩ => ⟨S4096x1024, .f32⟩
  | .hbm, ⟨58, _⟩ => ⟨S4096x1024, .f32⟩
  | .hbm, ⟨59, _⟩ => ⟨S4096x1x1024, .f32⟩
  | .hbm, ⟨60, _⟩ => ⟨S_, .f32⟩
  | .hbm, ⟨61, _⟩ => ⟨S4096x3x1024, .f32⟩
  | .hbm, ⟨62, _⟩ => ⟨S4096x3x1024, .f32⟩
  | .hbm, ⟨63, _⟩ => ⟨S4096x1024, .f32⟩
  | .hbm, ⟨64, _⟩ => ⟨S4096x1024, .f32⟩
  | .hbm, ⟨65, _⟩ => ⟨S4096x1x1024, .f32⟩
  | .hbm, ⟨66, _⟩ => ⟨S_, .f32⟩
  | .hbm, ⟨67, _⟩ => ⟨S4096x3x1024, .f32⟩
  | .hbm, ⟨68, _⟩ => ⟨S4096x3x1024, .f32⟩
  | .hbm, ⟨69, _⟩ => ⟨S4096x3072, .f32⟩
  | .hbm, ⟨70, _⟩ => ⟨S4096x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S_, .f32⟩
  | .hbm, ⟨75, _⟩ => ⟨S3072, .f32⟩
  | .hbm, ⟨76, _⟩ => ⟨S4096x1024, .f32⟩
  | .hbm, ⟨77, _⟩ => ⟨S4096x512, .f32⟩
  | .hbm, ⟨78, _⟩ => ⟨S4096x1024, .f32⟩
  | .hbm, ⟨79, _⟩ => ⟨S4096x512, .f32⟩
  | .hbm, ⟨80, _⟩ => ⟨S4096x1024, .f32⟩
  | .hbm, ⟨81, _⟩ => ⟨S4096x512, .f32⟩
  | .hbm, ⟨82, _⟩ => ⟨S512x4096, .f32⟩
  | .hbm, ⟨83, _⟩ => ⟨S4096x3072, .bf16⟩
  | .hbm, ⟨84, _⟩ => ⟨S4096x512, .bf16⟩
  | .hbm, ⟨85, _⟩ => ⟨S512x4096, .bf16⟩
  | .hbm, ⟨86, _⟩ => ⟨S4096x512, .bf16⟩
  | .hbm, ⟨87, _⟩ => ⟨S4096x1024, .bf16⟩
  | .hbm, ⟨88, _⟩ => ⟨S4096x1024, .bf16⟩
  | .hbm, ⟨89, _⟩ => ⟨S4096x1024, .bf16⟩
  | .hbm, ⟨90, _⟩ => ⟨S1x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Attend.lean ====
abbrev S4096x512 : Shape := ⟨2, ![4096, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttendPlainIdeal.lean ====
abbrev S4096x512 : Shape := ⟨2, ![4096, 512]⟩
abbrev S256x512 : Shape := ⟨2, ![256, 512]⟩
abbrev S4096x4x128 : Shape := ⟨3, ![4096, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x512, .bf16⟩
  | .hbm, ⟨2, _⟩ => ⟨S256x512, .bf16⟩
  | .hbm, ⟨3, _⟩ => ⟨S4096x512, .f32⟩
  | .hbm, ⟨4, _⟩ => ⟨S256x512, .f32⟩
  | .hbm, ⟨5, _⟩ => ⟨S256x512, .f32⟩
  | .hbm, ⟨6, _⟩ => ⟨S4096x4x128, .f32⟩
  | .hbm, ⟨7, _⟩ => ⟨S256x4x128, .f32⟩
  | .hbm, ⟨8, _⟩ => ⟨S256x4x128, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x128x4096, .f32⟩
  | .hbm, ⟨28, _⟩ => ⟨S4096x4x128, .f32⟩
  | .hbm, ⟨29, _⟩ => ⟨S4096x512, .f32⟩
  | .hbm, ⟨30, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.MixIdealOuts.lean ====
/- The gradient of the gates (MixIdeal): what the body leaves in its eight outputs at each of the three kinds of points (the
   first, the middle ones and the last two), and point by point. -/
module

public import proofs.«01_k».proof.Proof.Gen.MixIdeal.Frame.RunC
public import Idealize.ShloMosaic.Lib.Claim

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section CaseA
variable (c : Dev nD) (t : Fin cfg0.N) (arg1 : Memref sig .tc .vmem S512x1024 .f32) (harg1 : arg1.IsWhole)
  (arg2 : Memref sig .tc .vmem S512x512 .bf16) (harg2 : arg2.IsWhole) (arg3 : Memref sig .tc .vmem S512x512 .bf16)
  (harg3 : arg3.IsWhole) (arg4 : Memref sig .tc .vmem S512x512 .bf16) (harg4 : arg4.IsWhole)
  (arg6 : Memref sig .tc .vmem S1x3072 .f32) (harg6 : arg6.IsWhole) (arg7 : Memref sig .tc .vmem S512x1024 .bf16)
  (harg7 : arg7.IsWhole) (arg8 : Memref sig .tc .vmem S512x1024 .bf16) (harg8 : arg8.IsWhole)
  (arg9 : Memref sig .tc .vmem S512x1024 .bf16) (harg9 : arg9.IsWhole) (arg10 : Memref sig .tc .vmem S1024x1024 .bf16)
  (harg10 : arg10.IsWhole) (arg11 : Memref sig .tc .vmem S512x3072 .bf16) (harg11 : arg11.IsWhole)
  (arg12 : Memref sig .tc .vmem S512x512 .bf16) (harg12 : arg12.IsWhole) (arg13 : Memref sig .tc .vmem S512x512 .bf16)
  (harg13 : arg13.IsWhole) (arg14 : Memref sig .tc .vmem S512x512 .bf16) (harg14 : arg14.IsWhole)
  (arg15 : Memref sig .tc .vmem S512x1024 .bf16) (harg15 : arg15.IsWhole) (arg16 : Memref sig .tc .vmem S512x1024 .bf16)
  (harg16 : arg16.IsWhole) (arg17 : Memref sig .tc .vmem S512x1024 .bf16) (harg17 : arg17.IsWhole)
  (arg18 : Memref sig .tc .vmem S1x3072 .f32) (harg18 : arg18.IsWhole) (hc0 : cond0_0 (grid0.coords t))
  (hc1 : cond0_1 (grid0.coords t)) (hc2 : cond0_2 (grid0.coords t)) (hc3 : cond0_3 (grid0.coords t)) (x0 : Vec F S512x1024 .f32)
  (x1 : Vec F S512x512 .bf16) (x2 : Vec F S512x512 .bf16) (x3 : Vec F S512x512 .bf16) (x4 : Vec F S1x3072 .f32)
  (x5 : Vec F S512x1024 .bf16) (x6 : Vec F S512x1024 .bf16) (x7 : Vec F S512x1024 .bf16) (x8 : Vec F S1024x1024 .bf16)
  (fh0 : HbBuf0 (F := F) c hbM0_0)

theorem cover0_A_9 (y : S512x3072.Idx) :
    ∃ pc ∈ (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).1, y ∈ pc.1.set :=
  View.cover_of_tiledL (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).1 S512x1024.size (by sl_kernel_rfl) y

def out0_A_9 : Vec F S512x3072 .bf16 :=
  VO0_9.read (Elt F) (VO0_9.writes (Elt F) VO0_9.junk (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).1)

theorem cover0_A_10 (y : S512x512.Idx) :
    ∃ pc ∈ (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.1, y ∈ pc.1.set :=
  View.cover_of_tiledL (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.1 S512x512.size (by sl_kernel_rfl) y

def out0_A_10 : Vec F S512x512 .bf16 :=
  VO0_10.read (Elt F) (VO0_10.writes (Elt F) VO0_10.junk (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.1)

theorem cover0_A_11 (y : S512x512.Idx) :
    ∃ pc ∈ (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.1, y ∈ pc.1.set :=
  View.cover_of_tiledL (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.1 S512x512.size (by sl_kernel_rfl) y

def out0_A_11 : Vec F S512x512 .bf16 :=
  VO0_11.read (Elt F) (VO0_11.writes (Elt F) VO0_11.junk (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.1)

theorem cover0_A_12 (y : S512x512.Idx) :
    ∃ pc ∈ (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.1, y ∈ pc.1.set :=
  View.cover_of_tiledL (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.1 S512x512.size (by sl_kernel_rfl) y

def out0_A_12 : Vec F S512x512 .bf16 :=
  VO0_12.read (Elt F) (VO0_12.writes (Elt F) VO0_12.junk (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.1)

theorem cover0_A_13 (y : S512x1024.Idx) :
    ∃ pc ∈ (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.1, y ∈ pc.1.set :=
  View.cover_of_tiledL (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.1 S512x1024.size (by sl_kernel_rfl) y

def out0_A_13 : Vec F S512x1024 .bf16 :=
  VO0_13.read (Elt F) (VO0_13.writes (Elt F) VO0_13.junk (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.1)

theorem cover0_A_14 (y : S512x1024.Idx) :
    ∃ pc ∈ (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.2.1, y ∈ pc.1.set :=
  View.cover_of_tiledL (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.2.1 S512x1024.size (by sl_kernel_rfl) y

def out0_A_14 : Vec F S512x1024 .bf16 :=
  VO0_14.read (Elt F) (VO0_14.writes (Elt F) VO0_14.junk (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.2.1)

theorem cover0_A_15 (y : S512x1024.Idx) :
    ∃ pc ∈ (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.2.2.1, y ∈ pc.1.set :=
  View.cover_of_tiledL (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.2.2.1 S512x1024.size (by sl_kernel_rfl) y

def out0_A_15 : Vec F S512x1024 .bf16 :=
  VO0_15.read (Elt F) (VO0_15.writes (Elt F) VO0_15.junk (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.2.2.1)

theorem cover0_A_16 (y : S1x3072.Idx) :
    ∃ pc ∈ (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.2.2.2.1, y ∈ pc.1.set :=
  View.cover_of_tiledBy _ ![1, 1024] (by sl_kernel_rfl) y

def out0_A_16 : Vec F S1x3072 .f32 :=
  VO0_16.read (Elt F) (VO0_16.writes (Elt F) VO0_16.junk (kernelRun0_A c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 fh0).2.2.2.2.2.2.2.1)

end CaseA

section CaseB
variable (c : Dev nD) (t : Fin cfg0.N) (arg1 : Memref sig .tc .vmem S512x1024 .f32) (harg1 : arg1.IsWhole)
  (arg2 : Memref sig .tc .vmem S512x512 .bf16) (harg2 : arg2.IsWhole) (arg3 : Memref sig .tc .vmem S512x512 .bf16)
  (harg3 : arg3.IsWhole) (arg4 : Memref sig .tc .vmem S512x512 .bf16) (harg4 : arg4.IsWhole)
  (arg6 : Memref sig .tc .vmem S1x3072 .f32) (harg6 : arg6.IsWhole) (arg7 : Memref sig .tc .vmem S512x1024 .bf16)
  (harg7 : arg7.IsWhole) (arg8 : Memref sig .tc .vmem S512x1024 .bf16) (harg8 : arg8.IsWhole)
  (arg9 : Memref sig .tc .vmem S512x1024 .bf16) (harg9 : arg9.IsWhole) (arg10 : Memref sig .tc .vmem S1024x1024 .bf16)
  (harg10 : arg10.IsWhole) (arg11 : Memref sig .tc .vmem S512x3072 .bf16) (harg11 : arg11.IsWhole)
  (arg12 : Memref sig .tc .vmem S512x512 .bf16) (harg12 : arg12.IsWhole) (arg13 : Memref sig .tc .vmem S512x512 .bf16)
  (harg13 : arg13.IsWhole) (arg14 : Memref sig .tc .vmem S512x512 .bf16) (harg14 : arg14.IsWhole)
  (arg15 : Memref sig .tc .vmem S512x1024 .bf16) (harg15 : arg15.IsWhole) (arg16 : Memref sig .tc .vmem S512x1024 .bf16)
  (harg16 : arg16.IsWhole) (arg17 : Memref sig .tc .vmem S512x1024 .bf16) (harg17 : arg17.IsWhole)
  (arg18 : Memref sig .tc .vmem S1x3072 .f32) (harg18 : arg18.IsWhole) (hc0 : ¬cond0_0 (grid0.coords t))
  (hc1 : ¬cond0_1 (grid0.coords t)) (hc2 : cond0_2 (grid0.coords t)) (hc3 : ¬cond0_3 (grid0.coords t)) (x0 : Vec F S512x1024 .f32)
  (x1 : Vec F S512x512 .bf16) (x2 : Vec F S512x512 .bf16) (x3 : Vec F S512x512 .bf16) (x4 : Vec F S1x3072 .f32)
  (x5 : Vec F S512x1024 .bf16) (x6 : Vec F S512x1024 .bf16) (x7 : Vec F S512x1024 .bf16) (x8 : Vec F S1024x1024 .bf16)
  (xo16 : Vec F S1x3072 .f32) (fh0 : HbBuf0 (F := F) c hbM0_0)

theorem cover0_B_9 (y : S512x3072.Idx) :
    ∃ pc ∈ (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).1, y ∈ pc.1.set :=
  View.cover_of_tiledL (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).1 S512x1024.size (by sl_kernel_rfl) y

def out0_B_9 : Vec F S512x3072 .bf16 :=
  VO0_9.read (Elt F) (VO0_9.writes (Elt F) VO0_9.junk (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).1)

theorem cover0_B_10 (y : S512x512.Idx) :
    ∃ pc ∈ (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.1, y ∈ pc.1.set :=
  View.cover_of_tiledL (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.1 S512x512.size (by sl_kernel_rfl) y

def out0_B_10 : Vec F S512x512 .bf16 :=
  VO0_10.read (Elt F) (VO0_10.writes (Elt F) VO0_10.junk (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.1)

theorem cover0_B_11 (y : S512x512.Idx) :
    ∃ pc ∈ (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.1, y ∈ pc.1.set :=
  View.cover_of_tiledL (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.1 S512x512.size (by sl_kernel_rfl) y

def out0_B_11 : Vec F S512x512 .bf16 :=
  VO0_11.read (Elt F) (VO0_11.writes (Elt F) VO0_11.junk (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.1)

theorem cover0_B_12 (y : S512x512.Idx) :
    ∃ pc ∈ (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.1, y ∈ pc.1.set :=
  View.cover_of_tiledL (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.1 S512x512.size (by sl_kernel_rfl) y

def out0_B_12 : Vec F S512x512 .bf16 :=
  VO0_12.read (Elt F) (VO0_12.writes (Elt F) VO0_12.junk (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.1)

theorem cover0_B_13 (y : S512x1024.Idx) :
    ∃ pc ∈ (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.1, y ∈ pc.1.set :=
  View.cover_of_tiledL (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.1 S512x1024.size (by sl_kernel_rfl) y

def out0_B_13 : Vec F S512x1024 .bf16 :=
  VO0_13.read (Elt F) (VO0_13.writes (Elt F) VO0_13.junk (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.1)

theorem cover0_B_14 (y : S512x1024.Idx) :
    ∃ pc ∈ (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.1, y ∈ pc.1.set :=
  View.cover_of_tiledL (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.1 S512x1024.size (by sl_kernel_rfl) y

def out0_B_14 : Vec F S512x1024 .bf16 :=
  VO0_14.read (Elt F) (VO0_14.writes (Elt F) VO0_14.junk (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.1)

theorem cover0_B_15 (y : S512x1024.Idx) :
    ∃ pc ∈ (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.1, y ∈ pc.1.set :=
  View.cover_of_tiledL (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.1 S512x1024.size (by sl_kernel_rfl) y

def out0_B_15 : Vec F S512x1024 .bf16 :=
  VO0_15.read (Elt F) (VO0_15.writes (Elt F) VO0_15.junk (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.1)

theorem cover0_B_16 (y : S1x3072.Idx) :
    ∃ pc ∈ (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.2.1, y ∈ pc.1.set :=
  View.cover_of_tiledL (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.2.1 S1x1024.size (by sl_kernel_rfl) y

def out0_B_16 : Vec F S1x3072 .f32 :=
  VO0_16.read (Elt F) (VO0_16.writes (Elt F) VO0_16.junk (kernelRun0_B c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.2.1)

end CaseB

section CaseC
variable (c : Dev nD) (t : Fin cfg0.N) (arg1 : Memref sig .tc .vmem S512x1024 .f32) (harg1 : arg1.IsWhole)
  (arg2 : Memref sig .tc .vmem S512x512 .bf16) (harg2 : arg2.IsWhole) (arg3 : Memref sig .tc .vmem S512x512 .bf16)
  (harg3 : arg3.IsWhole) (arg4 : Memref sig .tc .vmem S512x512 .bf16) (harg4 : arg4.IsWhole)
  (arg6 : Memref sig .tc .vmem S1x3072 .f32) (harg6 : arg6.IsWhole) (arg7 : Memref sig .tc .vmem S512x1024 .bf16)
  (harg7 : arg7.IsWhole) (arg8 : Memref sig .tc .vmem S512x1024 .bf16) (harg8 : arg8.IsWhole)
  (arg9 : Memref sig .tc .vmem S512x1024 .bf16) (harg9 : arg9.IsWhole) (arg10 : Memref sig .tc .vmem S1024x1024 .bf16)
  (harg10 : arg10.IsWhole) (arg11 : Memref sig .tc .vmem S512x3072 .bf16) (harg11 : arg11.IsWhole)
  (arg12 : Memref sig .tc .vmem S512x512 .bf16) (harg12 : arg12.IsWhole) (arg13 : Memref sig .tc .vmem S512x512 .bf16)
  (harg13 : arg13.IsWhole) (arg14 : Memref sig .tc .vmem S512x512 .bf16) (harg14 : arg14.IsWhole)
  (arg15 : Memref sig .tc .vmem S512x1024 .bf16) (harg15 : arg15.IsWhole) (arg16 : Memref sig .tc .vmem S512x1024 .bf16)
  (harg16 : arg16.IsWhole) (arg17 : Memref sig .tc .vmem S512x1024 .bf16) (harg17 : arg17.IsWhole)
  (arg18 : Memref sig .tc .vmem S1x3072 .f32) (harg18 : arg18.IsWhole) (hc0 : ¬cond0_0 (grid0.coords t))
  (hc1 : ¬cond0_1 (grid0.coords t)) (hc2 : ¬cond0_2 (grid0.coords t)) (hc3 : ¬cond0_3 (grid0.coords t)) (x0 : Vec F S512x1024 .f32)
  (x1 : Vec F S512x512 .bf16) (x2 : Vec F S512x512 .bf16) (x3 : Vec F S512x512 .bf16) (x4 : Vec F S1x3072 .f32)
  (x5 : Vec F S512x1024 .bf16) (x6 : Vec F S512x1024 .bf16) (x7 : Vec F S512x1024 .bf16) (x8 : Vec F S1024x1024 .bf16)
  (xo16 : Vec F S1x3072 .f32) (fh0 : HbBuf0 (F := F) c hbM0_0)

theorem cover0_C_9 (y : S512x3072.Idx) :
    ∃ pc ∈ (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).1, y ∈ pc.1.set :=
  View.cover_of_tiledL (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).1 S512x1024.size (by sl_kernel_rfl) y

def out0_C_9 : Vec F S512x3072 .bf16 :=
  VO0_9.read (Elt F) (VO0_9.writes (Elt F) VO0_9.junk (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).1)

theorem cover0_C_10 (y : S512x512.Idx) :
    ∃ pc ∈ (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.1, y ∈ pc.1.set :=
  View.cover_of_tiledL (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.1 S512x512.size (by sl_kernel_rfl) y

def out0_C_10 : Vec F S512x512 .bf16 :=
  VO0_10.read (Elt F) (VO0_10.writes (Elt F) VO0_10.junk (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.1)

theorem cover0_C_11 (y : S512x512.Idx) :
    ∃ pc ∈ (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.1, y ∈ pc.1.set :=
  View.cover_of_tiledL (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.1 S512x512.size (by sl_kernel_rfl) y

def out0_C_11 : Vec F S512x512 .bf16 :=
  VO0_11.read (Elt F) (VO0_11.writes (Elt F) VO0_11.junk (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.1)

theorem cover0_C_12 (y : S512x512.Idx) :
    ∃ pc ∈ (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.1, y ∈ pc.1.set :=
  View.cover_of_tiledL (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.1 S512x512.size (by sl_kernel_rfl) y

def out0_C_12 : Vec F S512x512 .bf16 :=
  VO0_12.read (Elt F) (VO0_12.writes (Elt F) VO0_12.junk (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.1)

theorem cover0_C_13 (y : S512x1024.Idx) :
    ∃ pc ∈ (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.1, y ∈ pc.1.set :=
  View.cover_of_tiledL (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.1 S512x1024.size (by sl_kernel_rfl) y

def out0_C_13 : Vec F S512x1024 .bf16 :=
  VO0_13.read (Elt F) (VO0_13.writes (Elt F) VO0_13.junk (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.1)

theorem cover0_C_14 (y : S512x1024.Idx) :
    ∃ pc ∈ (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.1, y ∈ pc.1.set :=
  View.cover_of_tiledL (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.1 S512x1024.size (by sl_kernel_rfl) y

def out0_C_14 : Vec F S512x1024 .bf16 :=
  VO0_14.read (Elt F) (VO0_14.writes (Elt F) VO0_14.junk (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.1)

theorem cover0_C_15 (y : S512x1024.Idx) :
    ∃ pc ∈ (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.1, y ∈ pc.1.set :=
  View.cover_of_tiledL (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.1 S512x1024.size (by sl_kernel_rfl) y

def out0_C_15 : Vec F S512x1024 .bf16 :=
  VO0_15.read (Elt F) (VO0_15.writes (Elt F) VO0_15.junk (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.1)

theorem cover0_C_16 (y : S1x3072.Idx) :
    ∃ pc ∈ (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.2.1, y ∈ pc.1.set :=
  View.cover_of_tiledL (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.2.1 S1x1024.size (by sl_kernel_rfl) y

def out0_C_16 : Vec F S1x3072 .f32 :=
  VO0_16.read (Elt F) (VO0_16.writes (Elt F) VO0_16.junk (kernelRun0_C c t arg1 harg1 arg2 harg2 arg3 harg3 arg4 harg4 arg6 harg6 arg7 harg7 arg8 harg8 arg9 harg9 arg10 harg10 arg11 harg11 arg12
      harg12 arg13 harg13 arg14 harg14 arg15 harg15 arg16 harg16 arg17 harg17 arg18 harg18 hc0 hc1 hc2 hc3 x0 x1 x2 x3 x4 x5 x6 x7
      x8 xo16 fh0).2.2.2.2.2.2.2.1)

end CaseC

/-- What the eight outputs' buffers hold after a point of case A. -/
def outs0_A (c : Dev nD) (t : Fin cfg0.N) (h0 : t.val % 8 = 0) (h1 : t.val % 8 = 0) (h2 : t.val < 6) (h3 : t.val % 8 = 0) :
    Vec F S512x3072 .bf16 × Vec F S512x512 .bf16 × Vec F S512x512 .bf16 × Vec F S512x512 .bf16 × Vec F S512x1024 .bf16 × Vec F S512x1024 .bf16 × Vec F S512x1024 .bf16 × Vec F S1x3072 .f32 :=
  (out0_A_9 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t)
      ((hcond0_0 t).mpr h0) ((hcond0_1 t).mpr h1) ((hcond0_2 t).mpr h2) ((hcond0_3 t).mpr h3) (iblk m c 0 t) (iblk m c 1 t) (iblk m
      c 2 t) (iblk m c 3 t) (iblk m c 4 t) (iblk m c 5 t) (iblk m c 6 t) (iblk m c 7 t) (iblk m c 8 t) (V m c main_arg4),
   out0_A_10 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t)
      ((hcond0_0 t).mpr h0) ((hcond0_1 t).mpr h1) ((hcond0_2 t).mpr h2) ((hcond0_3 t).mpr h3) (iblk m c 0 t) (iblk m c 1 t) (iblk m
      c 2 t) (iblk m c 3 t) (iblk m c 4 t) (iblk m c 5 t) (iblk m c 6 t) (iblk m c 7 t) (iblk m c 8 t) (V m c main_arg4),
   out0_A_11 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t)
      ((hcond0_0 t).mpr h0) ((hcond0_1 t).mpr h1) ((hcond0_2 t).mpr h2) ((hcond0_3 t).mpr h3) (iblk m c 0 t) (iblk m c 1 t) (iblk m
      c 2 t) (iblk m c 3 t) (iblk m c 4 t) (iblk m c 5 t) (iblk m c 6 t) (iblk m c 7 t) (iblk m c 8 t) (V m c main_arg4),
   out0_A_12 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t)
      ((hcond0_0 t).mpr h0) ((hcond0_1 t).mpr h1) ((hcond0_2 t).mpr h2) ((hcond0_3 t).mpr h3) (iblk m c 0 t) (iblk m c 1 t) (iblk m
      c 2 t) (iblk m c 3 t) (iblk m c 4 t) (iblk m c 5 t) (iblk m c 6 t) (iblk m c 7 t) (iblk m c 8 t) (V m c main_arg4),
   out0_A_13 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t)
      ((hcond0_0 t).mpr h0) ((hcond0_1 t).mpr h1) ((hcond0_2 t).mpr h2) ((hcond0_3 t).mpr h3) (iblk m c 0 t) (iblk m c 1 t) (iblk m
      c 2 t) (iblk m c 3 t) (iblk m c 4 t) (iblk m c 5 t) (iblk m c 6 t) (iblk m c 7 t) (iblk m c 8 t) (V m c main_arg4),
   out0_A_14 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t)
      ((hcond0_0 t).mpr h0) ((hcond0_1 t).mpr h1) ((hcond0_2 t).mpr h2) ((hcond0_3 t).mpr h3) (iblk m c 0 t) (iblk m c 1 t) (iblk m
      c 2 t) (iblk m c 3 t) (iblk m c 4 t) (iblk m c 5 t) (iblk m c 6 t) (iblk m c 7 t) (iblk m c 8 t) (V m c main_arg4),
   out0_A_15 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t)
      ((hcond0_0 t).mpr h0) ((hcond0_1 t).mpr h1) ((hcond0_2 t).mpr h2) ((hcond0_3 t).mpr h3) (iblk m c 0 t) (iblk m c 1 t) (iblk m
      c 2 t) (iblk m c 3 t) (iblk m c 4 t) (iblk m c 5 t) (iblk m c 6 t) (iblk m c 7 t) (iblk m c 8 t) (V m c main_arg4),
   out0_A_16 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t)
      ((hcond0_0 t).mpr h0) ((hcond0_1 t).mpr h1) ((hcond0_2 t).mpr h2) ((hcond0_3 t).mpr h3) (iblk m c 0 t) (iblk m c 1 t) (iblk m
      c 2 t) (iblk m c 3 t) (iblk m c 4 t) (iblk m c 5 t) (iblk m c 6 t) (iblk m c 7 t) (iblk m c 8 t) (V m c main_arg4))

/-- What the eight outputs' buffers hold after a point of case B. -/
def outs0_B (c : Dev nD) (t : Fin cfg0.N) (h0 : ¬t.val % 8 = 0) (h1 : ¬t.val % 8 = 0) (h2 : t.val < 6) (h3 : ¬t.val % 8 = 0) (x : Vec F S1x3072 .f32) :
    Vec F S512x3072 .bf16 × Vec F S512x512 .bf16 × Vec F S512x512 .bf16 × Vec F S512x512 .bf16 × Vec F S512x1024 .bf16 × Vec F S512x1024 .bf16 × Vec F S512x1024 .bf16 × Vec F S1x3072 .f32 :=
  (out0_B_9 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) ((hcond0_2 t).mpr h2) (fun h => h3 ((hcond0_3 t).mp h)) (iblk
      m c 0 t) (iblk m c 1 t) (iblk m c 2 t) (iblk m c 3 t) (iblk m c 4 t) (iblk m c 5 t) (iblk m c 6 t) (iblk m c 7 t) (iblk m c 8
      t) x (V m c main_arg4),
   out0_B_10 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) ((hcond0_2 t).mpr h2) (fun h => h3 ((hcond0_3 t).mp h)) (iblk
      m c 0 t) (iblk m c 1 t) (iblk m c 2 t) (iblk m c 3 t) (iblk m c 4 t) (iblk m c 5 t) (iblk m c 6 t) (iblk m c 7 t) (iblk m c 8
      t) x (V m c main_arg4),
   out0_B_11 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) ((hcond0_2 t).mpr h2) (fun h => h3 ((hcond0_3 t).mp h)) (iblk
      m c 0 t) (iblk m c 1 t) (iblk m c 2 t) (iblk m c 3 t) (iblk m c 4 t) (iblk m c 5 t) (iblk m c 6 t) (iblk m c 7 t) (iblk m c 8
      t) x (V m c main_arg4),
   out0_B_12 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) ((hcond0_2 t).mpr h2) (fun h => h3 ((hcond0_3 t).mp h)) (iblk
      m c 0 t) (iblk m c 1 t) (iblk m c 2 t) (iblk m c 3 t) (iblk m c 4 t) (iblk m c 5 t) (iblk m c 6 t) (iblk m c 7 t) (iblk m c 8
      t) x (V m c main_arg4),
   out0_B_13 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) ((hcond0_2 t).mpr h2) (fun h => h3 ((hcond0_3 t).mp h)) (iblk
      m c 0 t) (iblk m c 1 t) (iblk m c 2 t) (iblk m c 3 t) (iblk m c 4 t) (iblk m c 5 t) (iblk m c 6 t) (iblk m c 7 t) (iblk m c 8
      t) x (V m c main_arg4),
   out0_B_14 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) ((hcond0_2 t).mpr h2) (fun h => h3 ((hcond0_3 t).mp h)) (iblk
      m c 0 t) (iblk m c 1 t) (iblk m c 2 t) (iblk m c 3 t) (iblk m c 4 t) (iblk m c 5 t) (iblk m c 6 t) (iblk m c 7 t) (iblk m c 8
      t) x (V m c main_arg4),
   out0_B_15 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) ((hcond0_2 t).mpr h2) (fun h => h3 ((hcond0_3 t).mp h)) (iblk
      m c 0 t) (iblk m c 1 t) (iblk m c 2 t) (iblk m c 3 t) (iblk m c 4 t) (iblk m c 5 t) (iblk m c 6 t) (iblk m c 7 t) (iblk m c 8
      t) x (V m c main_arg4),
   out0_B_16 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) ((hcond0_2 t).mpr h2) (fun h => h3 ((hcond0_3 t).mp h)) (iblk
      m c 0 t) (iblk m c 1 t) (iblk m c 2 t) (iblk m c 3 t) (iblk m c 4 t) (iblk m c 5 t) (iblk m c 6 t) (iblk m c 7 t) (iblk m c 8
      t) x (V m c main_arg4))

/-- What the eight outputs' buffers hold after a point of case C. -/
def outs0_C (c : Dev nD) (t : Fin cfg0.N) (h0 : ¬t.val % 8 = 0) (h1 : ¬t.val % 8 = 0) (h2 : ¬t.val < 6) (h3 : ¬t.val % 8 = 0) (x : Vec F S1x3072 .f32) :
    Vec F S512x3072 .bf16 × Vec F S512x512 .bf16 × Vec F S512x512 .bf16 × Vec F S512x512 .bf16 × Vec F S512x1024 .bf16 × Vec F S512x1024 .bf16 × Vec F S512x1024 .bf16 × Vec F S1x3072 .f32 :=
  (out0_C_9 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) (fun h => h2 ((hcond0_2 t).mp h)) (fun h => h3 ((hcond0_3
      t).mp h)) (iblk m c 0 t) (iblk m c 1 t) (iblk m c 2 t) (iblk m c 3 t) (iblk m c 4 t) (iblk m c 5 t) (iblk m c 6 t) (iblk m c
      7 t) (iblk m c 8 t) x (V m c main_arg4),
   out0_C_10 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) (fun h => h2 ((hcond0_2 t).mp h)) (fun h => h3 ((hcond0_3
      t).mp h)) (iblk m c 0 t) (iblk m c 1 t) (iblk m c 2 t) (iblk m c 3 t) (iblk m c 4 t) (iblk m c 5 t) (iblk m c 6 t) (iblk m c
      7 t) (iblk m c 8 t) x (V m c main_arg4),
   out0_C_11 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) (fun h => h2 ((hcond0_2 t).mp h)) (fun h => h3 ((hcond0_3
      t).mp h)) (iblk m c 0 t) (iblk m c 1 t) (iblk m c 2 t) (iblk m c 3 t) (iblk m c 4 t) (iblk m c 5 t) (iblk m c 6 t) (iblk m c
      7 t) (iblk m c 8 t) x (V m c main_arg4),
   out0_C_12 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) (fun h => h2 ((hcond0_2 t).mp h)) (fun h => h3 ((hcond0_3
      t).mp h)) (iblk m c 0 t) (iblk m c 1 t) (iblk m c 2 t) (iblk m c 3 t) (iblk m c 4 t) (iblk m c 5 t) (iblk m c 6 t) (iblk m c
      7 t) (iblk m c 8 t) x (V m c main_arg4),
   out0_C_13 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) (fun h => h2 ((hcond0_2 t).mp h)) (fun h => h3 ((hcond0_3
      t).mp h)) (iblk m c 0 t) (iblk m c 1 t) (iblk m c 2 t) (iblk m c 3 t) (iblk m c 4 t) (iblk m c 5 t) (iblk m c 6 t) (iblk m c
      7 t) (iblk m c 8 t) x (V m c main_arg4),
   out0_C_14 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) (fun h => h2 ((hcond0_2 t).mp h)) (fun h => h3 ((hcond0_3
      t).mp h)) (iblk m c 0 t) (iblk m c 1 t) (iblk m c 2 t) (iblk m c 3 t) (iblk m c 4 t) (iblk m c 5 t) (iblk m c 6 t) (iblk m c
      7 t) (iblk m c 8 t) x (V m c main_arg4),
   out0_C_15 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) (fun h => h2 ((hcond0_2 t).mp h)) (fun h => h3 ((hcond0_3
      t).mp h)) (iblk m c 0 t) (iblk m c 1 t) (iblk m c 2 t) (iblk m c 3 t) (iblk m c 4 t) (iblk m c 5 t) (iblk m c 6 t) (iblk m c
      7 t) (iblk m c 8 t) x (V m c main_arg4),
   out0_C_16 c t (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t) (ms0_11 t)
      (hs0_11 t) (ms0_12 t) (hs0_12 t) (ms0_13 t) (hs0_13 t) (ms0_14 t) (hs0_14 t) (ms0_15 t) (hs0_15 t) (ms0_16 t) (hs0_16 t) (fun
      h => h0 ((hcond0_0 t).mp h)) (fun h => h1 ((hcond0_1 t).mp h)) (fun h => h2 ((hcond0_2 t).mp h)) (fun h => h3 ((hcond0_3
      t).mp h)) (iblk m c 0 t) (iblk m c 1 t) (iblk m c 2 t) (iblk m c 3 t) (iblk m c 4 t) (iblk m c 5 t) (iblk m c 6 t) (iblk m c
      7 t) (iblk m c 8 t) x (V m c main_arg4))

/-- What the eight outputs' buffers hold after each point: the first point resets the bias row, each later one adds to it. -/
def outsAt0 (c : Dev nD) : (n : ℕ) → n < cfg0.N →
    Vec F S512x3072 .bf16 × Vec F S512x512 .bf16 × Vec F S512x512 .bf16 × Vec F S512x512 .bf16 × Vec F S512x1024 .bf16 × Vec F S512x1024 .bf16 × Vec F S512x1024 .bf16 × Vec F S1x3072 .f32
  | 0, hn => outs0_A m c ⟨0, hn⟩ (Nat.zero_mod _) (Nat.zero_mod _) (by dsimp only; omega) (Nat.zero_mod _)
  | n + 1, hn =>
    if h0 : (n + 1) % 8 = 0 then False.elim (by have hN : n + 1 < 8 := lt_of_lt_of_eq hn (show cfg0.N = 8 from N_0); omega)
    else if h2 : n + 1 < 6 then
      outs0_B m c ⟨n + 1, hn⟩ h0 h0 h2 h0 (outsAt0 c n (Nat.lt_of_succ_lt hn)).2.2.2.2.2.2.2
    else outs0_C m c ⟨n + 1, hn⟩ h0 h0 h2 h0 (outsAt0 c n (Nat.lt_of_succ_lt hn)).2.2.2.2.2.2.2

theorem outsAt0_A (c : Dev nD) (t : Fin cfg0.N) (h0 : t.val % 8 = 0) (h1 : t.val % 8 = 0) (h2 : t.val < 6) (h3 : t.val % 8 = 0) :
    outsAt0 m c t.val t.isLt = outs0_A m c t h0 h1 h2 h3 := by
  obtain ⟨n, hn⟩ := t
  cases n with
  | zero => exact rfl
  | succ n => exact absurd (lt_of_lt_of_eq hn (show cfg0.N = 8 from N_0)) (by dsimp only at h0; omega)

theorem outsAt0_B (c : Dev nD) (t : Fin cfg0.N) (h0 : ¬t.val % 8 = 0) (h1 : ¬t.val % 8 = 0) (h2 : t.val < 6) (h3 : ¬t.val % 8 = 0) :
    outsAt0 m c t.val t.isLt = outs0_B m c t h0 h1 h2 h3
      (outsAt0 m c (t.val - 1) (Nat.lt_of_le_of_lt (Nat.sub_le _ _) t.isLt)).2.2.2.2.2.2.2 := by
  obtain ⟨n, hn⟩ := t
  cases n with
  | zero => exact absurd (Nat.zero_mod _) h0
  | succ n => exact (dif_neg h0).trans ((dif_pos h2).trans rfl)

theorem outsAt0_C (c : Dev nD) (t : Fin cfg0.N) (h0 : ¬t.val % 8 = 0) (h1 : ¬t.val % 8 = 0) (h2 : ¬t.val < 6) (h3 : ¬t.val % 8 = 0) :
    outsAt0 m c t.val t.isLt = outs0_C m c t h0 h1 h2 h3
      (outsAt0 m c (t.val - 1) (Nat.lt_of_le_of_lt (Nat.sub_le _ _) t.isLt)).2.2.2.2.2.2.2 := by
  obtain ⟨n, hn⟩ := t
  cases n with
  | zero => exact absurd (Nat.zero_mod _) h0
  | succ n => exact (dif_neg h0).trans ((dif_neg h2).trans rfl)

end Cert.MixIdeal.Gen

end
-- ==== Proof.MixIdealFrame.lean ====
/- The gradient of the gates (MixIdeal): the body's proof at each point, the run and the frame. -/
module

public import proofs.«01_k».proof.Proof.MixIdealOuts

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def PhiR (c : Dev nD) (k : ℕ) : sProp 𝕄 := iprop((∃ r, prngReg c r) ∗ ringAt0_0 c (V m c main_arg4) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
    | ⟨14, _⟩ => (outsAt0 m c t.val t.isLt).2.2.2.2.2.1
    | ⟨15, _⟩ => (outsAt0 m c t.val t.isLt).2.2.2.2.2.2.1
    | ⟨16, _⟩ => (outsAt0 m c t.val t.isLt).2.2.2.2.2.2.2
    | ⟨_ + 17, h⟩ => absurd h (Nat.not_lt.2 (Nat.le_add_left _ _))
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]
theorem after0_14 (c : Dev nD) (t : Fin cfg0.N) : (dats m 0 c).after 14 t = (outsAt0 m c t.val t.isLt).2.2.2.2.2.1 := by dsimp only [dats]
theorem after0_15 (c : Dev nD) (t : Fin cfg0.N) : (dats m 0 c).after 15 t = (outsAt0 m c t.val t.isLt).2.2.2.2.2.2.1 := by dsimp only [dats]
theorem after0_16 (c : Dev nD) (t : Fin cfg0.N) : (dats m 0 c).after 16 t = (outsAt0 m c t.val t.isLt).2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_16_B (c : Dev nD) (t : Fin cfg0.N) (h0 : ¬t.val % 8 = 0) (h1 : ¬t.val % 8 = 0) (h2 : t.val < 6) (h3 : ¬t.val % 8 = 0) (d) :
    (dats m 0 c).before 16 t d = (outsAt0 m c (t.val - 1) (Nat.lt_of_le_of_lt (Nat.sub_le _ _) t.isLt)).2.2.2.2.2.2.2 := by
  have hN : t.val < 8 := lt_of_lt_of_eq t.isLt (show cfg0.N = 8 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_16_C (c : Dev nD) (t : Fin cfg0.N) (h0 : ¬t.val % 8 = 0) (h1 : ¬t.val % 8 = 0) (h2 : ¬t.val < 6) (h3 : ¬t.val % 8 = 0) (d) :
    (dats m 0 c).before 16 t d = (outsAt0 m c (t.val - 1) (Nat.lt_of_le_of_lt (Nat.sub_le _ _) t.isLt)).2.2.2.2.2.2.2 := by
  have hN : t.val < 8 := lt_of_lt_of_eq t.isLt (show cfg0.N = 8 from N_0)
  rw [Dat.before_out_kept _ 16 rfl t (by omega) (Bool.eq_false_iff.mpr fun h => by have := (flush0_16 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [after0_0, after0_1, after0_2, after0_3, after0_4, after0_5, after0_6, after0_7, after0_8, after0_9, after0_10, after0_11, after0_12, after0_13, after0_14, after0_15, after0_16]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 8 := N_0
  have hN : t.val < 8 := lt_of_lt_of_eq t.isLt (show cfg0.N = 8 from N_0)
  by_cases h0 : t.val % 8 = 0
  · by_cases h1 : t.val % 8 = 0
    · by_cases h2 : t.val < 6
      · by_cases h3 : t.val % 8 = 0
        · have hr0 := rstep0_0_A t ((hcond0_0 t).mpr h0) ((hcond0_1 t).mpr h1) ((hcond0_2 t).mpr h2) ((hcond0_3 t).mpr h3)
          obtain ⟨hK00, hK10⟩ := hr0
          rw [if_pos hK00, if_neg (show ¬t.val + 1 = 0 by omega)]
          rw [Ring.At₀_eq3' _ _ _ t.val hK00 (by decide : 3 ≤ 8), Ring.At3_one' _ _ _ _ t.val hK00 (by decide : 3 ≤ 8)]
          rw [outsAt0_A m c t h0 h1 h2 h3]
          unfold outs0_A out0_A_9 out0_A_10 out0_A_11 out0_A_12 out0_A_13 out0_A_14 out0_A_15 out0_A_16; (try dsimp only)
          iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_A c t _ _ _ _ _ _ _ _ _ _ _ _ _ _ _ _ _ _ _ _ _ _ _ _ _ _ _ _ _ _ _ _ _ _ ((hcond0_0 t).mpr h0) ((hcond0_1 t).mpr h1) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (V m c main_arg4)).2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [Hfr0_0_0]; · iexact Hfr0_0_0
          isplitl [Hfr0_0_1]; · iexact Hfr0_0_1
          isplitl [Hfr0_0_2]; · iexact Hfr0_0_2
          isplitl [HW]; · iexact HW
          iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, Hfa0_0', Hfb0_0', Hfc0_0', ⟨%W', HW'⟩⟩
          isplitl [Hg Hfa0_0' Hfb0_0' Hfc0_0']
          · isplitl [Hg]; · iexact Hg
            iapply (Ring.with_homes (Idealize.SL.BI.Entails.refl _))
            isplitl [Hfa0_0']; · iexact Hfa0_0'
            isplitl [Hfb0_0']; · iexact Hfb0_0'
            iexact Hfc0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _)
        · exfalso; omega
      · exfalso; omega
    · exfalso; omega
  · by_cases h1 : t.val % 8 = 0
    · exfalso; omega
    · by_cases h2 : t.val < 6
      · by_cases h3 : t.val % 8 = 0
        · exfalso; omega
        · have hr0 := rstep0_0_B t (fun h => h0 ((hcond0_0 t).mp h)) (fun h => h1 ((hcond0_1 t).mp h)) ((hcond0_2 t).mpr h2) (fun h => h3 ((hcond0_3 t).mp h))
          obtain ⟨hK10, hKB0, hKs0⟩ := hr0
          rw [if_neg (show ¬t.val = 0 by omega), if_neg (show ¬t.val + 1 = 0 by omega)]
          rw [Ring.At3_here _ _ _ _ t.val hKB0, Ring.At3_next _ _ _ _ t.val hKB0, Ring.slotAt3_next0 _ _ _ t.val (by omega), Ring.slotAt3_next1 _ _ _ t.val hKB0]
          rw [outsAt0_B m c t h0 h1 h2 h3]
          simp only [before0_16_B m c t h0 h1 h2 h3]
          unfold outs0_B out0_B_9 out0_B_10 out0_B_11 out0_B_12 out0_B_13 out0_B_14 out0_B_15 out0_B_16; (try dsimp only)
          iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_B c t _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _ (V m c main_arg4)).2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexact H16
          isplitl [Hfr0_0_0]; · iexact Hfr0_0_0
          isplitl [Hfr0_0_1]; · iexact Hfr0_0_1
          isplitl [Hfr0_0_2]; · iexact Hfr0_0_2
          isplitl [HW]; · iexact HW
          iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, Hfa0_0', Hfb0_0', Hfc0_0', ⟨%W', HW'⟩⟩
          isplitl [Hg Hfa0_0' Hfb0_0' Hfc0_0']
          · isplitl [Hg]; · iexact Hg
            iapply (Ring.with_homes (Idealize.SL.BI.Entails.refl _))
            isplitl [Hfa0_0']; · iexact Hfa0_0'
            isplitl [Hfb0_0']; · iexact Hfb0_0'
            iexact Hfc0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _)
      · by_cases h3 : t.val % 8 = 0
        · exfalso; omega
        · have hr0 := rstep0_0_C t (fun h => h0 ((hcond0_0 t).mp h)) (fun h => h1 ((hcond0_1 t).mp h)) (fun h => h2 ((hcond0_2 t).mp h)) (fun h => h3 ((hcond0_3 t).mp h))
          obtain ⟨hK10, hKB0, hKlt0, hKs0⟩ := hr0
          rw [if_neg (show ¬t.val = 0 by omega), if_neg (show ¬t.val + 1 = 0 by omega)]
          rw [Ring.At3_here_tail _ _ _ _ t.val hKlt0, Ring.At3_next_tail _ _ _ _ t.val hKB0 hKlt0, Ring.slotAt3_tail_role _ _ _ t.val]
          rw [outsAt0_C m c t h0 h1 h2 h3]
          simp only [before0_16_C m c t h0 h1 h2 h3]
          unfold outs0_C out0_C_9 out0_C_10 out0_C_11 out0_C_12 out0_C_13 out0_C_14 out0_C_15 out0_C_16; (try dsimp only)
          iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_C c t _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _ (V m c main_arg4)).2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexact H16
          isplitl [Hfr0_0_0]; · iexact Hfr0_0_0
          isplitl [Hfr0_0_1]; · iexact Hfr0_0_1
          isplitl [Hfr0_0_2]; · iexact Hfr0_0_2
          isplitl [HW]; · iexact HW
          iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, Hfa0_0', Hfb0_0', Hfc0_0', ⟨%W', HW'⟩⟩
          isplitl [Hg Hfa0_0' Hfb0_0' Hfc0_0']
          · isplitl [Hg]; · iexact Hg
            iapply (Ring.with_homes (Idealize.SL.BI.Entails.refl _))
            isplitl [Hfa0_0']; · iexact Hfa0_0'
            isplitl [Hfb0_0']; · iexact Hfb0_0'
            iexact Hfc0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _)
          isplitl [H15]
          · unfold owns; iexists _; isplitr
            swap; · iexact H15
            ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HR0_0, Hg, ⟨Hq0, Hq1, Hq2⟩, Hh0⟩
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 8 by rw [N_0]]
  iintro ⟨Hg, HR0_0⟩
  ihave HX0_0 := (ring0_0_out (F := F) m c) $$ HR0_0
  icases HX0_0 with ⟨HR0_0, ⟨Hq0, Hq1, Hq2⟩, Hh0⟩
  isplitl [HR0_0]
  · iexact HR0_0
  isplitl [Hg]
  · iexact Hg
  isplitl [Hq0 Hq1 Hq2]
  · isplitl [Hq0]; · iexact Hq0
    isplitl [Hq1]; · iexact Hq1
    iexact Hq2
  iexact Hh0

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.MixIdeal.Gen

end
-- ==== Proof.MemRow.lean ====
/- One row of the attention into the memory tokens, and its gradient, as functions of extended reals: the row's query and
   output gradient, the memory's keys and values, and one head's 128 columns, which begin at `o`. -/
module

public import Idealize.ShloMosaic.Lib.Pipeline.ValueKit

@[expose] public section

noncomputable section

open Idealize.ShloMosaic

namespace Cert.MemRow

/-- The scale of the scores, `128 ^ (-1/2)` as an f32 word. -/
abbrev scale : EReal := Ideal.ofBits FTy.f32 1035273459#32

section
variable (q d : Fin 512 → EReal) (K V : Fin 256 → Fin 512 → EReal) (o : ℕ) (ho : o + 128 ≤ 512)

/-- Column `k` of the head that begins at column `o`. -/
abbrev col (k : Fin 128) : Fin 512 := ⟨o + k, by omega⟩

/-- The score of memory token `j`. -/
def score (j : Fin 256) : EReal := (∑ k : Fin 128, q (col o ho k) * K j (col o ho k)) * scale

/-- The row's largest score. -/
def top : EReal := Finset.fold max (Ideal.ofBits FTy.f32 4286578688#32) (fun j => score q K o ho j) Finset.univ

/-- The unnormalised weight of token `j`. -/
def weight (j : Fin 256) : EReal := Ideal.exp (score q K o ho j - top q K o ho)

/-- The sum of the row's weights. -/
def mass : EReal := ∑ j : Fin 256, weight q K o ho j

/-- The attention probability of token `j`. -/
def prob (j : Fin 256) : EReal := Ideal.div (weight q K o ho j) (mass q K o ho)

/-- The gradient of the output, carried to the probability of token `j`. -/
def dprob (j : Fin 256) : EReal := ∑ k : Fin 128, d (col o ho k) * V j (col o ho k)

/-- The gradient of the score of token `j` before the scale, as the softmax's closed form gives it. -/
def dscore (j : Fin 256) : EReal :=
  prob q K o ho j * (dprob d V o ho j - ∑ l : Fin 256, prob q K o ho l * dprob d V o ho l)

end

/-- A row's `dmass`. -/
def massGrad (q d : Fin 512 → EReal) (K V : Fin 256 → Fin 512 → EReal) (o : ℕ) (ho : o + 128 ≤ 512) : EReal :=
  - ∑ l : Fin 256, dprob d V o ho l * Ideal.div 1 (mass q K o ho * mass q K o ho) * weight q K o ho l

/-- The gradient of a score before the scale, as the softmax is differentiated step by step. -/
def scoreGrad (q d : Fin 512 → EReal) (K V : Fin 256 → Fin 512 → EReal) (o : ℕ) (ho : o + 128 ≤ 512) (j : Fin 256) : EReal :=
  (Ideal.div (dprob d V o ho j) (mass q K o ho) + massGrad q d K V o ho) * weight q K o ho j

end Cert.MemRow

end
-- ==== Proof.MemBlock.lean ====
/- What one grid point of `mem_bwd` leaves in its three output blocks, as formulas over the point's input blocks. -/
module

public import proofs.«01_k».proof.Proof.Gen.MemIdeal.Frame
public import proofs.«01_k».proof.Proof.MemRow
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MemIdeal.Value

open Cert.MemIdeal Cert.MemIdeal.Gen
open Idealize.ShloMosaic.Pipeline (Dat)

variable (m : (ℓ : Loc nD τ sig) → Buf (Elt Ideal) ℓ)

/-- Row `r` of the query block at point `t`. -/
def qRow (c : Dev nD) (t : Fin cfg0.N) (r : Fin 512) (k : Fin 512) : EReal := (show FVec Ideal S512x512 .bf16 from iblk m c 0 t) (ix2 r k)
/-- Row `r` of the output-gradient block at point `t`. -/
def dRow (c : Dev nD) (t : Fin cfg0.N) (r : Fin 512) (k : Fin 512) : EReal := (show FVec Ideal S512x512 .bf16 from iblk m c 3 t) (ix2 r k)
/-- The memory's keys at point `t`. -/
def keys (c : Dev nD) (t : Fin cfg0.N) (j : Fin 256) (k : Fin 512) : EReal := (show FVec Ideal S256x512 .bf16 from iblk m c 1 t) (ix2 j k)
/-- The memory's values at point `t`. -/
def vals (c : Dev nD) (t : Fin cfg0.N) (j : Fin 256) (k : Fin 512) : EReal := (show FVec Ideal S256x512 .bf16 from iblk m c 2 t) (ix2 j k)

/-- The first column of the head that column `k` belongs to. -/
abbrev base (k : ℕ) : ℕ := 128 * (k / 128)
theorem base_le (k : Fin 512) : base k + 128 ≤ 512 := by have := k.2; unfold base; omega

/-- The query gradient at row `r`, column `k` of the block. -/
def dqAt (q d : Fin 512 → EReal) (K V : Fin 256 → Fin 512 → EReal) (k : Fin 512) : EReal :=
  ∑ j : Fin 256, MemRow.dscore q d K V (base k) (base_le k) j * MemRow.scale * K j k
/-- One row's part of the key gradient at token `j`, column `k`. -/
def dkAt (q d : Fin 512 → EReal) (K V : Fin 256 → Fin 512 → EReal) (j : Fin 256) (k : Fin 512) : EReal :=
  MemRow.dscore q d K V (base k) (base_le k) j * MemRow.scale * q k
/-- One row's part of the value gradient at token `j`, column `k`. -/
def dvAt (q d : Fin 512 → EReal) (K : Fin 256 → Fin 512 → EReal) (j : Fin 256) (k : Fin 512) : EReal :=
  MemRow.prob q K (base k) (base_le k) j * d k

theorem dqAt_at (q d : Fin 512 → EReal) (K V : Fin 256 → Fin 512 → EReal) (k : Fin 512) (o : ℕ) (ho : o + 128 ≤ 512) (hk : base k = o) :
    dqAt q d K V k = ∑ j : Fin 256, MemRow.dscore q d K V o ho j * MemRow.scale * K j k := by subst hk; rfl
theorem dkAt_at (q d : Fin 512 → EReal) (K V : Fin 256 → Fin 512 → EReal) (j : Fin 256) (k : Fin 512) (o : ℕ) (ho : o + 128 ≤ 512) (hk : base k = o) :
    dkAt q d K V j k = MemRow.dscore q d K V o ho j * MemRow.scale * q k := by subst hk; rfl
theorem dvAt_at (q d : Fin 512 → EReal) (K : Fin 256 → Fin 512 → EReal) (j : Fin 256) (k : Fin 512) (o : ℕ) (ho : o + 128 ≤ 512) (hk : base k = o) :
    dvAt q d K j k = MemRow.prob q K o ho j * d k := by subst hk; rfl

/-- A zeroing point leaves the rows' query gradients in block 4. -/
theorem out4_A (c : Dev nD) (t : Fin cfg0.N) (h0 : t.val % 8 = 0) (y : S512x512.Idx) :
    (outsAt0 m c t.val t.isLt).1 y = dqAt (qRow m c t (y 0)) (dRow m c t (y 0)) (keys m c t) (vals m c t) (y 1) := by
  rw [outsAt0_A m c t h0]; frame_out
  canon_tiles x h
  case piece0 =>
    refine Eq.trans ?_ (dqAt_at _ _ _ _ (y 1) 384 (by omega) (by unfold base; omega)).symm
    open_payloads
    pointwise
    simp only [MemRow.dscore, MemRow.prob, MemRow.mass, MemRow.weight, MemRow.top, MemRow.score, MemRow.dprob, qRow, dRow, keys, vals]
    blk_point []
  case piece1 =>
    refine Eq.trans ?_ (dqAt_at _ _ _ _ (y 1) 256 (by omega) (by unfold base; omega)).symm
    open_payloads
    pointwise
    simp only [MemRow.dscore, MemRow.prob, MemRow.mass, MemRow.weight, MemRow.top, MemRow.score, MemRow.dprob, qRow, dRow, keys, vals]
    blk_point []
  case piece2 =>
    refine Eq.trans ?_ (dqAt_at _ _ _ _ (y 1) 128 (by omega) (by unfold base; omega)).symm
    open_payloads
    pointwise
    simp only [MemRow.dscore, MemRow.prob, MemRow.mass, MemRow.weight, MemRow.top, MemRow.score, MemRow.dprob, qRow, dRow, keys, vals]
    blk_point []
  case piece3 =>
    refine Eq.trans ?_ (dqAt_at _ _ _ _ (y 1) 0 (by omega) (by unfold base; omega)).symm
    open_payloads
    pointwise
    simp only [MemRow.dscore, MemRow.prob, MemRow.mass, MemRow.weight, MemRow.top, MemRow.score, MemRow.dprob, qRow, dRow, keys, vals]
    blk_point []

/-- Any other point leaves them too. -/
theorem out4_B (c : Dev nD) (t : Fin cfg0.N) (h0 : ¬ t.val % 8 = 0) (y : S512x512.Idx) :
    (outsAt0 m c t.val t.isLt).1 y = dqAt (qRow m c t (y 0)) (dRow m c t (y 0)) (keys m c t) (vals m c t) (y 1) := by
  rw [outsAt0_B m c t h0]; frame_out
  canon_tiles x h
  case piece0 =>
    refine Eq.trans ?_ (dqAt_at _ _ _ _ (y 1) 384 (by omega) (by unfold base; omega)).symm
    open_payloads
    pointwise
    simp only [MemRow.dscore, MemRow.prob, MemRow.mass, MemRow.weight, MemRow.top, MemRow.score, MemRow.dprob, qRow, dRow, keys, vals]
    blk_point []
  case piece1 =>
    refine Eq.trans ?_ (dqAt_at _ _ _ _ (y 1) 256 (by omega) (by unfold base; omega)).symm
    open_payloads
    pointwise
    simp only [MemRow.dscore, MemRow.prob, MemRow.mass, MemRow.weight, MemRow.top, MemRow.score, MemRow.dprob, qRow, dRow, keys, vals]
    blk_point []
  case piece2 =>
    refine Eq.trans ?_ (dqAt_at _ _ _ _ (y 1) 128 (by omega) (by unfold base; omega)).symm
    open_payloads
    pointwise
    simp only [MemRow.dscore, MemRow.prob, MemRow.mass, MemRow.weight, MemRow.top, MemRow.score, MemRow.dprob, qRow, dRow, keys, vals]
    blk_point []
  case piece3 =>
    refine Eq.trans ?_ (dqAt_at _ _ _ _ (y 1) 0 (by omega) (by unfold base; omega)).symm
    open_payloads
    pointwise
    simp only [MemRow.dscore, MemRow.prob, MemRow.mass, MemRow.weight, MemRow.top, MemRow.score, MemRow.dprob, qRow, dRow, keys, vals]
    blk_point []

/-- The block's rows' part of the key gradient. -/
def dkPart (c : Dev nD) (t : Fin cfg0.N) (j : Fin 256) (k : Fin 512) : EReal :=
  ∑ r : Fin 512, dkAt (qRow m c t r) (dRow m c t r) (keys m c t) (vals m c t) j k
/-- The block's rows' part of the value gradient. -/
def dvPart (c : Dev nD) (t : Fin cfg0.N) (j : Fin 256) (k : Fin 512) : EReal :=
  ∑ r : Fin 512, dvAt (qRow m c t r) (dRow m c t r) (keys m c t) j k

/-- Stores that cover an index hide every earlier store there. -/
theorem canon_append_of_cover {S : Shape} {e : EltTy} {Val : EltTy → Type} [∀ e, Nonempty (Val e)] (L L' : List (View.Piece Val S e)) (y : S.Idx)
    (h : ∃ p ∈ L, y ∈ p.1.set) : View.canon (L ++ L') y = View.canon L y := by
  induction L with
  | nil => obtain ⟨p, hp, _⟩ := h; exact absurd hp List.not_mem_nil
  | cons q L ih =>
    by_cases hy : y ∈ q.1.set
    · obtain ⟨r, w⟩ := q
      obtain ⟨x, rfl⟩ := r.exists_idx_of_mem hy
      exact (View.canon_cons_emb r w (L ++ L') x).trans (View.canon_cons_emb r w L x).symm
    · rw [List.cons_append, View.canon_cons_of_not_mem _ _ hy, View.canon_cons_of_not_mem _ _ hy]
      obtain ⟨p, hp, hpy⟩ := h
      rcases List.mem_cons.mp hp with rfl | hp
      · exact absurd hpy hy
      · exact ih ⟨p, hp, hpy⟩

/-- … four stores over one. -/
theorem canon_four {S : Shape} {e : EltTy} {Val : EltTy → Type} [∀ e, Nonempty (Val e)] (p₁ p₂ p₃ p₄ p₅ : View.Piece Val S e) (y : S.Idx)
    (h : ∃ p ∈ [p₁, p₂, p₃, p₄], y ∈ p.1.set) : View.canon [p₁, p₂, p₃, p₄, p₅] y = View.canon [p₁, p₂, p₃, p₄] y :=
  canon_append_of_cover [p₁, p₂, p₃, p₄] [p₅] y h

/-- A zeroing point leaves its rows' part in block 5. -/
theorem out5_A (c : Dev nD) (t : Fin cfg0.N) (h0 : t.val % 8 = 0) (y : S256x512.Idx) :
    (outsAt0 m c t.val t.isLt).2.1 y = 0 + dkPart m c t (y 0) (y 1) := by
  obtain ⟨R, hR⟩ : ∃ R, R = 0 + dkPart m c t (y 0) (y 1) := ⟨_, rfl⟩
  refine Eq.trans ?_ hR
  rw [outsAt0_A m c t h0]; frame_out
  unfold dkPart at hR
  refine (canon_four _ _ _ _ _ y ?_).trans ?_
  · exact View.cover_of_tiledL (s := S256x512) _ S256x128.size (by sl_kernel_rfl) y
  canon_tiles x h
  case piece0 =>
    refine Eq.trans ?_ (hR.trans (congrArg ((0 : EReal) + ·) (Finset.sum_congr rfl fun r _ => dkAt_at _ _ _ _ (y 0) (y 1) 384 (by omega) (by unfold base; omega)))).symm
    rw [View.readCov_skip _ _ _ _ _ (by decide), View.readCov_skip _ _ _ _ _ (by decide), View.readCov_skip _ _ _ _ _ (by decide), View.readCov_fill _ _ _ _ _ (by decide)]
    open_payloads
    pointwise
    simp only [MemRow.dscore, MemRow.prob, MemRow.mass, MemRow.weight, MemRow.top, MemRow.score, MemRow.dprob, qRow, dRow, keys, vals]
    blk_point []
  case piece1 =>
    refine Eq.trans ?_ (hR.trans (congrArg ((0 : EReal) + ·) (Finset.sum_congr rfl fun r _ => dkAt_at _ _ _ _ (y 0) (y 1) 256 (by omega) (by unfold base; omega)))).symm
    rw [View.readCov_skip _ _ _ _ _ (by decide), View.readCov_skip _ _ _ _ _ (by decide), View.readCov_fill _ _ _ _ _ (by decide)]
    open_payloads
    pointwise
    simp only [MemRow.dscore, MemRow.prob, MemRow.mass, MemRow.weight, MemRow.top, MemRow.score, MemRow.dprob, qRow, dRow, keys, vals]
    blk_point []
  case piece2 =>
    refine Eq.trans ?_ (hR.trans (congrArg ((0 : EReal) + ·) (Finset.sum_congr rfl fun r _ => dkAt_at _ _ _ _ (y 0) (y 1) 128 (by omega) (by unfold base; omega)))).symm
    rw [View.readCov_skip _ _ _ _ _ (by decide), View.readCov_fill _ _ _ _ _ (by decide)]
    open_payloads
    pointwise
    simp only [MemRow.dscore, MemRow.prob, MemRow.mass, MemRow.weight, MemRow.top, MemRow.score, MemRow.dprob, qRow, dRow, keys, vals]
    blk_point []
  case piece3 =>
    refine Eq.trans ?_ (hR.trans (congrArg ((0 : EReal) + ·) (Finset.sum_congr rfl fun r _ => dkAt_at _ _ _ _ (y 0) (y 1) 0 (by omega) (by unfold base; omega)))).symm
    rw [View.readCov_fill _ _ _ _ _ (by decide)]
    open_payloads
    pointwise
    simp only [MemRow.dscore, MemRow.prob, MemRow.mass, MemRow.weight, MemRow.top, MemRow.score, MemRow.dprob, qRow, dRow, keys, vals]
    blk_point []

/-- Any other point adds its rows' part to what the point before left in block 5. -/
theorem out5_B (c : Dev nD) (t : Fin cfg0.N) (h0 : ¬ t.val % 8 = 0) (y : S256x512.Idx) :
    (outsAt0 m c t.val t.isLt).2.1 y
      = (outsAt0 m c (t.val - 1) (Nat.lt_of_le_of_lt (Nat.sub_le _ _) t.isLt)).2.1 y + dkPart m c t (y 0) (y 1) := by
  rw [outsAt0_B m c t h0]; frame_out
  unfold dkPart
  generalize (outsAt0 m c (t.val - 1) (Nat.lt_of_le_of_lt (Nat.sub_le _ _) t.isLt)).2.1 = prev
  canon_tiles x h
  case piece0 =>
    refine Eq.trans ?_ ((congrArg ((show EReal from prev y) + ·) (Finset.sum_congr rfl fun r _ => dkAt_at _ _ _ _ (y 0) (y 1) 384 (by omega) (by unfold base; omega)))).symm
    open_payloads
    pointwise
    simp only [MemRow.dscore, MemRow.prob, MemRow.mass, MemRow.weight, MemRow.top, MemRow.score, MemRow.dprob, qRow, dRow, keys, vals]
    blk_point []
  case piece1 =>
    refine Eq.trans ?_ ((congrArg ((show EReal from prev y) + ·) (Finset.sum_congr rfl fun r _ => dkAt_at _ _ _ _ (y 0) (y 1) 256 (by omega) (by unfold base; omega)))).symm
    open_payloads
    pointwise
    simp only [MemRow.dscore, MemRow.prob, MemRow.mass, MemRow.weight, MemRow.top, MemRow.score, MemRow.dprob, qRow, dRow, keys, vals]
    blk_point []
  case piece2 =>
    refine Eq.trans ?_ ((congrArg ((show EReal from prev y) + ·) (Finset.sum_congr rfl fun r _ => dkAt_at _ _ _ _ (y 0) (y 1) 128 (by omega) (by unfold base; omega)))).symm
    open_payloads
    pointwise
    simp only [MemRow.dscore, MemRow.prob, MemRow.mass, MemRow.weight, MemRow.top, MemRow.score, MemRow.dprob, qRow, dRow, keys, vals]
    blk_point []
  case piece3 =>
    refine Eq.trans ?_ ((congrArg ((show EReal from prev y) + ·) (Finset.sum_congr rfl fun r _ => dkAt_at _ _ _ _ (y 0) (y 1) 0 (by omega) (by unfold base; omega)))).symm
    open_payloads
    pointwise
    simp only [MemRow.dscore, MemRow.prob, MemRow.mass, MemRow.weight, MemRow.top, MemRow.score, MemRow.dprob, qRow, dRow, keys, vals]
    blk_point []

/-- A zeroing point leaves its rows' part in block 6. -/
theorem out6_A (c : Dev nD) (t : Fin cfg0.N) (h0 : t.val % 8 = 0) (y : S256x512.Idx) :
    (outsAt0 m c t.val t.isLt).2.2 y = 0 + dvPart m c t (y 0) (y 1) := by
  obtain ⟨R, hR⟩ : ∃ R, R = 0 + dvPart m c t (y 0) (y 1) := ⟨_, rfl⟩
  refine Eq.trans ?_ hR
  rw [outsAt0_A m c t h0]; frame_out
  unfold dvPart at hR
  refine (canon_four _ _ _ _ _ y ?_).trans ?_
  · exact View.cover_of_tiledL (s := S256x512) _ S256x128.size (by sl_kernel_rfl) y
  canon_tiles x h
  case piece0 =>
    refine Eq.trans ?_ (hR.trans (congrArg ((0 : EReal) + ·) (Finset.sum_congr rfl fun r _ => dvAt_at _ _ _ (y 0) (y 1) 384 (by omega) (by unfold base; omega)))).symm
    rw [View.readCov_skip _ _ _ _ _ (by decide), View.readCov_skip _ _ _ _ _ (by decide), View.readCov_skip _ _ _ _ _ (by decide), View.readCov_fill _ _ _ _ _ (by decide)]
    open_payloads
    pointwise
    simp only [MemRow.dscore, MemRow.prob, MemRow.mass, MemRow.weight, MemRow.top, MemRow.score, MemRow.dprob, qRow, dRow, keys, vals]
    blk_point []
  case piece1 =>
    refine Eq.trans ?_ (hR.trans (congrArg ((0 : EReal) + ·) (Finset.sum_congr rfl fun r _ => dvAt_at _ _ _ (y 0) (y 1) 256 (by omega) (by unfold base; omega)))).symm
    rw [View.readCov_skip _ _ _ _ _ (by decide), View.readCov_skip _ _ _ _ _ (by decide), View.readCov_fill _ _ _ _ _ (by decide)]
    open_payloads
    pointwise
    simp only [MemRow.dscore, MemRow.prob, MemRow.mass, MemRow.weight, MemRow.top, MemRow.score, MemRow.dprob, qRow, dRow, keys, vals]
    blk_point []
  case piece2 =>
    refine Eq.trans ?_ (hR.trans (congrArg ((0 : EReal) + ·) (Finset.sum_congr rfl fun r _ => dvAt_at _ _ _ (y 0) (y 1) 128 (by omega) (by unfold base; omega)))).symm
    rw [View.readCov_skip _ _ _ _ _ (by decide), View.readCov_fill _ _ _ _ _ (by decide)]
    open_payloads
    pointwise
    simp only [MemRow.dscore, MemRow.prob, MemRow.mass, MemRow.weight, MemRow.top, MemRow.score, MemRow.dprob, qRow, dRow, keys, vals]
    blk_point []
  case piece3 =>
    refine Eq.trans ?_ (hR.trans (congrArg ((0 : EReal) + ·) (Finset.sum_congr rfl fun r _ => dvAt_at _ _ _ (y 0) (y 1) 0 (by omega) (by unfold base; omega)))).symm
    rw [View.readCov_fill _ _ _ _ _ (by decide)]
    open_payloads
    pointwise
    simp only [MemRow.dscore, MemRow.prob, MemRow.mass, MemRow.weight, MemRow.top, MemRow.score, MemRow.dprob, qRow, dRow, keys, vals]
    blk_point []

/-- Any other point adds its rows' part to what the point before left in block 6. -/
theorem out6_B (c : Dev nD) (t : Fin cfg0.N) (h0 : ¬ t.val % 8 = 0) (y : S256x512.Idx) :
    (outsAt0 m c t.val t.isLt).2.2 y
      = (outsAt0 m c (t.val - 1) (Nat.lt_of_le_of_lt (Nat.sub_le _ _) t.isLt)).2.2 y + dvPart m c t (y 0) (y 1) := by
  rw [outsAt0_B m c t h0]; frame_out
  unfold dvPart
  generalize (outsAt0 m c (t.val - 1) (Nat.lt_of_le_of_lt (Nat.sub_le _ _) t.isLt)).2.2 = prev
  canon_tiles x h
  case piece0 =>
    refine Eq.trans ?_ ((congrArg ((show EReal from prev y) + ·) (Finset.sum_congr rfl fun r _ => dvAt_at _ _ _ (y 0) (y 1) 384 (by omega) (by unfold base; omega)))).symm
    open_payloads
    pointwise
    simp only [MemRow.dscore, MemRow.prob, MemRow.mass, MemRow.weight, MemRow.top, MemRow.score, MemRow.dprob, qRow, dRow, keys, vals]
    blk_point []
  case piece1 =>
    refine Eq.trans ?_ ((congrArg ((show EReal from prev y) + ·) (Finset.sum_congr rfl fun r _ => dvAt_at _ _ _ (y 0) (y 1) 256 (by omega) (by unfold base; omega)))).symm
    open_payloads
    pointwise
    simp only [MemRow.dscore, MemRow.prob, MemRow.mass, MemRow.weight, MemRow.top, MemRow.score, MemRow.dprob, qRow, dRow, keys, vals]
    blk_point []
  case piece2 =>
    refine Eq.trans ?_ ((congrArg ((show EReal from prev y) + ·) (Finset.sum_congr rfl fun r _ => dvAt_at _ _ _ (y 0) (y 1) 128 (by omega) (by unfold base; omega)))).symm
    open_payloads
    pointwise
    simp only [MemRow.dscore, MemRow.prob, MemRow.mass, MemRow.weight, MemRow.top, MemRow.score, MemRow.dprob, qRow, dRow, keys, vals]
    blk_point []
  case piece3 =>
    refine Eq.trans ?_ ((congrArg ((show EReal from prev y) + ·) (Finset.sum_congr rfl fun r _ => dvAt_at _ _ _ (y 0) (y 1) 0 (by omega) (by unfold base; omega)))).symm
    open_payloads
    pointwise
    simp only [MemRow.dscore, MemRow.prob, MemRow.mass, MemRow.weight, MemRow.top, MemRow.score, MemRow.dprob, qRow, dRow, keys, vals]
    blk_point []

end Cert.MemIdeal.Value

end
-- ==== Proof.MemFinal.lean ====
/- The three arrays `mem_bwd` leaves, as formulas over its arguments. -/
module

public import proofs.«01_k».proof.Proof.Gen.MemIdeal.Value
public import proofs.«01_k».proof.Proof.MemBlock

@[expose] public section

set_option maxRecDepth 16384

noncomputable section

open Idealize.ShloMosaic Idealize.ShloMosaic.TcCoe Idealize.SL.Sem

namespace Cert.MemIdeal.Value

open Cert.MemIdeal Cert.MemIdeal.Gen
open Idealize.ShloMosaic.Pipeline (Dat)

variable (m : (ℓ : Loc nD τ sig) → Buf (Elt Ideal) ℓ)

/-- Row `s` of an array over the sequence. -/
def rowOf (X : FVec Ideal S4096x512 .bf16) (s : Fin 4096) (k : Fin 512) : EReal := X (ix2 s k)
/-- An array over the memory tokens. -/
def tokens (X : FVec Ideal S256x512 .bf16) (j : Fin 256) (k : Fin 512) : EReal := X (ix2 j k)

/-- The blocks' places: the sequence arrays move by the point, the memory's stay. -/
theorem idx : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![0, 0] ∧ win0_6.index t = ![0, 0] ∧ t.val < 8 :=
  (by decide +kernel : ∀ t : Fin grid0.N, _)

theorem row_lt (t : Fin cfg0.N) (r : Fin 512) : t.val * 512 + r.val < 4096 := by have := (idx t).2.2.2.2.2.2.2; omega

theorem qRow_eq (c : Dev nD) (t : Fin cfg0.N) (r : Fin 512) :
    qRow m c t r = rowOf (m ((c : Thread nD τ).loc main_arg0)) ⟨t.val * 512 + r.val, row_lt t r⟩ := by
  funext k; unfold qRow rowOf; blk_ext! [iblk, V, idx t]
theorem dRow_eq (c : Dev nD) (t : Fin cfg0.N) (r : Fin 512) :
    dRow m c t r = rowOf (m ((c : Thread nD τ).loc main_arg3)) ⟨t.val * 512 + r.val, row_lt t r⟩ := by
  funext k; unfold dRow rowOf; blk_ext! [iblk, V, idx t]
theorem keys_eq (c : Dev nD) (t : Fin cfg0.N) : keys m c t = tokens (m ((c : Thread nD τ).loc main_arg1)) := by
  funext j k; unfold keys tokens; blk_ext! [iblk, V, idx t]
theorem vals_eq (c : Dev nD) (t : Fin cfg0.N) : vals m c t = tokens (m ((c : Thread nD τ).loc main_arg2)) := by
  funext j k; unfold vals tokens; blk_ext! [iblk, V, idx t]

section
variable (Q : FVec Ideal S4096x512 .bf16) (K V : FVec Ideal S256x512 .bf16) (D : FVec Ideal S4096x512 .bf16)
/-- The query gradient. -/
def dqArr : FVec Ideal S4096x512 .bf16 := fun y => dqAt (rowOf Q (y 0)) (rowOf D (y 0)) (tokens K) (tokens V) (y 1)
/-- The key gradient: the sum of the rows' parts. -/
def dkArr : FVec Ideal S256x512 .f32 := fun y => ∑ s : Fin 4096, dkAt (rowOf Q s) (rowOf D s) (tokens K) (tokens V) (y 0) (y 1)
/-- The value gradient: the sum of the rows' parts. -/
def dvArr : FVec Ideal S256x512 .f32 := fun y => ∑ s : Fin 4096, dvAt (rowOf Q s) (rowOf D s) (tokens K) (y 0) (y 1)
end

theorem out4 (c : Dev nD) (t : Fin cfg0.N) (y : S512x512.Idx) :
    (outsAt0 m c t.val t.isLt).1 y = dqAt (qRow m c t (y 0)) (dRow m c t (y 0)) (keys m c t) (vals m c t) (y 1) := by
  by_cases h0 : t.val % 8 = 0
  · exact out4_A m c t h0 y
  · exact out4_B m c t h0 y

theorem dqAt_block (c : Dev nD) (t : Fin cfg0.N) (r k : Fin 512) :
    dqAt (qRow m c t r) (dRow m c t r) (keys m c t) (vals m c t) k
      = dqAt (rowOf (m ((c : Thread nD τ).loc main_arg0)) ⟨t.val * 512 + r.val, row_lt t r⟩)
          (rowOf (m ((c : Thread nD τ).loc main_arg3)) ⟨t.val * 512 + r.val, row_lt t r⟩)
          (tokens (m ((c : Thread nD τ).loc main_arg1))) (tokens (m ((c : Thread nD τ).loc main_arg2))) k := by
  rw [qRow_eq, dRow_eq, keys_eq, vals_eq]

/-- The query gradient after the run. -/
theorem final4 (c : Dev nD) : (dats m 0 c).arrAt 4 cfg0.N
    = dqArr (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  refine (out4 m c t y).trans ?_
  have hr : ((((cfg0.win 4).blk t).view.emb y) 0 : Fin 4096) = ⟨t.val * 512 + (y 0).val, row_lt t (y 0)⟩ := by
    apply Fin.ext; blk_simp [idx t]
  have hc : ((((cfg0.win 4).blk t).view.emb y) 1 : Fin 512) = y 1 := by
    apply Fin.ext; blk_simp [idx t]
  refine (dqAt_block m c t (y 0) (y 1)).trans ?_
  exact congr (congrArg (fun s k => dqAt (rowOf (m ((c : Thread nD τ).loc main_arg0)) s) (rowOf (m ((c : Thread nD τ).loc main_arg3)) s)
    (tokens (m ((c : Thread nD τ).loc main_arg1))) (tokens (m ((c : Thread nD τ).loc main_arg2))) k) hr.symm) hc.symm

/-- The key gradient after the run. -/
theorem final5 (c : Dev nD) : (dats m 0 c).arrAt 5 cfg0.N
    = dkArr (m ((c : Thread nD τ).loc main_arg0)) (m ((c : Thread nD τ).loc main_arg1)) (m ((c : Thread nD τ).loc main_arg2))
        (m ((c : Thread nD τ).loc main_arg3)) := by
  refine (dats m 0 c).arrAt_eq_of_after_last 5 t0_7 (by decide +kernel) _ fun j => ?_
  blk_simp [idx t0_7]
  rw [after0_5]
  refine (Pipeline.eq_sum_fin_of_reset_step_apply_last (fun n h => (outsAt0 m c n h).2.1) 8 (fun _ => (0 : EReal))
    (fun t y => dkPart m c t (y 0) (y 1)) (out5_A m c) (out5_B m c) (le_of_eq N_0) t0_7 rfl j).trans ?_
  rw [zero_add]
  unfold dkArr dkPart
  refine Fin.sum_mul_add_congr (S := cfg0.N) (n := 512) (fun t r hl => ?_) (by rw [show cfg0.N = 8 from N_0])
  rw [qRow_eq, dRow_eq, keys_eq, vals_eq]

/-- The value gradient after the run. -/
theorem final6 (c : Dev nD) : (dats m 0 c).arrAt 6 cfg0.N
    = dvArr (m ((c : Thread nD τ).loc main_arg0)) (m ((c : Thread nD τ).loc main_arg1)) (m ((c : Thread nD τ).loc main_arg3)) := by
  refine (dats m 0 c).arrAt_eq_of_after_last 6 t0_7 (by decide +kernel) _ fun j => ?_
  blk_simp [idx t0_7]
  rw [after0_6]
  refine (Pipeline.eq_sum_fin_of_reset_step_apply_last (fun n h => (outsAt0 m c n h).2.2) 8 (fun _ => (0 : EReal))
    (fun t y => dvPart m c t (y 0) (y 1)) (out6_A m c) (out6_B m c) (le_of_eq N_0) t0_7 rfl j).trans ?_
  rw [zero_add]
  unfold dvArr dvPart
  refine Fin.sum_mul_add_congr (S := cfg0.N) (n := 512) (fun t r hl => ?_) (by rw [show cfg0.N = 8 from N_0])
  rw [qRow_eq, dRow_eq, keys_eq]

end Cert.MemIdeal.Value

end
-- ==== Proof.MemGradTerm.lean ====
/- The reference gradient of the attention into the memory tokens, tensor by tensor, read at its indices. -/
module

public import proofs.«01_k».proof.Proof.Gen.MemGradIdeal.Run
public import proofs.«01_k».proof.Proof.MemRow
public import Idealize.ShloMosaic.Lib.Pipeline.ValueKit

@[expose] public section

set_option maxRecDepth 16384

noncomputable section

open Idealize.ShloMosaic Idealize.ShloMosaic.TcCoe Idealize.SL.Sem

namespace Cert.MemGradIdeal.Value

open Cert.MemGradIdeal Cert.MemGradIdeal.Gen

section
variable (Q : FVec Ideal S4096x512 .bf16) (K V : FVec Ideal S256x512 .bf16) (D : FVec Ideal S4096x512 .bf16)

/-- A sequence array's columns by heads. -/
def headsS (X : FVec Ideal S4096x512 .bf16) : FVec Ideal S4096x4x128 .f32 :=
  shapeCast _ (extf .f32 X bitsLt_bf16_f32) shapeCasts_S4096x512_S4096x4x128
/-- A memory array's columns by heads. -/
def headsM (X : FVec Ideal S256x512 .bf16) : FVec Ideal S256x4x128 .f32 :=
  shapeCast _ (extf .f32 X bitsLt_bf16_f32) shapeCasts_S256x512_S256x4x128
/-- The scores. -/
def scores : FVec Ideal S4x4096x256 .f32 :=
  mulf (Host.dotGeneral dot_S4096x4x128_S256x4x128_S4x4096x256_2_2_0_0_1_1 none (headsS Q) (headsM K))
    (broadcastInDim S4x4096x256 ![] bcast_S_S4x4096x256 (constant S_ .f32 0x3DB504F3#32))
/-- The rows' largest scores. -/
def tops : FVec Ideal S4x4096 .f32 :=
  maximumf (broadcastInDim S4x4096 ![] bcast_S_S4x4096 (constant S_ .f32 0xFF800000#32))
    (Host.reduce FloatOps.maximumf (scores Q K) (constant S_ .f32 0xFF800000#32) reducesTo_S4x4096x256_S4x4096_d2 h_S_)
/-- The unnormalised weights. -/
def weights : FVec Ideal S4x4096x256 .f32 :=
  Host.exp (subf (scores Q K) (broadcastInDim S4x4096x256 ![0, 1, 2] bcast_S4x4096x1_S4x4096x256_0_1_2
    (broadcastInDim S4x4096x1 ![0, 1] bcast_S4x4096_S4x4096x1_0_1 (tops Q K))))
/-- The rows' sums of weights. -/
def masses : FVec Ideal S4x4096x1 .f32 :=
  broadcastInDim S4x4096x1 ![0, 1] bcast_S4x4096_S4x4096x1_0_1
    (Host.reduceAdd (weights Q K) (constant S_ .f32 0x00000000#32) reducesTo_S4x4096x256_S4x4096_d2 h_S_)
/-- The probabilities. -/
def probs : FVec Ideal S4x4096x256 .f32 :=
  Host.divf (weights Q K) (broadcastInDim S4x4096x256 ![0, 1, 2] bcast_S4x4096x1_S4x4096x256_0_1_2 (masses Q K))
/-- The output gradient by heads, the sequence last. -/
def outT : FVec Ideal S4x128x4096 .f32 := transpose S4x128x4096 [1, 2, 0] (headsS D) transposes_S4096x4x128_S4x128x4096_1_2_0
/-- The probabilities' gradient. -/
def dprobs : FVec Ideal S4x4096x256 .f32 :=
  Host.dotGeneral dot_S4x128x4096_S256x4x128_S4x4096x256_1_2_2_0_0_1 none (outT D) (headsM V)
/-- What each row's sum of weights gets. -/
def dmass : FVec Ideal S4x4096 .f32 :=
  Host.reduceAdd (Host.negf (shapeCast S4x4096x1 (Host.reduceAdd (mulf (mulf (dprobs V D)
      (broadcastInDim S4x4096x256 ![0, 1, 2] bcast_S4x4096x1_S4x4096x256_0_1_2
        (Host.divf (broadcastInDim S4x4096x1 ![] bcast_S_S4x4096x1 (constant S_ .f32 0x3F800000#32)) (mulf (masses Q K) (masses Q K)))))
      (weights Q K)) (constant S_ .f32 0x00000000#32) reducesTo_S4x4096x256_S4x4096_d2 h_S_) shapeCasts_S4x4096_S4x4096x1))
    (constant S_ .f32 0x00000000#32) reducesTo_S4x4096x1_S4x4096_d2 h_S_
/-- The scores' gradient, scaled. -/
def dscores : FVec Ideal S4x4096x256 .f32 :=
  mulf (mulf (addf (Host.divf (dprobs V D) (broadcastInDim S4x4096x256 ![0, 1, 2] bcast_S4x4096x1_S4x4096x256_0_1_2 (masses Q K)))
      (broadcastInDim S4x4096x256 ![0, 1] bcast_S4x4096_S4x4096x256_0_1 (dmass Q K V D))) (weights Q K))
    (broadcastInDim S4x4096x256 ![] bcast_S_S4x4096x256 (constant S_ .f32 0x3DB504F3#32))
/-- The query gradient. -/
def dqTerm : FVec Ideal S4096x512 .bf16 :=
  truncf .bf16 (shapeCast _ (transpose S4096x4x128 [1, 0, 2] (Host.dotGeneral dot_S4x4096x256_S256x4x128_S4x4096x128_2_0_1_2_0_1 none
    (dscores Q K V D) (headsM K)) transposes_S4x4096x128_S4096x4x128_1_0_2) shapeCasts_S4096x4x128_S4096x512) bitsLt_bf16_f32
/-- The key gradient. -/
def dkTerm : FVec Ideal S256x512 .f32 :=
  shapeCast _ (transpose S256x4x128 [1, 0, 2] (Host.dotGeneral dot_S4x4096x256_S4096x4x128_S4x256x128_1_0_2_2_0_1 none
    (dscores Q K V D) (headsS Q)) transposes_S4x256x128_S256x4x128_1_0_2) shapeCasts_S256x4x128_S256x512
/-- The value gradient. -/
def dvTerm : FVec Ideal S256x512 .f32 :=
  shapeCast _ (transpose S256x4x128 [2, 0, 1] (Host.dotGeneral dot_S4x128x4096_S4x4096x256_S4x128x256_2_1_1_2_0_0 none
    (outT D) (probs Q K)) transposes_S4x128x256_S256x4x128_2_0_1) shapeCasts_S256x4x128_S256x512

/-- Row `s` of an array over the sequence. -/
def rowOf (X : FVec Ideal S4096x512 .bf16) (s : Fin 4096) (k : Fin 512) : EReal := X (ix2 s k)
/-- An array over the memory tokens. -/
def tokens (X : FVec Ideal S256x512 .bf16) (j : Fin 256) (k : Fin 512) : EReal := X (ix2 j k)

theorem head_le (h : Fin 4) : 128 * h.val + 128 ≤ 512 := by omega

theorem scores_at (h : Fin 4) (s : Fin 4096) (j : Fin 256) :
    scores Q K (ix3 h s j) = MemRow.score (rowOf Q s) (tokens K) (128 * h.val) (head_le h) j := by
  pointwise [scores, headsS, headsM]
  simp only [MemRow.score, rowOf, tokens]
  blk_point []

theorem rowMax_at (X : FVec Ideal S4x4096x256 .f32) (h : Fin 4) (s : Fin 4096) :
    Host.reduce FloatOps.maximumf X (constant S_ .f32 0xFF800000#32) reducesTo_S4x4096x256_S4x4096_d2 h_S_ (ix2 h s)
      = Finset.fold max (Ideal.ofBits FTy.f32 4286578688#32) (fun j => X (ix3 h s j)) Finset.univ := by
  pointwise

theorem floor_at (h : Fin 4) (s : Fin 4096) :
    (broadcastInDim S4x4096 ![] bcast_S_S4x4096 (constant S_ .f32 0xFF800000#32) : FVec Ideal S4x4096 .f32) (ix2 h s)
      = Ideal.ofBits FTy.f32 4286578688#32 := by
  pointwise

theorem maximumf_at {S : Shape} (A B : FVec Ideal S .f32) (i : S.Idx) : maximumf A B i = max (A i) (B i) := rfl

theorem max_floor (x : EReal) : max (Ideal.ofBits FTy.f32 4286578688#32) x = x := by
  rw [show Ideal.ofBits FTy.f32 4286578688#32 = ⊥ by simp [Ideal.ofBits, Ideal.ieee]]
  exact max_bot_left _

theorem tops_at (h : Fin 4) (s : Fin 4096) :
    tops Q K (ix2 h s) = MemRow.top (rowOf Q s) (tokens K) (128 * h.val) (head_le h) := by
  unfold tops
  rw [maximumf_at, floor_at, rowMax_at, max_floor]
  simp only [MemRow.top, scores_at]

theorem weights_at (h : Fin 4) (s : Fin 4096) (j : Fin 256) :
    weights Q K (ix3 h s j) = MemRow.weight (rowOf Q s) (tokens K) (128 * h.val) (head_le h) j := by
  pointwise [weights]
  simp only [MemRow.weight, scores_at, tops_at]

theorem masses_at (h : Fin 4) (s : Fin 4096) (z : Fin 1) :
    masses Q K (ix3 h s z) = MemRow.mass (rowOf Q s) (tokens K) (128 * h.val) (head_le h) := by
  pointwise [masses]
  simp only [MemRow.mass, weights_at]

theorem probs_at (h : Fin 4) (s : Fin 4096) (j : Fin 256) :
    probs Q K (ix3 h s j) = MemRow.prob (rowOf Q s) (tokens K) (128 * h.val) (head_le h) j := by
  pointwise [probs]
  simp only [MemRow.prob, weights_at, masses_at]

theorem dprobs_at (h : Fin 4) (s : Fin 4096) (j : Fin 256) :
    dprobs V D (ix3 h s j) = MemRow.dprob (rowOf D s) (tokens V) (128 * h.val) (head_le h) j := by
  pointwise [dprobs, outT, headsS, headsM]
  simp only [MemRow.dprob, rowOf, tokens]
  blk_point []

theorem dmass_at (h : Fin 4) (s : Fin 4096) :
    dmass Q K V D (ix2 h s) = MemRow.massGrad (rowOf Q s) (rowOf D s) (tokens K) (tokens V) (128 * h.val) (head_le h) := by
  pointwise [dmass]
  simp only [MemRow.massGrad, weights_at, masses_at, dprobs_at]
  exact Fin.sum_univ_one _

theorem dscores_at (h : Fin 4) (s : Fin 4096) (j : Fin 256) :
    dscores Q K V D (ix3 h s j)
      = MemRow.scoreGrad (rowOf Q s) (rowOf D s) (tokens K) (tokens V) (128 * h.val) (head_le h) j * MemRow.scale := by
  pointwise [dscores]
  simp only [MemRow.scoreGrad, weights_at, masses_at, dprobs_at, dmass_at]

theorem dqTerm_at (s : Fin 4096) (k : Fin 512) :
    dqTerm Q K V D (ix2 s k) = ∑ j : Fin 256, dscores Q K V D (ix3 ⟨k.val / 128, by omega⟩ s j) * K (ix2 j k) := by
  pointwise [dqTerm, headsM]

theorem dkTerm_at (j : Fin 256) (k : Fin 512) :
    dkTerm Q K V D (ix2 j k) = ∑ s : Fin 4096, dscores Q K V D (ix3 ⟨k.val / 128, by omega⟩ s j) * Q (ix2 s k) := by
  pointwise [dkTerm, headsS]

theorem dvTerm_at (j : Fin 256) (k : Fin 512) :
    dvTerm Q K D (ix2 j k) = ∑ s : Fin 4096, D (ix2 s k) * probs Q K (ix3 ⟨k.val / 128, by omega⟩ s j) := by
  pointwise [dvTerm, headsS, outT]

section
variable (m : (ℓ : Loc nD τ sig) → Buf (Elt Ideal) ℓ) (c : Dev nD)

theorem res0_eq : res_out0 m c = dqTerm (m ((c.tc : Thread nD τ).loc main_arg0)) (m ((c.tc : Thread nD τ).loc main_arg1))
    (m ((c.tc : Thread nD τ).loc main_arg2)) (m ((c.tc : Thread nD τ).loc main_arg3)) := rfl

theorem res1_eq : res_out1 m c = dkTerm (m ((c.tc : Thread nD τ).loc main_arg0)) (m ((c.tc : Thread nD τ).loc main_arg1))
    (m ((c.tc : Thread nD τ).loc main_arg2)) (m ((c.tc : Thread nD τ).loc main_arg3)) := rfl
end

end

end Cert.MemGradIdeal.Value

end
-- ==== Proof.MemAlgebra.lean ====
/- A softmax's gradient in closed form is its gradient taken step by step, over extended reals, when the scores are real
   numbers; the output gradient and the values are any extended reals. -/
module

public import proofs.«01_k».proof.Proof.MemRow

@[expose] public section

noncomputable section

open Idealize.ShloMosaic

namespace Cert.MemRow

/-- Neither infinity. -/
def IsReal (x : EReal) : Prop := ∃ r : ℝ, x = (r : EReal)

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type} (s : Finset ι) (f : ι → EReal) (hf : ∀ i, IsReal (f i)) : IsReal (∑ i ∈ s, f i) := by
  classical
  induction s using Finset.induction_on with
  | empty => exact ⟨0, by simp⟩
  | insert a s ha ih =>
    obtain ⟨x, hx⟩ := hf a; obtain ⟨y, hy⟩ := ih
    exact ⟨x + y, by rw [Finset.sum_insert ha, hx, hy, EReal.coe_add]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_of_ne {x : EReal} (h1 : x ≠ ⊤) (h2 : x ≠ ⊥) : IsReal x := ⟨x.toReal, (EReal.coe_toReal h1 h2).symm⟩

theorem isReal_scale : IsReal scale := by
  refine isReal_of_ne ?_ ?_ <;> simp [scale, Ideal.ofBits, Ideal.ieee, -EReal.coe_mul]

/-- A nonnegative real factor goes into a sum of any extended reals. -/
theorem mul_sum_of_real {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.2 hc) (EReal.coe_ne_top c)]

theorem div_real (x : EReal) (l : ℝ) (hl : 0 < l) : Ideal.div x (l : EReal) = x * ((l⁻¹ : ℝ) : EReal) := by
  rw [Ideal.div, if_neg (by exact_mod_cast hl.ne'), EReal.coe_inv]

/-- The two forms of a softmax's gradient, for positive real weights. -/
theorem softmax_grad {n : ℕ} (e : Fin n → ℝ) (l : ℝ) (hl : 0 < l) (dp : Fin n → EReal) (j : Fin n) (he : 0 ≤ e j) :
    Ideal.div (e j : EReal) (l : EReal) * (dp j - ∑ i, Ideal.div (e i : EReal) (l : EReal) * dp i)
      = (Ideal.div (dp j) (l : EReal) + -∑ i, dp i * Ideal.div 1 ((l : EReal) * (l : EReal)) * (e i : EReal)) * (e j : EReal) := by
  rw [← EReal.coe_mul]
  simp only [div_real _ l hl, div_real _ (l * l) (mul_pos hl hl), one_mul]
  have hc : (0 : ℝ) ≤ l⁻¹ := (inv_pos.2 hl).le
  have hsum : ∑ i, dp i * (((l * l)⁻¹ : ℝ) : EReal) * (e i : EReal)
      = ((l⁻¹ : ℝ) : EReal) * ∑ i, (e i : EReal) * ((l⁻¹ : ℝ) : EReal) * dp i := by
    rw [mul_sum_of_real _ _ _ hc]
    refine Finset.sum_congr rfl fun i _ => ?_
    rw [mul_inv, EReal.coe_mul]
    ac_rfl
  rw [hsum, ← mul_neg, mul_comm (dp j), ← EReal.left_distrib_of_nonneg_of_ne_top (EReal.coe_nonneg.2 hc) (EReal.coe_ne_top _),
    sub_eq_add_neg]
  ac_rfl

section
variable (q d : Fin 512 → EReal) (K V : Fin 256 → Fin 512 → EReal) (o : ℕ) (ho : o + 128 ≤ 512)

theorem isReal_score (hq : ∀ k, IsReal (q k)) (hK : ∀ j k, IsReal (K j k)) (j : Fin 256) : IsReal (score q K o ho j) :=
  isReal_mul (isReal_sum _ _ fun k => isReal_mul (hq _) (hK _ _)) isReal_scale

theorem isReal_top (hq : ∀ k, IsReal (q k)) (hK : ∀ j k, IsReal (K j k)) : IsReal (top q K o ho) := by
  have hs := isReal_score q K o ho hq hK
  refine isReal_of_ne (ne_of_lt ?_) (ne_of_gt ?_)
  · unfold top
    rw [Finset.fold_max_lt]
    refine ⟨by simp [Ideal.ofBits, Ideal.ieee], fun j _ => ?_⟩
    obtain ⟨r, hr⟩ := hs j
    rw [hr]; exact EReal.coe_lt_top r
  · unfold top
    rw [Finset.lt_fold_max]
    refine Or.inr ⟨0, Finset.mem_univ _, ?_⟩
    obtain ⟨r, hr⟩ := hs 0
    rw [hr]; exact EReal.bot_lt_coe r

/-- The weights are positive real numbers. -/
theorem weight_real (hq : ∀ k, IsReal (q k)) (hK : ∀ j k, IsReal (K j k)) (j : Fin 256) :
    ∃ e : ℝ, 0 < e ∧ weight q K o ho j = (e : EReal) := by
  obtain ⟨r, hr⟩ := isReal_score q K o ho hq hK j
  obtain ⟨t, ht⟩ := isReal_top q K o ho hq hK
  refine ⟨Real.exp (r - t), Real.exp_pos _, ?_⟩
  rw [weight, hr, ht, ← EReal.coe_sub]; rfl

/-- The two gradients of a score are equal. -/
theorem dscore_eq (hq : ∀ k, IsReal (q k)) (hK : ∀ j k, IsReal (K j k)) (j : Fin 256) :
    dscore q d K V o ho j = scoreGrad q d K V o ho j := by
  choose e he hw using weight_real q K o ho hq hK
  have hm : mass q K o ho = ((∑ i, e i : ℝ) : EReal) := by
    rw [mass, coe_sum]; exact Finset.sum_congr rfl fun i _ => hw i
  have hl : 0 < ∑ i, e i := Finset.sum_pos (fun i _ => he i) ⟨0, Finset.mem_univ _⟩
  simp only [dscore, scoreGrad, massGrad, prob, hw, hm]
  exact softmax_grad e _ hl _ j (he j).le

end

end Cert.MemRow

end
-- ==== Proof.MemFinite.lean ====
/- What the precondition `mem_finite` says: every query and every memory key is a real number. -/
module

public import proofs.«01_k».proof.Proof.Gen.Pre_mem_finite
public import proofs.«01_k».proof.Proof.MemAlgebra
public import Idealize.ShloMosaic.Lib.ReduceAll

@[expose] public section

noncomputable section

open Idealize.ShloMosaic

namespace Cert.MemFinite

open Cert.Pre_mem_finite

/-- An absolute value below infinity is a real number's. -/
theorem isReal_of_abs_lt {x : EReal} (h : Ideal.cmp .olt (max x (-x)) (Ideal.ofBits FTy.f32 0x7F800000#32) = 1#1) : MemRow.IsReal x := by
  have htop : Ideal.ofBits FTy.f32 0x7F800000#32 = ⊤ := by simp [Ideal.ofBits, Ideal.ieee]
  rw [htop] at h
  have hlt : max x (-x) < ⊤ := by
    by_contra hn
    simp [Ideal.cmp, hn] at h
  refine MemRow.isReal_of_ne (fun hx => ?_) (fun hx => ?_) <;> subst hx <;> simp at hlt

instance : Subsingleton S_.Idx := ⟨fun a b => funext fun i => absurd i.2 (by simp [S_])⟩

theorem reals (Q : FVec Ideal S4096x512 .bf16) (K V : FVec Ideal S256x512 .bf16) (D : FVec Ideal S4096x512 .bf16)
    (h : fn (F := Ideal) Q K V D = fun _ => 1#1) : (∀ i, MemRow.IsReal (Q i)) ∧ ∀ i, MemRow.IsReal (K i) := by
  have h0 := congrFun h (fun a => absurd a.2 (by simp [S_]))
  obtain ⟨hq, hk⟩ := IntOp.andi_eq_one.1 h0
  exact ⟨fun i => isReal_of_abs_lt (Host.reduce_andi_all _ _ _ _ _ hq i), fun i => isReal_of_abs_lt (Host.reduce_andi_all _ _ _ _ _ hk i)⟩

end Cert.MemFinite

end
-- ==== Proof.MemClaim.lean ====
/- The kernel's three arrays are the reference's, and the claim that compares the two programs. -/
module

public import proofs.«01_k».proof.Defs
public import proofs.«01_k».proof.Proof.MemFinal
public import proofs.«01_k».proof.Proof.MemGradTerm
public import proofs.«01_k».proof.Proof.MemFinite
public import Idealize.ShloMosaic.Adequacy
public import Idealize.ShloMosaic.Init

@[expose] public section

set_option maxRecDepth 16384

noncomputable section

open Idealize.ShloMosaic Idealize.ShloMosaic.TcCoe Idealize.SL.Sem

namespace Cert.MemClaim

open Cert.MemIdeal Cert.MemGradIdeal.Value Cert.MemIdeal.Value

section
variable (Q : FVec Ideal S4096x512 .bf16) (K V : FVec Ideal S256x512 .bf16) (D : FVec Ideal S4096x512 .bf16)
  (hQ : ∀ i, MemRow.IsReal (Q i)) (hK : ∀ i, MemRow.IsReal (K i))
include hQ hK

/-- The reference's gradient of a score is the kernel's. -/
theorem dscores_eq (s : Fin 4096) (j : Fin 256) (k : Fin 512) (h : k.val / 128 < 4) :
    dscores Q K V D (ix3 ⟨k.val / 128, h⟩ s j)
      = MemRow.dscore (Cert.MemIdeal.Value.rowOf Q s) (Cert.MemIdeal.Value.rowOf D s) (Cert.MemIdeal.Value.tokens K)
          (Cert.MemIdeal.Value.tokens V) (base k) (base_le k) j * MemRow.scale := by
  refine (dscores_at Q K V D _ s j).trans (congrArg (· * MemRow.scale) ?_)
  exact (MemRow.dscore_eq (Cert.MemGradIdeal.Value.rowOf Q s) (Cert.MemGradIdeal.Value.rowOf D s)
    (Cert.MemGradIdeal.Value.tokens K) (Cert.MemGradIdeal.Value.tokens V) _ _ (fun k => hQ _) (fun j k => hK _) j).symm

theorem dq_eq : dqTerm Q K V D = dqArr Q K V D := by
  funext y
  obtain ⟨s, k, rfl⟩ : ∃ (s : Fin 4096) (k : Fin 512), y = ix2 s k := ⟨y 0, y 1, by funext a; fin_cases a <;> rfl⟩
  refine (dqTerm_at Q K V D s k).trans ?_
  unfold dqArr dqAt
  refine (Finset.sum_congr rfl fun j _ => ?_)
  rw [dscores_eq Q K V D hQ hK]
  rfl

theorem dk_eq : dkTerm Q K V D = dkArr Q K V D := by
  funext y
  obtain ⟨j, k, rfl⟩ : ∃ (j : Fin 256) (k : Fin 512), y = ix2 j k := ⟨y 0, y 1, by funext a; fin_cases a <;> rfl⟩
  refine (dkTerm_at Q K V D j k).trans ?_
  unfold dkArr dkAt
  refine (Finset.sum_congr rfl fun s _ => ?_)
  rw [dscores_eq Q K V D hQ hK]
  rfl

end

theorem dv_eq (Q : FVec Ideal S4096x512 .bf16) (K : FVec Ideal S256x512 .bf16) (D : FVec Ideal S4096x512 .bf16) :
    dvTerm Q K D = dvArr Q K D := by
  funext y
  obtain ⟨j, k, rfl⟩ : ∃ (j : Fin 256) (k : Fin 512), y = ix2 j k := ⟨y 0, y 1, by funext a; fin_cases a <;> rfl⟩
  refine (dvTerm_at Q K D j k).trans ?_
  unfold dvArr dvAt
  refine (Finset.sum_congr rfl fun s _ => ?_)
  rw [probs_at, mul_comm]
  rfl

/-- The kernel and the reference end with equal gradients. -/
theorem algebraic : Cert.algebraic_MemIdeal_MemGradIdeal_pre_mem_finite (hMemIdeal := Cert.MemIdeal.Gen.facts)
    (hMemGradIdeal := Cert.MemGradIdeal.Gen.facts) (hPre_mem_finite := Cert.Pre_mem_finite.Gen.facts) := by
  pair_intro
  · run_from Cert.MemIdeal.Gen.run_main m g
  · have hfin := fun c => MemFinite.reals _ _ _ _ (hpre c)
    run_from Cert.MemGradIdeal.Value.run m' g'
    · refine ((res0_eq m' c).trans ?_).trans (final4 m c).symm
      rw [(hagree c).1, (hagree c).2.1, (hagree c).2.2.1, (hagree c).2.2.2]
      exact dq_eq _ _ _ _ (hfin c).1 (hfin c).2
    · refine ((res1_eq m' c).trans ?_).trans (final5 m c).symm
      rw [(hagree c).1, (hagree c).2.1, (hagree c).2.2.1, (hagree c).2.2.2]
      exact dk_eq _ _ _ _ (hfin c).1 (hfin c).2
    · refine Eq.trans ?_ (final6 m c).symm
      exact dv_eq (m ((c.tc : Thread nD τ).loc main_arg0)) (m ((c.tc : Thread nD τ).loc main_arg1)) (m ((c.tc : Thread nD τ).loc main_arg3))

end Cert.MemClaim

end
-- ==== Proof.MlpRow.lean ====
/- The MLP of the step and the loss after it, one entry at a time, as functions of extended reals: the forward pass, and the
   gradients as the step's four calls compute them. -/
module

public import Idealize.ShloMosaic.Lib.Pipeline.ValueKit

@[expose] public section

noncomputable section

open Idealize.ShloMosaic

namespace Cert.MlpRow

/-- `1 / 1024`, `1024`, the small number added to a mean square, `2` and `1 / 2`, as f32 words. -/
abbrev inv : EReal := Ideal.ofBits FTy.f32 0x3A800000#32
abbrev width : EReal := Ideal.ofBits FTy.f32 0x44800000#32
abbrev eps : EReal := Ideal.ofBits FTy.f32 0x358637BD#32
abbrev two : EReal := Ideal.ofBits FTy.f32 0x40000000#32
abbrev half : EReal := Ideal.ofBits FTy.f32 0x3F000000#32

/-- A hidden unit before its activation. -/
def pre (h w : Fin 1024 → EReal) : EReal := ∑ k : Fin 1024, h k * w k
/-- The activation: the square of the positive part. -/
def up (a : EReal) : EReal := max a 0 * max a 0
/-- The error of one output entry. -/
def err (x t : EReal) (u w : Fin 4096 → EReal) : EReal := x + ∑ k : Fin 4096, u k * w k - t
/-- The gradient of the loss by one output entry. -/
def dy (e : EReal) : EReal := e * inv
/-- One row's part of the loss before the half. -/
def rowLoss (e : Fin 1024 → EReal) : EReal := (∑ k : Fin 1024, e k * e k) * inv
/-- The gradient by a hidden unit before its activation, from the activation `u`. -/
def act (d w : Fin 1024 → EReal) (u : EReal) : EReal := (∑ k : Fin 1024, d k * w k) * (two * Ideal.sqrt u)
/-- The reciprocal root of a row's mean square. -/
def rstd (x : Fin 1024 → EReal) : EReal := Ideal.rsqrt (Ideal.div (∑ k : Fin 1024, x k * x k) width + eps)
/-- The normalised row. -/
def normed (x : Fin 1024 → EReal) (k : Fin 1024) : EReal := x k * rstd x
/-- The gradient by a row of the residual stream: what goes around the normalisation, and what goes through it. -/
def dx (x g dh dy : Fin 1024 → EReal) (k : Fin 1024) : EReal :=
  dy k + rstd x * (dh k * g k - normed x k * Ideal.div (∑ l : Fin 1024, dh l * g l * normed x l) width)

end Cert.MlpRow

end
-- ==== Proof.MlpUp.lean ====
/- What `mlp_up` leaves in its array, as a formula over the arrays it reads. -/
module

public import proofs.«01_k».proof.Proof.Gen.MlpIdeal.Frame
public import proofs.«01_k».proof.Proof.MlpRow
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MlpIdeal.Value

open Cert.MlpIdeal Cert.MlpIdeal.Gen
open Idealize.ShloMosaic.Pipeline (Dat)

variable (V : (c : Dev nD) → (b : Ref sig .tc) → Buf (Elt Ideal) ((c : Thread nD τ).loc b))

/-- Row `s` of an array of 1024 columns. -/
def row (X : S4096x1024.Idx → EReal) (s : Fin 4096) (k : Fin 1024) : EReal := X (ix2 s k)
/-- Column `n` of the first weights, which are stored as eight blocks of 512 columns. -/
def upCol (W : S8x1024x512.Idx → EReal) (n : Fin 4096) (k : Fin 1024) : EReal :=
  W (ix3 ⟨n.val / 512, by omega⟩ k ⟨n.val % 512, by omega⟩)

/-- The activations. -/
def upArr (H : FVec Ideal S4096x1024 .bf16) (W : FVec Ideal S8x1024x512 .bf16) : FVec Ideal S4096x4096 .bf16 :=
  fun y => MlpRow.up (MlpRow.pre (row H (y 0)) (upCol W (y 1)))

/-- One block of the activations. -/
theorem out0_at (x0 : FVec Ideal S1024x1024 .bf16) (x1 : FVec Ideal S1x1024x512 .bf16) (y : S1024x512.Idx) :
    (show EReal from out0_2 (F := Ideal) x0 x1 y) = MlpRow.up (MlpRow.pre (fun k => x0 (ix2 (y 0) k)) (fun k => x1 (ix3 0 k (y 1)))) := by
  unfold out0_2
  canon_tiles x h
  open_payloads
  pointwise
  simp only [MlpRow.up, MlpRow.pre]
  blk_point []

/-- The blocks' places. -/
theorem idx0 : ∀ t : Fin cfg0.N, win0_0.index t = ![t.val / 8, 0] ∧ win0_1.index t = ![t.val % 8, 0, 0] ∧
    win0_2.index t = ![t.val / 8, t.val % 8] ∧ t.val < 32 :=
  (by decide +kernel : ∀ t : Fin grid0.N, _)

theorem row0_lt (t : Fin cfg0.N) (r : Fin 1024) : t.val / 8 * 1024 + r.val < 4096 := by have := (idx0 t).2.2.2; omega
theorem col0_lt (t : Fin cfg0.N) (r : Fin 512) : t.val % 8 * 512 + r.val < 4096 := by omega

theorem up_block (c : Dev nD) (t : Fin cfg0.N) (a : Fin 1024) (b : Fin 512) :
    MlpRow.up (MlpRow.pre (fun k => (show FVec Ideal S1024x1024 .bf16 from iblk0 V c 0 t) (ix2 a k)) (fun k => (show FVec Ideal S1x1024x512 .bf16 from iblk0 V c 1 t) (ix3 0 k b)))
      = MlpRow.up (MlpRow.pre (row (V c main_v12) ⟨t.val / 8 * 1024 + a.val, by have := (idx0 t).2.2.2; omega⟩)
          (upCol (V c main_v14) ⟨t.val % 8 * 512 + b.val, by omega⟩)) := by
  have e1 : (fun k => (show FVec Ideal S1024x1024 .bf16 from iblk0 V c 0 t) (ix2 a k))
      = row (V c main_v12) ⟨t.val / 8 * 1024 + a.val, by have := (idx0 t).2.2.2; omega⟩ := by
    funext k; unfold row; blk_ext! [iblk0, idx0 t]
  have e2 : (fun k => (show FVec Ideal S1x1024x512 .bf16 from iblk0 V c 1 t) (ix3 0 k b))
      = upCol (V c main_v14) ⟨t.val % 8 * 512 + b.val, by omega⟩ := by
    have q1 : (t.val % 8 * 512 + b.val) / 512 = t.val % 8 := by omega
    have q2 : (t.val % 8 * 512 + b.val) % 512 = b.val := by omega
    funext k; unfold upCol; simp only [q1, q2]; blk_ext! [iblk0, idx0 t]
  rw [e1, e2]

/-- The activations after the run. -/
theorem final0 (c : Dev nD) : (dat0 V c).arrAt 2 cfg0.N = upArr (V c main_v12) (V c main_v14) := by
  refine (dat0 V c).arrAt_eq_of_covers 2 _ (by decide +kernel) fun t hf y => ?_
  blk_simp
  rw [after0_2]
  refine (out0_at _ _ y).trans ?_
  have h8 := (idx0 t).2.2.2
  have hr : ((((cfg0.win 2).blk t).view.emb y) 0 : Fin 4096) = ⟨t.val / 8 * 1024 + (y 0).val, row0_lt t (y 0)⟩ := by
    apply Fin.ext; blk_simp [idx0 t]
  have hc : ((((cfg0.win 2).blk t).view.emb y) 1 : Fin 4096) = ⟨t.val % 8 * 512 + (y 1).val, col0_lt t (y 1)⟩ := by
    apply Fin.ext; blk_simp [idx0 t]
  exact (up_block V c t (y 0) (y 1)).trans
    (congrArg₂ (fun (a b : Fin 4096) => MlpRow.up (MlpRow.pre (row (V c main_v12) a) (upCol (V c main_v14) b))) hr.symm hc.symm)

end Cert.MlpIdeal.Value

end
-- ==== Proof.MlpDown.lean ====
/- What `mlp_down_loss` leaves in its three arrays, as formulas over the arrays it reads. -/
module

public import proofs.«01_k».proof.Proof.Gen.MlpIdeal.Frame
public import proofs.«01_k».proof.Proof.MlpRow
public import Idealize.ShloMosaic.Lib.Pipeline.ValueKit
public import Idealize.ShloMosaic.Lib.Pipeline.ReadBack
public import proofs.«01_k».proof.Proof.MlpUp

@[expose] public section

set_option maxRecDepth 16384

noncomputable section

open Idealize.ShloMosaic Idealize.ShloMosaic.TcCoe Idealize.SL.Sem

namespace Cert.MlpIdeal.Value

open Cert.MlpIdeal Cert.MlpIdeal.Gen
open Idealize.ShloMosaic.Pipeline (Dat)

variable (V : (c : Dev nD) → (b : Ref sig .tc) → Buf (Elt Ideal) ((c : Thread nD τ).loc b))

/-- Row `s` of an array of 4096 columns. -/
def wide (U : S4096x4096.Idx → EReal) (s k : Fin 4096) : EReal := U (ix2 s k)
/-- Column `k` of an array of 4096 rows. -/
def col (W : S4096x1024.Idx → EReal) (k : Fin 1024) (s : Fin 4096) : EReal := W (ix2 s k)
/-- The error of one entry. -/
def errAt (X T : S4096x1024.Idx → EReal) (U : S4096x4096.Idx → EReal) (W : S4096x1024.Idx → EReal) (s : Fin 4096) (k : Fin 1024) : EReal :=
  MlpRow.err (X (ix2 s k)) (T (ix2 s k)) (wide U s) (col W k)
/-- The gradient by the output. -/
def dyArr (U : FVec Ideal S4096x4096 .bf16) (W : FVec Ideal S4096x1024 .bf16) (X T : FVec Ideal S4096x1024 .f32) : S4096x1024.Idx → EReal :=
  fun y => MlpRow.dy (errAt X T U W (y 0) (y 1))
/-- The loss. -/
def lossArr (U : FVec Ideal S4096x4096 .bf16) (W : FVec Ideal S4096x1024 .bf16) (X T : FVec Ideal S4096x1024 .f32) : S1x1.Idx → EReal :=
  fun _ => ∑ t : Fin 16, MlpRow.half * ∑ r : Fin 256, MlpRow.rowLoss (errAt X T U W ⟨t.val * 256 + r.val, by omega⟩)

/-- The error of one entry of a point's block. -/
def errBlk (c : Dev nD) (t : Fin cfg1.N) (r : Fin 256) (k : Fin 1024) : EReal :=
  MlpRow.err ((show FVec Ideal S256x1024 .f32 from iblk1 V c 2 t) (ix2 r k)) ((show FVec Ideal S256x1024 .f32 from iblk1 V c 3 t) (ix2 r k))
    (fun j => (show FVec Ideal S256x4096 .bf16 from iblk1 V c 0 t) (ix2 r j)) (fun j => (show FVec Ideal S4096x1024 .bf16 from iblk1 V c 1 t) (ix2 j k))

/-- The blocks' places. -/
theorem idx1 : ∀ t : Fin cfg1.N, win1_0.index t = ![t.val, 0] ∧ win1_1.index t = ![0, 0] ∧ win1_2.index t = ![t.val, 0] ∧
    win1_3.index t = ![t.val, 0] ∧ win1_4.index t = ![t.val, 0] ∧ win1_5.index t = ![t.val, 0] ∧ win1_6.index t = ![0, 0] ∧ t.val < 16 :=
  (by decide +kernel : ∀ t : Fin grid1.N, _)

theorem row1_lt (t : Fin cfg1.N) (r : Fin 256) : t.val * 256 + r.val < 4096 := by have := (idx1 t).2.2.2.2.2.2.2; omega

theorem errBlk_eq (c : Dev nD) (t : Fin cfg1.N) (r : Fin 256) :
    errBlk V c t r = errAt (V c main_arg0) (V c main_arg4) (V c main_v15) (V c main_arg3) ⟨t.val * 256 + r.val, row1_lt t r⟩ := by
  funext k
  have e1 : (fun j => (show FVec Ideal S256x4096 .bf16 from iblk1 V c 0 t) (ix2 r j)) = wide (V c main_v15) ⟨t.val * 256 + r.val, row1_lt t r⟩ := by
    funext j; unfold wide; blk_ext! [iblk1, idx1 t]
  have e2 : (fun j => (show FVec Ideal S4096x1024 .bf16 from iblk1 V c 1 t) (ix2 j k)) = col (V c main_arg3) k := by
    funext j; unfold col; blk_ext! [iblk1, idx1 t]
  have e3 : (show FVec Ideal S256x1024 .f32 from iblk1 V c 2 t) (ix2 r k) = (show FVec Ideal S4096x1024 .f32 from V c main_arg0) (ix2 ⟨t.val * 256 + r.val, row1_lt t r⟩ k) := by
    blk_ext! [iblk1, idx1 t]
  have e4 : (show FVec Ideal S256x1024 .f32 from iblk1 V c 3 t) (ix2 r k) = (show FVec Ideal S4096x1024 .f32 from V c main_arg4) (ix2 ⟨t.val * 256 + r.val, row1_lt t r⟩ k) := by
    blk_ext! [iblk1, idx1 t]
  unfold errBlk errAt
  rw [e1, e2, e3, e4]

theorem out1_4 (c : Dev nD) (t : Fin cfg1.N) (y : S256x1024.Idx) :
    (show EReal from (outsAt1 V c t.val t.isLt).1 y) = MlpRow.dy (errBlk V c t (y 0) (y 1)) := by
  by_cases h0 : t.val % 16 = 0
  · rw [outsAt1_A V c t h0]; frame_out
    open_payloads
    pointwise
    simp only [MlpRow.dy, errBlk, MlpRow.err]
    blk_point []
  · rw [outsAt1_B V c t h0]; frame_out
    open_payloads
    pointwise
    simp only [MlpRow.dy, errBlk, MlpRow.err]
    blk_point []

theorem out1_5 (c : Dev nD) (t : Fin cfg1.N) (y : S256x1024.Idx) :
    (show EReal from (outsAt1 V c t.val t.isLt).2.1 y) = MlpRow.dy (errBlk V c t (y 0) (y 1)) := by
  by_cases h0 : t.val % 16 = 0
  · rw [outsAt1_A V c t h0]; frame_out
    open_payloads
    pointwise
    simp only [MlpRow.dy, errBlk, MlpRow.err]
    blk_point []
  · rw [outsAt1_B V c t h0]; frame_out
    open_payloads
    pointwise
    simp only [MlpRow.dy, errBlk, MlpRow.err]
    blk_point []

/-- A block's part of the loss. -/
def lossBlk (c : Dev nD) (t : Fin cfg1.N) : EReal := MlpRow.half * ∑ r : Fin 256, MlpRow.rowLoss (errBlk V c t r)

theorem out1_6A (c : Dev nD) (t : Fin cfg1.N) (h0 : t.val % 16 = 0) (y : S1x1.Idx) :
    (show EReal from (outsAt1 V c t.val t.isLt).2.2 y) = 0 + lossBlk V c t := by
  rw [outsAt1_A V c t h0]; frame_out
  open_payloads
  pointwise
  simp only [lossBlk, MlpRow.rowLoss, errBlk, MlpRow.err]

theorem out1_6B (c : Dev nD) (t : Fin cfg1.N) (h0 : ¬ t.val % 16 = 0) (y : S1x1.Idx) :
    (show EReal from (outsAt1 V c t.val t.isLt).2.2 y)
      = (outsAt1 V c (t.val - 1) (Nat.lt_of_le_of_lt (Nat.sub_le _ _) t.isLt)).2.2 y + lossBlk V c t := by
  rw [outsAt1_B V c t h0]; frame_out
  generalize (outsAt1 V c (t.val - 1) (Nat.lt_of_le_of_lt (Nat.sub_le _ _) t.isLt)).2.2 = prev
  open_payloads
  pointwise
  simp only [lossBlk, MlpRow.rowLoss, errBlk, MlpRow.err]

/-- The gradient by the output after the run. -/
theorem final1_4 (c : Dev nD) : (dat1 V c).arrAt 4 cfg1.N = dyArr (V c main_v15) (V c main_arg3) (V c main_arg0) (V c main_arg4) := by
  refine (dat1 V c).arrAt_eq_of_covers 4 _ (by decide +kernel) fun t hf y => ?_
  blk_simp
  rw [after1_4]
  refine (out1_4 V c t y).trans ?_
  have hr : ((((cfg1.win 4).blk t).view.emb y) 0 : Fin 4096) = ⟨t.val * 256 + (y 0).val, row1_lt t (y 0)⟩ := by
    apply Fin.ext; blk_simp [idx1 t]
  have hc : ((((cfg1.win 4).blk t).view.emb y) 1 : Fin 1024) = y 1 := by
    apply Fin.ext; blk_simp [idx1 t]
  exact (congrArg MlpRow.dy (congrFun (errBlk_eq V c t (y 0)) (y 1))).trans
    (congrArg₂ (fun (s : Fin 4096) k => MlpRow.dy (errAt (V c main_arg0) (V c main_arg4) (V c main_v15) (V c main_arg3) s k)) hr.symm hc.symm)

/-- … rounded, which over extended reals is the same. -/
theorem final1_5 (c : Dev nD) : (dat1 V c).arrAt 5 cfg1.N = dyArr (V c main_v15) (V c main_arg3) (V c main_arg0) (V c main_arg4) := by
  refine (dat1 V c).arrAt_eq_of_covers 5 _ (by decide +kernel) fun t hf y => ?_
  blk_simp
  rw [after1_5]
  refine (out1_5 V c t y).trans ?_
  have hr : ((((cfg1.win 5).blk t).view.emb y) 0 : Fin 4096) = ⟨t.val * 256 + (y 0).val, row1_lt t (y 0)⟩ := by
    apply Fin.ext; blk_simp [idx1 t]
  have hc : ((((cfg1.win 5).blk t).view.emb y) 1 : Fin 1024) = y 1 := by
    apply Fin.ext; blk_simp [idx1 t]
  exact (congrArg MlpRow.dy (congrFun (errBlk_eq V c t (y 0)) (y 1))).trans
    (congrArg₂ (fun (s : Fin 4096) k => MlpRow.dy (errAt (V c main_arg0) (V c main_arg4) (V c main_v15) (V c main_arg3) s k)) hr.symm hc.symm)

/-- The loss after the run. -/
theorem final1_6 (c : Dev nD) : (dat1 V c).arrAt 6 cfg1.N = lossArr (V c main_v15) (V c main_arg3) (V c main_arg0) (V c main_arg4) := by
  refine (dat1 V c).arrAt_eq_of_after_last 6 t1_15 (by decide +kernel) _ fun j => ?_
  blk_simp [idx1 t1_15]
  rw [after1_6]
  refine (Pipeline.eq_sum_fin_of_reset_step_apply_last (fun n h => (outsAt1 V c n h).2.2) 16 (fun _ => (0 : EReal))
    (fun t _ => lossBlk V c t) (out1_6A V c) (out1_6B V c) (le_of_eq N_1) t1_15 rfl j).trans ?_
  rw [zero_add]
  unfold lossArr lossBlk
  simp only [errBlk_eq]
  exact Fintype.sum_equiv (finCongr N_1) _ _ fun t => rfl

end Cert.MlpIdeal.Value

end
-- ==== Proof.MlpAct.lean ====
/- What `mlp_bwd_act` leaves in its array, as a formula over the arrays it reads. -/
module

public import proofs.«01_k».proof.Proof.Gen.MlpIdeal.Frame
public import proofs.«01_k».proof.Proof.MlpRow
public import Idealize.ShloMosaic.Lib.Pipeline.ValueKit
public import Idealize.ShloMosaic.Lib.Pipeline.ReadBack
public import proofs.«01_k».proof.Proof.MlpUp

@[expose] public section

set_option maxRecDepth 16384

noncomputable section

open Idealize.ShloMosaic Idealize.ShloMosaic.TcCoe Idealize.SL.Sem

namespace Cert.MlpIdeal.Value

open Cert.MlpIdeal Cert.MlpIdeal.Gen
open Idealize.ShloMosaic.Pipeline (Dat)

variable (V : (c : Dev nD) → (b : Ref sig .tc) → Buf (Elt Ideal) ((c : Thread nD τ).loc b))

/-- The gradients by the hidden units before their activation. -/
def actArr (D : FVec Ideal S4096x1024 .bf16) (W : FVec Ideal S4096x1024 .bf16) (U : FVec Ideal S4096x4096 .bf16) :
    FVec Ideal S4096x4096 .bf16 := fun y => MlpRow.act (row D (y 0)) (row W (y 1)) (U y)

/-- One block of them. -/
theorem out2_at (x0 x1 x2 : FVec Ideal S1024x1024 .bf16) (y : S1024x1024.Idx) :
    (show EReal from out2_3 (F := Ideal) x0 x1 x2 y) = MlpRow.act (fun k => x0 (ix2 (y 0) k)) (fun k => x1 (ix2 (y 1) k)) (x2 y) := by
  unfold out2_3
  canon_tiles x h
  open_payloads
  pointwise
  simp only [MlpRow.act]
  blk_point []

/-- The blocks' places. -/
theorem idx2 : ∀ t : Fin cfg2.N, win2_0.index t = ![t.val % 4, 0] ∧ win2_1.index t = ![t.val / 4, 0] ∧
    win2_2.index t = ![t.val % 4, t.val / 4] ∧ win2_3.index t = ![t.val % 4, t.val / 4] ∧ t.val < 16 :=
  (by decide +kernel : ∀ t : Fin grid2.N, _)

theorem row2_lt (t : Fin cfg2.N) (r : Fin 1024) : t.val % 4 * 1024 + r.val < 4096 := by omega
theorem col2_lt (t : Fin cfg2.N) (r : Fin 1024) : t.val / 4 * 1024 + r.val < 4096 := by have := (idx2 t).2.2.2.2; omega

theorem act_block (c : Dev nD) (t : Fin cfg2.N) (y : S1024x1024.Idx) :
    MlpRow.act (fun k => (show FVec Ideal S1024x1024 .bf16 from iblk2 V c 0 t) (ix2 (y 0) k)) (fun k => (show FVec Ideal S1024x1024 .bf16 from iblk2 V c 1 t) (ix2 (y 1) k))
        ((show FVec Ideal S1024x1024 .bf16 from iblk2 V c 2 t) y)
      = actArr (V c main_v16_1) (V c main_arg3) (V c main_v15)
          (ix2 ⟨t.val % 4 * 1024 + (y 0).val, row2_lt t (y 0)⟩ ⟨t.val / 4 * 1024 + (y 1).val, col2_lt t (y 1)⟩) := by
  obtain ⟨a, b, rfl⟩ : ∃ a b, y = ix2 a b := ⟨y 0, y 1, by funext a; fin_cases a <;> rfl⟩
  have h16 := (idx2 t).2.2.2.2
  have e1 : (fun k => (show FVec Ideal S1024x1024 .bf16 from iblk2 V c 0 t) (ix2 a k))
      = row (V c main_v16_1) ⟨t.val % 4 * 1024 + a.val, by omega⟩ := by
    funext k; unfold row; blk_ext! [iblk2, idx2 t]
  have e2 : (fun k => (show FVec Ideal S1024x1024 .bf16 from iblk2 V c 1 t) (ix2 b k))
      = row (V c main_arg3) ⟨t.val / 4 * 1024 + b.val, by omega⟩ := by
    funext k; unfold row; blk_ext! [iblk2, idx2 t]
  have e3 : (show FVec Ideal S1024x1024 .bf16 from iblk2 V c 2 t) (ix2 a b)
      = (show FVec Ideal S4096x4096 .bf16 from V c main_v15) (ix2 ⟨t.val % 4 * 1024 + a.val, by omega⟩ ⟨t.val / 4 * 1024 + b.val, by omega⟩) := by
    blk_ext! [iblk2, idx2 t]
  change MlpRow.act (fun k => (show FVec Ideal S1024x1024 .bf16 from iblk2 V c 0 t) (ix2 a k)) (fun k => (show FVec Ideal S1024x1024 .bf16 from iblk2 V c 1 t) (ix2 b k)) _ = _
  rw [e1, e2, e3]
  rfl

/-- The gradients after the run. -/
theorem final2 (c : Dev nD) : (dat2 V c).arrAt 3 cfg2.N = actArr (V c main_v16_1) (V c main_arg3) (V c main_v15) := by
  refine (dat2 V c).arrAt_eq_of_covers 3 _ (by decide +kernel) fun t hf y => ?_
  blk_simp
  rw [after2_3]
  refine (out2_at _ _ _ y).trans ?_
  have h8 := (idx2 t).2.2.2.2
  have hr : ((((cfg2.win 3).blk t).view.emb y) 0 : Fin 4096) = ⟨t.val % 4 * 1024 + (y 0).val, row2_lt t (y 0)⟩ := by
    apply Fin.ext; blk_simp [idx2 t]
  have hc : ((((cfg2.win 3).blk t).view.emb y) 1 : Fin 4096) = ⟨t.val / 4 * 1024 + (y 1).val, col2_lt t (y 1)⟩ := by
    apply Fin.ext; blk_simp [idx2 t]
  have hy : ((cfg2.win 3).blk t).view.emb y = (ix2 (((((cfg2.win 3).blk t).view.emb y) 0 : Fin 4096)) (((((cfg2.win 3).blk t).view.emb y) 1 : Fin 4096)) : S4096x4096.Idx) := by
    funext a; fin_cases a <;> rfl
  have hy' : y = (ix2 (y 0 : Fin 1024) (y 1 : Fin 1024) : S1024x1024.Idx) := by
    funext a; fin_cases a <;> rfl
  unfold actArr
  rw [hr, hc] at hy
  exact (act_block V c t y).trans (by rw [hy]; rfl)

end Cert.MlpIdeal.Value

end
-- ==== Proof.MlpChunks.lean ====
/- A sum over the hidden units as the eight devices' weight blocks give it: eight sums of 512, added from the left. -/
module

public import Idealize.ShloMosaic.Lib.Pipeline.ValueKit

@[expose] public section

noncomputable section

open Idealize.ShloMosaic

namespace Cert.MlpRow

/-- One block's sum. -/
def eighth (d : Fin 4096 → EReal) (w : Fin 8 → Fin 1024 → Fin 512 → EReal) (k : Fin 1024) (j : Fin 8) : EReal :=
  ∑ l : Fin 512, d ⟨512 * j.val + l.val, by omega⟩ * w j k l
/-- The eight sums, added from the left. -/
def eightSum (d : Fin 4096 → EReal) (w : Fin 8 → Fin 1024 → Fin 512 → EReal) (k : Fin 1024) : EReal :=
  eighth d w k 0 + eighth d w k 1 + eighth d w k 2 + eighth d w k 3 + eighth d w k 4 + eighth d w k 5 + eighth d w k 6 + eighth d w k 7

/-- They are one sum over all hidden units. -/
theorem eightSum_eq (d : Fin 4096 → EReal) (w : Fin 8 → Fin 1024 → Fin 512 → EReal) (k : Fin 1024) :
    eightSum d w k = ∑ n : Fin 4096, d n * w ⟨n.val / 512, by omega⟩ k ⟨n.val % 512, by omega⟩ := by
  refine (Fin.sum_univ_eight (fun j => eighth d w k j)).symm.trans ?_
  unfold eighth
  refine Fin.sum_mul_add_congr (S := 8) (n := 512) (fun t r hl => ?_) rfl
  have q1 : (t.val * 512 + r.val) / 512 = t.val := by omega
  have q2 : (t.val * 512 + r.val) % 512 = r.val := by omega
  simp only [q1, q2, Nat.mul_comm 512]

end Cert.MlpRow

end
-- ==== Proof.MlpX.lean ====
/- What `mlp_bwd_x` leaves in its two arrays, as formulas over the arrays it reads. -/
module

public import proofs.«01_k».proof.Proof.Gen.MlpIdeal.Frame
public import proofs.«01_k».proof.Proof.MlpRow
public import proofs.«01_k».proof.Proof.MlpChunks
public import Idealize.ShloMosaic.Lib.Pipeline.ValueKit
public import Idealize.ShloMosaic.Lib.Pipeline.ReadBack
public import proofs.«01_k».proof.Proof.MlpUp

@[expose] public section

set_option maxRecDepth 16384

noncomputable section

open Idealize.ShloMosaic Idealize.ShloMosaic.TcCoe Idealize.SL.Sem

namespace Cert.MlpIdeal.Value

open Cert.MlpIdeal Cert.MlpIdeal.Gen
open Idealize.ShloMosaic.Pipeline (Dat)

variable (V : (c : Dev nD) → (b : Ref sig .tc) → Buf (Elt Ideal) ((c : Thread nD τ).loc b))

/-- Row `s` of an array of 4096 columns. -/
def daRow (D : S4096x4096.Idx → EReal) (s k : Fin 4096) : EReal := D (ix2 s k)
/-- The first weights' eight blocks of columns. -/
def blocks (W : S8x1024x512.Idx → EReal) (j : Fin 8) (k : Fin 1024) (l : Fin 512) : EReal := W (ix3 j k l)
/-- The gain. -/
def gain (G : S1x1024.Idx → EReal) (k : Fin 1024) : EReal := G (ix2 0 k)

/-- The gradient by the residual stream. -/
def dxArr (D : FVec Ideal S4096x4096 .bf16) (W : FVec Ideal S8x1024x512 .bf16) (X Y : FVec Ideal S4096x1024 .f32) (G : FVec Ideal S1x1024 .f32) :
    S4096x1024.Idx → EReal :=
  fun y => MlpRow.dx (row X (y 0)) (gain G) (MlpRow.eightSum (daRow D (y 0)) (blocks W)) (row Y (y 0)) (y 1)
/-- The gradient by the gain. -/
def dgArr (D : FVec Ideal S4096x4096 .bf16) (W : FVec Ideal S8x1024x512 .bf16) (X : FVec Ideal S4096x1024 .f32) : S1x1024.Idx → EReal :=
  fun y => ∑ s : Fin 4096, MlpRow.eightSum (daRow D s) (blocks W) (y 1) * MlpRow.normed (row X s) (y 1)

def daBlk (c : Dev nD) (t : Fin cfg3.N) (r : Fin 256) (k : Fin 4096) : EReal := (show FVec Ideal S256x4096 .bf16 from iblk3 V c 0 t) (ix2 r k)
def wBlk (c : Dev nD) (t : Fin cfg3.N) (j : Fin 8) (k : Fin 1024) (l : Fin 512) : EReal := (show FVec Ideal S8x1024x512 .bf16 from iblk3 V c 1 t) (ix3 j k l)
def xBlk (c : Dev nD) (t : Fin cfg3.N) (r : Fin 256) (k : Fin 1024) : EReal := (show FVec Ideal S256x1024 .f32 from iblk3 V c 2 t) (ix2 r k)
def yBlk (c : Dev nD) (t : Fin cfg3.N) (r : Fin 256) (k : Fin 1024) : EReal := (show FVec Ideal S256x1024 .f32 from iblk3 V c 3 t) (ix2 r k)
def gBlk (c : Dev nD) (t : Fin cfg3.N) (k : Fin 1024) : EReal := (show FVec Ideal S1x1024 .f32 from iblk3 V c 4 t) (ix2 0 k)

/-- The blocks' places. -/
theorem idx3 : ∀ t : Fin cfg3.N, win3_0.index t = ![t.val, 0] ∧ win3_1.index t = ![0, 0, 0] ∧ win3_2.index t = ![t.val, 0] ∧
    win3_3.index t = ![t.val, 0] ∧ win3_4.index t = ![0, 0] ∧ win3_5.index t = ![t.val, 0] ∧ win3_6.index t = ![0, 0] ∧ t.val < 16 :=
  (by decide +kernel : ∀ t : Fin grid3.N, _)

theorem row3_lt (t : Fin cfg3.N) (r : Fin 256) : t.val * 256 + r.val < 4096 := by have := (idx3 t).2.2.2.2.2.2.2; omega

theorem daBlk_eq (c : Dev nD) (t : Fin cfg3.N) (r : Fin 256) : daBlk V c t r = daRow (V c main_v17) ⟨t.val * 256 + r.val, row3_lt t r⟩ := by
  funext k; unfold daBlk daRow; blk_ext! [iblk3, idx3 t]
theorem wBlk_eq (c : Dev nD) (t : Fin cfg3.N) : wBlk V c t = blocks (V c main_v14) := by
  funext j k l; unfold wBlk blocks; blk_ext! [iblk3, idx3 t]
theorem xBlk_eq (c : Dev nD) (t : Fin cfg3.N) (r : Fin 256) : xBlk V c t r = row (V c main_arg0) ⟨t.val * 256 + r.val, row3_lt t r⟩ := by
  funext k; unfold xBlk row; blk_ext! [iblk3, idx3 t]
theorem yBlk_eq (c : Dev nD) (t : Fin cfg3.N) (r : Fin 256) : yBlk V c t r = row (V c main_v16_0) ⟨t.val * 256 + r.val, row3_lt t r⟩ := by
  funext k; unfold yBlk row; blk_ext! [iblk3, idx3 t]
theorem gBlk_eq (c : Dev nD) (t : Fin cfg3.N) : gBlk V c t = gain (V c main_arg1) := by
  funext k; unfold gBlk gain; blk_ext! [iblk3, idx3 t]

theorem out3_5 (c : Dev nD) (t : Fin cfg3.N) (y : S256x1024.Idx) :
    (show EReal from (outsAt3 V c t.val t.isLt).1 y)
      = MlpRow.dx (xBlk V c t (y 0)) (gBlk V c t) (MlpRow.eightSum (daBlk V c t (y 0)) (wBlk V c t)) (yBlk V c t (y 0)) (y 1) := by
  by_cases h0 : t.val % 16 = 0
  · rw [outsAt3_A V c t h0]; frame_out
    open_payloads
    pointwise
    simp only [MlpRow.dx, MlpRow.rstd, MlpRow.normed, MlpRow.eightSum, MlpRow.eighth, xBlk, yBlk, gBlk, wBlk, daBlk]
    blk_point []
  · rw [outsAt3_B V c t h0]; frame_out
    open_payloads
    pointwise
    simp only [MlpRow.dx, MlpRow.rstd, MlpRow.normed, MlpRow.eightSum, MlpRow.eighth, xBlk, yBlk, gBlk, wBlk, daBlk]
    blk_point []

/-- A block's part of the gain's gradient. -/
def dgBlk (c : Dev nD) (t : Fin cfg3.N) (k : Fin 1024) : EReal :=
  ∑ r : Fin 256, MlpRow.eightSum (daBlk V c t r) (wBlk V c t) k * MlpRow.normed (xBlk V c t r) k

theorem out3_6A (c : Dev nD) (t : Fin cfg3.N) (h0 : t.val % 16 = 0) (y : S1x1024.Idx) :
    (show EReal from (outsAt3 V c t.val t.isLt).2 y) = 0 + dgBlk V c t (y 1) := by
  rw [outsAt3_A V c t h0]; frame_out
  open_payloads
  pointwise
  simp only [dgBlk, MlpRow.rstd, MlpRow.normed, MlpRow.eightSum, MlpRow.eighth, xBlk, wBlk, daBlk]
  blk_point []

theorem out3_6B (c : Dev nD) (t : Fin cfg3.N) (h0 : ¬ t.val % 16 = 0) (y : S1x1024.Idx) :
    (show EReal from (outsAt3 V c t.val t.isLt).2 y)
      = (outsAt3 V c (t.val - 1) (Nat.lt_of_le_of_lt (Nat.sub_le _ _) t.isLt)).2 y + dgBlk V c t (y 1) := by
  rw [outsAt3_B V c t h0]; frame_out
  generalize (outsAt3 V c (t.val - 1) (Nat.lt_of_le_of_lt (Nat.sub_le _ _) t.isLt)).2 = prev
  open_payloads
  pointwise
  simp only [dgBlk, MlpRow.rstd, MlpRow.normed, MlpRow.eightSum, MlpRow.eighth, xBlk, wBlk, daBlk]
  blk_point []

theorem dx_block (c : Dev nD) (t : Fin cfg3.N) (r : Fin 256) (k : Fin 1024) :
    MlpRow.dx (xBlk V c t r) (gBlk V c t) (MlpRow.eightSum (daBlk V c t r) (wBlk V c t)) (yBlk V c t r) k
      = MlpRow.dx (row (V c main_arg0) ⟨t.val * 256 + r.val, row3_lt t r⟩) (gain (V c main_arg1))
          (MlpRow.eightSum (daRow (V c main_v17) ⟨t.val * 256 + r.val, row3_lt t r⟩) (blocks (V c main_v14)))
          (row (V c main_v16_0) ⟨t.val * 256 + r.val, row3_lt t r⟩) k := by
  rw [xBlk_eq, gBlk_eq, daBlk_eq, wBlk_eq, yBlk_eq]

/-- The gradient by the residual stream after the run. -/
theorem final3_5 (c : Dev nD) : (dat3 V c).arrAt 5 cfg3.N
    = dxArr (V c main_v17) (V c main_v14) (V c main_arg0) (V c main_v16_0) (V c main_arg1) := by
  refine (dat3 V c).arrAt_eq_of_covers 5 _ (by decide +kernel) fun t hf y => ?_
  blk_simp
  rw [after3_5]
  refine (out3_5 V c t y).trans ?_
  have hr : ((((cfg3.win 5).blk t).view.emb y) 0 : Fin 4096) = ⟨t.val * 256 + (y 0).val, row3_lt t (y 0)⟩ := by
    apply Fin.ext; blk_simp [idx3 t]
  have hc : ((((cfg3.win 5).blk t).view.emb y) 1 : Fin 1024) = y 1 := by
    apply Fin.ext; blk_simp [idx3 t]
  exact (dx_block V c t (y 0) (y 1)).trans (congrArg₂ (fun (s : Fin 4096) k => MlpRow.dx (row (V c main_arg0) s) (gain (V c main_arg1))
    (MlpRow.eightSum (daRow (V c main_v17) s) (blocks (V c main_v14))) (row (V c main_v16_0) s) k) hr.symm hc.symm)

/-- The gradient by the gain after the run. -/
theorem final3_6 (c : Dev nD) : (dat3 V c).arrAt 6 cfg3.N = dgArr (V c main_v17) (V c main_v14) (V c main_arg0) := by
  refine (dat3 V c).arrAt_eq_of_after_last 6 t3_15 (by decide +kernel) _ fun j => ?_
  blk_simp [idx3 t3_15]
  rw [after3_6]
  refine (Pipeline.eq_sum_fin_of_reset_step_apply_last (fun n h => (outsAt3 V c n h).2) 16 (fun _ => (0 : EReal))
    (fun t y => dgBlk V c t (y 1)) (out3_6A V c) (out3_6B V c) (le_of_eq N_3) t3_15 rfl j).trans ?_
  rw [zero_add]
  unfold dgArr dgBlk
  refine Fin.sum_mul_add_congr (S := cfg3.N) (n := 256) (fun t r hl => ?_) (by rw [show cfg3.N = 16 from N_3])
  rw [xBlk_eq, daBlk_eq, wBlk_eq]

end Cert.MlpIdeal.Value

end
-- ==== Proof.MlpRun.lean ====
/- The run of the MLP's four calls: what the loss and the two gradients hold at its end, as formulas over the arguments. -/
module

public import proofs.«01_k».proof.Proof.MlpUp
public import proofs.«01_k».proof.Proof.MlpDown
public import proofs.«01_k».proof.Proof.MlpAct
public import proofs.«01_k».proof.Proof.MlpX

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.MlpIdeal.Value

open Cert.MlpIdeal Cert.MlpIdeal.Gen
open Idealize.ShloMosaic.Pipeline (Dat)

local notation "𝕄" => MT nD τ sig Unit (Elt Ideal) ℕ (UR sig nD τ) ℕ

section
variable (X : FVec Ideal S4096x1024 .f32) (G : FVec Ideal S1x1024 .f32) (Wu : FVec Ideal S1024x4096 .bf16) (Wd : FVec Ideal S4096x1024 .bf16)
  (T : FVec Ideal S4096x1024 .f32)

/-- The normalised residual stream, times the gain. -/
def hmArr : FVec Ideal S4096x1024 .bf16 := fun y => MlpRow.normed (row X (y 0)) (y 1) * gain G (y 1)
/-- The first weights by blocks of columns. -/
def wArr : FVec Ideal S8x1024x512 .bf16 := fun y => Wu (ix2 (y 1) ⟨(y 0).val * 512 + (y 2).val, by
  have h0 : (y 0).val < 8 := (y 0).isLt
  have h2 : (y 2).val < 512 := (y 2).isLt
  omega⟩)
/-- The activations, the gradient by the output and the gradient by the hidden units. -/
def uAll : FVec Ideal S4096x4096 .bf16 := upArr (hmArr X G) (wArr Wu)
def dyAll : S4096x1024.Idx → EReal := dyArr (uAll X G Wu) Wd X T
def daAll : FVec Ideal S4096x4096 .bf16 := actArr (dyAll X G Wu Wd T) Wd (uAll X G Wu)
/-- The three results. -/
def lossAll : S1x1.Idx → EReal := lossArr (uAll X G Wu) Wd X T
def dxAll : S4096x1024.Idx → EReal := dxArr (daAll X G Wu Wd T) (wArr Wu) X (dyAll X G Wu Wd T) G
def dgAll : S1x1024.Idx → EReal := dgArr (daAll X G Wu Wd T) (wArr Wu) X
end

variable (m : (ℓ : Loc nD τ sig) → Buf (Elt Ideal) ℓ) (ρ : Dev nD → PrngReg)

/-- Every array of the program is at the end what the last call leaves, and every semaphore is at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W5 m ρ c b) ∧ r.2.sem = fun _ => 0) := by
  refine Pipeline.θ_run_regions_kit_sems (pcfgs (F := Ideal)) adm (pdats m ρ) () cellOf_inj emb₁ defs₀ 𝒱₀ L lv m ρ main (segs m ρ)
    (fun c Q => (by rw [main_run m ρ c]))
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?start)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := ?init)
    (QY := fun c s => ∀ b ∈ Pipeline.ucRefs τ sig, s.mem (((c : Thread nD τ)).1, b) = W5 m ρ c b)
    (hfin := ?fin)
    (hQ := fun s h hz => ⟨h, funext fun g => hz g (.inr (no_unscoped g.2))⟩)
  case start =>
    iintro Hown; imodintro
    isplitl [Hown]
    · have whole : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iapply whole
      iexact Hown
    · have none : (BI.emp : sProp 𝕄) ⊢ bigSep Finset.univ (fun _ : Dev nD => (BI.emp : sProp 𝕄)) := by rw [BI.bigSep_emp_const]
      iapply none
      iempintro
  case init =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howed, -, Hrng, -⟩, -⟩
    imodintro
    isplitl [Hbufs]
    · iexact Hbufs
    isplitl [Hrng]
    · iexists _; iexact Hrng
    · iexists ∅; iexact Howed
  case fin =>
    intro c s
    iintro ⟨⟨Hbufs, -⟩, Hstate⟩
    unfold StableHlo.held
    imodintro
    iapply (pointsTo_read_all (Pipeline.ucRefs τ sig) (fun b => (((c : Thread nD τ)).1, b)) (W5 m ρ c) s)
    isplitl [Hbufs] <;> iassumption

theorem V1_hm (c : Dev nD) : V1 m ρ c main_v12 = hmArr (m ((c : Thread nD τ).loc main_arg0)) (m ((c : Thread nD τ).loc main_arg1)) := by
  have e : V1 m ρ c main_v12 = (truncf .bf16 (mulf (mulf (m ((c : Thread nD τ).loc main_arg0)) (broadcastInDim S4096x1024 ![0, 1] bcast_S4096x1_S4096x1024_0_1
      (Host.rsqrt (addf (Host.divf (broadcastInDim S4096x1 ![0] bcast_S4096_S4096x1_0 (Host.reduceAdd (mulf (m ((c : Thread nD τ).loc main_arg0)) (m ((c : Thread nD τ).loc main_arg0)))
        (constant S_ .f32 0x00000000#32) reducesTo_S4096x1024_S4096_d1 h_S_)) (broadcastInDim S4096x1 ![] bcast_S_S4096x1 (constant S_ .f32 0x44800000#32)))
        (broadcastInDim S4096x1 ![] bcast_S_S4096x1 (constant S_ .f32 0x358637BD#32))))))
      (broadcastInDim S4096x1024 ![0, 1] bcast_S1x1024_S4096x1024_0_1 (m ((c : Thread nD τ).loc main_arg1)))) bitsLt_bf16_f32 : FVec Ideal S4096x1024 .bf16) := by
    change StableHlo.after hostOps0 (W0 m ρ c) (Proc.devRef .tc main_v12) = _
    after_results_simp <;> rfl
  rw [e]
  funext y
  obtain ⟨s, k, rfl⟩ : ∃ (s : Fin 4096) (k : Fin 1024), y = ix2 s k := ⟨y 0, y 1, by funext a; fin_cases a <;> rfl⟩
  generalize m ((c : Thread nD τ).loc main_arg0) = X
  generalize m ((c : Thread nD τ).loc main_arg1) = G
  pointwise
  simp only [hmArr, MlpRow.normed, MlpRow.rstd, row, gain]
  blk_point []

theorem V1_w (c : Dev nD) : V1 m ρ c main_v14 = wArr (m ((c : Thread nD τ).loc main_arg2)) := by
  have e : V1 m ρ c main_v14 = (transpose S8x1024x512 [1, 0, 2] (shapeCast S1024x8x512 (show FVec Ideal S1024x4096 .bf16 from m ((c : Thread nD τ).loc main_arg2)) shapeCasts_S1024x4096_S1024x8x512)
      transposes_S1024x8x512_S8x1024x512_1_0_2 : FVec Ideal S8x1024x512 .bf16) := by
    change StableHlo.after hostOps0 (W0 m ρ c) (Proc.devRef .tc main_v14) = _
    after_results_simp <;> rfl
  rw [e]
  funext y
  obtain ⟨j, k, l, rfl⟩ : ∃ (j : Fin 8) (k : Fin 1024) (l : Fin 512), y = ix3 j k l := ⟨y 0, y 1, y 2, by funext a; fin_cases a <;> rfl⟩
  generalize m ((c : Thread nD τ).loc main_arg2) = W
  pointwise
  simp only [wArr]
  blk_point []

/-! What each array holds when a call begins. -/

theorem V2_args (c : Dev nD) (a : Ref sig .tc) (h : a ∈ argRefs) : V2 m ρ c a = m ((c : Thread nD τ).loc a) := W2_args m ρ c a h
theorem V3_args (c : Dev nD) (a : Ref sig .tc) (h : a ∈ argRefs) : V3 m ρ c a = m ((c : Thread nD τ).loc a) := W3_args m ρ c a h
theorem V4_args (c : Dev nD) (a : Ref sig .tc) (h : a ∈ argRefs) : V4 m ρ c a = m ((c : Thread nD τ).loc a) := W4_args m ρ c a h

theorem V2_u (c : Dev nD) : V2 m ρ c main_v15
    = uAll (m ((c : Thread nD τ).loc main_arg0)) (m ((c : Thread nD τ).loc main_arg1)) (m ((c : Thread nD τ).loc main_arg2)) := by
  refine (W2_arr m ρ c 2).trans ((final0 (V1 m ρ) c).trans ?_)
  rw [V1_hm, V1_w]; rfl
theorem V3_u (c : Dev nD) : V3 m ρ c main_v15
    = uAll (m ((c : Thread nD τ).loc main_arg0)) (m ((c : Thread nD τ).loc main_arg1)) (m ((c : Thread nD τ).loc main_arg2)) :=
  (W3_of m ρ c main_v15 (by decide)).trans (V2_u m ρ c)
theorem V2_w (c : Dev nD) : V2 m ρ c main_v14 = wArr (m ((c : Thread nD τ).loc main_arg2)) :=
  (W2_of m ρ c main_v14 (by decide)).trans (V1_w m ρ c)
theorem V3_w (c : Dev nD) : V3 m ρ c main_v14 = wArr (m ((c : Thread nD τ).loc main_arg2)) :=
  (W3_of m ρ c main_v14 (by decide)).trans (V2_w m ρ c)
theorem V4_w (c : Dev nD) : V4 m ρ c main_v14 = wArr (m ((c : Thread nD τ).loc main_arg2)) :=
  (W4_of m ρ c main_v14 (by decide)).trans (V3_w m ρ c)

section
variable (c : Dev nD)
abbrev aX : FVec Ideal S4096x1024 .f32 := m ((c : Thread nD τ).loc main_arg0)
abbrev aG : FVec Ideal S1x1024 .f32 := m ((c : Thread nD τ).loc main_arg1)
abbrev aWu : FVec Ideal S1024x4096 .bf16 := m ((c : Thread nD τ).loc main_arg2)
abbrev aWd : FVec Ideal S4096x1024 .bf16 := m ((c : Thread nD τ).loc main_arg3)
abbrev aT : FVec Ideal S4096x1024 .f32 := m ((c : Thread nD τ).loc main_arg4)
end

theorem V3_dy (c : Dev nD) : V3 m ρ c main_v16_0 = dyAll (aX m c) (aG m c) (aWu m c) (aWd m c) (aT m c) := by
  refine (W3_arr m ρ c 4).trans ((final1_4 (V2 m ρ) c).trans ?_)
  rw [V2_u, V2_args m ρ c main_arg3 (by decide), V2_args m ρ c main_arg0 (by decide), V2_args m ρ c main_arg4 (by decide)]; rfl
theorem V3_dyb (c : Dev nD) : V3 m ρ c main_v16_1 = dyAll (aX m c) (aG m c) (aWu m c) (aWd m c) (aT m c) := by
  refine (W3_arr m ρ c 5).trans ((final1_5 (V2 m ρ) c).trans ?_)
  rw [V2_u, V2_args m ρ c main_arg3 (by decide), V2_args m ρ c main_arg0 (by decide), V2_args m ρ c main_arg4 (by decide)]; rfl
theorem V3_loss (c : Dev nD) : V3 m ρ c main_v16_2 = lossAll (aX m c) (aG m c) (aWu m c) (aWd m c) (aT m c) := by
  refine (W3_arr m ρ c 6).trans ((final1_6 (V2 m ρ) c).trans ?_)
  rw [V2_u, V2_args m ρ c main_arg3 (by decide), V2_args m ρ c main_arg0 (by decide), V2_args m ρ c main_arg4 (by decide)]; rfl
theorem V4_dy (c : Dev nD) : V4 m ρ c main_v16_0 = dyAll (aX m c) (aG m c) (aWu m c) (aWd m c) (aT m c) :=
  (W4_of m ρ c main_v16_0 (by decide)).trans (V3_dy m ρ c)
theorem V4_loss (c : Dev nD) : V4 m ρ c main_v16_2 = lossAll (aX m c) (aG m c) (aWu m c) (aWd m c) (aT m c) :=
  (W4_of m ρ c main_v16_2 (by decide)).trans (V3_loss m ρ c)
theorem V4_da (c : Dev nD) : V4 m ρ c main_v17 = daAll (aX m c) (aG m c) (aWu m c) (aWd m c) (aT m c) := by
  refine (W4_arr m ρ c 3).trans ((final2 (V3 m ρ) c).trans ?_)
  rw [V3_dyb, V3_u, V3_args m ρ c main_arg3 (by decide)]; rfl
theorem V5_loss (c : Dev nD) : V5 m ρ c main_v16_2 = lossAll (aX m c) (aG m c) (aWu m c) (aWd m c) (aT m c) :=
  (W5_of m ρ c main_v16_2 (by decide)).trans (V4_loss m ρ c)
theorem V5_dx (c : Dev nD) : V5 m ρ c main_v18_0 = dxAll (aX m c) (aG m c) (aWu m c) (aWd m c) (aT m c) := by
  refine (W5_arr m ρ c 5).trans ((final3_5 (V4 m ρ) c).trans ?_)
  rw [V4_da, V4_w, V4_dy, V4_args m ρ c main_arg0 (by decide), V4_args m ρ c main_arg1 (by decide)]; rfl
theorem V5_dg (c : Dev nD) : V5 m ρ c main_v18_1 = dgAll (aX m c) (aG m c) (aWu m c) (aWd m c) (aT m c) := by
  refine (W5_arr m ρ c 6).trans ((final3_6 (V4 m ρ) c).trans ?_)
  rw [V4_da, V4_w, V4_args m ρ c main_arg0 (by decide)]; rfl

/-- The run, its results as formulas and its arguments as they were. -/
theorem run : θ_run defs (onTc (τ := τ) (main (F := Ideal))) ⟨m, fun _ => 0, ρ⟩ fun r => ∀ c : Dev nD,
    r.2.mem ((c.tc : Thread nD τ).loc main_v16_2) = lossAll (aX m c) (aG m c) (aWu m c) (aWd m c) (aT m c)
    ∧ r.2.mem ((c.tc : Thread nD τ).loc main_v18_0) = dxAll (aX m c) (aG m c) (aWu m c) (aWd m c) (aT m c)
    ∧ r.2.mem ((c.tc : Thread nD τ).loc main_v18_1) = dgAll (aX m c) (aG m c) (aWu m c) (aWd m c) (aT m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c =>
    ⟨(h.1 c _ (mem_uc main_v16_2 (by decide))).trans (V5_loss m ρ c), (h.1 c _ (mem_uc main_v18_0 (by decide))).trans (V5_dx m ρ c),
      (h.1 c _ (mem_uc main_v18_1 (by decide))).trans (V5_dg m ρ c), (h.1 c _ (mem_uc main_arg0 (by decide))).trans (W5_main_arg0 m ρ c),
      (h.1 c _ (mem_uc main_arg1 (by decide))).trans (W5_main_arg1 m ρ c), (h.1 c _ (mem_uc main_arg2 (by decide))).trans (W5_main_arg2 m ρ c),
      (h.1 c _ (mem_uc main_arg3 (by decide))).trans (W5_main_arg3 m ρ c), (h.1 c _ (mem_uc main_arg4 (by decide))).trans (W5_main_arg4 m ρ c)⟩)
    (run_all m ρ)

end Cert.MlpIdeal.Value

end
-- ==== Proof.MlpAlgebra.lean ====
/- Identities of extended reals behind the MLP's gradients: they hold of every extended real, the infinite ones included. -/
module

public import proofs.«01_k».proof.Proof.MlpRow
public import proofs.«01_k».proof.Proof.MemAlgebra

@[expose] public section

noncomputable section

open Idealize.ShloMosaic

namespace Cert.MlpRow

theorem inv_eq : inv = ((1024⁻¹ : ℝ) : EReal) := by
  simp [inv, Ideal.ofBits, Ideal.ieee, -EReal.coe_mul]; norm_num
theorem width_eq : width = ((1024 : ℝ) : EReal) := by
  simp [width, Ideal.ofBits, Ideal.ieee, -EReal.coe_mul]; norm_num
theorem two_eq : two = ((2 : ℝ) : EReal) := by
  simp [two, Ideal.ofBits, Ideal.ieee, -EReal.coe_mul]; norm_num
theorem half_eq : half = ((2⁻¹ : ℝ) : EReal) := by
  simp [half, Ideal.ofBits, Ideal.ieee, -EReal.coe_mul]; norm_num
theorem one_eq : Ideal.ofBits FTy.f32 0x3F800000#32 = ((1 : ℝ) : EReal) := by
  simp [Ideal.ofBits, Ideal.ieee, -EReal.coe_mul]; norm_num
theorem minus_half_eq : Ideal.ofBits FTy.f32 0xBF000000#32 = ((-2⁻¹ : ℝ) : EReal) := by
  simp [Ideal.ofBits, Ideal.ieee, -EReal.coe_mul]; norm_num
theorem eps_pos : ∃ e : ℝ, 0 < e ∧ eps = (e : EReal) := by
  refine ⟨8796093 * (2 : ℝ) ^ (-43 : ℤ), by positivity, ?_⟩
  simp [eps, Ideal.ofBits, Ideal.ieee, -EReal.coe_mul]

/-- Roots of nonnegative and positive reals. -/
theorem sqrt_coe (r : ℝ) (h : 0 ≤ r) : Ideal.sqrt (r : EReal) = ((Real.sqrt r : ℝ) : EReal) := by
  show (if r < 0 then (⊥ : EReal) else ((Real.sqrt r : ℝ) : EReal)) = _
  rw [if_neg (not_lt.2 h)]
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

theorem div_width (x : EReal) : Ideal.div x width = x * inv := by
  rw [width_eq, inv_eq, MemRow.div_real x 1024 (by norm_num)]

/-- A square's root is the number squared, when that is not negative. -/
theorem sqrt_square (a : EReal) (ha : 0 ≤ a) : Ideal.sqrt (a * a) = a := by
  induction a using EReal.rec with
  | bot => simp at ha
  | top => rw [EReal.top_mul_top]; rfl
  | coe r =>
    have hr : 0 ≤ r := by exact_mod_cast ha
    rw [← EReal.coe_mul, sqrt_coe _ (mul_self_nonneg r), Real.sqrt_mul_self hr]

/-- The gradient through the activation: the kernel's has no choice by sign, because its factor is zero there. -/
theorem act_eq (d w : Fin 1024 → EReal) (a : EReal) :
    act d w (up a) = if 0 < a then (∑ k : Fin 1024, d k * w k) * (two * max a 0) else 0 := by
  rw [act, up, sqrt_square _ (le_max_right a 0)]
  split
  · rfl
  · rename_i h
    rw [max_eq_right (not_lt.1 h), mul_zero, mul_zero]

theorem dy_eq (e : EReal) : dy e = Ideal.div (half * Ideal.ofBits FTy.f32 0x3F800000#32) width * (two * e) := by
  rw [dy, div_width, half_eq, one_eq, two_eq, inv_eq, ← mul_assoc, ← EReal.coe_mul, ← EReal.coe_mul, ← EReal.coe_mul, mul_comm e]
  norm_num

/-- The loss: sixteen halves are the half of the whole. -/
theorem loss_eq (L : Fin 4096 → EReal) :
    ∑ t : Fin 16, half * ∑ r : Fin 256, L ⟨t.val * 256 + r.val, by omega⟩ * inv = half * ∑ s : Fin 4096, Ideal.div (L s) width := by
  rw [half_eq, ← MemRow.mul_sum_of_real _ _ _ (by norm_num)]
  simp only [div_width]
  exact congrArg (_ * ·) (Fin.sum_mul_add_congr (S := 16) (n := 256) (fun t r hl => rfl) rfl)

/-- The mean square with its small number is positive. -/
theorem mean_pos (x : Fin 1024 → EReal) : 0 < Ideal.div (∑ k : Fin 1024, x k * x k) width + eps := by
  obtain ⟨e, he, hE⟩ := eps_pos
  have hs : 0 ≤ ∑ k : Fin 1024, x k * x k := Finset.sum_nonneg fun k _ => by
    rcases le_total 0 (x k) with h | h
    · exact mul_nonneg h h
    · have := mul_nonneg (EReal.neg_nonneg.2 h) (EReal.neg_nonneg.2 h)
      rwa [neg_mul_neg] at this
  have hi : (0 : EReal) ≤ inv := by rw [inv_eq]; exact_mod_cast (by norm_num : (0 : ℝ) ≤ 1024⁻¹)
  have he' : (0 : EReal) < eps := by rw [hE]; exact_mod_cast he
  rw [div_width]
  exact lt_of_lt_of_le he' (le_add_of_nonneg_left (mul_nonneg hs hi))

/-- A quantity twice is its factor doubled. -/
theorem twice (w : EReal) (p : ℝ) (hp : 0 ≤ p) : w * (p : EReal) + w * (p : EReal) = w * ((p + p : ℝ) : EReal) := by
  rw [EReal.coe_add, EReal.left_distrib_of_nonneg (by exact_mod_cast hp) (by exact_mod_cast hp)]

/-- The gradient through the normalisation, as the chain rule gives it. -/
def chain (x dn : Fin 1024 → EReal) (v : EReal) : EReal :=
  Ideal.div ((∑ k : Fin 1024, x k * dn k) * (Ideal.ofBits FTy.f32 0xBF000000#32 * Ideal.div (Ideal.rsqrt v) v)) width

/-- The kernel's form of it. -/
theorem norm_grad (x dn : Fin 1024 → EReal) (y v : EReal) (hv : 0 < v) (k : Fin 1024) :
    y + Ideal.rsqrt v * (dn k - x k * Ideal.rsqrt v * Ideal.div (∑ l : Fin 1024, dn l * (x l * Ideal.rsqrt v)) width)
      = y + dn k * Ideal.rsqrt v + x k * chain x dn v + chain x dn v * x k := by
  induction v using EReal.rec with
  | bot => simp at hv
  | top =>
    have hr : Ideal.rsqrt ⊤ = 0 := rfl
    have hd : Ideal.div 0 ⊤ = 0 := by simp [Ideal.div]
    simp only [chain, hr, hd, div_width]
    simp
  | coe v =>
    have hv' : 0 < v := by exact_mod_cast hv
    obtain ⟨r, hr0, hr, hd⟩ : ∃ r : ℝ, 0 ≤ r ∧ Ideal.rsqrt (v : EReal) = (r : EReal) ∧ Ideal.div (r : EReal) (v : EReal) = ((r * r * r : ℝ) : EReal) := by
      refine ⟨(Real.sqrt v)⁻¹, by positivity, rsqrt_coe v hv', ?_⟩
      · rw [MemRow.div_real _ v hv', ← EReal.coe_mul]
        refine congrArg _ ?_
        have : (Real.sqrt v)⁻¹ * (Real.sqrt v)⁻¹ = v⁻¹ := by rw [← mul_inv, Real.mul_self_sqrt hv'.le]
        rw [mul_assoc, this]
    have hsum : ∑ l : Fin 1024, dn l * (x l * (r : EReal)) = (r : EReal) * ∑ l : Fin 1024, x l * dn l := by
      rw [MemRow.mul_sum_of_real _ _ r hr0]
      exact Finset.sum_congr rfl fun l _ => by rw [mul_comm (x l) (dn l), ← mul_assoc, mul_comm]
    have hp : (0 : ℝ) ≤ r * r * r * 2⁻¹ * 1024⁻¹ := by positivity
    rw [chain, hr, hd, hsum, div_width, div_width, minus_half_eq, inv_eq]
    generalize hS : ∑ l : Fin 1024, x l * dn l = S
    have e1 : S * (((-2⁻¹ : ℝ) : EReal) * ((r * r * r : ℝ) : EReal)) * ((1024⁻¹ : ℝ) : EReal) = -S * ((r * r * r * 2⁻¹ * 1024⁻¹ : ℝ) : EReal) := by
      rw [← EReal.coe_mul, mul_assoc, ← EReal.coe_mul, show (-2⁻¹ * (r * r * r) * 1024⁻¹ : ℝ) = -(r * r * r * 2⁻¹ * 1024⁻¹) by ring, EReal.coe_neg,
        mul_neg, neg_mul]
    have e2 : x k * (-S * ((r * r * r * 2⁻¹ * 1024⁻¹ : ℝ) : EReal)) = (-(x k * S)) * ((r * r * r * 2⁻¹ * 1024⁻¹ : ℝ) : EReal) := by
      rw [← mul_assoc, mul_neg]
    have e3 : (r : EReal) * (x k * (r : EReal) * ((r : EReal) * S * ((1024⁻¹ : ℝ) : EReal)))
        = (x k * S) * ((r * r * r * 2⁻¹ * 1024⁻¹ + r * r * r * 2⁻¹ * 1024⁻¹ : ℝ) : EReal) := by
      rw [show (r * r * r * 2⁻¹ * 1024⁻¹ + r * r * r * 2⁻¹ * 1024⁻¹ : ℝ) = r * r * r * 1024⁻¹ by ring]
      simp only [EReal.coe_mul]
      ac_rfl
    rw [e1, mul_comm (-S * _) (x k), e2, add_assoc, twice _ _ hp, add_assoc, sub_eq_add_neg,
      EReal.left_distrib_of_nonneg_of_ne_top (by exact_mod_cast hr0) (EReal.coe_ne_top r), mul_neg, e3, neg_mul, mul_comm (dn k)]

end Cert.MlpRow

end
-- ==== Proof.MlpGradTerm.lean ====
/- The reference loss of the MLP and its gradients, tensor by tensor, read at their indices. -/
module

public import proofs.«01_k».proof.Proof.Gen.MlpGradIdeal.Run
public import proofs.«01_k».proof.Proof.MlpRow
public import Idealize.ShloMosaic.Lib.Pipeline.ValueKit

@[expose] public section

set_option maxRecDepth 16384

noncomputable section

open Idealize.ShloMosaic Idealize.ShloMosaic.TcCoe Idealize.SL.Sem

namespace Cert.MlpGradIdeal.Value

open Cert.MlpGradIdeal Cert.MlpGradIdeal.Gen

section
variable (X : FVec Ideal S4096x1024 .f32) (G : FVec Ideal S1x1024 .f32) (Wu : FVec Ideal S1024x4096 .bf16) (Wd : FVec Ideal S4096x1024 .bf16)
  (T : FVec Ideal S4096x1024 .f32)

/-- The rows' mean squares, with the small number. -/
def spread : FVec Ideal S4096x1 .f32 :=
  addf (Host.divf (broadcastInDim S4096x1 ![0] bcast_S4096_S4096x1_0
      (Host.reduceAdd (mulf X X) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- Their reciprocal roots. -/
def roots : FVec Ideal S4096x1 .f32 := Host.rsqrt (spread X)
/-- The derivative of a reciprocal root. -/
def droots : FVec Ideal S4096x1 .f32 :=
  mulf (broadcastInDim S4096x1 ![] bcast_S_S4096x1 (constant S_ .f32 0xBF000000#32)) (Host.divf (roots X) (spread X))
/-- The normalised rows. -/
def norms : FVec Ideal S4096x1024 .f32 := mulf X (broadcastInDim S4096x1024 ![0, 1] bcast_S4096x1_S4096x1024_0_1 (roots X))
/-- The gain as one row. -/
def gains : FVec Ideal S1x1024 .f32 := broadcastInDim S1x1024 ![1] bcast_S1024_S1x1024_1 (shapeCast _ G shapeCasts_S1x1024_S1024)
/-- The hidden units before their activation. -/
def hidden : FVec Ideal S4096x4096 .f32 :=
  Host.dotGeneral dot_S4096x1024_S1024x4096_S4096x4096_1_0_0_1_n_n none
    (mulf (norms X) (broadcastInDim S4096x1024 ![0, 1] bcast_S1x1024_S4096x1024_0_1 (gains G))) (extf .f32 Wu bitsLt_bf16_f32)
/-- Zeros. -/
def zeros : FVec Ideal S4096x4096 .f32 := broadcastInDim S4096x4096 ![] bcast_S_S4096x4096 (constant S_ .f32 0x00000000#32)
/-- Their positive parts. -/
def positive : FVec Ideal S4096x4096 .f32 := maximumf (hidden X G Wu) zeros
/-- The errors. -/
def errors : FVec Ideal S4096x1024 .f32 :=
  subf (addf X (Host.dotGeneral dot_S4096x4096_S4096x1024_S4096x1024_1_0_0_1_n_n none
    (mulf (positive X G Wu) (positive X G Wu)) (extf .f32 Wd bitsLt_bf16_f32))) T
/-- The loss. -/
def lossTerm : FVec Ideal S1x1 .f32 :=
  shapeCast _ (mulf (constant S_ .f32 0x3F000000#32) (Host.reduceAdd (Host.divf
    (Host.reduceAdd (mulf (errors X G Wu Wd T) (errors X G Wu Wd T)) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_))
    shapeCasts_S_S1x1
/-- The gradient by the output. -/
def dyTerm : FVec Ideal S4096x1024 .f32 :=
  mulf (broadcastInDim S4096x1024 ![0] bcast_S4096_S4096x1024_0 (Host.divf (broadcastInDim S4096 ![] bcast_S_S4096
      (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) (errors X G Wu Wd T))
/-- The gradient by the hidden units before their activation. -/
def daTerm : FVec Ideal S4096x4096 .f32 :=
  select (cmpf .ogt (hidden X G Wu) zeros)
    (mulf (Host.dotGeneral dot_S4096x1024_S4096x1024_S4096x4096_1_1_0_0_n_n none (dyTerm X G Wu Wd T) (extf .f32 Wd bitsLt_bf16_f32))
      (mulf (broadcastInDim S4096x4096 ![] bcast_S_S4096x4096 (constant S_ .f32 0x40000000#32)) (positive X G Wu))) zeros
/-- The gradient by the normalised rows times the gain. -/
def dhTerm : FVec Ideal S4096x1024 .f32 :=
  Host.dotGeneral dot_S4096x4096_S1024x4096_S4096x1024_1_1_0_0_n_n none (daTerm X G Wu Wd T) (extf .f32 Wu bitsLt_bf16_f32)
/-- The gradient by the normalised rows. -/
def dnTerm : FVec Ideal S4096x1024 .f32 := mulf (dhTerm X G Wu Wd T) (broadcastInDim S4096x1024 ![0, 1] bcast_S1x1024_S4096x1024_0_1 (gains G))
/-- The gradient by a mean square, over the width. -/
def dmean : FVec Ideal S4096 .f32 :=
  Host.reduceAdd (Host.divf (mulf (shapeCast _ (Host.reduceAdd (mulf X (dnTerm X G Wu Wd T)) (constant S_ .f32 0x00000000#32)
      reducesTo_S4096x1024_S4096_d1 h_S_) shapeCasts_S4096_S4096x1) (droots X))
    (broadcastInDim S4096x1 ![] bcast_S_S4096x1 (constant S_ .f32 0x44800000#32))) (constant S_ .f32 0x00000000#32) reducesTo_S4096x1_S4096_d1 h_S_
/-- The gradient by the gain. -/
def dgTerm : FVec Ideal S1x1024 .f32 :=
  shapeCast _ (Host.reduceAdd (shapeCast _ (Host.reduceAdd (mulf (norms X) (dhTerm X G Wu Wd T)) (constant S_ .f32 0x00000000#32)
    reducesTo_S4096x1024_S1024_d0 h_S_) shapeCasts_S1024_S1x1024) (constant S_ .f32 0x00000000#32) reducesTo_S1x1024_S1024_d0 h_S_) shapeCasts_S1024_S1x1024
/-- The gradient by the residual stream. -/
def dxTerm : FVec Ideal S4096x1024 .f32 :=
  addf (addf (addf (dyTerm X G Wu Wd T) (mulf (dnTerm X G Wu Wd T) (broadcastInDim S4096x1024 ![0, 1] bcast_S4096x1_S4096x1024_0_1 (roots X))))
      (mulf X (broadcastInDim S4096x1024 ![0] bcast_S4096_S4096x1024_0 (dmean X G Wu Wd T))))
    (mulf (broadcastInDim S4096x1024 ![0] bcast_S4096_S4096x1024_0 (dmean X G Wu Wd T)) X)
end

variable (m : (ℓ : Loc nD τ sig) → Buf (Elt Ideal) ℓ)

theorem res0_eq (c : Dev nD) : res_out0 (F := Ideal) m c = lossTerm (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl
theorem res1_eq (c : Dev nD) : res_out1 (F := Ideal) m c = dxTerm (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl
theorem res2_eq (c : Dev nD) : res_out2 (F := Ideal) m c = dgTerm (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

/-! The tensors at their indices. -/

section
variable (X : FVec Ideal S4096x1024 .f32) (G : FVec Ideal S1x1024 .f32) (Wu : FVec Ideal S1024x4096 .bf16) (Wd : FVec Ideal S4096x1024 .bf16)
  (T : FVec Ideal S4096x1024 .f32)

theorem spread_at (s : Fin 4096) : spread X (ix2 s 0)
    = Ideal.div (∑ k : Fin 1024, X (ix2 s k) * X (ix2 s k)) MlpRow.width + MlpRow.eps := by
  pointwise [spread]

theorem roots_at (s : Fin 4096) : roots X (ix2 s 0) = Ideal.rsqrt (spread X (ix2 s 0)) := by
  pointwise [roots]

theorem droots_at (s : Fin 4096) : droots X (ix2 s 0)
    = Ideal.ofBits FTy.f32 0xBF000000#32 * Ideal.div (roots X (ix2 s 0)) (spread X (ix2 s 0)) := by
  pointwise [droots]

theorem norms_at (s : Fin 4096) (k : Fin 1024) : norms X (ix2 s k) = X (ix2 s k) * roots X (ix2 s 0) := by
  pointwise [norms]

theorem gains_at (k : Fin 1024) : gains G (ix2 0 k) = G (ix2 0 k) := by
  pointwise [gains]

theorem hidden_at (s n : Fin 4096) : hidden X G Wu (ix2 s n)
    = ∑ k : Fin 1024, norms X (ix2 s k) * G (ix2 0 k) * Wu (ix2 k n) := by
  pointwise [hidden]
  simp only [gains_at]

theorem positive_at (s n : Fin 4096) : positive X G Wu (ix2 s n) = max (hidden X G Wu (ix2 s n)) 0 := by
  pointwise [positive, zeros]

theorem errors_at (s : Fin 4096) (k : Fin 1024) : errors X G Wu Wd T (ix2 s k)
    = X (ix2 s k) + ∑ n : Fin 4096, positive X G Wu (ix2 s n) * positive X G Wu (ix2 s n) * Wd (ix2 n k) - T (ix2 s k) := by
  pointwise [errors]

theorem loss_at (y : S1x1.Idx) : lossTerm X G Wu Wd T y = MlpRow.half * ∑ s : Fin 4096,
    Ideal.div (∑ k : Fin 1024, errors X G Wu Wd T (ix2 s k) * errors X G Wu Wd T (ix2 s k)) MlpRow.width := by
  pointwise [lossTerm]

theorem dy_at (s : Fin 4096) (k : Fin 1024) : dyTerm X G Wu Wd T (ix2 s k)
    = Ideal.div (MlpRow.half * Ideal.ofBits FTy.f32 0x3F800000#32) MlpRow.width * (MlpRow.two * errors X G Wu Wd T (ix2 s k)) := by
  pointwise [dyTerm]

theorem da_at (s n : Fin 4096) : daTerm X G Wu Wd T (ix2 s n)
    = if 0 < hidden X G Wu (ix2 s n) then
        (∑ k : Fin 1024, dyTerm X G Wu Wd T (ix2 s k) * Wd (ix2 n k)) * (MlpRow.two * positive X G Wu (ix2 s n)) else 0 := by
  pointwise [daTerm, zeros]

theorem dh_at (s : Fin 4096) (k : Fin 1024) : dhTerm X G Wu Wd T (ix2 s k)
    = ∑ n : Fin 4096, daTerm X G Wu Wd T (ix2 s n) * Wu (ix2 k n) := by
  pointwise [dhTerm]

theorem dn_at (s : Fin 4096) (k : Fin 1024) : dnTerm X G Wu Wd T (ix2 s k) = dhTerm X G Wu Wd T (ix2 s k) * G (ix2 0 k) := by
  pointwise [dnTerm]
  simp only [gains_at]

theorem dmean_at (s : Fin 4096) : dmean X G Wu Wd T (ix1 s)
    = Ideal.div ((∑ k : Fin 1024, X (ix2 s k) * dnTerm X G Wu Wd T (ix2 s k)) * droots X (ix2 s 0)) MlpRow.width := by
  pointwise [dmean]
  exact Fin.sum_univ_one _

theorem dg_at (k : Fin 1024) : dgTerm X G Wu Wd T (ix2 0 k) = ∑ s : Fin 4096, norms X (ix2 s k) * dhTerm X G Wu Wd T (ix2 s k) := by
  pointwise [dgTerm]
  exact Fin.sum_univ_one _

theorem dx_at (s : Fin 4096) (k : Fin 1024) : dxTerm X G Wu Wd T (ix2 s k)
    = dyTerm X G Wu Wd T (ix2 s k) + dnTerm X G Wu Wd T (ix2 s k) * roots X (ix2 s 0) + X (ix2 s k) * dmean X G Wu Wd T (ix1 s)
      + dmean X G Wu Wd T (ix1 s) * X (ix2 s k) := by
  pointwise [dxTerm]

end

end Cert.MlpGradIdeal.Value

end
-- ==== Proof.MlpClaim.lean ====
/- The MLP's loss and gradients by the kernel are the reference's, and the claim that compares the two programs. -/
module

public import proofs.«01_k».proof.Defs
public import proofs.«01_k».proof.Proof.MlpRun
public import proofs.«01_k».proof.Proof.MlpChunks
public import proofs.«01_k».proof.Proof.MlpAlgebra
public import proofs.«01_k».proof.Proof.MlpGradTerm
public import Idealize.ShloMosaic.Adequacy
public import Idealize.ShloMosaic.Init

@[expose] public section

set_option maxRecDepth 16384

noncomputable section

open Idealize.ShloMosaic Idealize.ShloMosaic.TcCoe Idealize.SL.Sem

namespace Cert.MlpClaim

open Cert.MlpIdeal Cert.MlpGradIdeal.Value Cert.MlpIdeal.Value

section
variable (X : FVec Ideal S4096x1024 .f32) (G : FVec Ideal S1x1024 .f32) (Wu : FVec Ideal S1024x4096 .bf16) (Wd : FVec Ideal S4096x1024 .bf16)
  (T : FVec Ideal S4096x1024 .f32)

theorem pair {n k : ℕ} (y : (⟨2, ![n, k]⟩ : Shape).Idx) : ∃ (a : Fin n) (b : Fin k), y = ix2 a b :=
  ⟨y 0, y 1, by funext a; fin_cases a <;> rfl⟩

/-- The first weights by blocks, read back as columns. -/
theorem wArr_at (j : Fin 8) (k : Fin 1024) (l : Fin 512) (n : Fin 4096) (h : j.val * 512 + l.val = n.val) :
    wArr Wu (ix3 j k l) = Wu (ix2 k n) := by
  show Wu (ix2 k ⟨j.val * 512 + l.val, _⟩) = _
  exact congrArg (fun i => Wu (ix2 k i)) (Fin.ext h)

theorem normed_eq (s : Fin 4096) (k : Fin 1024) : norms X (ix2 s k) = MlpRow.normed (row X s) k := by
  rw [norms_at, roots_at, spread_at]; rfl

theorem hidden_eq (s n : Fin 4096) : MlpRow.pre (row (hmArr X G) s) (upCol (wArr Wu) n) = hidden X G Wu (ix2 s n) := by
  rw [hidden_at]
  refine Finset.sum_congr rfl fun k _ => ?_
  rw [normed_eq]
  exact congrArg₂ (fun p q : EReal => p * q) rfl (wArr_at Wu _ k _ n (by simp only []; omega))

theorem u_eq (s n : Fin 4096) : (uAll X G Wu (ix2 s n) : EReal) = MlpRow.up (hidden X G Wu (ix2 s n)) :=
  congrArg MlpRow.up (hidden_eq X G Wu s n)

theorem err_eq (s : Fin 4096) (k : Fin 1024) : errAt X T (uAll X G Wu) Wd s k = errors X G Wu Wd T (ix2 s k) := by
  rw [errors_at]
  refine congrArg (fun z : EReal => X (ix2 s k) + z - T (ix2 s k)) (Finset.sum_congr rfl fun n _ => ?_)
  rw [positive_at]
  exact congrArg (fun z : EReal => z * Wd (ix2 n k)) (u_eq X G Wu s n)

theorem dy_all (s : Fin 4096) (k : Fin 1024) : dyAll X G Wu Wd T (ix2 s k) = dyTerm X G Wu Wd T (ix2 s k) := by
  rw [dy_at, ← MlpRow.dy_eq, ← err_eq]; rfl

theorem loss_eq : lossTerm X G Wu Wd T = lossAll X G Wu Wd T := by
  funext y
  rw [loss_at, ← MlpRow.loss_eq (fun s => ∑ k : Fin 1024, errors X G Wu Wd T (ix2 s k) * errors X G Wu Wd T (ix2 s k))]
  simp only [← err_eq]
  rfl

theorem da_all (s n : Fin 4096) : daAll X G Wu Wd T (ix2 s n) = daTerm X G Wu Wd T (ix2 s n) := by
  rw [da_at, positive_at]
  simp only [← dy_all]
  refine Eq.trans ?_ (MlpRow.act_eq (row (dyAll X G Wu Wd T) s) (row Wd n) (hidden X G Wu (ix2 s n)))
  exact congrArg (MlpRow.act (row (dyAll X G Wu Wd T) s) (row Wd n)) (u_eq X G Wu s n)

theorem dh_all (s : Fin 4096) (k : Fin 1024) :
    MlpRow.eightSum (daRow (daAll X G Wu Wd T) s) (blocks (wArr Wu)) k = dhTerm X G Wu Wd T (ix2 s k) := by
  rw [MlpRow.eightSum_eq, dh_at]
  refine Finset.sum_congr rfl fun n _ => ?_
  exact congrArg₂ (fun p q : EReal => p * q) (da_all X G Wu Wd T s n) (wArr_at Wu _ k _ n (by simp only []; omega))

theorem dg_eq : dgTerm X G Wu Wd T = dgAll X G Wu Wd T := by
  funext y
  obtain ⟨z, k, rfl⟩ := pair y
  obtain rfl : z = 0 := Subsingleton.elim _ _
  rw [dg_at]
  show _ = ∑ s : Fin 4096, MlpRow.eightSum (daRow (daAll X G Wu Wd T) s) (blocks (wArr Wu)) k * MlpRow.normed (row X s) k
  refine Finset.sum_congr rfl fun s _ => ?_
  rw [normed_eq, ← dh_all, mul_comm]

theorem dx_eq : dxTerm X G Wu Wd T = dxAll X G Wu Wd T := by
  funext y
  obtain ⟨s, k, rfl⟩ := pair y
  rw [dx_at, dmean_at, droots_at, roots_at, spread_at]
  simp only [dn_at, ← dh_all, ← dy_all]
  exact (MlpRow.norm_grad (row X s) (fun k => MlpRow.eightSum (daRow (daAll X G Wu Wd T) s) (blocks (wArr Wu)) k * gain G k)
    (dyAll X G Wu Wd T (ix2 s k)) _ (MlpRow.mean_pos (row X s)) k).symm

end

/-- The kernel and the reference end with equal losses and equal gradients. -/
theorem algebraic : Cert.algebraic_MlpIdeal_MlpGradIdeal (hMlpIdeal := Cert.MlpIdeal.Gen.facts)
    (hMlpGradIdeal := Cert.MlpGradIdeal.Gen.facts) := by
  pair_intro
  · run_from Cert.MlpIdeal.Value.run m g
  · run_from Cert.MlpGradIdeal.Value.run m' g'
    · refine (res0_eq m' c).trans ?_
      rw [(hagree c).1, (hagree c).2.1, (hagree c).2.2.1, (hagree c).2.2.2.1, (hagree c).2.2.2.2]
      exact loss_eq _ _ _ _ _
    · refine (res1_eq m' c).trans ?_
      rw [(hagree c).1, (hagree c).2.1, (hagree c).2.2.1, (hagree c).2.2.2.1, (hagree c).2.2.2.2]
      exact dx_eq _ _ _ _ _
    · refine (res2_eq m' c).trans ?_
      rw [(hagree c).1, (hagree c).2.1, (hagree c).2.2.1, (hagree c).2.2.2.1, (hagree c).2.2.2.2]
      exact dg_eq _ _ _ _ _

end Cert.MlpClaim

end
-- ==== Proof.Halves.lean ====
/- A sum over the sequence as the sum of its halves. -/
module

public import Idealize.ShloMosaic.Lib.Pipeline.ValueKit

@[expose] public section

noncomputable section

open Idealize.ShloMosaic

namespace Cert.Halves

theorem sum_halves (f : Fin 4096 → EReal) :
    (∑ k : Fin 2048, f ⟨k.val, by omega⟩) + ∑ k : Fin 2048, f ⟨2048 + k.val, by omega⟩ = ∑ k : Fin 4096, f k :=
  (Fin.sum_univ_add (a := 2048) (b := 2048) f).symm

/-- … with each half's terms given. -/
theorem sum_halves_of (f : Fin 4096 → EReal) (a b : Fin 2048 → EReal) (ha : ∀ k, a k = f ⟨k.val, by omega⟩)
    (hb : ∀ k, b k = f ⟨2048 + k.val, by omega⟩) : (∑ k, a k) + ∑ k, b k = ∑ k : Fin 4096, f k := by
  rw [← sum_halves]; simp only [ha, hb]

end Cert.Halves

end
-- ==== Proof.DownFinal.lean ====
/- The gradient of the MLP's second weights, as `dw_down` leaves it. -/
module

public import proofs.«01_k».proof.Proof.Gen.DownIdeal.Value
public import proofs.«01_k».proof.Proof.Halves
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DownIdeal.Value

open Cert.DownIdeal Cert.DownIdeal.Gen
open Idealize.ShloMosaic.Pipeline (Dat)

variable (m : (ℓ : Loc nD τ sig) → Buf (Elt Ideal) ℓ)

/-- The product of a point's two blocks over its half of the sequence. -/
def part (c : Dev nD) (t : Fin cfg0.N) (a b : Fin 1024) : EReal :=
  ∑ k : Fin 2048, (show FVec Ideal S2048x1024 .bf16 from iblk m c 0 t) (ix2 k a) * (show FVec Ideal S2048x1024 .bf16 from iblk m c 1 t) (ix2 k b)

/-- The first half's point leaves its product in the accumulator. -/
theorem acc_A (c : Dev nD) (t : Fin cfg0.N) (h0 : t.val % 2 = 0) (y : S1024x1024.Idx) :
    (outsAt0 m c t.val t.isLt).2 y = part m c t (y 0) (y 1) := by
  rw [outsAt0_A m c t h0 (by omega) (by omega)]; frame_out
  open_payloads
  pointwise
  simp only [part]

/-- The second half's point adds its product to what the accumulator holds, and writes the sum. -/
theorem out_B (c : Dev nD) (t : Fin cfg0.N) (h0 : ¬ t.val % 2 = 0) (y : S1024x1024.Idx) :
    (outsAt0 m c t.val t.isLt).1 y
      = (outsAt0 m c (t.val - 1) (Nat.lt_of_le_of_lt (Nat.sub_le _ _) t.isLt)).2 y + part m c t (y 0) (y 1) := by
  rw [outsAt0_B m c t h0 (by omega) (by omega)]; frame_out
  open_payloads
  pointwise
  simp only [part]
  blk_point []
  exact congrFun (read_unread_whole cc0_scratch0 _ _) y

/-- The blocks' places. -/
theorem idx : ∀ t : Fin cfg0.N, win0_0.index t = ![t.val % 2, t.val / 2] ∧ win0_1.index t = ![t.val % 2, 0] ∧
    win0_2.index t = ![t.val / 2, 0] ∧ t.val < 8 :=
  (by decide +kernel : ∀ t : Fin grid0.N, _)

theorem row_lt (t : Fin cfg0.N) (r : Fin 1024) : t.val / 2 * 1024 + r.val < 4096 := by have := (idx t).2.2.2; omega

/-- The gradient: the product over the whole sequence. -/
def gradArr (U : FVec Ideal S4096x4096 .bf16) (D : FVec Ideal S4096x1024 .bf16) : FVec Ideal S4096x1024 .bf16 :=
  fun y => ∑ k : Fin 4096, U (ix2 k (y 0)) * D (ix2 k (y 1))

theorem part_eq (c : Dev nD) (t : Fin cfg0.N) (a b : Fin 1024) :
    part m c t a b = ∑ k : Fin 2048, (show FVec Ideal S4096x4096 .bf16 from m ((c : Thread nD τ).loc main_arg0))
        (ix2 ⟨t.val % 2 * 2048 + k.val, by omega⟩ ⟨t.val / 2 * 1024 + a.val, by have := (idx t).2.2.2; omega⟩)
      * (show FVec Ideal S4096x1024 .bf16 from m ((c : Thread nD τ).loc main_arg1)) (ix2 ⟨t.val % 2 * 2048 + k.val, by omega⟩ b) := by
  unfold part
  refine Finset.sum_congr rfl fun k _ => ?_
  refine congrArg₂ (fun p q : EReal => p * q) ?_ ?_
  · blk_ext! [iblk, V, idx t]
  · blk_ext! [iblk, V, idx t]

/-- The products of two points in a row, the first of which is even, are the product over the whole sequence. -/
theorem halves (c : Dev nD) (t' t : Fin cfg0.N) (a b : Fin 1024) (h1 : t.val % 2 = 1) (h : t'.val + 1 = t.val) :
    part m c t' a b + part m c t a b = ∑ k : Fin 4096, (show FVec Ideal S4096x4096 .bf16 from m ((c : Thread nD τ).loc main_arg0))
        (ix2 k ⟨t.val / 2 * 1024 + a.val, by have := (idx t).2.2.2; omega⟩)
      * (show FVec Ideal S4096x1024 .bf16 from m ((c : Thread nD τ).loc main_arg1)) (ix2 k b) := by
  have e0 : t'.val % 2 = 0 := by omega
  have e1 : t'.val / 2 = t.val / 2 := by omega
  rw [part_eq, part_eq]
  simp only [e0, e1, h1]
  refine Halves.sum_halves_of _ _ _ (fun k => ?_) (fun k => ?_)
  · simp only [Nat.zero_mul, Nat.zero_add]
  · simp only [Nat.one_mul]

/-- The gradient after the run. -/
theorem final (c : Dev nD) : (dats m 0 c).arrAt 2 cfg0.N
    = gradArr (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  blk_simp
  rw [after0_2]
  have h8 := (idx t).2.2.2
  have h0 : 0 < t.val := by omega
  obtain ⟨t', ht'⟩ : ∃ t' : Fin cfg0.N, t'.val = t.val - 1 := ⟨⟨t.val - 1, Nat.lt_of_le_of_lt (Nat.sub_le _ _) t.isLt⟩, rfl⟩
  have hr : ((((cfg0.win 2).blk t).view.emb y) 0 : Fin 4096) = ⟨t.val / 2 * 1024 + (y 0).val, row_lt t (y 0)⟩ := by
    apply Fin.ext; blk_simp [idx t]
  have hc : ((((cfg0.win 2).blk t).view.emb y) 1 : Fin 1024) = y 1 := by
    apply Fin.ext; blk_simp [idx t]
  have hA := acc_A m c t' (by omega) y
  simp only [ht'] at hA
  refine (out_B m c t (by omega) y).trans ((congrArg₂ (fun p q : EReal => p + q) hA rfl).trans ?_)
  exact (halves m c t' t (y 0) (y 1) (by omega) (by omega)).trans
    (congrArg₂ (fun (a : Fin 4096) (b : Fin 1024) => ∑ k : Fin 4096, (show FVec Ideal S4096x4096 .bf16 from m ((c : Thread nD τ).loc main_arg0)) (ix2 k a)
      * (show FVec Ideal S4096x1024 .bf16 from m ((c : Thread nD τ).loc main_arg1)) (ix2 k b)) hr.symm hc.symm)

end Cert.DownIdeal.Value

end
-- ==== Proof.DownClaim.lean ====
/- The gradient by the second weights of the MLP is the reference's, and the claim that compares the two programs. -/
module

public import proofs.«01_k».proof.Defs
public import proofs.«01_k».proof.Proof.DownFinal
public import proofs.«01_k».proof.Proof.Gen.DownGradIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.DownClaim

open Cert.DownGradIdeal Cert.DownGradIdeal.Gen

/-- The reference's gradient. -/
def term (U : FVec Ideal S4096x4096 .bf16) (D : FVec Ideal S4096x1024 .bf16) : FVec Ideal S4096x1024 .bf16 :=
  truncf .bf16 (transpose S4096x1024 [1, 0] (Host.dotGeneral dot_S4096x1024_S4096x4096_S1024x4096_0_0_1_1_n_n none
    (extf .f32 D bitsLt_bf16_f32) (extf .f32 U bitsLt_bf16_f32)) transposes_S1024x4096_S4096x1024_1_0) bitsLt_bf16_f32

theorem term_at (U : FVec Ideal S4096x4096 .bf16) (D : FVec Ideal S4096x1024 .bf16) (a : Fin 4096) (b : Fin 1024) :
    term U D (ix2 a b) = ∑ k : Fin 4096, D (ix2 k b) * U (ix2 k a) := by
  pointwise [term]

theorem term_eq (U : FVec Ideal S4096x4096 .bf16) (D : FVec Ideal S4096x1024 .bf16) : term U D = Cert.DownIdeal.Value.gradArr U D := by
  funext y
  obtain ⟨a, b, rfl⟩ : ∃ (a : Fin 4096) (b : Fin 1024), y = ix2 a b := ⟨y 0, y 1, by funext i; fin_cases i <;> rfl⟩
  refine (term_at U D a b).trans ?_
  unfold Cert.DownIdeal.Value.gradArr
  exact Finset.sum_congr rfl fun k _ => mul_comm _ _

/-- The kernel and the reference end with equal gradients. -/
theorem algebraic : Cert.algebraic_DownIdeal_DownGradIdeal (hDownIdeal := Cert.DownIdeal.Gen.facts)
    (hDownGradIdeal := Cert.DownGradIdeal.Gen.facts) := by
  pair_intro
  · run_from Cert.DownIdeal.Gen.run_main m g
  · run_from Cert.DownGradIdeal.Value.run m' g'
    refine Eq.trans ?_ (Cert.DownIdeal.Value.final m c).symm
    exact term_eq _ _

end Cert.DownClaim

end
-- ==== Proof.UpFinal.lean ====
/- The gradient of the MLP's first weights, as `dw_up` leaves it. -/
module

public import proofs.«01_k».proof.Proof.Gen.UpIdeal.Value
public import proofs.«01_k».proof.Proof.Halves
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.UpIdeal.Value

open Cert.UpIdeal Cert.UpIdeal.Gen
open Idealize.ShloMosaic.Pipeline (Dat)

variable (m : (ℓ : Loc nD τ sig) → Buf (Elt Ideal) ℓ)

theorem pair_lt (a : Fin 2) (b : Fin 512) : a.val * 512 + b.val < 1024 := by omega
theorem eight_lt (a : Fin 8) (b : Fin 512) : a.val * 512 + b.val < 4096 := by omega

/-- The product of a point's two blocks over its half of the sequence. -/
def part (c : Dev nD) (t : Fin cfg0.N) (a b : Fin 1024) : EReal :=
  ∑ k : Fin 2048, (show FVec Ideal S2048x1024 .bf16 from iblk m c 0 t) (ix2 k a) * (show FVec Ideal S2048x1024 .bf16 from iblk m c 1 t) (ix2 k b)

/-- The first half's point leaves its product in the accumulator. -/
theorem acc_A (c : Dev nD) (t : Fin cfg0.N) (h0 : t.val % 2 = 0) (y : S1024x1024.Idx) :
    (outsAt0 m c t.val t.isLt).2 y = part m c t (y 0) (y 1) := by
  rw [outsAt0_A m c t h0 (by omega) (by omega)]; frame_out
  open_payloads
  pointwise
  simp only [part]

/-- The second half's point adds its product to what the accumulator holds, and writes the sum as two blocks of 512 columns. -/
theorem out_B (c : Dev nD) (t : Fin cfg0.N) (h0 : ¬ t.val % 2 = 0) (y : S2x1024x512.Idx) :
    (show EReal from (outsAt0 m c t.val t.isLt).1 y)
      = (outsAt0 m c (t.val - 1) (Nat.lt_of_le_of_lt (Nat.sub_le _ _) t.isLt)).2 (ix2 (y 1) ⟨(y 0).val * 512 + (y 2).val, pair_lt (y 0) (y 2)⟩)
        + part m c t (y 1) ⟨(y 0).val * 512 + (y 2).val, pair_lt (y 0) (y 2)⟩ := by
  rw [outsAt0_B m c t h0 (by omega) (by omega)]; frame_out
  rw [read_unread_whole cc0_scratch0]
  generalize (outsAt0 m c (t.val - 1) (Nat.lt_of_le_of_lt (Nat.sub_le _ _) t.isLt)).2 = prev
  canon_tiles x h
  case piece0 =>
    open_payloads
    pointwise
    simp only [part]
    blk_point []
  case piece1 =>
    open_payloads
    pointwise
    simp only [part]
    blk_point []

/-- The blocks' places. -/
theorem idx : ∀ t : Fin cfg0.N, win0_0.index t = ![t.val % 2, 0] ∧ win0_1.index t = ![t.val % 2, t.val / 2] ∧
    win0_2.index t = ![t.val / 2, 0, 0] ∧ t.val < 8 :=
  (by decide +kernel : ∀ t : Fin grid0.N, _)

theorem row_lt (t : Fin cfg0.N) (r : Fin 1024) : t.val / 2 * 1024 + r.val < 4096 := by have := (idx t).2.2.2; omega

/-- The gradient, its columns in eight blocks: the product over the whole sequence. -/
def gradArr (H : FVec Ideal S4096x1024 .bf16) (D : FVec Ideal S4096x4096 .bf16) : FVec Ideal S8x1024x512 .bf16 :=
  fun y => ∑ k : Fin 4096, H (ix2 k (y 1)) * D (ix2 k ⟨(y 0).val * 512 + (y 2).val, eight_lt (y 0) (y 2)⟩)

theorem part_eq (c : Dev nD) (t : Fin cfg0.N) (a b : Fin 1024) :
    part m c t a b = ∑ k : Fin 2048, (show FVec Ideal S4096x1024 .bf16 from m ((c : Thread nD τ).loc main_arg0)) (ix2 ⟨t.val % 2 * 2048 + k.val, by omega⟩ a)
      * (show FVec Ideal S4096x4096 .bf16 from m ((c : Thread nD τ).loc main_arg1)) (ix2 ⟨t.val % 2 * 2048 + k.val, by omega⟩ ⟨t.val / 2 * 1024 + b.val, row_lt t b⟩) := by
  unfold part
  refine Finset.sum_congr rfl fun k _ => ?_
  refine congrArg₂ (fun p q : EReal => p * q) ?_ ?_
  · blk_ext! [iblk, V, idx t]
  · blk_ext! [iblk, V, idx t]

/-- The products of two points in a row, the first of which is even, are the product over the whole sequence. -/
theorem halves (c : Dev nD) (t' t : Fin cfg0.N) (a b : Fin 1024) (h1 : t.val % 2 = 1) (h : t'.val + 1 = t.val) :
    part m c t' a b + part m c t a b = ∑ k : Fin 4096, (show FVec Ideal S4096x1024 .bf16 from m ((c : Thread nD τ).loc main_arg0)) (ix2 k a)
      * (show FVec Ideal S4096x4096 .bf16 from m ((c : Thread nD τ).loc main_arg1)) (ix2 k ⟨t.val / 2 * 1024 + b.val, row_lt t b⟩) := by
  have e0 : t'.val % 2 = 0 := by omega
  have e1 : t'.val / 2 = t.val / 2 := by omega
  rw [part_eq, part_eq]
  simp only [e0, e1, h1]
  refine Halves.sum_halves_of _ _ _ (fun k => ?_) (fun k => ?_)
  · simp only [Nat.zero_mul, Nat.zero_add]
  · simp only [Nat.one_mul]

theorem two_lt (t : Fin cfg0.N) (a : Fin 2) : t.val / 2 * 2 + a.val < 8 := by have := (idx t).2.2.2; omega

theorem at_block (H : FVec Ideal S4096x1024 .bf16) (D : FVec Ideal S4096x4096 .bf16) (t : Fin cfg0.N) (a : Fin 2) (b : Fin 1024) (e : Fin 512) :
    ∑ k : Fin 4096, H (ix2 k b) * D (ix2 k ⟨t.val / 2 * 1024 + (⟨a.val * 512 + e.val, pair_lt a e⟩ : Fin 1024).val, row_lt t _⟩)
      = gradArr H D (ix3 ⟨t.val / 2 * 2 + a.val, two_lt t a⟩ b e) := by
  have q : t.val / 2 * 1024 + (a.val * 512 + e.val) = (t.val / 2 * 2 + a.val) * 512 + e.val := by omega
  unfold gradArr
  simp only [q]
  rfl

/-- The gradient after the run. -/
theorem final (c : Dev nD) : (dats m 0 c).arrAt 2 cfg0.N
    = gradArr (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  blk_simp
  rw [after0_2]
  have h8 := (idx t).2.2.2
  obtain ⟨t', ht'⟩ : ∃ t' : Fin cfg0.N, t'.val = t.val - 1 := ⟨⟨t.val - 1, Nat.lt_of_le_of_lt (Nat.sub_le _ _) t.isLt⟩, rfl⟩
  have ha : ((((cfg0.win 2).blk t).view.emb y) 0 : Fin 8) = ⟨t.val / 2 * 2 + (y 0).val, two_lt t (y 0)⟩ := by
    apply Fin.ext; blk_simp [idx t]
  have hr : ((((cfg0.win 2).blk t).view.emb y) 1 : Fin 1024) = y 1 := by
    apply Fin.ext; blk_simp [idx t]
  have hc : ((((cfg0.win 2).blk t).view.emb y) 2 : Fin 512) = y 2 := by
    apply Fin.ext; blk_simp [idx t]
  have hA := acc_A m c t' (by omega) (ix2 (y 1) ⟨(y 0).val * 512 + (y 2).val, pair_lt (y 0) (y 2)⟩)
  simp only [ht'] at hA
  refine (out_B m c t (by omega) y).trans ((congrArg₂ (fun p q : EReal => p + q) hA rfl).trans ?_)
  refine (halves m c t' t (y 1) ⟨(y 0).val * 512 + (y 2).val, pair_lt (y 0) (y 2)⟩ (by omega) (by omega)).trans ?_
  refine (at_block _ _ t (y 0) (y 1) (y 2)).trans ?_
  have hk : ∀ (a a' : Fin 8) (b b' : Fin 1024) (e e' : Fin 512), a = a' → b = b' → e = e' →
      gradArr (m ((c : Thread nD τ).loc main_arg0)) (m ((c : Thread nD τ).loc main_arg1)) (ix3 a b e)
        = gradArr (m ((c : Thread nD τ).loc main_arg0)) (m ((c : Thread nD τ).loc main_arg1)) (ix3 a' b' e') := by
    rintro a _ b _ e _ rfl rfl rfl; rfl
  exact hk _ _ _ _ _ _ ha.symm hr.symm hc.symm

end Cert.UpIdeal.Value

end
-- ==== Proof.UpClaim.lean ====
/- The gradient by the first weights of the MLP is the reference's, and the claim that compares the two programs. -/
module

public import proofs.«01_k».proof.Defs
public import proofs.«01_k».proof.Proof.UpFinal
public import proofs.«01_k».proof.Proof.Gen.UpGradIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.UpClaim

open Cert.UpGradIdeal Cert.UpGradIdeal.Gen

/-- The reference's gradient, its columns in eight blocks. -/
def term (H : FVec Ideal S4096x1024 .bf16) (D : FVec Ideal S4096x4096 .bf16) : FVec Ideal S8x1024x512 .bf16 :=
  transpose S8x1024x512 [1, 0, 2] (shapeCast _ (truncf .bf16 (transpose S1024x4096 [1, 0]
    (Host.dotGeneral dot_S4096x4096_S4096x1024_S4096x1024_0_0_1_1_n_n none (extf .f32 D bitsLt_bf16_f32) (extf .f32 H bitsLt_bf16_f32))
    transposes_S4096x1024_S1024x4096_1_0) bitsLt_bf16_f32) shapeCasts_S1024x4096_S1024x8x512) transposes_S1024x8x512_S8x1024x512_1_0_2

theorem term_at (H : FVec Ideal S4096x1024 .bf16) (D : FVec Ideal S4096x4096 .bf16) (j : Fin 8) (a : Fin 1024) (l : Fin 512) :
    term H D (ix3 j a l) = ∑ k : Fin 4096, D (ix2 k ⟨j.val * 512 + l.val, Cert.UpIdeal.Value.eight_lt j l⟩) * H (ix2 k a) := by
  pointwise [term]

theorem term_eq (H : FVec Ideal S4096x1024 .bf16) (D : FVec Ideal S4096x4096 .bf16) : term H D = Cert.UpIdeal.Value.gradArr H D := by
  funext y
  obtain ⟨j, a, l, rfl⟩ : ∃ (j : Fin 8) (a : Fin 1024) (l : Fin 512), y = ix3 j a l :=
    ⟨y 0, y 1, y 2, by funext i; fin_cases i <;> rfl⟩
  refine (term_at H D j a l).trans ?_
  unfold Cert.UpIdeal.Value.gradArr
  exact Finset.sum_congr rfl fun k _ => mul_comm _ _

/-- The kernel and the reference end with equal gradients. -/
theorem algebraic : Cert.algebraic_UpIdeal_UpGradIdeal (hUpIdeal := Cert.UpIdeal.Gen.facts)
    (hUpGradIdeal := Cert.UpGradIdeal.Gen.facts) := by
  pair_intro
  · run_from Cert.UpIdeal.Gen.run_main m g
  · run_from Cert.UpGradIdeal.Value.run m' g'
    refine Eq.trans ?_ (Cert.UpIdeal.Value.final m c).symm
    exact term_eq _ _

end Cert.UpClaim

end
-- ==== Proof.ProjFinal.lean ====
/- What the three calls before the branches leave: the normalised input, its projection, and the forget gate's columns of it. -/
module

public import proofs.«01_k».proof.Proof.Gen.ProjIdeal.Frame
public import proofs.«01_k».proof.Proof.MlpRow
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ProjIdeal.Value

open Cert.ProjIdeal Cert.ProjIdeal.Gen
open Idealize.ShloMosaic.Pipeline (Dat)

variable (V : (c : Dev nD) → (b : Ref sig .tc) → Buf (Elt Ideal) ((c : Thread nD τ).loc b))

/-- Row `s` of an array. -/
def row {n k : ℕ} (X : (⟨2, ![n, k]⟩ : Shape).Idx → EReal) (s : Fin n) (l : Fin k) : EReal := X (ix2 s l)

/-- The normalised input, times the gain. -/
def normArr (X : FVec Ideal S4096x1024 .f32) (G : FVec Ideal S1x1024 .f32) : FVec Ideal S4096x1024 .bf16 :=
  fun y => MlpRow.normed (row X (y 0)) (y 1) * G (ix2 0 (y 1))
/-- A product with the rows of `H`. -/
def prodArr {n : ℕ} (H : FVec Ideal S4096x1024 .bf16) (W : (⟨2, ![1024, n]⟩ : Shape).Idx → EReal) (y : (⟨2, ![4096, n]⟩ : Shape).Idx) : EReal :=
  ∑ k : Fin 1024, H (ix2 (y 0) k) * W (ix2 k (y 1))

/-! The normalisation. -/

theorem out0_at (x0 : FVec Ideal S512x1024 .f32) (x1 : FVec Ideal S1x1024 .f32) (y : S512x1024.Idx) :
    (show EReal from out0_2 (F := Ideal) x0 x1 y) = MlpRow.normed (row x0 (y 0)) (y 1) * x1 (ix2 0 (y 1)) := by
  unfold out0_2
  canon_tiles x h
  open_payloads
  pointwise
  simp only [MlpRow.normed, MlpRow.rstd, row]
  blk_point []

theorem idx0 : ∀ t : Fin cfg0.N, win0_0.index t = ![t.val, 0] ∧ win0_1.index t = ![0, 0] ∧ win0_2.index t = ![t.val, 0] ∧ t.val < 8 :=
  (by decide +kernel : ∀ t : Fin grid0.N, _)
theorem row0_lt (t : Fin cfg0.N) (r : Fin 512) : t.val * 512 + r.val < 4096 := by have := (idx0 t).2.2.2; omega

theorem norm_block (c : Dev nD) (t : Fin cfg0.N) (a : Fin 512) (b : Fin 1024) :
    MlpRow.normed (row (show FVec Ideal S512x1024 .f32 from iblk0 V c 0 t) a) b * (show FVec Ideal S1x1024 .f32 from iblk0 V c 1 t) (ix2 0 b)
      = normArr (V c main_arg0) (V c main_arg1) (ix2 ⟨t.val * 512 + a.val, row0_lt t a⟩ b) := by
  have e1 : row (show FVec Ideal S512x1024 .f32 from iblk0 V c 0 t) a = row (V c main_arg0) (⟨t.val * 512 + a.val, row0_lt t a⟩ : Fin 4096) := by
    funext k; unfold row; blk_ext! [iblk0, idx0 t]
  have e2 : (show FVec Ideal S1x1024 .f32 from iblk0 V c 1 t) (ix2 0 b) = (show FVec Ideal S1x1024 .f32 from V c main_arg1) (ix2 0 b) := by
    blk_ext! [iblk0, idx0 t]
  rw [e1, e2]; rfl

/-- The normalised input after its call. -/
theorem final0 (c : Dev nD) : (dat0 V c).arrAt 2 cfg0.N = normArr (V c main_arg0) (V c main_arg1) := by
  refine (dat0 V c).arrAt_eq_of_covers 2 _ (by decide +kernel) fun t hf y => ?_
  blk_simp
  rw [after0_2]
  refine (out0_at _ _ y).trans ?_
  have hr : ((((cfg0.win 2).blk t).view.emb y) 0 : Fin 4096) = ⟨t.val * 512 + (y 0).val, row0_lt t (y 0)⟩ := by
    apply Fin.ext; blk_simp [idx0 t]
  have hc : ((((cfg0.win 2).blk t).view.emb y) 1 : Fin 1024) = y 1 := by
    apply Fin.ext; blk_simp [idx0 t]
  exact (norm_block V c t (y 0) (y 1)).trans (congrArg₂ (fun (a : Fin 4096) (b : Fin 1024) =>
    normArr (V c main_arg0) (V c main_arg1) (ix2 a b)) hr.symm hc.symm)

/-! The projection. -/

theorem out1_at (x0 : FVec Ideal S512x1024 .bf16) (x1 : FVec Ideal S1024x1536 .bf16) (y : S512x1536.Idx) :
    (show EReal from out1_2 (F := Ideal) x0 x1 y) = ∑ k : Fin 1024, x0 (ix2 (y 0) k) * x1 (ix2 k (y 1)) := by
  unfold out1_2
  canon_tiles x h
  open_payloads
  pointwise
  blk_point []

theorem idx1 : ∀ t : Fin cfg1.N, win1_0.index t = ![t.val % 8, 0] ∧ win1_1.index t = ![0, t.val / 8] ∧ win1_2.index t = ![t.val % 8, t.val / 8] ∧ t.val < 32 :=
  (by decide +kernel : ∀ t : Fin grid1.N, _)
theorem row1_lt (t : Fin cfg1.N) (r : Fin 512) : t.val % 8 * 512 + r.val < 4096 := by have := (idx1 t).2.2.2; omega
theorem col1_lt (t : Fin cfg1.N) (r : Fin 1536) : t.val / 8 * 1536 + r.val < 6144 := by have := (idx1 t).2.2.2; omega

theorem prod1_block (c : Dev nD) (t : Fin cfg1.N) (a : Fin 512) (b : Fin 1536) :
    (∑ k : Fin 1024, (show FVec Ideal S512x1024 .bf16 from iblk1 V c 0 t) (ix2 a k) * (show FVec Ideal S1024x1536 .bf16 from iblk1 V c 1 t) (ix2 k b))
      = prodArr (n := 6144) (V c main_v0) (V c main_arg2) (ix2 ⟨t.val % 8 * 512 + a.val, row1_lt t a⟩ ⟨t.val / 8 * 1536 + b.val, col1_lt t b⟩) := by
  unfold prodArr
  refine Finset.sum_congr rfl fun k _ => ?_
  refine congrArg₂ (fun p q : EReal => p * q) ?_ ?_
  · blk_ext! [iblk1, idx1 t]
  · blk_ext! [iblk1, idx1 t]

theorem final1 (c : Dev nD) : (dat1 V c).arrAt 2 cfg1.N = prodArr (n := 6144) (V c main_v0) (V c main_arg2) := by
  refine (dat1 V c).arrAt_eq_of_covers 2 _ (by decide +kernel) fun t hf y => ?_
  blk_simp
  rw [after1_2]
  refine (out1_at _ _ y).trans ?_
  have hr : ((((cfg1.win 2).blk t).view.emb y) 0 : Fin 4096) = ⟨t.val % 8 * 512 + (y 0).val, row1_lt t (y 0)⟩ := by
    apply Fin.ext; blk_simp [idx1 t]
  have hc : ((((cfg1.win 2).blk t).view.emb y) 1 : Fin 6144) = ⟨t.val / 8 * 1536 + (y 1).val, col1_lt t (y 1)⟩ := by
    apply Fin.ext; blk_simp [idx1 t]
  exact (prod1_block V c t (y 0) (y 1)).trans (congrArg₂ (fun (a : Fin 4096) (b : Fin 6144) =>
    prodArr (n := 6144) (V c main_v0) (V c main_arg2) (ix2 a b)) hr.symm hc.symm)

/-! The forget gate's columns. -/

theorem out2_at (x0 : FVec Ideal S512x1024 .bf16) (x1 : FVec Ideal S1024x128 .bf16) (y : S512x128.Idx) :
    (show EReal from out2_2 (F := Ideal) x0 x1 y) = ∑ k : Fin 1024, x0 (ix2 (y 0) k) * x1 (ix2 k (y 1)) := by
  unfold out2_2
  canon_tiles x h
  open_payloads
  pointwise
  blk_point []

theorem idx2 : ∀ t : Fin cfg2.N, win2_0.index t = ![t.val, 0] ∧ win2_1.index t = ![0, 0] ∧ win2_2.index t = ![t.val, 0] ∧ t.val < 8 :=
  (by decide +kernel : ∀ t : Fin grid2.N, _)
theorem row2_lt (t : Fin cfg2.N) (r : Fin 512) : t.val * 512 + r.val < 4096 := by have := (idx2 t).2.2.2; omega

theorem prod2_block (c : Dev nD) (t : Fin cfg2.N) (a : Fin 512) (b : Fin 128) :
    (∑ k : Fin 1024, (show FVec Ideal S512x1024 .bf16 from iblk2 V c 0 t) (ix2 a k) * (show FVec Ideal S1024x128 .bf16 from iblk2 V c 1 t) (ix2 k b))
      = prodArr (n := 128) (V c main_v0) (V c main_v2) (ix2 ⟨t.val * 512 + a.val, row2_lt t a⟩ b) := by
  unfold prodArr
  refine Finset.sum_congr rfl fun k _ => ?_
  refine congrArg₂ (fun p q : EReal => p * q) ?_ ?_
  · blk_ext! [iblk2, idx2 t]
  · blk_ext! [iblk2, idx2 t]

theorem final2 (c : Dev nD) : (dat2 V c).arrAt 2 cfg2.N = prodArr (n := 128) (V c main_v0) (V c main_v2) := by
  refine (dat2 V c).arrAt_eq_of_covers 2 _ (by decide +kernel) fun t hf y => ?_
  blk_simp
  rw [after2_2]
  refine (out2_at _ _ y).trans ?_
  have hr : ((((cfg2.win 2).blk t).view.emb y) 0 : Fin 4096) = ⟨t.val * 512 + (y 0).val, row2_lt t (y 0)⟩ := by
    apply Fin.ext; blk_simp [idx2 t]
  have hc : ((((cfg2.win 2).blk t).view.emb y) 1 : Fin 128) = y 1 := by
    apply Fin.ext; blk_simp [idx2 t]
  exact (prod2_block V c t (y 0) (y 1)).trans (congrArg₂ (fun (a : Fin 4096) (b : Fin 128) =>
    prodArr (n := 128) (V c main_v0) (V c main_v2) (ix2 a b)) hr.symm hc.symm)

end Cert.ProjIdeal.Value

end
-- ==== Proof.ProjRun.lean ====
/- The run of the three calls before the branches: what their two results hold at its end, as formulas over the arguments. -/
module

public import proofs.«01_k».proof.Proof.ProjFinal

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.ProjIdeal.Value

open Cert.ProjIdeal Cert.ProjIdeal.Gen
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- Every array of the program is at the end what the last call leaves, and every semaphore is at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W4 m ρ c b) ∧ r.2.sem = fun _ => 0) := by
  refine Pipeline.θ_run_regions_kit_sems (pcfgs (F := Ideal)) adm (pdats m ρ) () cellOf_inj emb₁ defs₀ 𝒱₀ L lv m ρ main (segs m ρ)
    (fun c Q => (by rw [main_run m ρ c]))
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?start)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := ?init)
    (QY := fun c s => ∀ b ∈ Pipeline.ucRefs τ sig, s.mem (((c : Thread nD τ)).1, b) = W4 m ρ c b)
    (hfin := ?fin)
    (hQ := fun s h hz => ⟨h, funext fun g => hz g (.inr (no_unscoped g.2))⟩)
  case start =>
    iintro Hown; imodintro
    isplitl [Hown]
    · have whole : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iapply whole
      iexact Hown
    · have none : (BI.emp : sProp 𝕄) ⊢ bigSep Finset.univ (fun _ : Dev nD => (BI.emp : sProp 𝕄)) := by rw [BI.bigSep_emp_const]
      iapply none
      iempintro
  case init =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howed, -, Hrng, -⟩, -⟩
    imodintro
    isplitl [Hbufs]
    · iexact Hbufs
    isplitl [Hrng]
    · iexists _; iexact Hrng
    · iexists ∅; iexact Howed
  case fin =>
    intro c s
    iintro ⟨⟨Hbufs, -⟩, Hstate⟩
    unfold StableHlo.held
    imodintro
    iapply (pointsTo_read_all (Pipeline.ucRefs τ sig) (fun b => (((c : Thread nD τ)).1, b)) (W4 m ρ c) s)
    isplitl [Hbufs] <;> iassumption

/-- The forget gate's columns of the weights. -/
def gateCols (W : FVec Ideal S1024x6144 .bf16) : FVec Ideal S1024x128 .bf16 := fun y => W (ix2 (y 0) ⟨5888 + (y 1).val, by
  have h1 : (y 1).val < 128 := (y 1).isLt
  omega⟩)

section
variable (c : Dev nD)
abbrev aX : FVec Ideal S4096x1024 .f32 := m ((c : Thread nD τ).loc main_arg0)
abbrev aG : FVec Ideal S1x1024 .f32 := m ((c : Thread nD τ).loc main_arg1)
abbrev aW : FVec Ideal S1024x6144 .bf16 := m ((c : Thread nD τ).loc main_arg2)
end

/-! What each array holds when a call begins. -/

theorem V1_h (c : Dev nD) : V1 m ρ c main_v0 = normArr (aX m c) (aG m c) :=
  (W1_arr m ρ c 2).trans (final0 (V0 m ρ) c)
theorem V2_h (c : Dev nD) : V2 m ρ c main_v0 = normArr (aX m c) (aG m c) :=
  (W2_of m ρ c main_v0 (by decide)).trans (V1_h m ρ c)
theorem V3_h (c : Dev nD) : V3 m ρ c main_v0 = normArr (aX m c) (aG m c) :=
  (W3_of m ρ c main_v0 (by decide)).trans (V2_h m ρ c)

theorem V3_cols (c : Dev nD) : V3 m ρ c main_v2 = gateCols (aW m c) := by
  have e : V3 m ρ c main_v2 = (extractStridedSlice S1024x128 ![0, 5888] (V2 m ρ c main_arg2) slices_S1024x6144_S1024x128_0_5888 : FVec Ideal S1024x128 .bf16) := by
    change StableHlo.after hostOps2 (W2 m ρ c) (Proc.devRef .tc main_v2) = _
    after_results_simp <;> rfl
  rw [e, show V2 m ρ c main_arg2 = aW m c from W2_args m ρ c main_arg2 (by decide)]
  funext y
  obtain ⟨k, j, rfl⟩ : ∃ (k : Fin 1024) (j : Fin 128), y = ix2 k j := ⟨y 0, y 1, by funext a; fin_cases a <;> rfl⟩
  generalize aW m c = W
  pointwise
  simp only [gateCols]
  blk_point []

theorem V4_proj (c : Dev nD) : V4 m ρ c main_v1 = prodArr (n := 6144) (normArr (aX m c) (aG m c)) (aW m c) := by
  refine (W4_of m ρ c main_v1 (by decide)).trans ((W3_of m ρ c main_v1 (by decide)).trans ((W2_arr m ρ c 2).trans ((final1 (V1 m ρ) c).trans ?_)))
  rw [V1_h, show V1 m ρ c main_arg2 = aW m c from W1_args m ρ c main_arg2 (by decide)]
theorem V4_gate (c : Dev nD) : V4 m ρ c main_v3 = prodArr (n := 128) (normArr (aX m c) (aG m c)) (gateCols (aW m c)) := by
  refine (W4_arr m ρ c 2).trans ((final2 (V3 m ρ) c).trans ?_)
  rw [V3_h, V3_cols]

/-- The run, its results as formulas and its arguments as they were. -/
theorem run : θ_run defs (onTc (τ := τ) (main (F := Ideal))) ⟨m, fun _ => 0, ρ⟩ fun r => ∀ c : Dev nD,
    r.2.mem ((c.tc : Thread nD τ).loc main_v1) = prodArr (n := 6144) (normArr (aX m c) (aG m c)) (aW m c)
    ∧ r.2.mem ((c.tc : Thread nD τ).loc main_v3) = prodArr (n := 128) (normArr (aX m c) (aG m c)) (gateCols (aW m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c =>
    ⟨(h.1 c _ (mem_uc main_v1 (by decide))).trans (V4_proj m ρ c), (h.1 c _ (mem_uc main_v3 (by decide))).trans (V4_gate m ρ c),
      (h.1 c _ (mem_uc main_arg0 (by decide))).trans (W4_main_arg0 m ρ c), (h.1 c _ (mem_uc main_arg1 (by decide))).trans (W4_main_arg1 m ρ c),
      (h.1 c _ (mem_uc main_arg2 (by decide))).trans (W4_main_arg2 m ρ c)⟩)
    (run_all m ρ)

end Cert.ProjIdeal.Value

end
-- ==== Proof.ProjClaim.lean ====
/- The projection of the normalised input by the kernel is the reference's, and the claim that compares the two programs. -/
module

public import proofs.«01_k».proof.Defs
public import proofs.«01_k».proof.Proof.ProjRun
public import proofs.«01_k».proof.Proof.Gen.ProjPlainIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.ProjClaim

open Cert.ProjPlainIdeal Cert.ProjPlainIdeal.Gen
open Cert.ProjIdeal.Value (row normArr prodArr gateCols)

section
variable (X : FVec Ideal S4096x1024 .f32) (G : FVec Ideal S1x1024 .f32) (W : FVec Ideal S1024x6144 .bf16)

/-- The rows' mean squares, with the small number. -/
def spread : FVec Ideal S4096x1 .f32 :=
  addf (Host.divf (broadcastInDim S4096x1 ![0] bcast_S4096_S4096x1_0
      (Host.reduceAdd (mulf X X) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- The normalised rows, times the gain. -/
def scaled : FVec Ideal S4096x1024 .f32 :=
  mulf (mulf X (broadcastInDim S4096x1024 ![0, 1] bcast_S4096x1_S4096x1024_0_1 (Host.rsqrt (spread X))))
    (broadcastInDim S4096x1024 ![0, 1] bcast_S1x1024_S4096x1024_0_1 (broadcastInDim S1x1024 ![1] bcast_S1024_S1x1024_1 (shapeCast _ G shapeCasts_S1x1024_S1024)))
/-- Their projection. -/
def projected : FVec Ideal S4096x6144 .f32 :=
  Host.dotGeneral dot_S4096x1024_S1024x6144_S4096x6144_1_0_0_1_n_n none (scaled X G) (extf .f32 W bitsLt_bf16_f32)

theorem spread_at (s : Fin 4096) : spread X (ix2 s 0)
    = Ideal.div (∑ k : Fin 1024, X (ix2 s k) * X (ix2 s k)) MlpRow.width + MlpRow.eps := by
  pointwise [spread]

theorem scaled_at (s : Fin 4096) (k : Fin 1024) : scaled X G (ix2 s k) = normArr X G (ix2 s k) := by
  have e : scaled X G (ix2 s k) = X (ix2 s k) * Ideal.rsqrt (spread X (ix2 s 0)) * G (ix2 0 k) := by
    pointwise [scaled]
  rw [e, spread_at]; rfl

theorem projected_at (s : Fin 4096) (n : Fin 6144) : projected X G W (ix2 s n) = ∑ k : Fin 1024, normArr X G (ix2 s k) * W (ix2 k n) := by
  have e : projected X G W (ix2 s n) = ∑ k : Fin 1024, scaled X G (ix2 s k) * W (ix2 k n) := by
    pointwise [projected]
  rw [e]; simp only [scaled_at]

theorem proj_eq : truncf .bf16 (projected X G W) bitsLt_bf16_f32 = (prodArr (n := 6144) (normArr X G) W : FVec Ideal S4096x6144 .bf16) := by
  funext y
  obtain ⟨a, b, rfl⟩ : ∃ (a : Fin 4096) (b : Fin 6144), y = ix2 a b := ⟨y 0, y 1, by funext i; fin_cases i <;> rfl⟩
  exact projected_at X G W a b

theorem gate_eq : extractStridedSlice S4096x128 ![0, 5888] (projected X G W) slices_S4096x6144_S4096x128_0_5888
    = (prodArr (n := 128) (normArr X G) (gateCols W) : FVec Ideal S4096x128 .f32) := by
  funext y
  obtain ⟨a, b, rfl⟩ : ∃ (a : Fin 4096) (b : Fin 128), y = ix2 a b := ⟨y 0, y 1, by funext i; fin_cases i <;> rfl⟩
  have e : extractStridedSlice S4096x128 ![0, 5888] (projected X G W) slices_S4096x6144_S4096x128_0_5888 (ix2 a b)
      = projected X G W (ix2 a ⟨5888 + b.val, by omega⟩) := by
    generalize projected X G W = p
    pointwise
  exact e.trans (projected_at X G W a _)

end

/-- The kernel and the reference end with equal projections. -/
theorem algebraic : Cert.algebraic_ProjIdeal_ProjPlainIdeal (hProjIdeal := Cert.ProjIdeal.Gen.facts)
    (hProjPlainIdeal := Cert.ProjPlainIdeal.Gen.facts) := by
  pair_intro
  · run_from Cert.ProjIdeal.Value.run m g
  · run_from Cert.ProjPlainIdeal.Value.run m' g'
    · exact proj_eq _ _ _
    · exact gate_eq _ _ _

end Cert.ProjClaim

end
-- ==== Proof.InXFinal.lean ====
/- What `in_bwd_x` leaves in its two arrays, as formulas over the arrays it reads. -/
module

public import proofs.«01_k».proof.Proof.Gen.InXIdeal.Value
public import proofs.«01_k».proof.Proof.MlpRow
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InXIdeal.Value

open Cert.InXIdeal Cert.InXIdeal.Gen
open Idealize.ShloMosaic.Pipeline (Dat)

variable (m : (ℓ : Loc nD τ sig) → Buf (Elt Ideal) ℓ)

/-- Row `s` of an array. -/
def row {n k : ℕ} (X : (⟨2, ![n, k]⟩ : Shape).Idx → EReal) (s : Fin n) (l : Fin k) : EReal := X (ix2 s l)
/-- The gain. -/
def gain (G : S1x1024.Idx → EReal) (k : Fin 1024) : EReal := G (ix2 0 k)
/-- A row of the projection's gradient against each row of the weights. -/
def dh (D : Fin 6144 → EReal) (W : Fin 1024 → Fin 6144 → EReal) (k : Fin 1024) : EReal := ∑ n : Fin 6144, D n * W k n

/-- The gradient by the residual stream. -/
def dxArr (X : FVec Ideal S4096x1024 .f32) (G : FVec Ideal S1x1024 .f32) (W : FVec Ideal S1024x6144 .bf16) (D : FVec Ideal S4096x6144 .bf16)
    (Y : FVec Ideal S4096x1024 .f32) : S4096x1024.Idx → EReal :=
  fun y => MlpRow.dx (row X (y 0)) (gain G) (dh (row D (y 0)) (row W)) (row Y (y 0)) (y 1)
/-- The gradient by the gain. -/
def dgArr (X : FVec Ideal S4096x1024 .f32) (W : FVec Ideal S1024x6144 .bf16) (D : FVec Ideal S4096x6144 .bf16) : S1x1024.Idx → EReal :=
  fun y => ∑ s : Fin 4096, dh (row D s) (row W) (y 1) * MlpRow.normed (row X s) (y 1)

def dBlk (c : Dev nD) (t : Fin cfg0.N) (r : Fin 256) (k : Fin 6144) : EReal := (show FVec Ideal S256x6144 .bf16 from iblk m c 0 t) (ix2 r k)
def wBlk (c : Dev nD) (t : Fin cfg0.N) (j : Fin 1024) (k : Fin 6144) : EReal := (show FVec Ideal S1024x6144 .bf16 from iblk m c 1 t) (ix2 j k)
def xBlk (c : Dev nD) (t : Fin cfg0.N) (r : Fin 256) (k : Fin 1024) : EReal := (show FVec Ideal S256x1024 .f32 from iblk m c 2 t) (ix2 r k)
def gBlk (c : Dev nD) (t : Fin cfg0.N) (k : Fin 1024) : EReal := (show FVec Ideal S1x1024 .f32 from iblk m c 3 t) (ix2 0 k)
def yBlk (c : Dev nD) (t : Fin cfg0.N) (r : Fin 256) (k : Fin 1024) : EReal := (show FVec Ideal S256x1024 .f32 from iblk m c 4 t) (ix2 r k)

/-- The blocks' places. -/
theorem idx : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![t.val, 0] ∧ win0_6.index t = ![0, 0] ∧ t.val < 16 :=
  (by decide +kernel : ∀ t : Fin grid0.N, _)

theorem row_lt (t : Fin cfg0.N) (r : Fin 256) : t.val * 256 + r.val < 4096 := by have := (idx t).2.2.2.2.2.2.2; omega

theorem dBlk_eq (c : Dev nD) (t : Fin cfg0.N) (r : Fin 256) :
    dBlk m c t r = row (m ((c : Thread nD τ).loc main_arg3)) (⟨t.val * 256 + r.val, row_lt t r⟩ : Fin 4096) := by
  funext k; unfold dBlk row; blk_ext! [iblk, V, idx t]
theorem wBlk_eq (c : Dev nD) (t : Fin cfg0.N) : wBlk m c t = row (n := 1024) (m ((c : Thread nD τ).loc main_arg2)) := by
  funext j k; unfold wBlk row; blk_ext! [iblk, V, idx t]
theorem xBlk_eq (c : Dev nD) (t : Fin cfg0.N) (r : Fin 256) :
    xBlk m c t r = row (m ((c : Thread nD τ).loc main_arg0)) (⟨t.val * 256 + r.val, row_lt t r⟩ : Fin 4096) := by
  funext k; unfold xBlk row; blk_ext! [iblk, V, idx t]
theorem yBlk_eq (c : Dev nD) (t : Fin cfg0.N) (r : Fin 256) :
    yBlk m c t r = row (m ((c : Thread nD τ).loc main_arg4)) (⟨t.val * 256 + r.val, row_lt t r⟩ : Fin 4096) := by
  funext k; unfold yBlk row; blk_ext! [iblk, V, idx t]
theorem gBlk_eq (c : Dev nD) (t : Fin cfg0.N) : gBlk m c t = gain (m ((c : Thread nD τ).loc main_arg1)) := by
  funext k; unfold gBlk gain; blk_ext! [iblk, V, idx t]

theorem out5 (c : Dev nD) (t : Fin cfg0.N) (y : S256x1024.Idx) :
    (show EReal from (outsAt0 m c t.val t.isLt).1 y)
      = MlpRow.dx (xBlk m c t (y 0)) (gBlk m c t) (dh (dBlk m c t (y 0)) (wBlk m c t)) (yBlk m c t (y 0)) (y 1) := by
  by_cases h0 : t.val % 16 = 0
  · rw [outsAt0_A m c t h0]; frame_out
    open_payloads
    pointwise
    simp only [MlpRow.dx, MlpRow.rstd, MlpRow.normed, dh, xBlk, yBlk, gBlk, wBlk, dBlk]
    blk_point []
  · rw [outsAt0_B m c t h0]; frame_out
    open_payloads
    pointwise
    simp only [MlpRow.dx, MlpRow.rstd, MlpRow.normed, dh, xBlk, yBlk, gBlk, wBlk, dBlk]
    blk_point []

/-- A block's part of the gain's gradient. -/
def dgBlk (c : Dev nD) (t : Fin cfg0.N) (k : Fin 1024) : EReal :=
  ∑ r : Fin 256, dh (dBlk m c t r) (wBlk m c t) k * MlpRow.normed (xBlk m c t r) k

theorem out6A (c : Dev nD) (t : Fin cfg0.N) (h0 : t.val % 16 = 0) (y : S1x1024.Idx) :
    (show EReal from (outsAt0 m c t.val t.isLt).2 y) = 0 + dgBlk m c t (y 1) := by
  rw [outsAt0_A m c t h0]; frame_out
  open_payloads
  pointwise
  simp only [dgBlk, MlpRow.rstd, MlpRow.normed, dh, xBlk, wBlk, dBlk]

theorem out6B (c : Dev nD) (t : Fin cfg0.N) (h0 : ¬ t.val % 16 = 0) (y : S1x1024.Idx) :
    (show EReal from (outsAt0 m c t.val t.isLt).2 y)
      = (outsAt0 m c (t.val - 1) (Nat.lt_of_le_of_lt (Nat.sub_le _ _) t.isLt)).2 y + dgBlk m c t (y 1) := by
  rw [outsAt0_B m c t h0]; frame_out
  generalize (outsAt0 m c (t.val - 1) (Nat.lt_of_le_of_lt (Nat.sub_le _ _) t.isLt)).2 = prev
  open_payloads
  pointwise
  simp only [dgBlk, MlpRow.rstd, MlpRow.normed, dh, xBlk, wBlk, dBlk]

theorem dx_block (c : Dev nD) (t : Fin cfg0.N) (r : Fin 256) (k : Fin 1024) :
    MlpRow.dx (xBlk m c t r) (gBlk m c t) (dh (dBlk m c t r) (wBlk m c t)) (yBlk m c t r) k
      = dxArr (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨t.val * 256 + r.val, row_lt t r⟩ k) := by
  rw [xBlk_eq, gBlk_eq, dBlk_eq, wBlk_eq, yBlk_eq]
  rfl

/-- The gradient by the residual stream after the run. -/
theorem final5 (c : Dev nD) : (dats m 0 c).arrAt 5 cfg0.N
    = dxArr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  refine (out5 m c t y).trans ?_
  have hr : ((((cfg0.win 5).blk t).view.emb y) 0 : Fin 4096) = ⟨t.val * 256 + (y 0).val, row_lt t (y 0)⟩ := by
    apply Fin.ext; blk_simp [idx t]
  have hc : ((((cfg0.win 5).blk t).view.emb y) 1 : Fin 1024) = y 1 := by
    apply Fin.ext; blk_simp [idx t]
  exact (dx_block m c t (y 0) (y 1)).trans (congrArg₂ (fun (s : Fin 4096) (k : Fin 1024) =>
    dxArr (m ((c : Thread nD τ).loc main_arg0)) (m ((c : Thread nD τ).loc main_arg1)) (m ((c : Thread nD τ).loc main_arg2))
      (m ((c : Thread nD τ).loc main_arg3)) (m ((c : Thread nD τ).loc main_arg4)) (ix2 s k)) hr.symm hc.symm)

/-- The gradient by the gain after the run. -/
theorem final6 (c : Dev nD) : (dats m 0 c).arrAt 6 cfg0.N
    = dgArr (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp [idx t0_15]
  rw [after0_6]
  refine (Pipeline.eq_sum_fin_of_reset_step_apply_last (fun n h => (outsAt0 m c n h).2) 16 (fun _ => (0 : EReal))
    (fun t y => dgBlk m c t (y 1)) (out6A m c) (out6B m c) (le_of_eq N_0) t0_15 rfl j).trans ?_
  rw [zero_add]
  unfold dgArr dgBlk
  refine Fin.sum_mul_add_congr (S := cfg0.N) (n := 256) (fun t r hl => ?_) (by rw [show cfg0.N = 16 from N_0])
  rw [xBlk_eq, dBlk_eq, wBlk_eq]

end Cert.InXIdeal.Value

end
-- ==== Proof.InXGradTerm.lean ====
/- The reference gradients of a block's input, tensor by tensor, read at their indices. -/
module

public import proofs.«01_k».proof.Proof.Gen.InXGradIdeal.Run
public import proofs.«01_k».proof.Proof.MlpRow
public import Idealize.ShloMosaic.Lib.Pipeline.ValueKit

@[expose] public section

set_option maxRecDepth 16384

noncomputable section

open Idealize.ShloMosaic Idealize.ShloMosaic.TcCoe Idealize.SL.Sem

namespace Cert.InXGradIdeal.Value

open Cert.InXGradIdeal Cert.InXGradIdeal.Gen

section
variable (X : FVec Ideal S4096x1024 .f32) (G : FVec Ideal S1x1024 .f32) (W : FVec Ideal S1024x6144 .bf16) (D : FVec Ideal S4096x6144 .bf16)
  (Y : FVec Ideal S4096x1024 .f32)

/-- The rows' mean squares, with the small number. -/
def spread : FVec Ideal S4096x1 .f32 :=
  addf (Host.divf (broadcastInDim S4096x1 ![0] bcast_S4096_S4096x1_0
      (Host.reduceAdd (mulf X X) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- Their reciprocal roots. -/
def roots : FVec Ideal S4096x1 .f32 := Host.rsqrt (spread X)
/-- The derivative of a reciprocal root. -/
def droots : FVec Ideal S4096x1 .f32 :=
  mulf (broadcastInDim S4096x1 ![] bcast_S_S4096x1 (constant S_ .f32 0xBF000000#32)) (Host.divf (roots X) (spread X))
/-- The normalised rows. -/
def norms : FVec Ideal S4096x1024 .f32 := mulf X (broadcastInDim S4096x1024 ![0, 1] bcast_S4096x1_S4096x1024_0_1 (roots X))
/-- The gain as one row. -/
def gains : FVec Ideal S1x1024 .f32 := broadcastInDim S1x1024 ![1] bcast_S1024_S1x1024_1 (shapeCast _ G shapeCasts_S1x1024_S1024)
/-- The gradient by the normalised rows times the gain. -/
def dhTerm : FVec Ideal S4096x1024 .f32 :=
  Host.dotGeneral dot_S4096x6144_S1024x6144_S4096x1024_1_1_0_0_n_n none (extf .f32 D bitsLt_bf16_f32) (extf .f32 W bitsLt_bf16_f32)
/-- The gradient by the normalised rows. -/
def dnTerm : FVec Ideal S4096x1024 .f32 := mulf (dhTerm W D) (broadcastInDim S4096x1024 ![0, 1] bcast_S1x1024_S4096x1024_0_1 (gains G))
/-- The gradient by a mean square, over the width. -/
def dmean : FVec Ideal S4096 .f32 :=
  Host.reduceAdd (Host.divf (mulf (shapeCast _ (Host.reduceAdd (mulf X (dnTerm G W D)) (constant S_ .f32 0x00000000#32)
      reducesTo_S4096x1024_S4096_d1 h_S_) shapeCasts_S4096_S4096x1) (droots X))
    (broadcastInDim S4096x1 ![] bcast_S_S4096x1 (constant S_ .f32 0x44800000#32))) (constant S_ .f32 0x00000000#32) reducesTo_S4096x1_S4096_d1 h_S_
/-- The gradient by the gain. -/
def dgTerm : FVec Ideal S1x1024 .f32 :=
  shapeCast _ (Host.reduceAdd (shapeCast _ (Host.reduceAdd (mulf (norms X) (dhTerm W D)) (constant S_ .f32 0x00000000#32)
    reducesTo_S4096x1024_S1024_d0 h_S_) shapeCasts_S1024_S1x1024) (constant S_ .f32 0x00000000#32) reducesTo_S1x1024_S1024_d0 h_S_) shapeCasts_S1024_S1x1024
/-- The gradient by the residual stream. -/
def dxTerm : FVec Ideal S4096x1024 .f32 :=
  addf (addf (addf Y (mulf (dnTerm G W D) (broadcastInDim S4096x1024 ![0, 1] bcast_S4096x1_S4096x1024_0_1 (roots X))))
      (mulf X (broadcastInDim S4096x1024 ![0] bcast_S4096_S4096x1024_0 (dmean X G W D))))
    (mulf (broadcastInDim S4096x1024 ![0] bcast_S4096_S4096x1024_0 (dmean X G W D)) X)
end

variable (m : (ℓ : Loc nD τ sig) → Buf (Elt Ideal) ℓ)

theorem res0_eq (c : Dev nD) : res_out0 (F := Ideal) m c = dxTerm (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

/-! The tensors at their indices. -/

section
variable (X : FVec Ideal S4096x1024 .f32) (G : FVec Ideal S1x1024 .f32) (W : FVec Ideal S1024x6144 .bf16) (D : FVec Ideal S4096x6144 .bf16)
  (Y : FVec Ideal S4096x1024 .f32)

theorem spread_at (s : Fin 4096) : spread X (ix2 s 0)
    = Ideal.div (∑ k : Fin 1024, X (ix2 s k) * X (ix2 s k)) MlpRow.width + MlpRow.eps := by
  pointwise [spread]

theorem roots_at (s : Fin 4096) : roots X (ix2 s 0) = Ideal.rsqrt (spread X (ix2 s 0)) := by
  pointwise [roots]

theorem droots_at (s : Fin 4096) : droots X (ix2 s 0)
    = Ideal.ofBits FTy.f32 0xBF000000#32 * Ideal.div (roots X (ix2 s 0)) (spread X (ix2 s 0)) := by
  pointwise [droots]

theorem norms_at (s : Fin 4096) (k : Fin 1024) : norms X (ix2 s k) = X (ix2 s k) * roots X (ix2 s 0) := by
  pointwise [norms]

theorem gains_at (k : Fin 1024) : gains G (ix2 0 k) = G (ix2 0 k) := by
  pointwise [gains]

theorem dh_at (s : Fin 4096) (k : Fin 1024) : dhTerm W D (ix2 s k) = ∑ n : Fin 6144, D (ix2 s n) * W (ix2 k n) := by
  pointwise [dhTerm]

theorem dn_at (s : Fin 4096) (k : Fin 1024) : dnTerm G W D (ix2 s k) = dhTerm W D (ix2 s k) * G (ix2 0 k) := by
  pointwise [dnTerm]
  simp only [gains_at]

theorem dmean_at (s : Fin 4096) : dmean X G W D (ix1 s)
    = Ideal.div ((∑ k : Fin 1024, X (ix2 s k) * dnTerm G W D (ix2 s k)) * droots X (ix2 s 0)) MlpRow.width := by
  pointwise [dmean]
  exact Fin.sum_univ_one _

theorem dg_at (k : Fin 1024) : dgTerm X W D (ix2 0 k) = ∑ s : Fin 4096, norms X (ix2 s k) * dhTerm W D (ix2 s k) := by
  pointwise [dgTerm]
  exact Fin.sum_univ_one _

theorem dx_at (s : Fin 4096) (k : Fin 1024) : dxTerm X G W D Y (ix2 s k)
    = Y (ix2 s k) + dnTerm G W D (ix2 s k) * roots X (ix2 s 0) + X (ix2 s k) * dmean X G W D (ix1 s)
      + dmean X G W D (ix1 s) * X (ix2 s k) := by
  pointwise [dxTerm]

end

end Cert.InXGradIdeal.Value

end
-- ==== Proof.InXClaim.lean ====
/- The gradients of a block's input by the kernel are the reference's, and the claim that compares the two programs. -/
module

public import proofs.«01_k».proof.Defs
public import proofs.«01_k».proof.Proof.InXFinal
public import proofs.«01_k».proof.Proof.InXGradTerm
public import proofs.«01_k».proof.Proof.MlpAlgebra
public import Idealize.ShloMosaic.Adequacy
public import Idealize.ShloMosaic.Init

@[expose] public section

set_option maxRecDepth 16384

noncomputable section

open Idealize.ShloMosaic Idealize.ShloMosaic.TcCoe Idealize.SL.Sem

namespace Cert.InXClaim

open Cert.InXIdeal Cert.InXGradIdeal.Value Cert.InXIdeal.Value

section
variable (X : FVec Ideal S4096x1024 .f32) (G : FVec Ideal S1x1024 .f32) (W : FVec Ideal S1024x6144 .bf16) (D : FVec Ideal S4096x6144 .bf16)
  (Y : FVec Ideal S4096x1024 .f32)

theorem pair {n k : ℕ} (y : (⟨2, ![n, k]⟩ : Shape).Idx) : ∃ (a : Fin n) (b : Fin k), y = ix2 a b :=
  ⟨y 0, y 1, by funext a; fin_cases a <;> rfl⟩

theorem normed_eq (s : Fin 4096) (k : Fin 1024) : norms X (ix2 s k) = MlpRow.normed (row X s) k := by
  rw [norms_at, roots_at, spread_at]; rfl

theorem dh_all (s : Fin 4096) (k : Fin 1024) : dh (row D s) (row (n := 1024) W) k = dhTerm W D (ix2 s k) :=
  (dh_at W D s k).symm

theorem dg_eq : dgTerm X W D = dgArr X W D := by
  funext y
  obtain ⟨z, k, rfl⟩ := pair y
  obtain rfl : z = 0 := Subsingleton.elim _ _
  rw [dg_at]
  show _ = ∑ s : Fin 4096, dh (row D s) (row (n := 1024) W) k * MlpRow.normed (row X s) k
  refine Finset.sum_congr rfl fun s _ => ?_
  rw [normed_eq, ← dh_all, mul_comm]

theorem dx_eq : dxTerm X G W D Y = dxArr X G W D Y := by
  funext y
  obtain ⟨s, k, rfl⟩ := pair y
  rw [dx_at, dmean_at, droots_at, roots_at, spread_at]
  simp only [dn_at, ← dh_all]
  exact (MlpRow.norm_grad (row X s) (fun k => dh (row D s) (row (n := 1024) W) k * gain G k)
    (Y (ix2 s k)) _ (MlpRow.mean_pos (row X s)) k).symm

end

/-- The kernel and the reference end with equal gradients. -/
theorem algebraic : Cert.algebraic_InXIdeal_InXGradIdeal (hInXIdeal := Cert.InXIdeal.Gen.facts)
    (hInXGradIdeal := Cert.InXGradIdeal.Gen.facts) := by
  pair_intro
  · run_from Cert.InXIdeal.Gen.run_main m g
  · run_from Cert.InXGradIdeal.Value.run m' g'
    · refine ((res0_eq m' c).trans ?_).trans (Cert.InXIdeal.Value.final5 m c).symm
      rw [(hagree c).1, (hagree c).2.1, (hagree c).2.2.1, (hagree c).2.2.2.1, (hagree c).2.2.2.2]
      exact dx_eq _ _ _ _ _
    · refine Eq.trans ?_ (Cert.InXIdeal.Value.final6 m c).symm
      exact dg_eq _ _ _

end Cert.InXClaim

end
-- ==== Proof.Quarters.lean ====
/- A sum over 4096 terms as four sums of 1024. -/
module

public import Idealize.ShloMosaic.Lib.Pipeline.ValueKit

@[expose] public section

noncomputable section

open Idealize.ShloMosaic

namespace Cert.Quarters

theorem sum_quarters (f : Fin 4096 → EReal) :
    (∑ k : Fin 1024, f ⟨(0 : Fin 4).val * 1024 + k.val, by omega⟩) + (∑ k : Fin 1024, f ⟨(1 : Fin 4).val * 1024 + k.val, by omega⟩)
      + (∑ k : Fin 1024, f ⟨(2 : Fin 4).val * 1024 + k.val, by omega⟩) + (∑ k : Fin 1024, f ⟨(3 : Fin 4).val * 1024 + k.val, by omega⟩)
      = ∑ k : Fin 4096, f k := by
  refine (Fin.sum_univ_four (fun q : Fin 4 => ∑ k : Fin 1024, f ⟨q.val * 1024 + k.val, by omega⟩)).symm.trans ?_
  exact Fin.sum_mul_add_congr (S := 4) (n := 1024) (fun t r hl => rfl) rfl

end Cert.Quarters

end
-- ==== Proof.InAFinal.lean ====
/- The first half of the gradient of the projection's weights, as `dw_in_a` leaves it. -/
module

public import proofs.«01_k».proof.Proof.Gen.InAIdeal.Value
public import proofs.«01_k».proof.Proof.Quarters
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InAIdeal.Value

open Cert.InAIdeal Cert.InAIdeal.Gen
open Idealize.ShloMosaic.Pipeline (Dat)

variable (m : (ℓ : Loc nD τ sig) → Buf (Elt Ideal) ℓ)

/-- The product of a point's two blocks over its quarter of the sequence. -/
def part (c : Dev nD) (t : Fin cfg0.N) (a : Fin 512) (b : Fin 3072) : EReal :=
  ∑ k : Fin 1024, (show FVec Ideal S1024x512 .bf16 from iblk m c 0 t) (ix2 k a) * (show FVec Ideal S1024x3072 .bf16 from iblk m c 1 t) (ix2 k b)

/-- The first quarter's point leaves its product in the accumulator. -/
theorem acc_A (c : Dev nD) (t : Fin cfg0.N) (h0 : t.val % 4 = 0) (y : S512x3072.Idx) :
    (outsAt0 m c t.val t.isLt).2 y = part m c t (y 0) (y 1) := by
  rw [outsAt0_A m c t h0 (by omega) (by omega)]; frame_out
  open_payloads
  pointwise
  simp only [part]

/-- The points between add their products to it. -/
theorem acc_B (c : Dev nD) (t : Fin cfg0.N) (h0 : ¬ t.val % 4 = 0) (h3 : ¬ t.val % 4 = 3) (y : S512x3072.Idx) :
    (outsAt0 m c t.val t.isLt).2 y
      = (outsAt0 m c (t.val - 1) (Nat.lt_of_le_of_lt (Nat.sub_le _ _) t.isLt)).2 y + part m c t (y 0) (y 1) := by
  rw [outsAt0_B m c t h0 (by omega) h3]; frame_out
  open_payloads
  pointwise
  simp only [part]
  blk_point []
  exact congrFun (read_unread_whole cc0_scratch0 _ _) y

/-- The last quarter's point writes the sum. -/
theorem out_C (c : Dev nD) (t : Fin cfg0.N) (h3 : t.val % 4 = 3) (y : S512x3072.Idx) :
    (outsAt0 m c t.val t.isLt).1 y
      = (outsAt0 m c (t.val - 1) (Nat.lt_of_le_of_lt (Nat.sub_le _ _) t.isLt)).2 y + part m c t (y 0) (y 1) := by
  rw [outsAt0_C m c t (by omega) (by omega) h3]; frame_out
  open_payloads
  pointwise
  simp only [part]
  blk_point []
  exact congrFun (read_unread_whole cc0_scratch0 _ _) y

/-- The blocks' places. -/
theorem idx : ∀ t : Fin cfg0.N, win0_0.index t = ![t.val % 4, 0] ∧ win0_1.index t = ![t.val % 4, t.val / 4] ∧
    win0_2.index t = ![0, t.val / 4] ∧ t.val < 8 :=
  (by decide +kernel : ∀ t : Fin grid0.N, _)

theorem col_lt (t : Fin cfg0.N) (r : Fin 3072) : t.val / 4 * 3072 + r.val < 6144 := by have := (idx t).2.2.2; omega

theorem low_lt (a : Fin 512) : a.val < 1024 := by omega

/-- A quarter of the product of two columns. -/
def quarter (H : S4096x1024.Idx → EReal) (D : S4096x6144.Idx → EReal) (q : Fin 4) (a : Fin 512) (b : Fin 6144) : EReal :=
  ∑ k : Fin 1024, H (ix2 ⟨q.val * 1024 + k.val, by omega⟩ ⟨a.val, by omega⟩) * D (ix2 ⟨q.val * 1024 + k.val, by omega⟩ b)

/-- The gradient: the product over the whole sequence, of the first 512 columns. -/
def gradArr (H : FVec Ideal S4096x1024 .bf16) (D : FVec Ideal S4096x6144 .bf16) : FVec Ideal S512x6144 .bf16 :=
  fun y => ∑ k : Fin 4096, H (ix2 k ⟨(y 0).val, low_lt (y 0)⟩) * D (ix2 k (y 1))

theorem part_eq (c : Dev nD) (t : Fin cfg0.N) (a : Fin 512) (b : Fin 3072) (q : Fin 4) (hq : t.val % 4 = q.val) :
    part m c t a b = quarter (m ((c : Thread nD τ).loc main_arg0)) (m ((c : Thread nD τ).loc main_arg1)) q a ⟨t.val / 4 * 3072 + b.val, col_lt t b⟩ := by
  unfold part quarter
  refine Finset.sum_congr rfl fun k _ => ?_
  refine congrArg₂ (fun p q : EReal => p * q) ?_ ?_
  · blk_ext! [iblk, V, idx t, hq]
  · blk_ext! [iblk, V, idx t, hq]

/-- What the last point of a run of four writes. -/
theorem out_eq (c : Dev nD) (t : Fin cfg0.N) (h3 : t.val % 4 = 3) (y : S512x3072.Idx) :
    (show EReal from (outsAt0 m c t.val t.isLt).1 y)
      = gradArr (m ((c : Thread nD τ).loc main_arg0)) (m ((c : Thread nD τ).loc main_arg1)) (ix2 (y 0) ⟨t.val / 4 * 3072 + (y 1).val, col_lt t (y 1)⟩) := by
  have h8 := (idx t).2.2.2
  obtain ⟨t2, e2⟩ : ∃ s : Fin cfg0.N, s.val = t.val - 1 := ⟨⟨t.val - 1, Nat.lt_of_le_of_lt (Nat.sub_le _ _) t.isLt⟩, rfl⟩
  obtain ⟨t1, e1⟩ : ∃ s : Fin cfg0.N, s.val = t2.val - 1 := ⟨⟨t2.val - 1, Nat.lt_of_le_of_lt (Nat.sub_le _ _) t2.isLt⟩, rfl⟩
  obtain ⟨t0, e0⟩ : ∃ s : Fin cfg0.N, s.val = t1.val - 1 := ⟨⟨t1.val - 1, Nat.lt_of_le_of_lt (Nat.sub_le _ _) t1.isLt⟩, rfl⟩
  have a0 := acc_A m c t0 (by omega) y
  have a1 := acc_B m c t1 (by omega) (by omega) y
  have a2 := acc_B m c t2 (by omega) (by omega) y
  have a3 := out_C m c t h3 y
  simp only [← e0, ← e1, ← e2] at a1 a2 a3
  have p : ∀ (s : Fin cfg0.N) (q : Fin 4), s.val / 4 = t.val / 4 → s.val % 4 = q.val → part m c s (y 0) (y 1)
      = quarter (m ((c : Thread nD τ).loc main_arg0)) (m ((c : Thread nD τ).loc main_arg1)) q (y 0) ⟨t.val / 4 * 3072 + (y 1).val, col_lt t (y 1)⟩ := by
    intro s q h hq
    refine (part_eq m c s (y 0) (y 1) q hq).trans ?_
    exact congrArg (quarter _ _ q (y 0)) (Fin.ext (by simp only [h]))
  rw [a2, a1, a0, p t0 0 (by omega) (by show _ = 0; omega), p t1 1 (by omega) (by show _ = 1; omega),
    p t2 2 (by omega) (by show _ = 2; omega), p t 3 rfl h3] at a3
  refine a3.trans ?_
  unfold quarter gradArr
  exact Quarters.sum_quarters (fun k => (show FVec Ideal S4096x1024 .bf16 from m ((c : Thread nD τ).loc main_arg0)) (ix2 k ⟨(y 0).val, low_lt (y 0)⟩)
    * (show FVec Ideal S4096x6144 .bf16 from m ((c : Thread nD τ).loc main_arg1)) (ix2 k ⟨t.val / 4 * 3072 + (y 1).val, col_lt t (y 1)⟩))

/-- The gradient after the run. -/
theorem final (c : Dev nD) : (dats m 0 c).arrAt 2 cfg0.N
    = gradArr (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2]
  have hr : ((((cfg0.win 2).blk t).view.emb y) 0 : Fin 512) = y 0 := by
    apply Fin.ext; blk_simp [idx t]
  have hc : ((((cfg0.win 2).blk t).view.emb y) 1 : Fin 6144) = ⟨t.val / 4 * 3072 + (y 1).val, col_lt t (y 1)⟩ := by
    apply Fin.ext; blk_simp [idx t]
  exact (out_eq m c t h3 y).trans (congrArg₂ (fun (a : Fin 512) (b : Fin 6144) =>
    gradArr (m ((c : Thread nD τ).loc main_arg0)) (m ((c : Thread nD τ).loc main_arg1)) (ix2 a b)) hr.symm hc.symm)

end Cert.InAIdeal.Value

end
-- ==== Proof.InAClaim.lean ====
/- The first half of the gradient by the projection's weights is the reference's, and the claim that compares the two programs. -/
module

public import proofs.«01_k».proof.Defs
public import proofs.«01_k».proof.Proof.InAFinal
public import proofs.«01_k».proof.Proof.Gen.InAGradIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.InAClaim

open Cert.InAGradIdeal Cert.InAGradIdeal.Gen

/-- The reference's gradient. -/
def term (H : FVec Ideal S4096x1024 .bf16) (D : FVec Ideal S4096x6144 .bf16) : FVec Ideal S512x6144 .bf16 :=
  extractStridedSlice S512x6144 ![0, 0] (truncf .bf16 (transpose S1024x6144 [1, 0] (Host.dotGeneral dot_S4096x6144_S4096x1024_S6144x1024_0_0_1_1_n_n none
    (extf .f32 D bitsLt_bf16_f32) (extf .f32 H bitsLt_bf16_f32)) transposes_S6144x1024_S1024x6144_1_0) bitsLt_bf16_f32) slices_S1024x6144_S512x6144_0_0

theorem term_at (H : FVec Ideal S4096x1024 .bf16) (D : FVec Ideal S4096x6144 .bf16) (a : Fin 512) (b : Fin 6144) :
    term H D (ix2 a b) = ∑ k : Fin 4096, D (ix2 k b) * H (ix2 k ⟨a.val, by omega⟩) := by
  pointwise [term]

theorem term_eq (H : FVec Ideal S4096x1024 .bf16) (D : FVec Ideal S4096x6144 .bf16) : term H D = Cert.InAIdeal.Value.gradArr H D := by
  funext y
  obtain ⟨a, b, rfl⟩ : ∃ (a : Fin 512) (b : Fin 6144), y = ix2 a b := ⟨y 0, y 1, by funext i; fin_cases i <;> rfl⟩
  refine (term_at H D a b).trans ?_
  unfold Cert.InAIdeal.Value.gradArr
  exact Finset.sum_congr rfl fun k _ => mul_comm _ _

/-- The kernel and the reference end with equal gradients. -/
theorem algebraic : Cert.algebraic_InAIdeal_InAGradIdeal (hInAIdeal := Cert.InAIdeal.Gen.facts)
    (hInAGradIdeal := Cert.InAGradIdeal.Gen.facts) := by
  pair_intro
  · run_from Cert.InAIdeal.Gen.run_main m g
  · run_from Cert.InAGradIdeal.Value.run m' g'
    refine Eq.trans ?_ (Cert.InAIdeal.Value.final m c).symm
    exact term_eq _ _

end Cert.InAClaim

end
-- ==== Proof.InBFinal.lean ====
/- The last half of the gradient of the projection's weights, as `dw_in_b` leaves it. -/
module

public import proofs.«01_k».proof.Proof.Gen.InBIdeal.Value
public import proofs.«01_k».proof.Proof.Quarters
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InBIdeal.Value

open Cert.InBIdeal Cert.InBIdeal.Gen
open Idealize.ShloMosaic.Pipeline (Dat)

variable (m : (ℓ : Loc nD τ sig) → Buf (Elt Ideal) ℓ)

/-- The product of a point's two blocks over its quarter of the sequence. -/
def part (c : Dev nD) (t : Fin cfg0.N) (a : Fin 512) (b : Fin 3072) : EReal :=
  ∑ k : Fin 1024, (show FVec Ideal S1024x512 .bf16 from iblk m c 0 t) (ix2 k a) * (show FVec Ideal S1024x3072 .bf16 from iblk m c 1 t) (ix2 k b)

/-- The first quarter's point leaves its product in the accumulator. -/
theorem acc_A (c : Dev nD) (t : Fin cfg0.N) (h0 : t.val % 4 = 0) (y : S512x3072.Idx) :
    (outsAt0 m c t.val t.isLt).2 y = part m c t (y 0) (y 1) := by
  rw [outsAt0_A m c t h0 (by omega) (by omega)]; frame_out
  open_payloads
  pointwise
  simp only [part]

/-- The points between add their products to it. -/
theorem acc_B (c : Dev nD) (t : Fin cfg0.N) (h0 : ¬ t.val % 4 = 0) (h3 : ¬ t.val % 4 = 3) (y : S512x3072.Idx) :
    (outsAt0 m c t.val t.isLt).2 y
      = (outsAt0 m c (t.val - 1) (Nat.lt_of_le_of_lt (Nat.sub_le _ _) t.isLt)).2 y + part m c t (y 0) (y 1) := by
  rw [outsAt0_B m c t h0 (by omega) h3]; frame_out
  open_payloads
  pointwise
  simp only [part]
  blk_point []
  exact congrFun (read_unread_whole cc0_scratch0 _ _) y

/-- The last quarter's point writes the sum. -/
theorem out_C (c : Dev nD) (t : Fin cfg0.N) (h3 : t.val % 4 = 3) (y : S512x3072.Idx) :
    (outsAt0 m c t.val t.isLt).1 y
      = (outsAt0 m c (t.val - 1) (Nat.lt_of_le_of_lt (Nat.sub_le _ _) t.isLt)).2 y + part m c t (y 0) (y 1) := by
  rw [outsAt0_C m c t (by omega) (by omega) h3]; frame_out
  open_payloads
  pointwise
  simp only [part]
  blk_point []
  exact congrFun (read_unread_whole cc0_scratch0 _ _) y

/-- The blocks' places. -/
theorem idx : ∀ t : Fin cfg0.N, win0_0.index t = ![t.val % 4, 1] ∧ win0_1.index t = ![t.val % 4, t.val / 4] ∧
    win0_2.index t = ![0, t.val / 4] ∧ t.val < 8 :=
  (by decide +kernel : ∀ t : Fin grid0.N, _)

theorem col_lt (t : Fin cfg0.N) (r : Fin 3072) : t.val / 4 * 3072 + r.val < 6144 := by have := (idx t).2.2.2; omega

theorem high_lt (a : Fin 512) : 512 + a.val < 1024 := by omega

/-- A quarter of the product of two columns. -/
def quarter (H : S4096x1024.Idx → EReal) (D : S4096x6144.Idx → EReal) (q : Fin 4) (a : Fin 512) (b : Fin 6144) : EReal :=
  ∑ k : Fin 1024, H (ix2 ⟨q.val * 1024 + k.val, by omega⟩ ⟨512 + a.val, by omega⟩) * D (ix2 ⟨q.val * 1024 + k.val, by omega⟩ b)

/-- The gradient: the product over the whole sequence, of the last 512 columns. -/
def gradArr (H : FVec Ideal S4096x1024 .bf16) (D : FVec Ideal S4096x6144 .bf16) : FVec Ideal S512x6144 .bf16 :=
  fun y => ∑ k : Fin 4096, H (ix2 k ⟨512 + (y 0).val, high_lt (y 0)⟩) * D (ix2 k (y 1))

theorem part_eq (c : Dev nD) (t : Fin cfg0.N) (a : Fin 512) (b : Fin 3072) (q : Fin 4) (hq : t.val % 4 = q.val) :
    part m c t a b = quarter (m ((c : Thread nD τ).loc main_arg0)) (m ((c : Thread nD τ).loc main_arg1)) q a ⟨t.val / 4 * 3072 + b.val, col_lt t b⟩ := by
  unfold part quarter
  refine Finset.sum_congr rfl fun k _ => ?_
  refine congrArg₂ (fun p q : EReal => p * q) ?_ ?_
  · blk_ext! [iblk, V, idx t, hq]
  · blk_ext! [iblk, V, idx t, hq]

/-- What the last point of a run of four writes. -/
theorem out_eq (c : Dev nD) (t : Fin cfg0.N) (h3 : t.val % 4 = 3) (y : S512x3072.Idx) :
    (show EReal from (outsAt0 m c t.val t.isLt).1 y)
      = gradArr (m ((c : Thread nD τ).loc main_arg0)) (m ((c : Thread nD τ).loc main_arg1)) (ix2 (y 0) ⟨t.val / 4 * 3072 + (y 1).val, col_lt t (y 1)⟩) := by
  have h8 := (idx t).2.2.2
  obtain ⟨t2, e2⟩ : ∃ s : Fin cfg0.N, s.val = t.val - 1 := ⟨⟨t.val - 1, Nat.lt_of_le_of_lt (Nat.sub_le _ _) t.isLt⟩, rfl⟩
  obtain ⟨t1, e1⟩ : ∃ s : Fin cfg0.N, s.val = t2.val - 1 := ⟨⟨t2.val - 1, Nat.lt_of_le_of_lt (Nat.sub_le _ _) t2.isLt⟩, rfl⟩
  obtain ⟨t0, e0⟩ : ∃ s : Fin cfg0.N, s.val = t1.val - 1 := ⟨⟨t1.val - 1, Nat.lt_of_le_of_lt (Nat.sub_le _ _) t1.isLt⟩, rfl⟩
  have a0 := acc_A m c t0 (by omega) y
  have a1 := acc_B m c t1 (by omega) (by omega) y
  have a2 := acc_B m c t2 (by omega) (by omega) y
  have a3 := out_C m c t h3 y
  simp only [← e0, ← e1, ← e2] at a1 a2 a3
  have p : ∀ (s : Fin cfg0.N) (q : Fin 4), s.val / 4 = t.val / 4 → s.val % 4 = q.val → part m c s (y 0) (y 1)
      = quarter (m ((c : Thread nD τ).loc main_arg0)) (m ((c : Thread nD τ).loc main_arg1)) q (y 0) ⟨t.val / 4 * 3072 + (y 1).val, col_lt t (y 1)⟩ := by
    intro s q h hq
    refine (part_eq m c s (y 0) (y 1) q hq).trans ?_
    exact congrArg (quarter _ _ q (y 0)) (Fin.ext (by simp only [h]))
  rw [a2, a1, a0, p t0 0 (by omega) (by show _ = 0; omega), p t1 1 (by omega) (by show _ = 1; omega),
    p t2 2 (by omega) (by show _ = 2; omega), p t 3 rfl h3] at a3
  refine a3.trans ?_
  unfold quarter gradArr
  exact Quarters.sum_quarters (fun k => (show FVec Ideal S4096x1024 .bf16 from m ((c : Thread nD τ).loc main_arg0)) (ix2 k ⟨512 + (y 0).val, high_lt (y 0)⟩)
    * (show FVec Ideal S4096x6144 .bf16 from m ((c : Thread nD τ).loc main_arg1)) (ix2 k ⟨t.val / 4 * 3072 + (y 1).val, col_lt t (y 1)⟩))

/-- The gradient after the run. -/
theorem final (c : Dev nD) : (dats m 0 c).arrAt 2 cfg0.N
    = gradArr (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2]
  have hr : ((((cfg0.win 2).blk t).view.emb y) 0 : Fin 512) = y 0 := by
    apply Fin.ext; blk_simp [idx t]
  have hc : ((((cfg0.win 2).blk t).view.emb y) 1 : Fin 6144) = ⟨t.val / 4 * 3072 + (y 1).val, col_lt t (y 1)⟩ := by
    apply Fin.ext; blk_simp [idx t]
  exact (out_eq m c t h3 y).trans (congrArg₂ (fun (a : Fin 512) (b : Fin 6144) =>
    gradArr (m ((c : Thread nD τ).loc main_arg0)) (m ((c : Thread nD τ).loc main_arg1)) (ix2 a b)) hr.symm hc.symm)

end Cert.InBIdeal.Value

end
-- ==== Proof.InBClaim.lean ====
/- The last half of the gradient by the projection's weights is the reference's, and the claim that compares the two programs. -/
module

public import proofs.«01_k».proof.Defs
public import proofs.«01_k».proof.Proof.InBFinal
public import proofs.«01_k».proof.Proof.Gen.InBGradIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.InBClaim

open Cert.InBGradIdeal Cert.InBGradIdeal.Gen

/-- The reference's gradient. -/
def term (H : FVec Ideal S4096x1024 .bf16) (D : FVec Ideal S4096x6144 .bf16) : FVec Ideal S512x6144 .bf16 :=
  extractStridedSlice S512x6144 ![512, 0] (truncf .bf16 (transpose S1024x6144 [1, 0] (Host.dotGeneral dot_S4096x6144_S4096x1024_S6144x1024_0_0_1_1_n_n none
    (extf .f32 D bitsLt_bf16_f32) (extf .f32 H bitsLt_bf16_f32)) transposes_S6144x1024_S1024x6144_1_0) bitsLt_bf16_f32) slices_S1024x6144_S512x6144_512_0

theorem term_at (H : FVec Ideal S4096x1024 .bf16) (D : FVec Ideal S4096x6144 .bf16) (a : Fin 512) (b : Fin 6144) :
    term H D (ix2 a b) = ∑ k : Fin 4096, D (ix2 k b) * H (ix2 k ⟨512 + a.val, by omega⟩) := by
  pointwise [term]

theorem term_eq (H : FVec Ideal S4096x1024 .bf16) (D : FVec Ideal S4096x6144 .bf16) : term H D = Cert.InBIdeal.Value.gradArr H D := by
  funext y
  obtain ⟨a, b, rfl⟩ : ∃ (a : Fin 512) (b : Fin 6144), y = ix2 a b := ⟨y 0, y 1, by funext i; fin_cases i <;> rfl⟩
  refine (term_at H D a b).trans ?_
  unfold Cert.InBIdeal.Value.gradArr
  exact Finset.sum_congr rfl fun k _ => mul_comm _ _

/-- The kernel and the reference end with equal gradients. -/
theorem algebraic : Cert.algebraic_InBIdeal_InBGradIdeal (hInBIdeal := Cert.InBIdeal.Gen.facts)
    (hInBGradIdeal := Cert.InBGradIdeal.Gen.facts) := by
  pair_intro
  · run_from Cert.InBIdeal.Gen.run_main m g
  · run_from Cert.InBGradIdeal.Value.run m' g'
    refine Eq.trans ?_ (Cert.InBIdeal.Value.final m c).symm
    exact term_eq _ _

end Cert.InBClaim

end
-- ==== Proof.OutFinal.lean ====
/- The gradient of the output projection's weights, as `dw_out` leaves it. -/
module

public import proofs.«01_k».proof.Proof.Gen.OutIdeal.Value
public import proofs.«01_k».proof.Proof.Halves
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.OutIdeal.Value

open Cert.OutIdeal Cert.OutIdeal.Gen
open Idealize.ShloMosaic.Pipeline (Dat)

variable (m : (ℓ : Loc nD τ sig) → Buf (Elt Ideal) ℓ)

/-- The product of a point's two blocks over its half of the sequence. -/
def part (c : Dev nD) (t : Fin cfg0.N) (a b : Fin 1024) : EReal :=
  ∑ k : Fin 2048, (show FVec Ideal S2048x1024 .bf16 from iblk m c 0 t) (ix2 k a) * (show FVec Ideal S2048x1024 .f32 from iblk m c 1 t) (ix2 k b)

/-- The first half's point leaves its product in the accumulator. -/
theorem acc_A (c : Dev nD) (t : Fin cfg0.N) (h0 : t.val % 2 = 0) (y : S1024x1024.Idx) :
    (outsAt0 m c t.val t.isLt).2 y = part m c t (y 0) (y 1) := by
  rw [outsAt0_A m c t h0 (by omega) (by omega)]; frame_out
  open_payloads
  pointwise
  simp only [part]

/-- The second half's point adds its product to what the accumulator holds, and writes the sum. -/
theorem out_B (c : Dev nD) (t : Fin cfg0.N) (h0 : ¬ t.val % 2 = 0) (y : S1024x1024.Idx) :
    (outsAt0 m c t.val t.isLt).1 y
      = (outsAt0 m c (t.val - 1) (Nat.lt_of_le_of_lt (Nat.sub_le _ _) t.isLt)).2 y + part m c t (y 0) (y 1) := by
  rw [outsAt0_B m c t h0 (by omega) (by omega)]; frame_out
  open_payloads
  pointwise
  simp only [part]
  blk_point []
  exact congrFun (read_unread_whole cc0_scratch0 _ _) y

/-- The blocks' places. -/
theorem idx : ∀ t : Fin cfg0.N, win0_0.index t = ![t.val % 2, 0] ∧ win0_1.index t = ![t.val % 2, 0] ∧ win0_2.index t = ![0, 0] ∧ t.val < 2 :=
  (by decide +kernel : ∀ t : Fin grid0.N, _)

/-- The gradient: the product over the whole sequence. -/
def gradArr (U : FVec Ideal S4096x1024 .bf16) (D : FVec Ideal S4096x1024 .f32) : FVec Ideal S1024x1024 .bf16 :=
  fun y => ∑ k : Fin 4096, U (ix2 k (y 0)) * D (ix2 k (y 1))

theorem part_eq (c : Dev nD) (t : Fin cfg0.N) (a b : Fin 1024) :
    part m c t a b = ∑ k : Fin 2048, (show FVec Ideal S4096x1024 .bf16 from m ((c : Thread nD τ).loc main_arg0))
        (ix2 ⟨t.val % 2 * 2048 + k.val, by omega⟩ a)
      * (show FVec Ideal S4096x1024 .f32 from m ((c : Thread nD τ).loc main_arg1)) (ix2 ⟨t.val % 2 * 2048 + k.val, by omega⟩ b) := by
  unfold part
  refine Finset.sum_congr rfl fun k _ => ?_
  refine congrArg₂ (fun p q : EReal => p * q) ?_ ?_
  · blk_ext! [iblk, V, idx t]
  · blk_ext! [iblk, V, idx t]

/-- The products of the two points are the product over the whole sequence. -/
theorem halves (c : Dev nD) (t' t : Fin cfg0.N) (a b : Fin 1024) (h1 : t.val % 2 = 1) (h : t'.val + 1 = t.val) :
    part m c t' a b + part m c t a b = gradArr (m ((c : Thread nD τ).loc main_arg0)) (m ((c : Thread nD τ).loc main_arg1)) (ix2 a b) := by
  have e0 : t'.val % 2 = 0 := by omega
  rw [part_eq, part_eq]
  simp only [e0, h1]
  refine Halves.sum_halves_of _ _ _ (fun k => ?_) (fun k => ?_)
  · simp only [Nat.zero_mul, Nat.zero_add]
    rfl
  · simp only [Nat.one_mul]
    rfl

/-- The gradient after the run. -/
theorem final (c : Dev nD) : (dats m 0 c).arrAt 2 cfg0.N
    = gradArr (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  blk_simp
  rw [after0_2]
  obtain ⟨t', ht'⟩ : ∃ t' : Fin cfg0.N, t'.val = t.val - 1 := ⟨⟨t.val - 1, Nat.lt_of_le_of_lt (Nat.sub_le _ _) t.isLt⟩, rfl⟩
  have hr : ((((cfg0.win 2).blk t).view.emb y) 0 : Fin 1024) = y 0 := by
    apply Fin.ext; blk_simp [idx t]
  have hc : ((((cfg0.win 2).blk t).view.emb y) 1 : Fin 1024) = y 1 := by
    apply Fin.ext; blk_simp [idx t]
  have hA := acc_A m c t' (by omega) y
  simp only [ht'] at hA
  refine (out_B m c t (by omega) y).trans ((congrArg₂ (fun p q : EReal => p + q) hA rfl).trans ?_)
  exact (halves m c t' t (y 0) (y 1) h1 (by omega)).trans (congrArg₂ (fun (a b : Fin 1024) =>
    gradArr (m ((c : Thread nD τ).loc main_arg0)) (m ((c : Thread nD τ).loc main_arg1)) (ix2 a b)) hr.symm hc.symm)

end Cert.OutIdeal.Value

end
-- ==== Proof.OutClaim.lean ====
/- The gradient by the output projection's weights is the reference's, and the claim that compares the two programs. -/
module

public import proofs.«01_k».proof.Defs
public import proofs.«01_k».proof.Proof.OutFinal
public import proofs.«01_k».proof.Proof.Gen.OutGradIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.OutClaim

open Cert.OutGradIdeal Cert.OutGradIdeal.Gen

/-- The reference's gradient. -/
def term (U : FVec Ideal S4096x1024 .bf16) (D : FVec Ideal S4096x1024 .f32) : FVec Ideal S1024x1024 .bf16 :=
  truncf .bf16 (transpose S1024x1024 [1, 0] (Host.dotGeneral dot_S4096x1024_S4096x1024_S1024x1024_0_0_1_1_n_n none
    D (extf .f32 U bitsLt_bf16_f32)) transposes_S1024x1024_S1024x1024_1_0) bitsLt_bf16_f32

theorem term_at (U : FVec Ideal S4096x1024 .bf16) (D : FVec Ideal S4096x1024 .f32) (a b : Fin 1024) :
    term U D (ix2 a b) = ∑ k : Fin 4096, D (ix2 k b) * U (ix2 k a) := by
  pointwise [term]

theorem term_eq (U : FVec Ideal S4096x1024 .bf16) (D : FVec Ideal S4096x1024 .f32) : term U D = Cert.OutIdeal.Value.gradArr U D := by
  funext y
  obtain ⟨a, b, rfl⟩ : ∃ (a b : Fin 1024), y = ix2 a b := ⟨y 0, y 1, by funext i; fin_cases i <;> rfl⟩
  refine (term_at U D a b).trans ?_
  unfold Cert.OutIdeal.Value.gradArr
  exact Finset.sum_congr rfl fun k _ => mul_comm _ _

/-- The kernel and the reference end with equal gradients. -/
theorem algebraic : Cert.algebraic_OutIdeal_OutGradIdeal (hOutIdeal := Cert.OutIdeal.Gen.facts)
    (hOutGradIdeal := Cert.OutGradIdeal.Gen.facts) := by
  pair_intro
  · run_from Cert.OutIdeal.Gen.run_main m g
  · run_from Cert.OutGradIdeal.Value.run m' g'
    refine Eq.trans ?_ (Cert.OutIdeal.Value.final m c).symm
    exact term_eq _ _

end Cert.OutClaim

end
-- ==== Proof.BranchFinal.lean ====
/- The gradients of the three branches' weights, as `dw_o` leaves them. -/
module

public import proofs.«01_k».proof.Proof.Gen.BranchIdeal.Value
public import proofs.«01_k».proof.Proof.Halves
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.BranchIdeal.Value

open Cert.BranchIdeal Cert.BranchIdeal.Gen
open Idealize.ShloMosaic.Pipeline (Dat)

variable (m : (ℓ : Loc nD τ sig) → Buf (Elt Ideal) ℓ)

/-- The product of two blocks over their half of the sequence. -/
def part (A : FVec Ideal S2048x512 .bf16) (B : FVec Ideal S2048x1024 .bf16) (a : Fin 512) (b : Fin 1024) : EReal :=
  ∑ k : Fin 2048, A (ix2 k a) * B (ix2 k b)

/-- The gradient: the product over the whole sequence. -/
def gradArr (A : FVec Ideal S4096x512 .bf16) (B : FVec Ideal S4096x1024 .bf16) : FVec Ideal S512x1024 .bf16 :=
  fun y => ∑ k : Fin 4096, A (ix2 k (y 0)) * B (ix2 k (y 1))

/-- The product over a half, of the whole arrays. -/
def half (A : FVec Ideal S4096x512 .bf16) (B : FVec Ideal S4096x1024 .bf16) (q : Fin 2) (a : Fin 512) (b : Fin 1024) : EReal :=
  ∑ k : Fin 2048, A (ix2 ⟨q.val * 2048 + k.val, by omega⟩ a) * B (ix2 ⟨q.val * 2048 + k.val, by omega⟩ b)

theorem halves (A : FVec Ideal S4096x512 .bf16) (B : FVec Ideal S4096x1024 .bf16) (a : Fin 512) (b : Fin 1024) :
    half A B 0 a b + half A B 1 a b = gradArr A B (ix2 a b) := by
  unfold half gradArr
  refine Halves.sum_halves_of _ _ _ (fun k => ?_) (fun k => ?_)
  · simp only [Fin.val_zero, Nat.zero_mul, Nat.zero_add]; rfl
  · simp only [Fin.val_one, Nat.one_mul]; rfl

/-- The blocks' places. -/
theorem idx : ∀ t : Fin cfg0.N, win0_0.index t = ![t.val % 2, 0] ∧ win0_1.index t = ![t.val % 2, 0] ∧ win0_2.index t = ![t.val % 2, 0] ∧
    win0_3.index t = ![t.val % 2, 0] ∧ win0_4.index t = ![t.val % 2, 0] ∧ win0_5.index t = ![t.val % 2, 0] ∧
    win0_6.index t = ![0, 0] ∧ win0_7.index t = ![0, 0] ∧ win0_8.index t = ![0, 0] ∧ t.val < 2 :=
  (by decide +kernel : ∀ t : Fin grid0.N, _)

/-! The first branch. -/

theorem acc0 (c : Dev nD) (t : Fin cfg0.N) (h0 : t.val % 2 = 0) (y : S512x1024.Idx) :
    (show EReal from (outsAt0 m c t.val t.isLt).2.2.2.1 y) = part (iblk m c 0 t) (iblk m c 3 t) (y 0) (y 1) := by
  rw [outsAt0_A m c t h0 (by omega) (by omega) h0 (by omega) (by omega) h0 (by omega) (by omega)]; frame_out
  open_payloads
  pointwise
  simp only [part]

theorem out0 (c : Dev nD) (t : Fin cfg0.N) (h0 : ¬ t.val % 2 = 0) (y : S512x1024.Idx) :
    (show EReal from (outsAt0 m c t.val t.isLt).1 y)
      = (outsAt0 m c (t.val - 1) (Nat.lt_of_le_of_lt (Nat.sub_le _ _) t.isLt)).2.2.2.1 y + part (iblk m c 0 t) (iblk m c 3 t) (y 0) (y 1) := by
  rw [outsAt0_B m c t h0 (by omega) (by omega) h0 (by omega) (by omega) h0 (by omega) (by omega)]; frame_out
  open_payloads
  pointwise
  simp only [part]
  blk_point []
  exact congrFun (read_unread_whole cc0_scratch0 _ _) y

theorem part0_eq (c : Dev nD) (t : Fin cfg0.N) (a : Fin 512) (b : Fin 1024) (q : Fin 2) (hq : t.val % 2 = q.val) :
    part (iblk m c 0 t) (iblk m c 3 t) a b = half (m ((c : Thread nD τ).loc main_arg0)) (m ((c : Thread nD τ).loc main_arg3)) q a b := by
  unfold part half
  refine Finset.sum_congr rfl fun k _ => ?_
  refine congrArg₂ (fun p q : EReal => p * q) ?_ ?_
  · blk_ext! [iblk, V, idx t, hq]
  · blk_ext! [iblk, V, idx t, hq]

/-- The gradient after the run. -/
theorem final0 (c : Dev nD) : (dats m 0 c).arrAt 6 cfg0.N
    = gradArr (m ((c : Thread nD τ).loc main_arg0)) (m ((c : Thread nD τ).loc main_arg3)) := by
  refine (dats m 0 c).arrAt_eq_of_covers 6 _ (by decide +kernel) fun t hf y => ?_
  have h1 : t.val % 2 = 1 := (flush0_6 t).mp hf
  blk_simp
  rw [after0_6]
  obtain ⟨t', ht'⟩ : ∃ t' : Fin cfg0.N, t'.val = t.val - 1 := ⟨⟨t.val - 1, Nat.lt_of_le_of_lt (Nat.sub_le _ _) t.isLt⟩, rfl⟩
  have hr : ((((cfg0.win 6).blk t).view.emb y) 0 : Fin 512) = y 0 := by
    apply Fin.ext; blk_simp [idx t]
  have hc : ((((cfg0.win 6).blk t).view.emb y) 1 : Fin 1024) = y 1 := by
    apply Fin.ext; blk_simp [idx t]
  have h8 := (idx t).2.2.2.2.2.2.2.2.2
  have hA := (acc0 m c t' (by omega) y).trans (part0_eq m c t' (y 0) (y 1) 0 (by show _ = 0; omega))
  simp only [ht'] at hA
  refine (out0 m c t (by omega) y).trans ((congrArg₂ (fun p q : EReal => p + q) hA (part0_eq m c t (y 0) (y 1) 1 h1)).trans ?_)
  exact (halves _ _ (y 0) (y 1)).trans (congrArg₂ (fun (a : Fin 512) (b : Fin 1024) =>
    gradArr (m ((c : Thread nD τ).loc main_arg0)) (m ((c : Thread nD τ).loc main_arg3)) (ix2 a b)) hr.symm hc.symm)

/-! The second branch. -/

theorem acc1 (c : Dev nD) (t : Fin cfg0.N) (h0 : t.val % 2 = 0) (y : S512x1024.Idx) :
    (show EReal from (outsAt0 m c t.val t.isLt).2.2.2.2.1 y) = part (iblk m c 1 t) (iblk m c 4 t) (y 0) (y 1) := by
  rw [outsAt0_A m c t h0 (by omega) (by omega) h0 (by omega) (by omega) h0 (by omega) (by omega)]; frame_out
  open_payloads
  pointwise
  simp only [part]

theorem out1 (c : Dev nD) (t : Fin cfg0.N) (h0 : ¬ t.val % 2 = 0) (y : S512x1024.Idx) :
    (show EReal from (outsAt0 m c t.val t.isLt).2.1 y)
      = (outsAt0 m c (t.val - 1) (Nat.lt_of_le_of_lt (Nat.sub_le _ _) t.isLt)).2.2.2.2.1 y + part (iblk m c 1 t) (iblk m c 4 t) (y 0) (y 1) := by
  rw [outsAt0_B m c t h0 (by omega) (by omega) h0 (by omega) (by omega) h0 (by omega) (by omega)]; frame_out
  open_payloads
  pointwise
  simp only [part]
  blk_point []
  exact congrFun (read_unread_whole cc0_scratch1 _ _) y

theorem part1_eq (c : Dev nD) (t : Fin cfg0.N) (a : Fin 512) (b : Fin 1024) (q : Fin 2) (hq : t.val % 2 = q.val) :
    part (iblk m c 1 t) (iblk m c 4 t) a b = half (m ((c : Thread nD τ).loc main_arg1)) (m ((c : Thread nD τ).loc main_arg4)) q a b := by
  unfold part half
  refine Finset.sum_congr rfl fun k _ => ?_
  refine congrArg₂ (fun p q : EReal => p * q) ?_ ?_
  · blk_ext! [iblk, V, idx t, hq]
  · blk_ext! [iblk, V, idx t, hq]

/-- The gradient after the run. -/
theorem final1 (c : Dev nD) : (dats m 0 c).arrAt 7 cfg0.N
    = gradArr (m ((c : Thread nD τ).loc main_arg1)) (m ((c : Thread nD τ).loc main_arg4)) := by
  refine (dats m 0 c).arrAt_eq_of_covers 7 _ (by decide +kernel) fun t hf y => ?_
  have h1 : t.val % 2 = 1 := (flush0_7 t).mp hf
  blk_simp
  rw [after0_7]
  obtain ⟨t', ht'⟩ : ∃ t' : Fin cfg0.N, t'.val = t.val - 1 := ⟨⟨t.val - 1, Nat.lt_of_le_of_lt (Nat.sub_le _ _) t.isLt⟩, rfl⟩
  have hr : ((((cfg0.win 7).blk t).view.emb y) 0 : Fin 512) = y 0 := by
    apply Fin.ext; blk_simp [idx t]
  have hc : ((((cfg0.win 7).blk t).view.emb y) 1 : Fin 1024) = y 1 := by
    apply Fin.ext; blk_simp [idx t]
  have h8 := (idx t).2.2.2.2.2.2.2.2.2
  have hA := (acc1 m c t' (by omega) y).trans (part1_eq m c t' (y 0) (y 1) 0 (by show _ = 0; omega))
  simp only [ht'] at hA
  refine (out1 m c t (by omega) y).trans ((congrArg₂ (fun p q : EReal => p + q) hA (part1_eq m c t (y 0) (y 1) 1 h1)).trans ?_)
  exact (halves _ _ (y 0) (y 1)).trans (congrArg₂ (fun (a : Fin 512) (b : Fin 1024) =>
    gradArr (m ((c : Thread nD τ).loc main_arg1)) (m ((c : Thread nD τ).loc main_arg4)) (ix2 a b)) hr.symm hc.symm)

/-! The third branch. -/

theorem acc2 (c : Dev nD) (t : Fin cfg0.N) (h0 : t.val % 2 = 0) (y : S512x1024.Idx) :
    (show EReal from (outsAt0 m c t.val t.isLt).2.2.2.2.2 y) = part (iblk m c 2 t) (iblk m c 5 t) (y 0) (y 1) := by
  rw [outsAt0_A m c t h0 (by omega) (by omega) h0 (by omega) (by omega) h0 (by omega) (by omega)]; frame_out
  open_payloads
  pointwise
  simp only [part]

theorem out2 (c : Dev nD) (t : Fin cfg0.N) (h0 : ¬ t.val % 2 = 0) (y : S512x1024.Idx) :
    (show EReal from (outsAt0 m c t.val t.isLt).2.2.1 y)
      = (outsAt0 m c (t.val - 1) (Nat.lt_of_le_of_lt (Nat.sub_le _ _) t.isLt)).2.2.2.2.2 y + part (iblk m c 2 t) (iblk m c 5 t) (y 0) (y 1) := by
  rw [outsAt0_B m c t h0 (by omega) (by omega) h0 (by omega) (by omega) h0 (by omega) (by omega)]; frame_out
  open_payloads
  pointwise
  simp only [part]
  blk_point []
  exact congrFun (read_unread_whole cc0_scratch2 _ _) y

theorem part2_eq (c : Dev nD) (t : Fin cfg0.N) (a : Fin 512) (b : Fin 1024) (q : Fin 2) (hq : t.val % 2 = q.val) :
    part (iblk m c 2 t) (iblk m c 5 t) a b = half (m ((c : Thread nD τ).loc main_arg2)) (m ((c : Thread nD τ).loc main_arg5)) q a b := by
  unfold part half
  refine Finset.sum_congr rfl fun k _ => ?_
  refine congrArg₂ (fun p q : EReal => p * q) ?_ ?_
  · blk_ext! [iblk, V, idx t, hq]
  · blk_ext! [iblk, V, idx t, hq]

/-- The gradient after the run. -/
theorem final2 (c : Dev nD) : (dats m 0 c).arrAt 8 cfg0.N
    = gradArr (m ((c : Thread nD τ).loc main_arg2)) (m ((c : Thread nD τ).loc main_arg5)) := by
  refine (dats m 0 c).arrAt_eq_of_covers 8 _ (by decide +kernel) fun t hf y => ?_
  have h1 : t.val % 2 = 1 := (flush0_8 t).mp hf
  blk_simp
  rw [after0_8]
  obtain ⟨t', ht'⟩ : ∃ t' : Fin cfg0.N, t'.val = t.val - 1 := ⟨⟨t.val - 1, Nat.lt_of_le_of_lt (Nat.sub_le _ _) t.isLt⟩, rfl⟩
  have hr : ((((cfg0.win 8).blk t).view.emb y) 0 : Fin 512) = y 0 := by
    apply Fin.ext; blk_simp [idx t]
  have hc : ((((cfg0.win 8).blk t).view.emb y) 1 : Fin 1024) = y 1 := by
    apply Fin.ext; blk_simp [idx t]
  have h8 := (idx t).2.2.2.2.2.2.2.2.2
  have hA := (acc2 m c t' (by omega) y).trans (part2_eq m c t' (y 0) (y 1) 0 (by show _ = 0; omega))
  simp only [ht'] at hA
  refine (out2 m c t (by omega) y).trans ((congrArg₂ (fun p q : EReal => p + q) hA (part2_eq m c t (y 0) (y 1) 1 h1)).trans ?_)
  exact (halves _ _ (y 0) (y 1)).trans (congrArg₂ (fun (a : Fin 512) (b : Fin 1024) =>
    gradArr (m ((c : Thread nD τ).loc main_arg2)) (m ((c : Thread nD τ).loc main_arg5)) (ix2 a b)) hr.symm hc.symm)

end Cert.BranchIdeal.Value

end
-- ==== Proof.BranchClaim.lean ====
/- The gradients by the three branches' weights are the reference's, and the claim that compares the two programs. -/
module

public import proofs.«01_k».proof.Defs
public import proofs.«01_k».proof.Proof.BranchFinal
public import proofs.«01_k».proof.Proof.Gen.BranchGradIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.BranchClaim

open Cert.BranchGradIdeal Cert.BranchGradIdeal.Gen

/-- The reference's gradient of one branch. -/
def term (A : FVec Ideal S4096x512 .bf16) (B : FVec Ideal S4096x1024 .bf16) : FVec Ideal S512x1024 .bf16 :=
  truncf .bf16 (transpose S512x1024 [1, 0] (Host.dotGeneral dot_S4096x1024_S4096x512_S1024x512_0_0_1_1_n_n none
    (extf .f32 B bitsLt_bf16_f32) (extf .f32 A bitsLt_bf16_f32)) transposes_S1024x512_S512x1024_1_0) bitsLt_bf16_f32

theorem term_at (A : FVec Ideal S4096x512 .bf16) (B : FVec Ideal S4096x1024 .bf16) (a : Fin 512) (b : Fin 1024) :
    term A B (ix2 a b) = ∑ k : Fin 4096, B (ix2 k b) * A (ix2 k a) := by
  pointwise [term]

theorem term_eq (A : FVec Ideal S4096x512 .bf16) (B : FVec Ideal S4096x1024 .bf16) : term A B = Cert.BranchIdeal.Value.gradArr A B := by
  funext y
  obtain ⟨a, b, rfl⟩ : ∃ (a : Fin 512) (b : Fin 1024), y = ix2 a b := ⟨y 0, y 1, by funext i; fin_cases i <;> rfl⟩
  refine (term_at A B a b).trans ?_
  unfold Cert.BranchIdeal.Value.gradArr
  exact Finset.sum_congr rfl fun k _ => mul_comm _ _

/-- The kernel and the reference end with equal gradients. -/
theorem algebraic : Cert.algebraic_BranchIdeal_BranchGradIdeal (hBranchIdeal := Cert.BranchIdeal.Gen.facts)
    (hBranchGradIdeal := Cert.BranchGradIdeal.Gen.facts) := by
  pair_intro
  · run_from Cert.BranchIdeal.Gen.run_main m g
  · run_from Cert.BranchGradIdeal.Value.run m' g'
    · refine Eq.trans ?_ (Cert.BranchIdeal.Value.final0 m c).symm
      exact term_eq _ _
    · refine Eq.trans ?_ (Cert.BranchIdeal.Value.final1 m c).symm
      exact term_eq _ _
    · refine Eq.trans ?_ (Cert.BranchIdeal.Value.final2 m c).symm
      exact term_eq _ _

end Cert.BranchClaim

end
-- ==== Proof.GateRow.lean ====
/- One row of the gated sum of the three branches: gates, branch products, the sum, and the row that goes on. -/
module

public import proofs.«01_k».proof.Proof.MlpRow
public import Idealize.ShloMosaic.Lib.Pipeline.ValueKit

@[expose] public section

set_option maxRecDepth 16384

noncomputable section

open Idealize.ShloMosaic Idealize.ShloMosaic.TcCoe Idealize.SL.Sem

namespace Cert.GateRow

/-- The gate of a logit. -/
def gate (z : EReal) : EReal := Ideal.div 1 (1 + Ideal.exp (0 - z))
/-- A branch's row against its weights. -/
def prod (o : Fin 512 → EReal) (W : Fin 512 → Fin 1024 → EReal) (k : Fin 1024) : EReal := ∑ n : Fin 512, o n * W n k
/-- The logits of the three branches at a column. -/
def col0 (k : Fin 1024) : Fin 3072 := ⟨k.val, by omega⟩
def col1 (k : Fin 1024) : Fin 3072 := ⟨1024 + k.val, by omega⟩
def col2 (k : Fin 1024) : Fin 3072 := ⟨2048 + k.val, by omega⟩
/-- The gated sum: three branch rows, three weights, the logits and their bias. -/
def merged (a f e : Fin 512 → EReal) (A F E : Fin 512 → Fin 1024 → EReal) (l b : Fin 3072 → EReal) (k : Fin 1024) : EReal :=
  gate (l (col0 k) + b (col0 k)) * prod a A k + gate (l (col1 k) + b (col1 k)) * prod f F k + gate (l (col2 k) + b (col2 k)) * prod e E k
/-- The row that goes on. -/
def out (x M : Fin 1024 → EReal) (W : Fin 1024 → Fin 1024 → EReal) (k : Fin 1024) : EReal := x k + ∑ n : Fin 1024, M n * W n k
/-- Its normalised form, times the gain. -/
def hm (x g : Fin 1024 → EReal) (k : Fin 1024) : EReal := MlpRow.normed x k * g k

end Cert.GateRow

end
-- ==== Proof.MergeFinal.lean ====
/- What `merge_fwd` leaves in its three arrays, as formulas over the arrays it reads. -/
module

public import proofs.«01_k».proof.Proof.Gen.MergeIdeal.Value
public import proofs.«01_k».proof.Proof.GateRow
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MergeIdeal.Value

open Cert.MergeIdeal Cert.MergeIdeal.Gen
open Idealize.ShloMosaic.Pipeline (Dat)

variable (m : (ℓ : Loc nD τ sig) → Buf (Elt Ideal) ℓ)

/-- Row `s` of an array. -/
def row {n k : ℕ} (X : (⟨2, ![n, k]⟩ : Shape).Idx → EReal) (s : Fin n) (l : Fin k) : EReal := X (ix2 s l)
/-- Row `s` of the logits: the first half of the columns. -/
def logits (P : S4096x6144.Idx → EReal) (s : Fin 4096) (j : Fin 3072) : EReal := P (ix2 s ⟨j.val, by omega⟩)

section
variable (X : FVec Ideal S4096x1024 .f32) (A F E : FVec Ideal S4096x512 .bf16) (P : FVec Ideal S4096x6144 .bf16) (B : FVec Ideal S1x3072 .f32)
  (WA WF WE : FVec Ideal S512x1024 .bf16) (WO : FVec Ideal S1024x1024 .bf16) (G : FVec Ideal S1x1024 .f32)
/-- The gated sum. -/
def mergedArr : S4096x1024.Idx → EReal := fun y =>
  GateRow.merged (row A (y 0)) (row F (y 0)) (row E (y 0)) (row WA) (row WF) (row WE) (logits P (y 0)) (row B 0) (y 1)
/-- The rows that go on. -/
def outArr : S4096x1024.Idx → EReal := fun y =>
  GateRow.out (row X (y 0)) (row (mergedArr A F E P B WA WF WE) (y 0)) (row WO) (y 1)
/-- Their normalised form. -/
def hmArr : S4096x1024.Idx → EReal := fun y => GateRow.hm (row (outArr X A F E P B WA WF WE WO) (y 0)) (row G 0) (y 1)
end

def xBlk (c : Dev nD) (t : Fin cfg0.N) (r : Fin 512) (k : Fin 1024) : EReal := (show FVec Ideal S512x1024 .f32 from iblk m c 0 t) (ix2 r k)
def aBlk (c : Dev nD) (t : Fin cfg0.N) (r : Fin 512) (k : Fin 512) : EReal := (show FVec Ideal S512x512 .bf16 from iblk m c 1 t) (ix2 r k)
def fBlk (c : Dev nD) (t : Fin cfg0.N) (r : Fin 512) (k : Fin 512) : EReal := (show FVec Ideal S512x512 .bf16 from iblk m c 2 t) (ix2 r k)
def eBlk (c : Dev nD) (t : Fin cfg0.N) (r : Fin 512) (k : Fin 512) : EReal := (show FVec Ideal S512x512 .bf16 from iblk m c 3 t) (ix2 r k)
def biasBlk (c : Dev nD) (t : Fin cfg0.N) (k : Fin 3072) : EReal := (show FVec Ideal S1x3072 .f32 from iblk m c 4 t) (ix2 0 k)
def gBlk (c : Dev nD) (t : Fin cfg0.N) (k : Fin 1024) : EReal := (show FVec Ideal S1x1024 .f32 from iblk m c 9 t) (ix2 0 k)
def wABlk (c : Dev nD) (t : Fin cfg0.N) (r : Fin 512) (k : Fin 1024) : EReal := (show FVec Ideal S512x1024 .bf16 from iblk m c 5 t) (ix2 r k)
def wFBlk (c : Dev nD) (t : Fin cfg0.N) (r : Fin 512) (k : Fin 1024) : EReal := (show FVec Ideal S512x1024 .bf16 from iblk m c 6 t) (ix2 r k)
def wEBlk (c : Dev nD) (t : Fin cfg0.N) (r : Fin 512) (k : Fin 1024) : EReal := (show FVec Ideal S512x1024 .bf16 from iblk m c 7 t) (ix2 r k)
def wOBlk (c : Dev nD) (t : Fin cfg0.N) (r : Fin 1024) (k : Fin 1024) : EReal := (show FVec Ideal S1024x1024 .bf16 from iblk m c 8 t) (ix2 r k)
/-- The logits the body waits for at a point. -/
def lBlk (c : Dev nD) (t : Fin cfg0.N) (r : Fin 512) (j : Fin 3072) : EReal :=
  (srcB0_0 (Ring.bk 8 t.val)).view.read (Elt Ideal) (V m c main_arg4) (ix2 r j)

/-- The blocks' places. -/
theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![t.val, 0] ∧
    win0_11.index t = ![t.val, 0] ∧ win0_12.index t = ![t.val, 0] ∧ t.val < 8 :=
  (by decide +kernel : ∀ t : Fin grid0.N, _)

theorem lt8 (t : Fin cfg0.N) : t.val < 8 := (idx t).2.2.2.2.2.2.2.2.2.2.2.2.2
theorem row_lt (t : Fin cfg0.N) (r : Fin 512) : t.val * 512 + r.val < 4096 := by have := lt8 t; omega

theorem xBlk_eq (c : Dev nD) (t : Fin cfg0.N) (r : Fin 512) :
    xBlk m c t r = row (m ((c : Thread nD τ).loc main_arg0)) (⟨t.val * 512 + r.val, row_lt t r⟩ : Fin 4096) := by
  funext k; unfold xBlk row; blk_ext! [iblk, V, idx t]
theorem aBlk_eq (c : Dev nD) (t : Fin cfg0.N) (r : Fin 512) :
    aBlk m c t r = row (m ((c : Thread nD τ).loc main_arg1)) (⟨t.val * 512 + r.val, row_lt t r⟩ : Fin 4096) := by
  funext k; unfold aBlk row; blk_ext! [iblk, V, idx t]
theorem fBlk_eq (c : Dev nD) (t : Fin cfg0.N) (r : Fin 512) :
    fBlk m c t r = row (m ((c : Thread nD τ).loc main_arg2)) (⟨t.val * 512 + r.val, row_lt t r⟩ : Fin 4096) := by
  funext k; unfold fBlk row; blk_ext! [iblk, V, idx t]
theorem eBlk_eq (c : Dev nD) (t : Fin cfg0.N) (r : Fin 512) :
    eBlk m c t r = row (m ((c : Thread nD τ).loc main_arg3)) (⟨t.val * 512 + r.val, row_lt t r⟩ : Fin 4096) := by
  funext k; unfold eBlk row; blk_ext! [iblk, V, idx t]
theorem biasBlk_eq (c : Dev nD) (t : Fin cfg0.N) : biasBlk m c t = row (n := 1) (m ((c : Thread nD τ).loc main_arg5)) 0 := by
  funext k; unfold biasBlk row; blk_ext! [iblk, V, idx t]
theorem gBlk_eq (c : Dev nD) (t : Fin cfg0.N) : gBlk m c t = row (n := 1) (m ((c : Thread nD τ).loc main_arg10)) 0 := by
  funext k; unfold gBlk row; blk_ext! [iblk, V, idx t]
theorem wABlk_eq (c : Dev nD) (t : Fin cfg0.N) : wABlk m c t = row (n := 512) (m ((c : Thread nD τ).loc main_arg6)) := by
  funext j k; unfold wABlk row; blk_ext! [iblk, V, idx t]
theorem wFBlk_eq (c : Dev nD) (t : Fin cfg0.N) : wFBlk m c t = row (n := 512) (m ((c : Thread nD τ).loc main_arg7)) := by
  funext j k; unfold wFBlk row; blk_ext! [iblk, V, idx t]
theorem wEBlk_eq (c : Dev nD) (t : Fin cfg0.N) : wEBlk m c t = row (n := 512) (m ((c : Thread nD τ).loc main_arg8)) := by
  funext j k; unfold wEBlk row; blk_ext! [iblk, V, idx t]
theorem wOBlk_eq (c : Dev nD) (t : Fin cfg0.N) : wOBlk m c t = row (n := 1024) (m ((c : Thread nD τ).loc main_arg9)) := by
  funext j k; unfold wOBlk row; blk_ext! [iblk, V, idx t]
theorem lBlk_eq (c : Dev nD) (t : Fin cfg0.N) (r : Fin 512) :
    lBlk m c t r = logits (m ((c : Thread nD τ).loc main_arg4)) (⟨t.val * 512 + r.val, row_lt t r⟩ : Fin 4096) := by
  funext j
  have := lt8 t
  unfold lBlk logits
  rw [V_main_arg4]
  refine congrArg (m ((c : Thread nD τ).loc main_arg4)) ?_
  funext a; apply Fin.ext
  fin_cases a
  · show 512 * (t.val % 8) + 1 * r.val = t.val * 512 + r.val
    omega
  · show 0 + 1 * j.val = j.val
    omega

/-- A load of 1024 columns off a slot that holds one block. -/
theorem slot_at (v : View sig .tc .vmem S512x3072 .bf16) (w : Vec Ideal S512x3072 .bf16) (o : ℕ)
    (inb : ∀ a, (![0, o] : Fin 2 → ℕ) a + (![512, 1024] : Fin 2 → ℕ) a ≤ S512x3072.size a) (y : S512x1024.Idx) (h : o + (y 1).val < 3072) :
    v.readCov (Val := Elt Ideal) [⟨Rect.whole S512x3072, w⟩] (Rect.unit (s := S512x3072) ![0, o] ![512, 1024] inb).toLoadRect y
      = w (ix2 (y 0) ⟨o + (y 1).val, h⟩) := by
  rw [View.readCov_eq_canon']
  refine ((congrArg _ (Rect.emb_whole_apply S512x3072 _).symm).trans (View.canon_cons_emb (Rect.whole S512x3072) w [] _)).trans ?_
  refine congrArg w ?_
  funext a; apply Fin.ext
  fin_cases a
  · show 0 + 1 * (y 0).val = (y 0).val
    omega
  · show o + 1 * (y 1).val = o + (y 1).val
    omega

/-- The logits of one branch at a point. -/
def lVec (c : Dev nD) (t : Fin cfg0.N) (o : ℕ) (h : o + 1024 ≤ 3072) : Vec Ideal S512x1024 .bf16 :=
  fun y => lBlk m c t (y 0) ⟨o + (y 1).val, by have : (y 1).val < 1024 := (y 1).isLt; omega⟩

theorem slot_load (c : Dev nD) (t : Fin cfg0.N) (o : ℕ) (h : o + 1024 ≤ 3072)
    (inb : ∀ a, (![0, o] : Fin 2 → ℕ) a + (![512, 1024] : Fin 2 → ℕ) a ≤ S512x3072.size a) :
    (rslot0_0 (Fin.ofNat 3 t.val)).view.readCov (Val := Elt Ideal)
        [⟨Rect.whole S512x3072, ReadAs.same.apply (View.read (Elt Ideal) (srcB0_0 (Ring.bk 8 t.val)).view (V m c main_arg4))⟩]
        (Rect.unit (s := S512x3072) ![0, o] ![512, 1024] inb).toLoadRect
      = lVec m c t o h := by
  funext y
  exact slot_at _ _ o inb y (by have : (y 1).val < 1024 := (y 1).isLt; omega)

/-- The gated sum of a point's rows. -/
def mBlk (c : Dev nD) (t : Fin cfg0.N) (r : Fin 512) : Fin 1024 → EReal :=
  GateRow.merged (aBlk m c t r) (fBlk m c t r) (eBlk m c t r) (wABlk m c t) (wFBlk m c t) (wEBlk m c t) (lBlk m c t r) (biasBlk m c t)

theorem out12A (c : Dev nD) (t : Fin cfg0.N) (h0 : t.val % 8 = 0) (h1 : t.val % 8 = 0) (h2 : t.val < 6) (y : S512x1024.Idx) :
    (show EReal from (outsAt0 m c t.val t.isLt).2.2 y) = mBlk m c t (y 0) (y 1) := by
  rw [outsAt0_A m c t h0 h1 h2]; frame_out
  open_payloads
  rw [slot_load m c t 0 (by omega), slot_load m c t 1024 (by omega), slot_load m c t 2048 (by omega)]
  pointwise
  simp only [lVec, mBlk, GateRow.merged, GateRow.gate, GateRow.prod, GateRow.col0, GateRow.col1, GateRow.col2, aBlk, fBlk, eBlk, wABlk, wFBlk, wEBlk,
    biasBlk, Nat.zero_add]

theorem out12B (c : Dev nD) (t : Fin cfg0.N) (h0 : ¬t.val % 8 = 0) (h1 : ¬t.val % 8 = 0) (h2 : t.val < 6) (y : S512x1024.Idx) :
    (show EReal from (outsAt0 m c t.val t.isLt).2.2 y) = mBlk m c t (y 0) (y 1) := by
  rw [outsAt0_B m c t h0 h1 h2]; frame_out
  open_payloads
  rw [slot_load m c t 0 (by omega), slot_load m c t 1024 (by omega), slot_load m c t 2048 (by omega)]
  pointwise
  simp only [lVec, mBlk, GateRow.merged, GateRow.gate, GateRow.prod, GateRow.col0, GateRow.col1, GateRow.col2, aBlk, fBlk, eBlk, wABlk, wFBlk, wEBlk,
    biasBlk, Nat.zero_add]

theorem out12C (c : Dev nD) (t : Fin cfg0.N) (h0 : ¬t.val % 8 = 0) (h1 : ¬t.val % 8 = 0) (h2 : ¬t.val < 6) (y : S512x1024.Idx) :
    (show EReal from (outsAt0 m c t.val t.isLt).2.2 y) = mBlk m c t (y 0) (y 1) := by
  rw [outsAt0_C m c t h0 h1 h2]; frame_out
  open_payloads
  rw [slot_load m c t 0 (by omega), slot_load m c t 1024 (by omega), slot_load m c t 2048 (by omega)]
  pointwise
  simp only [lVec, mBlk, GateRow.merged, GateRow.gate, GateRow.prod, GateRow.col0, GateRow.col1, GateRow.col2, aBlk, fBlk, eBlk, wABlk, wFBlk, wEBlk,
    biasBlk, Nat.zero_add]

theorem out12 (c : Dev nD) (t : Fin cfg0.N) (y : S512x1024.Idx) : (show EReal from (outsAt0 m c t.val t.isLt).2.2 y) = mBlk m c t (y 0) (y 1) := by
  have := lt8 t
  by_cases h0 : t.val % 8 = 0
  · exact out12A m c t h0 h0 (by omega) y
  by_cases h2 : t.val < 6
  · exact out12B m c t h0 h0 h2 y
  · exact out12C m c t h0 h0 h2 y

theorem out10A (c : Dev nD) (t : Fin cfg0.N) (h0 : t.val % 8 = 0) (h1 : t.val % 8 = 0) (h2 : t.val < 6) (y : S512x1024.Idx) :
    (show EReal from (outsAt0 m c t.val t.isLt).1 y) = GateRow.out (xBlk m c t (y 0)) (mBlk m c t (y 0)) (wOBlk m c t) (y 1) := by
  rw [outsAt0_A m c t h0 h1 h2]; frame_out
  open_payloads
  rw [slot_load m c t 0 (by omega), slot_load m c t 1024 (by omega), slot_load m c t 2048 (by omega)]
  pointwise
  simp only [lVec, GateRow.out, mBlk, GateRow.merged, xBlk, wOBlk, GateRow.gate, GateRow.prod, GateRow.col0, GateRow.col1, GateRow.col2, aBlk, fBlk, eBlk, wABlk, wFBlk, wEBlk,
    biasBlk, Nat.zero_add]
  blk_point [] <;> rfl

theorem out10B (c : Dev nD) (t : Fin cfg0.N) (h0 : ¬t.val % 8 = 0) (h1 : ¬t.val % 8 = 0) (h2 : t.val < 6) (y : S512x1024.Idx) :
    (show EReal from (outsAt0 m c t.val t.isLt).1 y) = GateRow.out (xBlk m c t (y 0)) (mBlk m c t (y 0)) (wOBlk m c t) (y 1) := by
  rw [outsAt0_B m c t h0 h1 h2]; frame_out
  open_payloads
  rw [slot_load m c t 0 (by omega), slot_load m c t 1024 (by omega), slot_load m c t 2048 (by omega)]
  pointwise
  simp only [lVec, GateRow.out, mBlk, GateRow.merged, xBlk, wOBlk, GateRow.gate, GateRow.prod, GateRow.col0, GateRow.col1, GateRow.col2, aBlk, fBlk, eBlk, wABlk, wFBlk, wEBlk,
    biasBlk, Nat.zero_add]
  blk_point [] <;> rfl

theorem out10C (c : Dev nD) (t : Fin cfg0.N) (h0 : ¬t.val % 8 = 0) (h1 : ¬t.val % 8 = 0) (h2 : ¬t.val < 6) (y : S512x1024.Idx) :
    (show EReal from (outsAt0 m c t.val t.isLt).1 y) = GateRow.out (xBlk m c t (y 0)) (mBlk m c t (y 0)) (wOBlk m c t) (y 1) := by
  rw [outsAt0_C m c t h0 h1 h2]; frame_out
  open_payloads
  rw [slot_load m c t 0 (by omega), slot_load m c t 1024 (by omega), slot_load m c t 2048 (by omega)]
  pointwise
  simp only [lVec, GateRow.out, mBlk, GateRow.merged, xBlk, wOBlk, GateRow.gate, GateRow.prod, GateRow.col0, GateRow.col1, GateRow.col2, aBlk, fBlk, eBlk, wABlk, wFBlk, wEBlk,
    biasBlk, Nat.zero_add]
  blk_point [] <;> rfl

theorem out10 (c : Dev nD) (t : Fin cfg0.N) (y : S512x1024.Idx) : (show EReal from (outsAt0 m c t.val t.isLt).1 y) = GateRow.out (xBlk m c t (y 0)) (mBlk m c t (y 0)) (wOBlk m c t) (y 1) := by
  have := lt8 t
  by_cases h0 : t.val % 8 = 0
  · exact out10A m c t h0 h0 (by omega) y
  by_cases h2 : t.val < 6
  · exact out10B m c t h0 h0 h2 y
  · exact out10C m c t h0 h0 h2 y

theorem out11A (c : Dev nD) (t : Fin cfg0.N) (h0 : t.val % 8 = 0) (h1 : t.val % 8 = 0) (h2 : t.val < 6) (y : S512x1024.Idx) :
    (show EReal from (outsAt0 m c t.val t.isLt).2.1 y) = GateRow.hm (GateRow.out (xBlk m c t (y 0)) (mBlk m c t (y 0)) (wOBlk m c t)) (gBlk m c t) (y 1) := by
  rw [outsAt0_A m c t h0 h1 h2]; frame_out
  open_payloads
  rw [slot_load m c t 0 (by omega), slot_load m c t 1024 (by omega), slot_load m c t 2048 (by omega)]
  pointwise
  simp only [lVec, GateRow.hm, MlpRow.normed, MlpRow.rstd, GateRow.out, mBlk, GateRow.merged, xBlk, wOBlk, gBlk, GateRow.gate, GateRow.prod, GateRow.col0, GateRow.col1, GateRow.col2, aBlk, fBlk, eBlk, wABlk, wFBlk, wEBlk,
    biasBlk, Nat.zero_add]
  blk_point [] <;> rfl

theorem out11B (c : Dev nD) (t : Fin cfg0.N) (h0 : ¬t.val % 8 = 0) (h1 : ¬t.val % 8 = 0) (h2 : t.val < 6) (y : S512x1024.Idx) :
    (show EReal from (outsAt0 m c t.val t.isLt).2.1 y) = GateRow.hm (GateRow.out (xBlk m c t (y 0)) (mBlk m c t (y 0)) (wOBlk m c t)) (gBlk m c t) (y 1) := by
  rw [outsAt0_B m c t h0 h1 h2]; frame_out
  open_payloads
  rw [slot_load m c t 0 (by omega), slot_load m c t 1024 (by omega), slot_load m c t 2048 (by omega)]
  pointwise
  simp only [lVec, GateRow.hm, MlpRow.normed, MlpRow.rstd, GateRow.out, mBlk, GateRow.merged, xBlk, wOBlk, gBlk, GateRow.gate, GateRow.prod, GateRow.col0, GateRow.col1, GateRow.col2, aBlk, fBlk, eBlk, wABlk, wFBlk, wEBlk,
    biasBlk, Nat.zero_add]
  blk_point [] <;> rfl

theorem out11C (c : Dev nD) (t : Fin cfg0.N) (h0 : ¬t.val % 8 = 0) (h1 : ¬t.val % 8 = 0) (h2 : ¬t.val < 6) (y : S512x1024.Idx) :
    (show EReal from (outsAt0 m c t.val t.isLt).2.1 y) = GateRow.hm (GateRow.out (xBlk m c t (y 0)) (mBlk m c t (y 0)) (wOBlk m c t)) (gBlk m c t) (y 1) := by
  rw [outsAt0_C m c t h0 h1 h2]; frame_out
  open_payloads
  rw [slot_load m c t 0 (by omega), slot_load m c t 1024 (by omega), slot_load m c t 2048 (by omega)]
  pointwise
  simp only [lVec, GateRow.hm, MlpRow.normed, MlpRow.rstd, GateRow.out, mBlk, GateRow.merged, xBlk, wOBlk, gBlk, GateRow.gate, GateRow.prod, GateRow.col0, GateRow.col1, GateRow.col2, aBlk, fBlk, eBlk, wABlk, wFBlk, wEBlk,
    biasBlk, Nat.zero_add]
  blk_point [] <;> rfl

theorem out11 (c : Dev nD) (t : Fin cfg0.N) (y : S512x1024.Idx) : (show EReal from (outsAt0 m c t.val t.isLt).2.1 y) = GateRow.hm (GateRow.out (xBlk m c t (y 0)) (mBlk m c t (y 0)) (wOBlk m c t)) (gBlk m c t) (y 1) := by
  have := lt8 t
  by_cases h0 : t.val % 8 = 0
  · exact out11A m c t h0 h0 (by omega) y
  by_cases h2 : t.val < 6
  · exact out11B m c t h0 h0 h2 y
  · exact out11C m c t h0 h0 h2 y

theorem mBlk_eq (c : Dev nD) (t : Fin cfg0.N) (r : Fin 512) : mBlk m c t r
    = row (mergedArr (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (⟨t.val * 512 + r.val, row_lt t r⟩ : Fin 4096) := by
  unfold mBlk
  rw [aBlk_eq, fBlk_eq, eBlk_eq, wABlk_eq, wFBlk_eq, wEBlk_eq, lBlk_eq, biasBlk_eq]
  rfl

theorem oBlk_eq (c : Dev nD) (t : Fin cfg0.N) (r : Fin 512) : GateRow.out (xBlk m c t r) (mBlk m c t r) (wOBlk m c t)
    = row (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (⟨t.val * 512 + r.val, row_lt t r⟩ : Fin 4096) := by
  rw [xBlk_eq, mBlk_eq, wOBlk_eq]
  rfl

theorem final10 (c : Dev nD) : (dats m 0 c).arrAt 10 cfg0.N
    = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  refine (out10 m c t y).trans ?_
  have hr : ((((cfg0.win 10).blk t).view.emb y) 0 : Fin 4096) = ⟨t.val * 512 + (y 0).val, row_lt t (y 0)⟩ := by
    apply Fin.ext; blk_simp [idx t]
  have hc : ((((cfg0.win 10).blk t).view.emb y) 1 : Fin 1024) = y 1 := by
    apply Fin.ext; blk_simp [idx t]
  exact (congrFun (oBlk_eq m c t (y 0)) (y 1)).trans (congrArg₂ (fun (s : Fin 4096) (k : Fin 1024) =>
    outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 s k)) hr.symm hc.symm)

theorem final11 (c : Dev nD) : (dats m 0 c).arrAt 11 cfg0.N
    = hmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  refine (out11 m c t y).trans ?_
  have hr : ((((cfg0.win 11).blk t).view.emb y) 0 : Fin 4096) = ⟨t.val * 512 + (y 0).val, row_lt t (y 0)⟩ := by
    apply Fin.ext; blk_simp [idx t]
  have hc : ((((cfg0.win 11).blk t).view.emb y) 1 : Fin 1024) = y 1 := by
    apply Fin.ext; blk_simp [idx t]
  exact (congrFun (congrArg₂ GateRow.hm (oBlk_eq m c t (y 0)) (gBlk_eq m c t)) (y 1)).trans (congrArg₂ (fun (s : Fin 4096) (k : Fin 1024) =>
    hmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 s k)) hr.symm hc.symm)

theorem final12 (c : Dev nD) : (dats m 0 c).arrAt 12 cfg0.N
    = mergedArr (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12]
  refine (out12 m c t y).trans ?_
  have hr : ((((cfg0.win 12).blk t).view.emb y) 0 : Fin 4096) = ⟨t.val * 512 + (y 0).val, row_lt t (y 0)⟩ := by
    apply Fin.ext; blk_simp [idx t]
  have hc : ((((cfg0.win 12).blk t).view.emb y) 1 : Fin 1024) = y 1 := by
    apply Fin.ext; blk_simp [idx t]
  exact (congrFun (mBlk_eq m c t (y 0)) (y 1)).trans (congrArg₂ (fun (s : Fin 4096) (k : Fin 1024) =>
    mergedArr (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 s k)) hr.symm hc.symm)

end Cert.MergeIdeal.Value

end
-- ==== Proof.MergeClaim.lean ====
/- The gated sum of the branches by the kernel is the reference's, and the claim that compares the two programs. -/
module

public import proofs.«01_k».proof.Defs
public import proofs.«01_k».proof.Proof.MergeFinal
public import proofs.«01_k».proof.Proof.Gen.MergePlainIdeal.Run
public import Idealize.ShloMosaic.Adequacy
public import Idealize.ShloMosaic.Init

@[expose] public section

set_option maxRecDepth 16384

noncomputable section

open Idealize.ShloMosaic Idealize.ShloMosaic.TcCoe Idealize.SL.Sem

namespace Cert.MergeClaim

open Cert.MergePlainIdeal Cert.MergePlainIdeal.Gen
open Cert.MergeIdeal.Value (row logits mergedArr outArr hmArr)

section
variable (X : FVec Ideal S4096x1024 .f32) (A F E : FVec Ideal S4096x512 .bf16) (P : FVec Ideal S4096x6144 .bf16) (B : FVec Ideal S1x3072 .f32)
  (WA WF WE : FVec Ideal S512x1024 .bf16) (WO : FVec Ideal S1024x1024 .bf16) (G : FVec Ideal S1x1024 .f32)

/-- The logits with their bias. -/
def biased : FVec Ideal S4096x3072 .f32 :=
  addf (extractStridedSlice S4096x3072 ![0, 0] (extf .f32 P bitsLt_bf16_f32) slices_S4096x6144_S4096x3072_0_0)
    (broadcastInDim S4096x3072 ![0, 1] bcast_S1x3072_S4096x3072_0_1 (broadcastInDim S1x3072 ![1] bcast_S3072_S1x3072_1 (shapeCast _ B shapeCasts_S1x3072_S3072)))
/-- Their sigmoid. -/
def gates : FVec Ideal S4096x3072 .f32 :=
  Host.divf (broadcastInDim S4096x3072 ![] bcast_S_S4096x3072 (constant S_ .f32 0x3F800000#32))
    (addf (broadcastInDim S4096x3072 ![] bcast_S_S4096x3072 (constant S_ .f32 0x3F800000#32)) (Host.exp (Host.negf (biased P B))))
/-- The three branches' thirds of the columns. -/
def third0 (g : FVec Ideal S4096x3072 .f32) : FVec Ideal S4096x1024 .f32 :=
  shapeCast _ (extractStridedSlice S4096x1x1024 ![0, 0, 0] (shapeCast _ g shapeCasts_S4096x3072_S4096x3x1024) slices_S4096x3x1024_S4096x1x1024_0_0_0) shapeCasts_S4096x1x1024_S4096x1024
def third1 (g : FVec Ideal S4096x3072 .f32) : FVec Ideal S4096x1024 .f32 :=
  shapeCast _ (extractStridedSlice S4096x1x1024 ![0, 1, 0] (shapeCast _ g shapeCasts_S4096x3072_S4096x3x1024) slices_S4096x3x1024_S4096x1x1024_0_1_0) shapeCasts_S4096x1x1024_S4096x1024
def third2 (g : FVec Ideal S4096x3072 .f32) : FVec Ideal S4096x1024 .f32 :=
  shapeCast _ (extractStridedSlice S4096x1x1024 ![0, 2, 0] (shapeCast _ g shapeCasts_S4096x3072_S4096x3x1024) slices_S4096x3x1024_S4096x1x1024_0_2_0) shapeCasts_S4096x1x1024_S4096x1024
/-- A branch's output product. -/
def branch (o : FVec Ideal S4096x512 .bf16) (w : FVec Ideal S512x1024 .bf16) : FVec Ideal S4096x1024 .f32 :=
  Host.dotGeneral dot_S4096x512_S512x1024_S4096x1024_1_0_0_1_n_n none (extf .f32 o bitsLt_bf16_f32) (extf .f32 w bitsLt_bf16_f32)
/-- The gated sum. -/
def summed : FVec Ideal S4096x1024 .f32 :=
  addf (addf (mulf (third0 (gates P B)) (branch A WA)) (mulf (third1 (gates P B)) (branch F WF))) (mulf (third2 (gates P B)) (branch E WE))
/-- The rows that go on. -/
def onward : FVec Ideal S4096x1024 .f32 :=
  addf X (Host.dotGeneral dot_S4096x1024_S1024x1024_S4096x1024_1_0_0_1_n_n none (summed A F E P B WA WF WE) (extf .f32 WO bitsLt_bf16_f32))
/-- The rows' mean squares, with the small number. -/
def spread (Y : FVec Ideal S4096x1024 .f32) : FVec Ideal S4096x1 .f32 :=
  addf (Host.divf (broadcastInDim S4096x1 ![0] bcast_S4096_S4096x1_0
      (Host.reduceAdd (mulf Y Y) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- The normalised rows, times the gain. -/
def scaled (Y : FVec Ideal S4096x1024 .f32) : FVec Ideal S4096x1024 .f32 :=
  mulf (mulf Y (broadcastInDim S4096x1024 ![0, 1] bcast_S4096x1_S4096x1024_0_1 (Host.rsqrt (spread Y))))
    (broadcastInDim S4096x1024 ![0, 1] bcast_S1x1024_S4096x1024_0_1 (broadcastInDim S1x1024 ![1] bcast_S1024_S1x1024_1 (shapeCast _ G shapeCasts_S1x1024_S1024)))

theorem biased_at (s : Fin 4096) (j : Fin 3072) : biased P B (ix2 s j) = P (ix2 s ⟨j.val, by omega⟩) + B (ix2 0 j) := by
  pointwise [biased]

theorem gates_at (s : Fin 4096) (j : Fin 3072) : gates P B (ix2 s j) = GateRow.gate (logits P s j + row B 0 j) := by
  have e : gates P B (ix2 s j) = Ideal.div 1 (1 + Ideal.exp (-(biased P B (ix2 s j)))) := by
    pointwise [gates]
  rw [e, biased_at, GateRow.gate, zero_sub]; rfl

theorem third0_at (g : FVec Ideal S4096x3072 .f32) (s : Fin 4096) (k : Fin 1024) : third0 g (ix2 s k) = g (ix2 s (GateRow.col0 k)) := by
  pointwise [third0]
  blk_point [GateRow.col0]

theorem third1_at (g : FVec Ideal S4096x3072 .f32) (s : Fin 4096) (k : Fin 1024) : third1 g (ix2 s k) = g (ix2 s (GateRow.col1 k)) := by
  pointwise [third1]
  blk_point [GateRow.col1]

theorem third2_at (g : FVec Ideal S4096x3072 .f32) (s : Fin 4096) (k : Fin 1024) : third2 g (ix2 s k) = g (ix2 s (GateRow.col2 k)) := by
  pointwise [third2]
  blk_point [GateRow.col2]

theorem branch_at (o : FVec Ideal S4096x512 .bf16) (w : FVec Ideal S512x1024 .bf16) (s : Fin 4096) (k : Fin 1024) :
    branch o w (ix2 s k) = GateRow.prod (row o s) (row w) k := by
  pointwise [branch]
  rfl

theorem summed_at (s : Fin 4096) (k : Fin 1024) : summed A F E P B WA WF WE (ix2 s k) = mergedArr A F E P B WA WF WE (ix2 s k) := by
  have e : summed A F E P B WA WF WE (ix2 s k) = third0 (gates P B) (ix2 s k) * branch A WA (ix2 s k)
      + third1 (gates P B) (ix2 s k) * branch F WF (ix2 s k) + third2 (gates P B) (ix2 s k) * branch E WE (ix2 s k) := by
    pointwise [summed]
  rw [e, third0_at, third1_at, third2_at, gates_at, gates_at, gates_at, branch_at, branch_at, branch_at]; rfl

theorem onward_at (s : Fin 4096) (k : Fin 1024) : onward X A F E P B WA WF WE WO (ix2 s k) = outArr X A F E P B WA WF WE WO (ix2 s k) := by
  have e : onward X A F E P B WA WF WE WO (ix2 s k) = X (ix2 s k) + ∑ n : Fin 1024, summed A F E P B WA WF WE (ix2 s n) * WO (ix2 n k) := by
    pointwise [onward]
  rw [e]; simp only [summed_at]; rfl

theorem spread_at (Y : FVec Ideal S4096x1024 .f32) (s : Fin 4096) : spread Y (ix2 s 0)
    = Ideal.div (∑ k : Fin 1024, Y (ix2 s k) * Y (ix2 s k)) MlpRow.width + MlpRow.eps := by
  pointwise [spread]

theorem scaled_at (Y : FVec Ideal S4096x1024 .f32) (s : Fin 4096) (k : Fin 1024) : scaled G Y (ix2 s k) = GateRow.hm (row Y s) (row G 0) k := by
  have e : scaled G Y (ix2 s k) = Y (ix2 s k) * Ideal.rsqrt (spread Y (ix2 s 0)) * G (ix2 0 k) := by
    pointwise [scaled]
  rw [e, spread_at]; rfl

theorem onward_row (s : Fin 4096) : row (onward X A F E P B WA WF WE WO) s = row (outArr X A F E P B WA WF WE WO) s :=
  funext fun k => onward_at X A F E P B WA WF WE WO s k

theorem out_eq : onward X A F E P B WA WF WE WO = (outArr X A F E P B WA WF WE WO : FVec Ideal S4096x1024 .f32) := by
  funext y
  obtain ⟨a, b, rfl⟩ : ∃ (a : Fin 4096) (b : Fin 1024), y = ix2 a b := ⟨y 0, y 1, by funext i; fin_cases i <;> rfl⟩
  exact onward_at X A F E P B WA WF WE WO a b

theorem merged_eq : truncf .bf16 (summed A F E P B WA WF WE) bitsLt_bf16_f32 = (mergedArr A F E P B WA WF WE : FVec Ideal S4096x1024 .bf16) := by
  funext y
  obtain ⟨a, b, rfl⟩ : ∃ (a : Fin 4096) (b : Fin 1024), y = ix2 a b := ⟨y 0, y 1, by funext i; fin_cases i <;> rfl⟩
  exact summed_at A F E P B WA WF WE a b

theorem hm_eq : truncf .bf16 (scaled G (onward X A F E P B WA WF WE WO)) bitsLt_bf16_f32
    = (hmArr X A F E P B WA WF WE WO G : FVec Ideal S4096x1024 .bf16) := by
  funext y
  obtain ⟨a, b, rfl⟩ : ∃ (a : Fin 4096) (b : Fin 1024), y = ix2 a b := ⟨y 0, y 1, by funext i; fin_cases i <;> rfl⟩
  exact (scaled_at G _ a b).trans (congrArg (fun r => GateRow.hm r (row G 0) b) (onward_row X A F E P B WA WF WE WO a))

end

theorem res_eq (m : (ℓ : Loc nD τ sig) → Buf (Elt Ideal) ℓ) (c : Dev nD) : Cert.MergePlainIdeal.Value.res_main_v50 m c
    = truncf .bf16 (scaled (m ((c.tc : Thread nD τ).loc main_arg10)) (onward (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)))) bitsLt_bf16_f32 := rfl

set_option maxHeartbeats 4000000 in
/-- The kernel and the reference end with equal results. -/
theorem algebraic : Cert.algebraic_MergeIdeal_MergePlainIdeal (hMergeIdeal := Cert.MergeIdeal.Gen.facts)
    (hMergePlainIdeal := Cert.MergePlainIdeal.Gen.facts) := by
  pair_intro
  · run_from Cert.MergeIdeal.Gen.run_main m g
  · run_from Cert.MergePlainIdeal.Value.run m' g'
    · refine Eq.trans ?_ (Cert.MergeIdeal.Value.final10 m c).symm
      exact out_eq _ _ _ _ _ _ _ _ _ _
    · refine ((res_eq m' c).trans ?_).trans (Cert.MergeIdeal.Value.final11 m c).symm
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
      exact hm_eq _ _ _ _ _ _ _ _ _ _ _
    · refine Eq.trans ?_ (Cert.MergeIdeal.Value.final12 m c).symm
      exact merged_eq _ _ _ _ _ _ _ _

end Cert.MergeClaim

end
-- ==== Proof.GateGrad.lean ====
/- One row of the gated sum's gradients: by the gated sum, by the branch products, by the branches' rows and by the logits. -/
module

public import proofs.«01_k».proof.Proof.GateRow

@[expose] public section

set_option maxRecDepth 16384

noncomputable section

open Idealize.ShloMosaic Idealize.ShloMosaic.TcCoe Idealize.SL.Sem

namespace Cert.GateRow

/-- The gradient by the gated sum: the output's gradient against the output weights. -/
def dsum (d : Fin 1024 → EReal) (W : Fin 1024 → Fin 1024 → EReal) (k : Fin 1024) : EReal := ∑ n : Fin 1024, d n * W k n
/-- The gradient by a branch's product. -/
def dprod (D : Fin 1024 → EReal) (l b : Fin 3072 → EReal) (col : Fin 1024 → Fin 3072) (k : Fin 1024) : EReal := D k * gate (l (col k) + b (col k))
/-- The gradient by a branch's row. -/
def dbranch (Y : Fin 1024 → EReal) (W : Fin 512 → Fin 1024 → EReal) (n : Fin 512) : EReal := ∑ k : Fin 1024, Y k * W n k
/-- The gradient by a branch's logits. -/
def dlogit (D : Fin 1024 → EReal) (o : Fin 512 → EReal) (W : Fin 512 → Fin 1024 → EReal) (l b : Fin 3072 → EReal) (col : Fin 1024 → Fin 3072)
    (k : Fin 1024) : EReal :=
  ((D k * prod o W k) * gate (l (col k) + b (col k))) * (1 - gate (l (col k) + b (col k)))
/-- The gradient by all the logits. -/
def dlogits (D : Fin 1024 → EReal) (a f e : Fin 512 → EReal) (A F E : Fin 512 → Fin 1024 → EReal) (l b : Fin 3072 → EReal) (j : Fin 3072) : EReal :=
  if h0 : j.val < 1024 then dlogit D a A l b col0 ⟨j.val, h0⟩
  else if h1 : j.val < 2048 then dlogit D f F l b col1 ⟨j.val - 1024, by omega⟩
  else dlogit D e E l b col2 ⟨j.val - 2048, by omega⟩

section
variable (D : Fin 1024 → EReal) (a f e : Fin 512 → EReal) (A F E : Fin 512 → Fin 1024 → EReal) (l b : Fin 3072 → EReal) (k : Fin 1024)
theorem dlogits_col0 : dlogits D a f e A F E l b (col0 k) = dlogit D a A l b col0 k := by
  unfold dlogits
  rw [dif_pos (show (col0 k).val < 1024 from k.isLt)]; rfl
theorem dlogits_col1 : dlogits D a f e A F E l b (col1 k) = dlogit D f F l b col1 k := by
  have h : (col1 k).val = 1024 + k.val := rfl
  unfold dlogits
  rw [dif_neg (by omega), dif_pos (by omega)]
  exact congrArg _ (Fin.ext (show 1024 + k.val - 1024 = k.val by omega))
theorem dlogits_col2 : dlogits D a f e A F E l b (col2 k) = dlogit D e E l b col2 k := by
  have h : (col2 k).val = 2048 + k.val := rfl
  unfold dlogits
  rw [dif_neg (by omega), dif_neg (by omega)]
  exact congrArg _ (Fin.ext (show 2048 + k.val - 2048 = k.val by omega))
theorem dlogits_at0 (j : Fin 3072) (h : j.val = k.val) : dlogits D a f e A F E l b j = dlogit D a A l b col0 k := by
  obtain rfl : j = col0 k := Fin.ext h
  exact dlogits_col0 D a f e A F E l b k
theorem dlogits_at1 (j : Fin 3072) (h : j.val = 1024 + k.val) : dlogits D a f e A F E l b j = dlogit D f F l b col1 k := by
  obtain rfl : j = col1 k := Fin.ext h
  exact dlogits_col1 D a f e A F E l b k
theorem dlogits_at2 (j : Fin 3072) (h : j.val = 2048 + k.val) : dlogits D a f e A F E l b j = dlogit D e E l b col2 k := by
  obtain rfl : j = col2 k := Fin.ext h
  exact dlogits_col2 D a f e A F E l b k
end

/-- A column is in one of the thirds. -/
theorem col_cases (j : Fin 3072) : (∃ k, j = col0 k) ∨ (∃ k, j = col1 k) ∨ ∃ k, j = col2 k := by
  by_cases h0 : j.val < 1024
  · exact .inl ⟨⟨j.val, h0⟩, rfl⟩
  by_cases h1 : j.val < 2048
  · exact .inr (.inl ⟨⟨j.val - 1024, by omega⟩, Fin.ext (show j.val = 1024 + (j.val - 1024) by omega)⟩)
  · exact .inr (.inr ⟨⟨j.val - 2048, by omega⟩, Fin.ext (show j.val = 2048 + (j.val - 2048) by omega)⟩)

end Cert.GateRow

end
-- ==== Proof.MixBlock.lean ====
/- What `merge_bwd` leaves in its arrays at a point, as formulas over the blocks it reads. -/
module

public import proofs.«01_k».proof.Proof.MixIdealFrame
public import proofs.«01_k».proof.Proof.GateGrad
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MixIdeal.Value

open Cert.MixIdeal Cert.MixIdeal.Gen
open Idealize.ShloMosaic.Pipeline (Dat)

variable (m : (ℓ : Loc nD τ sig) → Buf (Elt Ideal) ℓ)

/-- Row `s` of an array. -/
def row {n k : ℕ} (X : (⟨2, ![n, k]⟩ : Shape).Idx → EReal) (s : Fin n) (l : Fin k) : EReal := X (ix2 s l)
/-- Row `s` of the logits: the first half of the columns. -/
def logits (P : S4096x6144.Idx → EReal) (s : Fin 4096) (j : Fin 3072) : EReal := P (ix2 s ⟨j.val, by omega⟩)

def xBlk (c : Dev nD) (t : Fin cfg0.N) (r : Fin 512) (k : Fin 1024) : EReal := (show FVec Ideal S512x1024 .f32 from iblk m c 0 t) (ix2 r k)
def aBlk (c : Dev nD) (t : Fin cfg0.N) (r : Fin 512) (k : Fin 512) : EReal := (show FVec Ideal S512x512 .bf16 from iblk m c 1 t) (ix2 r k)
def fBlk (c : Dev nD) (t : Fin cfg0.N) (r : Fin 512) (k : Fin 512) : EReal := (show FVec Ideal S512x512 .bf16 from iblk m c 2 t) (ix2 r k)
def eBlk (c : Dev nD) (t : Fin cfg0.N) (r : Fin 512) (k : Fin 512) : EReal := (show FVec Ideal S512x512 .bf16 from iblk m c 3 t) (ix2 r k)
def wABlk (c : Dev nD) (t : Fin cfg0.N) (r : Fin 512) (k : Fin 1024) : EReal := (show FVec Ideal S512x1024 .bf16 from iblk m c 5 t) (ix2 r k)
def wFBlk (c : Dev nD) (t : Fin cfg0.N) (r : Fin 512) (k : Fin 1024) : EReal := (show FVec Ideal S512x1024 .bf16 from iblk m c 6 t) (ix2 r k)
def wEBlk (c : Dev nD) (t : Fin cfg0.N) (r : Fin 512) (k : Fin 1024) : EReal := (show FVec Ideal S512x1024 .bf16 from iblk m c 7 t) (ix2 r k)
def wOBlk (c : Dev nD) (t : Fin cfg0.N) (r : Fin 1024) (k : Fin 1024) : EReal := (show FVec Ideal S1024x1024 .bf16 from iblk m c 8 t) (ix2 r k)
def biasBlk (c : Dev nD) (t : Fin cfg0.N) (k : Fin 3072) : EReal := (show FVec Ideal S1x3072 .f32 from iblk m c 4 t) (ix2 0 k)
/-- The logits the body waits for at a point. -/
def lBlk (c : Dev nD) (t : Fin cfg0.N) (r : Fin 512) (j : Fin 3072) : EReal :=
  (srcB0_0 (Ring.bk 8 t.val)).view.read (Elt Ideal) (V m c main_arg4) (ix2 r j)

/-- The blocks' places. -/
theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![0, 0] ∧ win0_6.index t = ![0, 0] ∧
    win0_7.index t = ![0, 0] ∧ win0_8.index t = ![0, 0] ∧ win0_9.index t = ![t.val, 0] ∧ win0_10.index t = ![t.val, 0] ∧
    win0_11.index t = ![0, t.val] ∧ win0_12.index t = ![t.val, 0] ∧ win0_13.index t = ![t.val, 0] ∧ win0_14.index t = ![t.val, 0] ∧
    win0_15.index t = ![t.val, 0] ∧ win0_16.index t = ![0, 0] ∧ t.val < 8 :=
  (by decide +kernel : ∀ t : Fin grid0.N, _)

theorem lt8 (t : Fin cfg0.N) : t.val < 8 := (idx t).2.2.2.2.2.2.2.2.2.2.2.2.2.2.2.2.2
theorem row_lt (t : Fin cfg0.N) (r : Fin 512) : t.val * 512 + r.val < 4096 := by have := lt8 t; omega

theorem xBlk_eq (c : Dev nD) (t : Fin cfg0.N) (r : Fin 512) :
    xBlk m c t r = row (m ((c : Thread nD τ).loc main_arg0)) (⟨t.val * 512 + r.val, row_lt t r⟩ : Fin 4096) := by
  funext k; unfold xBlk row; blk_ext! [iblk, V, idx t]
theorem aBlk_eq (c : Dev nD) (t : Fin cfg0.N) (r : Fin 512) :
    aBlk m c t r = row (m ((c : Thread nD τ).loc main_arg1)) (⟨t.val * 512 + r.val, row_lt t r⟩ : Fin 4096) := by
  funext k; unfold aBlk row; blk_ext! [iblk, V, idx t]
theorem fBlk_eq (c : Dev nD) (t : Fin cfg0.N) (r : Fin 512) :
    fBlk m c t r = row (m ((c : Thread nD τ).loc main_arg2)) (⟨t.val * 512 + r.val, row_lt t r⟩ : Fin 4096) := by
  funext k; unfold fBlk row; blk_ext! [iblk, V, idx t]
theorem eBlk_eq (c : Dev nD) (t : Fin cfg0.N) (r : Fin 512) :
    eBlk m c t r = row (m ((c : Thread nD τ).loc main_arg3)) (⟨t.val * 512 + r.val, row_lt t r⟩ : Fin 4096) := by
  funext k; unfold eBlk row; blk_ext! [iblk, V, idx t]
theorem biasBlk_eq (c : Dev nD) (t : Fin cfg0.N) : biasBlk m c t = row (n := 1) (m ((c : Thread nD τ).loc main_arg5)) 0 := by
  funext k; unfold biasBlk row; blk_ext! [iblk, V, idx t]
theorem wABlk_eq (c : Dev nD) (t : Fin cfg0.N) : wABlk m c t = row (n := 512) (m ((c : Thread nD τ).loc main_arg6)) := by
  funext j k; unfold wABlk row; blk_ext! [iblk, V, idx t]
theorem wFBlk_eq (c : Dev nD) (t : Fin cfg0.N) : wFBlk m c t = row (n := 512) (m ((c : Thread nD τ).loc main_arg7)) := by
  funext j k; unfold wFBlk row; blk_ext! [iblk, V, idx t]
theorem wEBlk_eq (c : Dev nD) (t : Fin cfg0.N) : wEBlk m c t = row (n := 512) (m ((c : Thread nD τ).loc main_arg8)) := by
  funext j k; unfold wEBlk row; blk_ext! [iblk, V, idx t]
theorem wOBlk_eq (c : Dev nD) (t : Fin cfg0.N) : wOBlk m c t = row (n := 1024) (m ((c : Thread nD τ).loc main_arg9)) := by
  funext j k; unfold wOBlk row; blk_ext! [iblk, V, idx t]
theorem lBlk_eq (c : Dev nD) (t : Fin cfg0.N) (r : Fin 512) :
    lBlk m c t r = logits (m ((c : Thread nD τ).loc main_arg4)) (⟨t.val * 512 + r.val, row_lt t r⟩ : Fin 4096) := by
  funext j
  have := lt8 t
  unfold lBlk logits
  rw [V_main_arg4]
  refine congrArg (m ((c : Thread nD τ).loc main_arg4)) ?_
  funext a; apply Fin.ext
  fin_cases a
  · show 512 * (t.val % 8) + 1 * r.val = t.val * 512 + r.val
    omega
  · show 0 + 1 * j.val = j.val
    omega

/-- A load of 1024 columns off a slot that holds one block. -/
theorem slot_at (v : View sig .tc .vmem S512x3072 .bf16) (w : Vec Ideal S512x3072 .bf16) (o : ℕ)
    (inb : ∀ a, (![0, o] : Fin 2 → ℕ) a + (![512, 1024] : Fin 2 → ℕ) a ≤ S512x3072.size a) (y : S512x1024.Idx) (h : o + (y 1).val < 3072) :
    v.readCov (Val := Elt Ideal) [⟨Rect.whole S512x3072, w⟩] (Rect.unit (s := S512x3072) ![0, o] ![512, 1024] inb).toLoadRect y
      = w (ix2 (y 0) ⟨o + (y 1).val, h⟩) := by
  rw [View.readCov_eq_canon']
  refine ((congrArg _ (Rect.emb_whole_apply S512x3072 _).symm).trans (View.canon_cons_emb (Rect.whole S512x3072) w [] _)).trans ?_
  refine congrArg w ?_
  funext a; apply Fin.ext
  fin_cases a
  · show 0 + 1 * (y 0).val = (y 0).val
    omega
  · show o + 1 * (y 1).val = o + (y 1).val
    omega

/-- The logits of one branch at a point. -/
def lVec (c : Dev nD) (t : Fin cfg0.N) (o : ℕ) (h : o + 1024 ≤ 3072) : Vec Ideal S512x1024 .bf16 :=
  fun y => lBlk m c t (y 0) ⟨o + (y 1).val, by have : (y 1).val < 1024 := (y 1).isLt; omega⟩

theorem slot_load (c : Dev nD) (t : Fin cfg0.N) (o : ℕ) (h : o + 1024 ≤ 3072)
    (inb : ∀ a, (![0, o] : Fin 2 → ℕ) a + (![512, 1024] : Fin 2 → ℕ) a ≤ S512x3072.size a) :
    (rslot0_0 (Fin.ofNat 3 t.val)).view.readCov (Val := Elt Ideal)
        [⟨Rect.whole S512x3072, ReadAs.same.apply (View.read (Elt Ideal) (srcB0_0 (Ring.bk 8 t.val)).view (V m c main_arg4))⟩]
        (Rect.unit (s := S512x3072) ![0, o] ![512, 1024] inb).toLoadRect
      = lVec m c t o h := by
  funext y
  exact slot_at _ _ o inb y (by have : (y 1).val < 1024 := (y 1).isLt; omega)

/-- The gradient by the gated sum's rows at a point. -/
def dBlk (c : Dev nD) (t : Fin cfg0.N) (r : Fin 512) : Fin 1024 → EReal := GateRow.dsum (xBlk m c t r) (wOBlk m c t)
/-- The gradient by the logits' rows at a point. -/
def dlBlk (c : Dev nD) (t : Fin cfg0.N) (r : Fin 512) : Fin 3072 → EReal :=
  GateRow.dlogits (dBlk m c t r) (aBlk m c t r) (fBlk m c t r) (eBlk m c t r) (wABlk m c t) (wFBlk m c t) (wEBlk m c t) (lBlk m c t r) (biasBlk m c t)
/-- The gradient by a branch's products at a point. -/
def dyBlk (c : Dev nD) (t : Fin cfg0.N) (col : Fin 1024 → Fin 3072) (r : Fin 512) : Fin 1024 → EReal :=
  GateRow.dprod (dBlk m c t r) (lBlk m c t r) (biasBlk m c t) col

/-- Stores that cover an index hide every earlier store there. -/
theorem canon_append_of_cover {S : Shape} {e : EltTy} {Val : EltTy → Type} [∀ e, Nonempty (Val e)] (L L' : List (View.Piece Val S e)) (y : S.Idx)
    (h : ∃ p ∈ L, y ∈ p.1.set) : View.canon (L ++ L') y = View.canon L y := by
  induction L with
  | nil => obtain ⟨p, hp, _⟩ := h; exact absurd hp List.not_mem_nil
  | cons q L ih =>
    by_cases hy : y ∈ q.1.set
    · obtain ⟨r, w⟩ := q
      obtain ⟨x, rfl⟩ := r.exists_idx_of_mem hy
      exact (View.canon_cons_emb r w (L ++ L') x).trans (View.canon_cons_emb r w L x).symm
    · rw [List.cons_append, View.canon_cons_of_not_mem _ _ hy, View.canon_cons_of_not_mem _ _ hy]
      obtain ⟨p, hp, hpy⟩ := h
      rcases List.mem_cons.mp hp with rfl | hp
      · exact absurd hpy hy
      · exact ih ⟨p, hp, hpy⟩

/-- … three stores over one. -/
theorem canon_three {S : Shape} {e : EltTy} {Val : EltTy → Type} [∀ e, Nonempty (Val e)] (p₁ p₂ p₃ p₄ : View.Piece Val S e) (y : S.Idx)
    (h : ∃ p ∈ [p₁, p₂, p₃], y ∈ p.1.set) : View.canon [p₁, p₂, p₃, p₄] y = View.canon [p₁, p₂, p₃] y :=
  canon_append_of_cover [p₁, p₂, p₃] [p₄] y h

theorem out13A (c : Dev nD) (t : Fin cfg0.N) (h0 : t.val % 8 = 0) (h1 : t.val % 8 = 0) (h2 : t.val < 6) (h3 : t.val % 8 = 0) (y : S512x1024.Idx) :
    (show EReal from (outsAt0 m c t.val t.isLt).2.2.2.2.1 y) = dyBlk m c t GateRow.col0 (y 0) (y 1) := by
  rw [outsAt0_A m c t h0 h1 h2 h3, outs0_A]; frame_out
  open_payloads
  rw [slot_load m c t 0 (by omega)]
  pointwise
  simp only [lVec, GateRow.dbranch, dyBlk, GateRow.dprod, dBlk, GateRow.dsum, GateRow.gate, GateRow.col0, xBlk, wOBlk, biasBlk, wABlk, Nat.zero_add]
  rfl

theorem out13B (c : Dev nD) (t : Fin cfg0.N) (h0 : ¬t.val % 8 = 0) (h1 : ¬t.val % 8 = 0) (h2 : t.val < 6) (h3 : ¬t.val % 8 = 0) (y : S512x1024.Idx) :
    (show EReal from (outsAt0 m c t.val t.isLt).2.2.2.2.1 y) = dyBlk m c t GateRow.col0 (y 0) (y 1) := by
  rw [outsAt0_B m c t h0 h1 h2 h3, outs0_B]; frame_out
  open_payloads
  rw [slot_load m c t 0 (by omega)]
  pointwise
  simp only [lVec, GateRow.dbranch, dyBlk, GateRow.dprod, dBlk, GateRow.dsum, GateRow.gate, GateRow.col0, xBlk, wOBlk, biasBlk, wABlk, Nat.zero_add]
  rfl

theorem out13C (c : Dev nD) (t : Fin cfg0.N) (h0 : ¬t.val % 8 = 0) (h1 : ¬t.val % 8 = 0) (h2 : ¬t.val < 6) (h3 : ¬t.val % 8 = 0) (y : S512x1024.Idx) :
    (show EReal from (outsAt0 m c t.val t.isLt).2.2.2.2.1 y) = dyBlk m c t GateRow.col0 (y 0) (y 1) := by
  rw [outsAt0_C m c t h0 h1 h2 h3, outs0_C]; frame_out
  open_payloads
  rw [slot_load m c t 0 (by omega)]
  pointwise
  simp only [lVec, GateRow.dbranch, dyBlk, GateRow.dprod, dBlk, GateRow.dsum, GateRow.gate, GateRow.col0, xBlk, wOBlk, biasBlk, wABlk, Nat.zero_add]
  rfl

theorem out13 (c : Dev nD) (t : Fin cfg0.N) (y : S512x1024.Idx) : (show EReal from (outsAt0 m c t.val t.isLt).2.2.2.2.1 y) = dyBlk m c t GateRow.col0 (y 0) (y 1) := by
  have := lt8 t
  by_cases h0 : t.val % 8 = 0
  · exact out13A m c t h0 h0 (by omega) h0 y
  by_cases h2 : t.val < 6
  · exact out13B m c t h0 h0 h2 h0 y
  · exact out13C m c t h0 h0 h2 h0 y

theorem out14A (c : Dev nD) (t : Fin cfg0.N) (h0 : t.val % 8 = 0) (h1 : t.val % 8 = 0) (h2 : t.val < 6) (h3 : t.val % 8 = 0) (y : S512x1024.Idx) :
    (show EReal from (outsAt0 m c t.val t.isLt).2.2.2.2.2.1 y) = dyBlk m c t GateRow.col1 (y 0) (y 1) := by
  rw [outsAt0_A m c t h0 h1 h2 h3, outs0_A]; frame_out
  open_payloads
  rw [slot_load m c t 1024 (by omega)]
  pointwise
  simp only [lVec, GateRow.dbranch, dyBlk, GateRow.dprod, dBlk, GateRow.dsum, GateRow.gate, GateRow.col1, xBlk, wOBlk, biasBlk, wFBlk, Nat.zero_add]
  rfl

theorem out14B (c : Dev nD) (t : Fin cfg0.N) (h0 : ¬t.val % 8 = 0) (h1 : ¬t.val % 8 = 0) (h2 : t.val < 6) (h3 : ¬t.val % 8 = 0) (y : S512x1024.Idx) :
    (show EReal from (outsAt0 m c t.val t.isLt).2.2.2.2.2.1 y) = dyBlk m c t GateRow.col1 (y 0) (y 1) := by
  rw [outsAt0_B m c t h0 h1 h2 h3, outs0_B]; frame_out
  open_payloads
  rw [slot_load m c t 1024 (by omega)]
  pointwise
  simp only [lVec, GateRow.dbranch, dyBlk, GateRow.dprod, dBlk, GateRow.dsum, GateRow.gate, GateRow.col1, xBlk, wOBlk, biasBlk, wFBlk, Nat.zero_add]
  rfl

theorem out14C (c : Dev nD) (t : Fin cfg0.N) (h0 : ¬t.val % 8 = 0) (h1 : ¬t.val % 8 = 0) (h2 : ¬t.val < 6) (h3 : ¬t.val % 8 = 0) (y : S512x1024.Idx) :
    (show EReal from (outsAt0 m c t.val t.isLt).2.2.2.2.2.1 y) = dyBlk m c t GateRow.col1 (y 0) (y 1) := by
  rw [outsAt0_C m c t h0 h1 h2 h3, outs0_C]; frame_out
  open_payloads
  rw [slot_load m c t 1024 (by omega)]
  pointwise
  simp only [lVec, GateRow.dbranch, dyBlk, GateRow.dprod, dBlk, GateRow.dsum, GateRow.gate, GateRow.col1, xBlk, wOBlk, biasBlk, wFBlk, Nat.zero_add]
  rfl

theorem out14 (c : Dev nD) (t : Fin cfg0.N) (y : S512x1024.Idx) : (show EReal from (outsAt0 m c t.val t.isLt).2.2.2.2.2.1 y) = dyBlk m c t GateRow.col1 (y 0) (y 1) := by
  have := lt8 t
  by_cases h0 : t.val % 8 = 0
  · exact out14A m c t h0 h0 (by omega) h0 y
  by_cases h2 : t.val < 6
  · exact out14B m c t h0 h0 h2 h0 y
  · exact out14C m c t h0 h0 h2 h0 y

theorem out15A (c : Dev nD) (t : Fin cfg0.N) (h0 : t.val % 8 = 0) (h1 : t.val % 8 = 0) (h2 : t.val < 6) (h3 : t.val % 8 = 0) (y : S512x1024.Idx) :
    (show EReal from (outsAt0 m c t.val t.isLt).2.2.2.2.2.2.1 y) = dyBlk m c t GateRow.col2 (y 0) (y 1) := by
  rw [outsAt0_A m c t h0 h1 h2 h3, outs0_A]; frame_out
  open_payloads
  rw [slot_load m c t 2048 (by omega)]
  pointwise
  simp only [lVec, GateRow.dbranch, dyBlk, GateRow.dprod, dBlk, GateRow.dsum, GateRow.gate, GateRow.col2, xBlk, wOBlk, biasBlk, wEBlk, Nat.zero_add]
  rfl

theorem out15B (c : Dev nD) (t : Fin cfg0.N) (h0 : ¬t.val % 8 = 0) (h1 : ¬t.val % 8 = 0) (h2 : t.val < 6) (h3 : ¬t.val % 8 = 0) (y : S512x1024.Idx) :
    (show EReal from (outsAt0 m c t.val t.isLt).2.2.2.2.2.2.1 y) = dyBlk m c t GateRow.col2 (y 0) (y 1) := by
  rw [outsAt0_B m c t h0 h1 h2 h3, outs0_B]; frame_out
  open_payloads
  rw [slot_load m c t 2048 (by omega)]
  pointwise
  simp only [lVec, GateRow.dbranch, dyBlk, GateRow.dprod, dBlk, GateRow.dsum, GateRow.gate, GateRow.col2, xBlk, wOBlk, biasBlk, wEBlk, Nat.zero_add]
  rfl

theorem out15C (c : Dev nD) (t : Fin cfg0.N) (h0 : ¬t.val % 8 = 0) (h1 : ¬t.val % 8 = 0) (h2 : ¬t.val < 6) (h3 : ¬t.val % 8 = 0) (y : S512x1024.Idx) :
    (show EReal from (outsAt0 m c t.val t.isLt).2.2.2.2.2.2.1 y) = dyBlk m c t GateRow.col2 (y 0) (y 1) := by
  rw [outsAt0_C m c t h0 h1 h2 h3, outs0_C]; frame_out
  open_payloads
  rw [slot_load m c t 2048 (by omega)]
  pointwise
  simp only [lVec, GateRow.dbranch, dyBlk, GateRow.dprod, dBlk, GateRow.dsum, GateRow.gate, GateRow.col2, xBlk, wOBlk, biasBlk, wEBlk, Nat.zero_add]
  rfl

theorem out15 (c : Dev nD) (t : Fin cfg0.N) (y : S512x1024.Idx) : (show EReal from (outsAt0 m c t.val t.isLt).2.2.2.2.2.2.1 y) = dyBlk m c t GateRow.col2 (y 0) (y 1) := by
  have := lt8 t
  by_cases h0 : t.val % 8 = 0
  · exact out15A m c t h0 h0 (by omega) h0 y
  by_cases h2 : t.val < 6
  · exact out15B m c t h0 h0 h2 h0 y
  · exact out15C m c t h0 h0 h2 h0 y

theorem out10A (c : Dev nD) (t : Fin cfg0.N) (h0 : t.val % 8 = 0) (h1 : t.val % 8 = 0) (h2 : t.val < 6) (h3 : t.val % 8 = 0) (y : S512x512.Idx) :
    (show EReal from (outsAt0 m c t.val t.isLt).2.1 y) = GateRow.dbranch (dyBlk m c t GateRow.col0 (y 0)) (wABlk m c t) (y 1) := by
  rw [outsAt0_A m c t h0 h1 h2 h3, outs0_A]; frame_out
  open_payloads
  rw [slot_load m c t 0 (by omega)]
  pointwise
  simp only [lVec, GateRow.dbranch, dyBlk, GateRow.dprod, dBlk, GateRow.dsum, GateRow.gate, GateRow.col0, xBlk, wOBlk, biasBlk, wABlk, Nat.zero_add]
  blk_point [] <;> rfl

theorem out10B (c : Dev nD) (t : Fin cfg0.N) (h0 : ¬t.val % 8 = 0) (h1 : ¬t.val % 8 = 0) (h2 : t.val < 6) (h3 : ¬t.val % 8 = 0) (y : S512x512.Idx) :
    (show EReal from (outsAt0 m c t.val t.isLt).2.1 y) = GateRow.dbranch (dyBlk m c t GateRow.col0 (y 0)) (wABlk m c t) (y 1) := by
  rw [outsAt0_B m c t h0 h1 h2 h3, outs0_B]; frame_out
  open_payloads
  rw [slot_load m c t 0 (by omega)]
  pointwise
  simp only [lVec, GateRow.dbranch, dyBlk, GateRow.dprod, dBlk, GateRow.dsum, GateRow.gate, GateRow.col0, xBlk, wOBlk, biasBlk, wABlk, Nat.zero_add]
  blk_point [] <;> rfl

theorem out10C (c : Dev nD) (t : Fin cfg0.N) (h0 : ¬t.val % 8 = 0) (h1 : ¬t.val % 8 = 0) (h2 : ¬t.val < 6) (h3 : ¬t.val % 8 = 0) (y : S512x512.Idx) :
    (show EReal from (outsAt0 m c t.val t.isLt).2.1 y) = GateRow.dbranch (dyBlk m c t GateRow.col0 (y 0)) (wABlk m c t) (y 1) := by
  rw [outsAt0_C m c t h0 h1 h2 h3, outs0_C]; frame_out
  open_payloads
  rw [slot_load m c t 0 (by omega)]
  pointwise
  simp only [lVec, GateRow.dbranch, dyBlk, GateRow.dprod, dBlk, GateRow.dsum, GateRow.gate, GateRow.col0, xBlk, wOBlk, biasBlk, wABlk, Nat.zero_add]
  blk_point [] <;> rfl

theorem out10 (c : Dev nD) (t : Fin cfg0.N) (y : S512x512.Idx) : (show EReal from (outsAt0 m c t.val t.isLt).2.1 y) = GateRow.dbranch (dyBlk m c t GateRow.col0 (y 0)) (wABlk m c t) (y 1) := by
  have := lt8 t
  by_cases h0 : t.val % 8 = 0
  · exact out10A m c t h0 h0 (by omega) h0 y
  by_cases h2 : t.val < 6
  · exact out10B m c t h0 h0 h2 h0 y
  · exact out10C m c t h0 h0 h2 h0 y

theorem out11A (c : Dev nD) (t : Fin cfg0.N) (h0 : t.val % 8 = 0) (h1 : t.val % 8 = 0) (h2 : t.val < 6) (h3 : t.val % 8 = 0) (y : S512x512.Idx) :
    (show EReal from (outsAt0 m c t.val t.isLt).2.2.1 y) = GateRow.dbranch (dyBlk m c t GateRow.col1 (y 1)) (wFBlk m c t) (y 0) := by
  rw [outsAt0_A m c t h0 h1 h2 h3, outs0_A]; frame_out
  open_payloads
  rw [slot_load m c t 1024 (by omega)]
  pointwise
  simp only [lVec, GateRow.dbranch, dyBlk, GateRow.dprod, dBlk, GateRow.dsum, GateRow.gate, GateRow.col1, xBlk, wOBlk, biasBlk, wFBlk, Nat.zero_add]
  blk_point [] <;> rfl

theorem out11B (c : Dev nD) (t : Fin cfg0.N) (h0 : ¬t.val % 8 = 0) (h1 : ¬t.val % 8 = 0) (h2 : t.val < 6) (h3 : ¬t.val % 8 = 0) (y : S512x512.Idx) :
    (show EReal from (outsAt0 m c t.val t.isLt).2.2.1 y) = GateRow.dbranch (dyBlk m c t GateRow.col1 (y 1)) (wFBlk m c t) (y 0) := by
  rw [outsAt0_B m c t h0 h1 h2 h3, outs0_B]; frame_out
  open_payloads
  rw [slot_load m c t 1024 (by omega)]
  pointwise
  simp only [lVec, GateRow.dbranch, dyBlk, GateRow.dprod, dBlk, GateRow.dsum, GateRow.gate, GateRow.col1, xBlk, wOBlk, biasBlk, wFBlk, Nat.zero_add]
  blk_point [] <;> rfl

theorem out11C (c : Dev nD) (t : Fin cfg0.N) (h0 : ¬t.val % 8 = 0) (h1 : ¬t.val % 8 = 0) (h2 : ¬t.val < 6) (h3 : ¬t.val % 8 = 0) (y : S512x512.Idx) :
    (show EReal from (outsAt0 m c t.val t.isLt).2.2.1 y) = GateRow.dbranch (dyBlk m c t GateRow.col1 (y 1)) (wFBlk m c t) (y 0) := by
  rw [outsAt0_C m c t h0 h1 h2 h3, outs0_C]; frame_out
  open_payloads
  rw [slot_load m c t 1024 (by omega)]
  pointwise
  simp only [lVec, GateRow.dbranch, dyBlk, GateRow.dprod, dBlk, GateRow.dsum, GateRow.gate, GateRow.col1, xBlk, wOBlk, biasBlk, wFBlk, Nat.zero_add]
  blk_point [] <;> rfl

theorem out11 (c : Dev nD) (t : Fin cfg0.N) (y : S512x512.Idx) : (show EReal from (outsAt0 m c t.val t.isLt).2.2.1 y) = GateRow.dbranch (dyBlk m c t GateRow.col1 (y 1)) (wFBlk m c t) (y 0) := by
  have := lt8 t
  by_cases h0 : t.val % 8 = 0
  · exact out11A m c t h0 h0 (by omega) h0 y
  by_cases h2 : t.val < 6
  · exact out11B m c t h0 h0 h2 h0 y
  · exact out11C m c t h0 h0 h2 h0 y

theorem out12A (c : Dev nD) (t : Fin cfg0.N) (h0 : t.val % 8 = 0) (h1 : t.val % 8 = 0) (h2 : t.val < 6) (h3 : t.val % 8 = 0) (y : S512x512.Idx) :
    (show EReal from (outsAt0 m c t.val t.isLt).2.2.2.1 y) = GateRow.dbranch (dyBlk m c t GateRow.col2 (y 0)) (wEBlk m c t) (y 1) := by
  rw [outsAt0_A m c t h0 h1 h2 h3, outs0_A]; frame_out
  open_payloads
  rw [slot_load m c t 2048 (by omega)]
  pointwise
  simp only [lVec, GateRow.dbranch, dyBlk, GateRow.dprod, dBlk, GateRow.dsum, GateRow.gate, GateRow.col2, xBlk, wOBlk, biasBlk, wEBlk, Nat.zero_add]
  blk_point [] <;> rfl

theorem out12B (c : Dev nD) (t : Fin cfg0.N) (h0 : ¬t.val % 8 = 0) (h1 : ¬t.val % 8 = 0) (h2 : t.val < 6) (h3 : ¬t.val % 8 = 0) (y : S512x512.Idx) :
    (show EReal from (outsAt0 m c t.val t.isLt).2.2.2.1 y) = GateRow.dbranch (dyBlk m c t GateRow.col2 (y 0)) (wEBlk m c t) (y 1) := by
  rw [outsAt0_B m c t h0 h1 h2 h3, outs0_B]; frame_out
  open_payloads
  rw [slot_load m c t 2048 (by omega)]
  pointwise
  simp only [lVec, GateRow.dbranch, dyBlk, GateRow.dprod, dBlk, GateRow.dsum, GateRow.gate, GateRow.col2, xBlk, wOBlk, biasBlk, wEBlk, Nat.zero_add]
  blk_point [] <;> rfl

theorem out12C (c : Dev nD) (t : Fin cfg0.N) (h0 : ¬t.val % 8 = 0) (h1 : ¬t.val % 8 = 0) (h2 : ¬t.val < 6) (h3 : ¬t.val % 8 = 0) (y : S512x512.Idx) :
    (show EReal from (outsAt0 m c t.val t.isLt).2.2.2.1 y) = GateRow.dbranch (dyBlk m c t GateRow.col2 (y 0)) (wEBlk m c t) (y 1) := by
  rw [outsAt0_C m c t h0 h1 h2 h3, outs0_C]; frame_out
  open_payloads
  rw [slot_load m c t 2048 (by omega)]
  pointwise
  simp only [lVec, GateRow.dbranch, dyBlk, GateRow.dprod, dBlk, GateRow.dsum, GateRow.gate, GateRow.col2, xBlk, wOBlk, biasBlk, wEBlk, Nat.zero_add]
  blk_point [] <;> rfl

theorem out12 (c : Dev nD) (t : Fin cfg0.N) (y : S512x512.Idx) : (show EReal from (outsAt0 m c t.val t.isLt).2.2.2.1 y) = GateRow.dbranch (dyBlk m c t GateRow.col2 (y 0)) (wEBlk m c t) (y 1) := by
  have := lt8 t
  by_cases h0 : t.val % 8 = 0
  · exact out12A m c t h0 h0 (by omega) h0 y
  by_cases h2 : t.val < 6
  · exact out12B m c t h0 h0 h2 h0 y
  · exact out12C m c t h0 h0 h2 h0 y

end Cert.MixIdeal.Value

end
-- ==== Proof.MixLogits.lean ====
/- The gradient by the gates' logits and by their bias that `merge_bwd` leaves at a point. -/
module

public import proofs.«01_k».proof.Proof.MixBlock

@[expose] public section

set_option maxRecDepth 16384

noncomputable section

open Idealize.ShloMosaic Idealize.ShloMosaic.TcCoe Idealize.SL.Sem

namespace Cert.MixIdeal.Value

open Cert.MixIdeal Cert.MixIdeal.Gen
open Idealize.ShloMosaic.Pipeline (Dat)

variable (m : (ℓ : Loc nD τ sig) → Buf (Elt Ideal) ℓ)

theorem out9A (c : Dev nD) (t : Fin cfg0.N) (h0 : t.val % 8 = 0) (h1 : t.val % 8 = 0) (h2 : t.val < 6) (h3 : t.val % 8 = 0) (y : S512x3072.Idx) :
    (show EReal from (outsAt0 m c t.val t.isLt).1 y) = dlBlk m c t (y 0) (y 1) := by
  rw [outsAt0_A m c t h0 h1 h2 h3, outs0_A]; frame_out
  unfold dlBlk
  canon_tiles x h
  case piece0 =>
    refine Eq.trans ?_ (GateRow.dlogits_at2 _ _ _ _ _ _ _ _ _ (x 1) (y 1) (by omega)).symm
    have e0 : (x 0 : Fin 512) = y 0 := Fin.ext h0.symm
    open_payloads
    rw [slot_load m c t 2048 (by omega)]
    pointwise
    simp only [lVec, GateRow.dlogit, dBlk, GateRow.dsum, GateRow.prod, GateRow.gate, GateRow.col2, xBlk, wOBlk, biasBlk, eBlk, wEBlk, Nat.zero_add]
    blk_point [] <;> first | rfl | exact congrArg (fun r : Fin 512 => lBlk m c t r _) e0
  case piece1 =>
    refine Eq.trans ?_ (GateRow.dlogits_at1 _ _ _ _ _ _ _ _ _ (x 1) (y 1) (by omega)).symm
    have e0 : (x 0 : Fin 512) = y 0 := Fin.ext h0.symm
    open_payloads
    rw [slot_load m c t 1024 (by omega)]
    pointwise
    simp only [lVec, GateRow.dlogit, dBlk, GateRow.dsum, GateRow.prod, GateRow.gate, GateRow.col1, xBlk, wOBlk, biasBlk, fBlk, wFBlk, Nat.zero_add]
    blk_point [] <;> first | rfl | exact congrArg (fun r : Fin 512 => lBlk m c t r _) e0
  case piece2 =>
    refine Eq.trans ?_ (GateRow.dlogits_at0 _ _ _ _ _ _ _ _ _ (x 1) (y 1) (by omega)).symm
    have e0 : (x 0 : Fin 512) = y 0 := Fin.ext h0.symm
    open_payloads
    rw [slot_load m c t 0 (by omega)]
    pointwise
    simp only [lVec, GateRow.dlogit, dBlk, GateRow.dsum, GateRow.prod, GateRow.gate, GateRow.col0, xBlk, wOBlk, biasBlk, aBlk, wABlk, Nat.zero_add]
    blk_point [] <;> first | rfl | exact congrArg (fun r : Fin 512 => lBlk m c t r _) e0

theorem out16A (c : Dev nD) (t : Fin cfg0.N) (h0 : t.val % 8 = 0) (h1 : t.val % 8 = 0) (h2 : t.val < 6) (h3 : t.val % 8 = 0) (y : S1x3072.Idx) :
    (show EReal from (outsAt0 m c t.val t.isLt).2.2.2.2.2.2.2 y) = 0 + ∑ r : Fin 512, dlBlk m c t r (y 1) := by
  obtain ⟨R, hR⟩ : ∃ R, R = 0 + ∑ r : Fin 512, dlBlk m c t r (y 1) := ⟨_, rfl⟩
  refine Eq.trans ?_ hR
  rw [outsAt0_A m c t h0 h1 h2 h3, outs0_A]; frame_out
  unfold dlBlk at hR
  refine (canon_three _ _ _ _ y ?_).trans ?_
  · exact View.cover_of_tiledL (s := S1x3072) _ S1x1024.size (by sl_kernel_rfl) y
  canon_tiles x h
  case piece0 =>
    refine Eq.trans ?_ (hR.trans (congrArg ((0 : EReal) + ·) (Finset.sum_congr rfl fun r _ => GateRow.dlogits_at2 _ _ _ _ _ _ _ _ _ (x 1) (y 1) (by omega)))).symm
    open_payloads
    rw [slot_load m c t 2048 (by omega)]
    rw [View.readCov_skip _ _ _ _ _ (by decide), View.readCov_skip _ _ _ _ _ (by decide), View.readCov_fill _ _ _ _ _ (by decide)]
    pointwise
    simp only [lVec, GateRow.dlogit, dBlk, GateRow.dsum, GateRow.prod, GateRow.gate, GateRow.col2, xBlk, wOBlk, biasBlk, eBlk, wEBlk, Nat.zero_add]
    blk_point [] <;> rfl
  case piece1 =>
    refine Eq.trans ?_ (hR.trans (congrArg ((0 : EReal) + ·) (Finset.sum_congr rfl fun r _ => GateRow.dlogits_at1 _ _ _ _ _ _ _ _ _ (x 1) (y 1) (by omega)))).symm
    open_payloads
    rw [slot_load m c t 1024 (by omega)]
    rw [View.readCov_skip _ _ _ _ _ (by decide), View.readCov_fill _ _ _ _ _ (by decide)]
    pointwise
    simp only [lVec, GateRow.dlogit, dBlk, GateRow.dsum, GateRow.prod, GateRow.gate, GateRow.col1, xBlk, wOBlk, biasBlk, fBlk, wFBlk, Nat.zero_add]
    blk_point [] <;> rfl
  case piece2 =>
    refine Eq.trans ?_ (hR.trans (congrArg ((0 : EReal) + ·) (Finset.sum_congr rfl fun r _ => GateRow.dlogits_at0 _ _ _ _ _ _ _ _ _ (x 1) (y 1) (by omega)))).symm
    open_payloads
    rw [slot_load m c t 0 (by omega)]
    rw [View.readCov_fill _ _ _ _ _ (by decide)]
    pointwise
    simp only [lVec, GateRow.dlogit, dBlk, GateRow.dsum, GateRow.prod, GateRow.gate, GateRow.col0, xBlk, wOBlk, biasBlk, aBlk, wABlk, Nat.zero_add]
    blk_point [] <;> rfl

theorem out9B (c : Dev nD) (t : Fin cfg0.N) (h0 : ¬t.val % 8 = 0) (h1 : ¬t.val % 8 = 0) (h2 : t.val < 6) (h3 : ¬t.val % 8 = 0) (y : S512x3072.Idx) :
    (show EReal from (outsAt0 m c t.val t.isLt).1 y) = dlBlk m c t (y 0) (y 1) := by
  rw [outsAt0_B m c t h0 h1 h2 h3, outs0_B]; frame_out
  unfold dlBlk
  canon_tiles x h
  case piece0 =>
    refine Eq.trans ?_ (GateRow.dlogits_at2 _ _ _ _ _ _ _ _ _ (x 1) (y 1) (by omega)).symm
    have e0 : (x 0 : Fin 512) = y 0 := Fin.ext h0.symm
    open_payloads
    rw [slot_load m c t 2048 (by omega)]
    pointwise
    simp only [lVec, GateRow.dlogit, dBlk, GateRow.dsum, GateRow.prod, GateRow.gate, GateRow.col2, xBlk, wOBlk, biasBlk, eBlk, wEBlk, Nat.zero_add]
    blk_point [] <;> first | rfl | exact congrArg (fun r : Fin 512 => lBlk m c t r _) e0
  case piece1 =>
    refine Eq.trans ?_ (GateRow.dlogits_at1 _ _ _ _ _ _ _ _ _ (x 1) (y 1) (by omega)).symm
    have e0 : (x 0 : Fin 512) = y 0 := Fin.ext h0.symm
    open_payloads
    rw [slot_load m c t 1024 (by omega)]
    pointwise
    simp only [lVec, GateRow.dlogit, dBlk, GateRow.dsum, GateRow.prod, GateRow.gate, GateRow.col1, xBlk, wOBlk, biasBlk, fBlk, wFBlk, Nat.zero_add]
    blk_point [] <;> first | rfl | exact congrArg (fun r : Fin 512 => lBlk m c t r _) e0
  case piece2 =>
    refine Eq.trans ?_ (GateRow.dlogits_at0 _ _ _ _ _ _ _ _ _ (x 1) (y 1) (by omega)).symm
    have e0 : (x 0 : Fin 512) = y 0 := Fin.ext h0.symm
    open_payloads
    rw [slot_load m c t 0 (by omega)]
    pointwise
    simp only [lVec, GateRow.dlogit, dBlk, GateRow.dsum, GateRow.prod, GateRow.gate, GateRow.col0, xBlk, wOBlk, biasBlk, aBlk, wABlk, Nat.zero_add]
    blk_point [] <;> first | rfl | exact congrArg (fun r : Fin 512 => lBlk m c t r _) e0

theorem out16B (c : Dev nD) (t : Fin cfg0.N) (h0 : ¬t.val % 8 = 0) (h1 : ¬t.val % 8 = 0) (h2 : t.val < 6) (h3 : ¬t.val % 8 = 0) (y : S1x3072.Idx) :
    (show EReal from (outsAt0 m c t.val t.isLt).2.2.2.2.2.2.2 y) = (show EReal from (outsAt0 m c (t.val - 1) (Nat.lt_of_le_of_lt (Nat.sub_le _ _) t.isLt)).2.2.2.2.2.2.2 y) + ∑ r : Fin 512, dlBlk m c t r (y 1) := by
  rw [outsAt0_B m c t h0 h1 h2 h3, outs0_B]; frame_out
  unfold dlBlk
  generalize (outsAt0 m c (t.val - 1) (Nat.lt_of_le_of_lt (Nat.sub_le _ _) t.isLt)).2.2.2.2.2.2.2 = prev
  canon_tiles x h
  case piece0 =>
    refine Eq.trans ?_ (congrArg ((show EReal from prev y) + ·) (Finset.sum_congr rfl fun r _ => GateRow.dlogits_at2 _ _ _ _ _ _ _ _ _ (x 1) (y 1) (by omega))).symm
    open_payloads
    rw [slot_load m c t 2048 (by omega)]
    pointwise
    simp only [lVec, GateRow.dlogit, dBlk, GateRow.dsum, GateRow.prod, GateRow.gate, GateRow.col2, xBlk, wOBlk, biasBlk, eBlk, wEBlk, Nat.zero_add]
    blk_point [] <;> rfl
  case piece1 =>
    refine Eq.trans ?_ (congrArg ((show EReal from prev y) + ·) (Finset.sum_congr rfl fun r _ => GateRow.dlogits_at1 _ _ _ _ _ _ _ _ _ (x 1) (y 1) (by omega))).symm
    open_payloads
    rw [slot_load m c t 1024 (by omega)]
    pointwise
    simp only [lVec, GateRow.dlogit, dBlk, GateRow.dsum, GateRow.prod, GateRow.gate, GateRow.col1, xBlk, wOBlk, biasBlk, fBlk, wFBlk, Nat.zero_add]
    blk_point [] <;> rfl
  case piece2 =>
    refine Eq.trans ?_ (congrArg ((show EReal from prev y) + ·) (Finset.sum_congr rfl fun r _ => GateRow.dlogits_at0 _ _ _ _ _ _ _ _ _ (x 1) (y 1) (by omega))).symm
    open_payloads
    rw [slot_load m c t 0 (by omega)]
    pointwise
    simp only [lVec, GateRow.dlogit, dBlk, GateRow.dsum, GateRow.prod, GateRow.gate, GateRow.col0, xBlk, wOBlk, biasBlk, aBlk, wABlk, Nat.zero_add]
    blk_point [] <;> rfl

theorem out9C (c : Dev nD) (t : Fin cfg0.N) (h0 : ¬t.val % 8 = 0) (h1 : ¬t.val % 8 = 0) (h2 : ¬t.val < 6) (h3 : ¬t.val % 8 = 0) (y : S512x3072.Idx) :
    (show EReal from (outsAt0 m c t.val t.isLt).1 y) = dlBlk m c t (y 0) (y 1) := by
  rw [outsAt0_C m c t h0 h1 h2 h3, outs0_C]; frame_out
  unfold dlBlk
  canon_tiles x h
  case piece0 =>
    refine Eq.trans ?_ (GateRow.dlogits_at2 _ _ _ _ _ _ _ _ _ (x 1) (y 1) (by omega)).symm
    have e0 : (x 0 : Fin 512) = y 0 := Fin.ext h0.symm
    open_payloads
    rw [slot_load m c t 2048 (by omega)]
    pointwise
    simp only [lVec, GateRow.dlogit, dBlk, GateRow.dsum, GateRow.prod, GateRow.gate, GateRow.col2, xBlk, wOBlk, biasBlk, eBlk, wEBlk, Nat.zero_add]
    blk_point [] <;> first | rfl | exact congrArg (fun r : Fin 512 => lBlk m c t r _) e0
  case piece1 =>
    refine Eq.trans ?_ (GateRow.dlogits_at1 _ _ _ _ _ _ _ _ _ (x 1) (y 1) (by omega)).symm
    have e0 : (x 0 : Fin 512) = y 0 := Fin.ext h0.symm
    open_payloads
    rw [slot_load m c t 1024 (by omega)]
    pointwise
    simp only [lVec, GateRow.dlogit, dBlk, GateRow.dsum, GateRow.prod, GateRow.gate, GateRow.col1, xBlk, wOBlk, biasBlk, fBlk, wFBlk, Nat.zero_add]
    blk_point [] <;> first | rfl | exact congrArg (fun r : Fin 512 => lBlk m c t r _) e0
  case piece2 =>
    refine Eq.trans ?_ (GateRow.dlogits_at0 _ _ _ _ _ _ _ _ _ (x 1) (y 1) (by omega)).symm
    have e0 : (x 0 : Fin 512) = y 0 := Fin.ext h0.symm
    open_payloads
    rw [slot_load m c t 0 (by omega)]
    pointwise
    simp only [lVec, GateRow.dlogit, dBlk, GateRow.dsum, GateRow.prod, GateRow.gate, GateRow.col0, xBlk, wOBlk, biasBlk, aBlk, wABlk, Nat.zero_add]
    blk_point [] <;> first | rfl | exact congrArg (fun r : Fin 512 => lBlk m c t r _) e0

theorem out16C (c : Dev nD) (t : Fin cfg0.N) (h0 : ¬t.val % 8 = 0) (h1 : ¬t.val % 8 = 0) (h2 : ¬t.val < 6) (h3 : ¬t.val % 8 = 0) (y : S1x3072.Idx) :
    (show EReal from (outsAt0 m c t.val t.isLt).2.2.2.2.2.2.2 y) = (show EReal from (outsAt0 m c (t.val - 1) (Nat.lt_of_le_of_lt (Nat.sub_le _ _) t.isLt)).2.2.2.2.2.2.2 y) + ∑ r : Fin 512, dlBlk m c t r (y 1) := by
  rw [outsAt0_C m c t h0 h1 h2 h3, outs0_C]; frame_out
  unfold dlBlk
  generalize (outsAt0 m c (t.val - 1) (Nat.lt_of_le_of_lt (Nat.sub_le _ _) t.isLt)).2.2.2.2.2.2.2 = prev
  canon_tiles x h
  case piece0 =>
    refine Eq.trans ?_ (congrArg ((show EReal from prev y) + ·) (Finset.sum_congr rfl fun r _ => GateRow.dlogits_at2 _ _ _ _ _ _ _ _ _ (x 1) (y 1) (by omega))).symm
    open_payloads
    rw [slot_load m c t 2048 (by omega)]
    pointwise
    simp only [lVec, GateRow.dlogit, dBlk, GateRow.dsum, GateRow.prod, GateRow.gate, GateRow.col2, xBlk, wOBlk, biasBlk, eBlk, wEBlk, Nat.zero_add]
    blk_point [] <;> rfl
  case piece1 =>
    refine Eq.trans ?_ (congrArg ((show EReal from prev y) + ·) (Finset.sum_congr rfl fun r _ => GateRow.dlogits_at1 _ _ _ _ _ _ _ _ _ (x 1) (y 1) (by omega))).symm
    open_payloads
    rw [slot_load m c t 1024 (by omega)]
    pointwise
    simp only [lVec, GateRow.dlogit, dBlk, GateRow.dsum, GateRow.prod, GateRow.gate, GateRow.col1, xBlk, wOBlk, biasBlk, fBlk, wFBlk, Nat.zero_add]
    blk_point [] <;> rfl
  case piece2 =>
    refine Eq.trans ?_ (congrArg ((show EReal from prev y) + ·) (Finset.sum_congr rfl fun r _ => GateRow.dlogits_at0 _ _ _ _ _ _ _ _ _ (x 1) (y 1) (by omega))).symm
    open_payloads
    rw [slot_load m c t 0 (by omega)]
    pointwise
    simp only [lVec, GateRow.dlogit, dBlk, GateRow.dsum, GateRow.prod, GateRow.gate, GateRow.col0, xBlk, wOBlk, biasBlk, aBlk, wABlk, Nat.zero_add]
    blk_point [] <;> rfl

end Cert.MixIdeal.Value

end
-- ==== Proof.MixArr.lean ====
/- The gradients of the gated sum as whole arrays over the arguments, and what the run leaves in six of the eight. -/
module

public import proofs.«01_k».proof.Proof.MixBlock

@[expose] public section

set_option maxRecDepth 16384

noncomputable section

open Idealize.ShloMosaic Idealize.ShloMosaic.TcCoe Idealize.SL.Sem

namespace Cert.MixIdeal.Value

open Cert.MixIdeal Cert.MixIdeal.Gen
open Idealize.ShloMosaic.Pipeline (Dat)

section
variable (X : FVec Ideal S4096x1024 .f32) (A F E : FVec Ideal S4096x512 .bf16) (P : FVec Ideal S4096x6144 .bf16) (B : FVec Ideal S1x3072 .f32)
  (WA WF WE : FVec Ideal S512x1024 .bf16) (WO : FVec Ideal S1024x1024 .bf16)
/-- A row of the gradient by the gated sum. -/
def dRow (s : Fin 4096) : Fin 1024 → EReal := GateRow.dsum (row X s) (row WO)
/-- The gradient by the logits. -/
def dlArr : S4096x3072.Idx → EReal := fun y =>
  GateRow.dlogits (dRow X WO (y 0)) (row A (y 0)) (row F (y 0)) (row E (y 0)) (row WA) (row WF) (row WE) (logits P (y 0)) (row B 0) (y 1)
/-- The gradient by a branch's products. -/
def dyArr (col : Fin 1024 → Fin 3072) : S4096x1024.Idx → EReal := fun y =>
  GateRow.dprod (dRow X WO (y 0)) (logits P (y 0)) (row B 0) col (y 1)
/-- The gradient by a branch's rows. -/
def doArr (W : FVec Ideal S512x1024 .bf16) (col : Fin 1024 → Fin 3072) : S4096x512.Idx → EReal := fun y =>
  GateRow.dbranch (row (dyArr X P B WO col) (y 0)) (row W) (y 1)
/-- The same, rows and columns exchanged. -/
def dofArr : S512x4096.Idx → EReal := fun y => GateRow.dbranch (row (dyArr X P B WO GateRow.col1) (y 1)) (row WF) (y 0)
/-- The gradient by the logits' bias. -/
def dbArr : S1x3072.Idx → EReal := fun y => ∑ s : Fin 4096, dlArr X A F E P B WA WF WE WO (ix2 s (y 1))
/-- The gradient by the logits in the first half of the columns; what another call writes is left at zero here. -/
def wideArr : S4096x6144.Idx → EReal := fun y =>
  if h : (y 1).val < 3072 then dlArr X A F E P B WA WF WE WO (ix2 (y 0) ⟨(y 1).val, h⟩) else 0
theorem wideArr_half (s : Fin 4096) (j : Fin 3072) (h : j.val < 6144) :
    wideArr X A F E P B WA WF WE WO (ix2 s ⟨j.val, h⟩) = dlArr X A F E P B WA WF WE WO (ix2 s j) := by
  unfold wideArr
  exact dif_pos j.isLt
end

variable (m : (ℓ : Loc nD τ sig) → Buf (Elt Ideal) ℓ)

theorem dBlk_eq (c : Dev nD) (t : Fin cfg0.N) (r : Fin 512) :
    dBlk m c t r = dRow (m ((c : Thread nD τ).loc main_arg0)) (m ((c : Thread nD τ).loc main_arg9)) (⟨t.val * 512 + r.val, row_lt t r⟩ : Fin 4096) := by
  unfold dBlk
  rw [xBlk_eq, wOBlk_eq]; rfl
theorem dyBlk_eq (c : Dev nD) (t : Fin cfg0.N) (col : Fin 1024 → Fin 3072) (r : Fin 512) :
    dyBlk m c t col r = row (dyArr (m ((c : Thread nD τ).loc main_arg0)) (m ((c : Thread nD τ).loc main_arg4)) (m ((c : Thread nD τ).loc main_arg5)) (m ((c : Thread nD τ).loc main_arg9)) col) (⟨t.val * 512 + r.val, row_lt t r⟩ : Fin 4096) := by
  unfold dyBlk
  rw [dBlk_eq, lBlk_eq, biasBlk_eq]; rfl
theorem dlBlk_eq (c : Dev nD) (t : Fin cfg0.N) (r : Fin 512) :
    dlBlk m c t r = row (dlArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (⟨t.val * 512 + r.val, row_lt t r⟩ : Fin 4096) := by
  unfold dlBlk
  rw [dBlk_eq, aBlk_eq, fBlk_eq, eBlk_eq, wABlk_eq, wFBlk_eq, wEBlk_eq, lBlk_eq, biasBlk_eq]; rfl

/-- The gradient by a branch's products after the run. -/
theorem final13 (c : Dev nD) : (dats m 0 c).arrAt 13 cfg0.N = dyArr (m ((c : Thread nD τ).loc main_arg0)) (m ((c : Thread nD τ).loc main_arg4)) (m ((c : Thread nD τ).loc main_arg5)) (m ((c : Thread nD τ).loc main_arg9)) GateRow.col0 := by
  refine (dats m 0 c).arrAt_eq_of_covers 13 _ (by decide +kernel) fun t hf y => ?_
  blk_simp
  rw [after0_13]
  refine (out13 m c t y).trans ?_
  have hr : ((((cfg0.win 13).blk t).view.emb y) 0 : Fin 4096) = ⟨t.val * 512 + (y 0).val, row_lt t (y 0)⟩ := by
    apply Fin.ext; blk_simp [idx t]
  have hc : ((((cfg0.win 13).blk t).view.emb y) 1 : Fin 1024) = y 1 := by
    apply Fin.ext; blk_simp [idx t]
  exact (congrFun (dyBlk_eq m c t GateRow.col0 (y 0)) (y 1)).trans (congrArg₂ (fun (s : Fin 4096) (k : Fin 1024) =>
    dyArr (m ((c : Thread nD τ).loc main_arg0)) (m ((c : Thread nD τ).loc main_arg4)) (m ((c : Thread nD τ).loc main_arg5)) (m ((c : Thread nD τ).loc main_arg9)) GateRow.col0 (ix2 s k)) hr.symm hc.symm)

/-- The gradient by a branch's products after the run. -/
theorem final14 (c : Dev nD) : (dats m 0 c).arrAt 14 cfg0.N = dyArr (m ((c : Thread nD τ).loc main_arg0)) (m ((c : Thread nD τ).loc main_arg4)) (m ((c : Thread nD τ).loc main_arg5)) (m ((c : Thread nD τ).loc main_arg9)) GateRow.col1 := by
  refine (dats m 0 c).arrAt_eq_of_covers 14 _ (by decide +kernel) fun t hf y => ?_
  blk_simp
  rw [after0_14]
  refine (out14 m c t y).trans ?_
  have hr : ((((cfg0.win 14).blk t).view.emb y) 0 : Fin 4096) = ⟨t.val * 512 + (y 0).val, row_lt t (y 0)⟩ := by
    apply Fin.ext; blk_simp [idx t]
  have hc : ((((cfg0.win 14).blk t).view.emb y) 1 : Fin 1024) = y 1 := by
    apply Fin.ext; blk_simp [idx t]
  exact (congrFun (dyBlk_eq m c t GateRow.col1 (y 0)) (y 1)).trans (congrArg₂ (fun (s : Fin 4096) (k : Fin 1024) =>
    dyArr (m ((c : Thread nD τ).loc main_arg0)) (m ((c : Thread nD τ).loc main_arg4)) (m ((c : Thread nD τ).loc main_arg5)) (m ((c : Thread nD τ).loc main_arg9)) GateRow.col1 (ix2 s k)) hr.symm hc.symm)

/-- The gradient by a branch's products after the run. -/
theorem final15 (c : Dev nD) : (dats m 0 c).arrAt 15 cfg0.N = dyArr (m ((c : Thread nD τ).loc main_arg0)) (m ((c : Thread nD τ).loc main_arg4)) (m ((c : Thread nD τ).loc main_arg5)) (m ((c : Thread nD τ).loc main_arg9)) GateRow.col2 := by
  refine (dats m 0 c).arrAt_eq_of_covers 15 _ (by decide +kernel) fun t hf y => ?_
  blk_simp
  rw [after0_15]
  refine (out15 m c t y).trans ?_
  have hr : ((((cfg0.win 15).blk t).view.emb y) 0 : Fin 4096) = ⟨t.val * 512 + (y 0).val, row_lt t (y 0)⟩ := by
    apply Fin.ext; blk_simp [idx t]
  have hc : ((((cfg0.win 15).blk t).view.emb y) 1 : Fin 1024) = y 1 := by
    apply Fin.ext; blk_simp [idx t]
  exact (congrFun (dyBlk_eq m c t GateRow.col2 (y 0)) (y 1)).trans (congrArg₂ (fun (s : Fin 4096) (k : Fin 1024) =>
    dyArr (m ((c : Thread nD τ).loc main_arg0)) (m ((c : Thread nD τ).loc main_arg4)) (m ((c : Thread nD τ).loc main_arg5)) (m ((c : Thread nD τ).loc main_arg9)) GateRow.col2 (ix2 s k)) hr.symm hc.symm)

/-- The gradient by a branch's rows after the run. -/
theorem final10 (c : Dev nD) : (dats m 0 c).arrAt 10 cfg0.N = doArr (m ((c : Thread nD τ).loc main_arg0)) (m ((c : Thread nD τ).loc main_arg4)) (m ((c : Thread nD τ).loc main_arg5)) (m ((c : Thread nD τ).loc main_arg9)) (m ((c : Thread nD τ).loc main_arg6)) GateRow.col0 := by
  refine (dats m 0 c).arrAt_eq_of_covers 10 _ (by decide +kernel) fun t hf y => ?_
  blk_simp
  rw [after0_10]
  refine (out10 m c t y).trans ?_
  have hr : ((((cfg0.win 10).blk t).view.emb y) 0 : Fin 4096) = ⟨t.val * 512 + (y 0).val, row_lt t (y 0)⟩ := by
    apply Fin.ext; blk_simp [idx t]
  have hc : ((((cfg0.win 10).blk t).view.emb y) 1 : Fin 512) = y 1 := by
    apply Fin.ext; blk_simp [idx t]
  exact (congrFun (congrArg₂ GateRow.dbranch (dyBlk_eq m c t GateRow.col0 (y 0)) (wABlk_eq m c t)) (y 1)).trans
    (congrArg₂ (fun (s : Fin 4096) (k : Fin 512) => doArr (m ((c : Thread nD τ).loc main_arg0)) (m ((c : Thread nD τ).loc main_arg4)) (m ((c : Thread nD τ).loc main_arg5)) (m ((c : Thread nD τ).loc main_arg9)) (m ((c : Thread nD τ).loc main_arg6)) GateRow.col0 (ix2 s k)) hr.symm hc.symm)

/-- The gradient by a branch's rows after the run. -/
theorem final12 (c : Dev nD) : (dats m 0 c).arrAt 12 cfg0.N = doArr (m ((c : Thread nD τ).loc main_arg0)) (m ((c : Thread nD τ).loc main_arg4)) (m ((c : Thread nD τ).loc main_arg5)) (m ((c : Thread nD τ).loc main_arg9)) (m ((c : Thread nD τ).loc main_arg8)) GateRow.col2 := by
  refine (dats m 0 c).arrAt_eq_of_covers 12 _ (by decide +kernel) fun t hf y => ?_
  blk_simp
  rw [after0_12]
  refine (out12 m c t y).trans ?_
  have hr : ((((cfg0.win 12).blk t).view.emb y) 0 : Fin 4096) = ⟨t.val * 512 + (y 0).val, row_lt t (y 0)⟩ := by
    apply Fin.ext; blk_simp [idx t]
  have hc : ((((cfg0.win 12).blk t).view.emb y) 1 : Fin 512) = y 1 := by
    apply Fin.ext; blk_simp [idx t]
  exact (congrFun (congrArg₂ GateRow.dbranch (dyBlk_eq m c t GateRow.col2 (y 0)) (wEBlk_eq m c t)) (y 1)).trans
    (congrArg₂ (fun (s : Fin 4096) (k : Fin 512) => doArr (m ((c : Thread nD τ).loc main_arg0)) (m ((c : Thread nD τ).loc main_arg4)) (m ((c : Thread nD τ).loc main_arg5)) (m ((c : Thread nD τ).loc main_arg9)) (m ((c : Thread nD τ).loc main_arg8)) GateRow.col2 (ix2 s k)) hr.symm hc.symm)

/-- The gradient by the second branch's rows, transposed, after the run. -/
theorem final11 (c : Dev nD) : (dats m 0 c).arrAt 11 cfg0.N = dofArr (m ((c : Thread nD τ).loc main_arg0)) (m ((c : Thread nD τ).loc main_arg4)) (m ((c : Thread nD τ).loc main_arg5)) (m ((c : Thread nD τ).loc main_arg7)) (m ((c : Thread nD τ).loc main_arg9)) := by
  refine (dats m 0 c).arrAt_eq_of_covers 11 _ (by decide +kernel) fun t hf y => ?_
  blk_simp
  rw [after0_11]
  refine (out11 m c t y).trans ?_
  have hr : ((((cfg0.win 11).blk t).view.emb y) 1 : Fin 4096) = ⟨t.val * 512 + (y 1).val, row_lt t (y 1)⟩ := by
    apply Fin.ext; blk_simp [idx t]
  have hc : ((((cfg0.win 11).blk t).view.emb y) 0 : Fin 512) = y 0 := by
    apply Fin.ext; blk_simp [idx t]
  exact (congrFun (congrArg₂ GateRow.dbranch (dyBlk_eq m c t GateRow.col1 (y 1)) (wFBlk_eq m c t)) (y 0)).trans
    (congrArg₂ (fun (s : Fin 4096) (k : Fin 512) => dofArr (m ((c : Thread nD τ).loc main_arg0)) (m ((c : Thread nD τ).loc main_arg4)) (m ((c : Thread nD τ).loc main_arg5)) (m ((c : Thread nD τ).loc main_arg7)) (m ((c : Thread nD τ).loc main_arg9)) (ix2 k s)) hr.symm hc.symm)

end Cert.MixIdeal.Value

end
-- ==== Proof.MixFinal.lean ====
/- What `merge_bwd` leaves in its first result and in the row of the bias' gradient, and the run that ends there. -/
module

public import proofs.«01_k».proof.Proof.MixLogits
public import proofs.«01_k».proof.Proof.MixArr

@[expose] public section

set_option maxRecDepth 16384

noncomputable section

open Idealize.ShloMosaic Idealize.ShloMosaic.TcCoe Idealize.SL.Sem

namespace Cert.MixIdeal.Value

open Cert.MixIdeal Cert.MixIdeal.Gen
open Idealize.ShloMosaic.Pipeline (Dat)

variable (m : (ℓ : Loc nD τ sig) → Buf (Elt Ideal) ℓ) (ρ : Dev nD → PrngReg)

theorem out9 (c : Dev nD) (t : Fin cfg0.N) (y : S512x3072.Idx) : (show EReal from (outsAt0 m c t.val t.isLt).1 y) = dlBlk m c t (y 0) (y 1) := by
  have := lt8 t
  by_cases h0 : t.val % 8 = 0
  · exact out9A m c t h0 h0 (by omega) h0 y
  by_cases h2 : t.val < 6
  · exact out9B m c t h0 h0 h2 h0 y
  · exact out9C m c t h0 h0 h2 h0 y

/-- A later point adds its rows' part to the row of the bias' gradient. -/
theorem out16S (c : Dev nD) (t : Fin cfg0.N) (h0 : ¬t.val % 8 = 0) (y : S1x3072.Idx) :
    (show EReal from (outsAt0 m c t.val t.isLt).2.2.2.2.2.2.2 y)
      = (outsAt0 m c (t.val - 1) (Nat.lt_of_le_of_lt (Nat.sub_le _ _) t.isLt)).2.2.2.2.2.2.2 y + ∑ r : Fin 512, dlBlk m c t r (y 1) := by
  by_cases h2 : t.val < 6
  · exact out16B m c t h0 h0 h2 h0 y
  · exact out16C m c t h0 h0 h2 h0 y

theorem half_lt (j : Fin 3072) : j.val < 6144 := by omega

/-- The first result after the run: the gates' half of the columns written, the other half as it was. -/
theorem final9 (c : Dev nD) : (dats m 0 c).arrAt 9 cfg0.N
    = fun i => if (i 1).val < 3072 then wideArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i else (dats m 0 c).A 9 i := by
  refine (dats m 0 c).arrAt_eq_of_coversWhere 9 _ (fun β => β (1 : Fin 2) = 0) (by decide +kernel) (fun t hf y => ?_)
    (fun j => by blk_simp [Pipeline.Window.cell_apply]; omega)
  blk_simp
  rw [after0_9]
  refine (out9 m c t y).trans ?_
  have hr : ((((cfg0.win 9).blk t).view.emb y) 0 : Fin 4096) = ⟨t.val * 512 + (y 0).val, row_lt t (y 0)⟩ := by
    apply Fin.ext; blk_simp [idx t]
  have hc : ((((cfg0.win 9).blk t).view.emb y) 1 : Fin 6144) = ⟨(y 1).val, half_lt (y 1)⟩ := by
    apply Fin.ext; blk_simp [idx t]
  have hw : dlBlk m c t (y 0) (y 1) = wideArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      (ix2 (⟨t.val * 512 + (y 0).val, row_lt t (y 0)⟩ : Fin 4096) (⟨(y 1).val, half_lt (y 1)⟩ : Fin 6144)) := by
    refine (congrFun (dlBlk_eq m c t (y 0)) (y 1)).trans ?_
    exact (wideArr_half _ _ _ _ _ _ _ _ _ _ (⟨t.val * 512 + (y 0).val, row_lt t (y 0)⟩ : Fin 4096) (y 1) (half_lt (y 1))).symm
  exact hw.trans (congrArg₂ (fun (s : Fin 4096) (k : Fin 6144) => wideArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 s k)) hr.symm hc.symm)

/-- The gradient by the bias after the run. -/
theorem final16 (c : Dev nD) : (dats m 0 c).arrAt 16 cfg0.N = dbArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 16 t0_7 (by decide +kernel) _ fun j => ?_
  blk_simp [idx t0_7]
  rw [after0_16]
  refine (Pipeline.eq_sum_fin_of_reset_step_apply_last (fun n h => (outsAt0 m c n h).2.2.2.2.2.2.2) 8 (fun _ => (0 : EReal))
    (fun t y => ∑ r : Fin 512, dlBlk m c t r (y 1))
    (fun t h0 y => out16A m c t h0 h0 (by have := lt8 t; omega) h0 y) (out16S m c) (le_of_eq N_0) t0_7 rfl j).trans ?_
  rw [zero_add]
  unfold dbArr
  refine Fin.sum_mul_add_congr (S := cfg0.N) (n := 512) (fun t r hl => ?_) (by rw [show cfg0.N = 8 from N_0])
  rw [dlBlk_eq]; rfl

/-- The gates' half of the columns, sliced off the first result. -/
theorem sliced (c : Dev nD) : Pipeline.afterTail₀ cfgs (dats m) 0 (V0 m) [hostOps1] c main_v1 = dlArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e : Pipeline.afterTail₀ cfgs (dats m) 0 (V0 m) [hostOps1] c main_v1
      = extractStridedSlice S4096x3072 ![0, 0] ((dats m 0 c).arrAt 9 cfg0.N : FVec Ideal S4096x6144 .bf16) slices_S4096x6144_S4096x3072_0_0 := by
    unfold Pipeline.afterTail₀
    simp only [hostOps1, List.flatten_cons, List.flatten_nil, List.append_nil]
    after_results_simp
    rw [Pipeline.withArrays_arr spec0 (by decide) c (V0 m c) (fun w => (dats m 0 c).arrAt w cfg0.N) 9]
  rw [e, final9]
  funext y
  obtain ⟨s, j, rfl⟩ : ∃ (s : Fin 4096) (j : Fin 3072), y = ix2 s j := ⟨y 0, y 1, by funext i; fin_cases i <;> rfl⟩
  have at_half : ∀ G : FVec Ideal S4096x6144 .bf16, extractStridedSlice S4096x3072 ![0, 0] G slices_S4096x6144_S4096x3072_0_0 (ix2 s j)
      = G (ix2 s ⟨j.val, half_lt j⟩) := fun G => by pointwise
  refine (at_half _).trans ((if_pos j.isLt).trans ?_)
  exact wideArr_half _ _ _ _ _ _ _ _ _ _ s j (half_lt j)

end Cert.MixIdeal.Value

end
-- ==== Proof.MixGradTerm.lean ====
/- The reference's gradients of the gated sum, read at an index. -/
module

public import proofs.«01_k».proof.Proof.MixArr
public import proofs.«01_k».proof.Proof.Gen.MixGradIdeal.Run

@[expose] public section

set_option maxRecDepth 16384

noncomputable section

open Idealize.ShloMosaic Idealize.ShloMosaic.TcCoe Idealize.SL.Sem

namespace Cert.MixClaim

open Cert.MixGradIdeal Cert.MixGradIdeal.Gen
open Cert.MixIdeal.Value (row logits dRow dlArr dyArr doArr dofArr dbArr)

section
variable (X : FVec Ideal S4096x1024 .f32) (A F E : FVec Ideal S4096x512 .bf16) (P : FVec Ideal S4096x6144 .bf16) (B : FVec Ideal S1x3072 .f32)
  (WA WF WE : FVec Ideal S512x1024 .bf16) (WO : FVec Ideal S1024x1024 .bf16)

/-- The logits with their bias. -/
def biased : FVec Ideal S4096x3072 .f32 :=
  addf (extractStridedSlice S4096x3072 ![0, 0] (extf .f32 P bitsLt_bf16_f32) slices_S4096x6144_S4096x3072_0_0)
    (broadcastInDim S4096x3072 ![0, 1] bcast_S1x3072_S4096x3072_0_1 (broadcastInDim S1x3072 ![1] bcast_S3072_S1x3072_1 (shapeCast _ B shapeCasts_S1x3072_S3072)))
/-- Their sigmoid. -/
def gates : FVec Ideal S4096x3072 .f32 :=
  Host.divf (broadcastInDim S4096x3072 ![] bcast_S_S4096x3072 (constant S_ .f32 0x3F800000#32))
    (addf (broadcastInDim S4096x3072 ![] bcast_S_S4096x3072 (constant S_ .f32 0x3F800000#32)) (Host.exp (Host.negf (biased P B))))
/-- The sigmoid's derivative. -/
def slopes : FVec Ideal S4096x3072 .f32 :=
  mulf (gates P B) (subf (broadcastInDim S4096x3072 ![] bcast_S_S4096x3072 (constant S_ .f32 0x3F800000#32)) (gates P B))
/-- The three branches' thirds of the columns. -/
def third0 (g : FVec Ideal S4096x3072 .f32) : FVec Ideal S4096x1024 .f32 :=
  shapeCast _ (extractStridedSlice S4096x1x1024 ![0, 0, 0] (shapeCast _ g shapeCasts_S4096x3072_S4096x3x1024) slices_S4096x3x1024_S4096x1x1024_0_0_0) shapeCasts_S4096x1x1024_S4096x1024
def third1 (g : FVec Ideal S4096x3072 .f32) : FVec Ideal S4096x1024 .f32 :=
  shapeCast _ (extractStridedSlice S4096x1x1024 ![0, 1, 0] (shapeCast _ g shapeCasts_S4096x3072_S4096x3x1024) slices_S4096x3x1024_S4096x1x1024_0_1_0) shapeCasts_S4096x1x1024_S4096x1024
def third2 (g : FVec Ideal S4096x3072 .f32) : FVec Ideal S4096x1024 .f32 :=
  shapeCast _ (extractStridedSlice S4096x1x1024 ![0, 2, 0] (shapeCast _ g shapeCasts_S4096x3072_S4096x3x1024) slices_S4096x3x1024_S4096x1x1024_0_2_0) shapeCasts_S4096x1x1024_S4096x1024
/-- A branch's output product. -/
def branch (o : FVec Ideal S4096x512 .bf16) (w : FVec Ideal S512x1024 .bf16) : FVec Ideal S4096x1024 .f32 :=
  Host.dotGeneral dot_S4096x512_S512x1024_S4096x1024_1_0_0_1_n_n none (extf .f32 o bitsLt_bf16_f32) (extf .f32 w bitsLt_bf16_f32)
/-- The gradient by the gated sum. -/
def dsummed : FVec Ideal S4096x1024 .f32 :=
  Host.dotGeneral dot_S4096x1024_S1024x1024_S4096x1024_1_1_0_0_n_n none X (extf .f32 WO bitsLt_bf16_f32)
/-- The gradient by a branch's rows, from that by its products. -/
def dRows (d : FVec Ideal S4096x1024 .f32) (w : FVec Ideal S512x1024 .bf16) : FVec Ideal S4096x512 .f32 :=
  Host.dotGeneral dot_S4096x1024_S512x1024_S4096x512_1_1_0_0_n_n none d (extf .f32 w bitsLt_bf16_f32)
/-- A third of the columns among zeros. -/
def placed0 (d : FVec Ideal S4096x1024 .f32) : FVec Ideal S4096x3x1024 .f32 :=
  pad S4096x3x1024 ![0, 0, 0] ![0, 2, 0] ![0, 0, 0] (broadcastInDim S4096x1x1024 ![0, 2] bcast_S4096x1024_S4096x1x1024_0_2 d) (constant S_ .f32 0x00000000#32) pads_S4096x1x1024_S4096x3x1024_000_020_000 h_S_
def placed1 (d : FVec Ideal S4096x1024 .f32) : FVec Ideal S4096x3x1024 .f32 :=
  pad S4096x3x1024 ![0, 1, 0] ![0, 1, 0] ![0, 0, 0] (broadcastInDim S4096x1x1024 ![0, 2] bcast_S4096x1024_S4096x1x1024_0_2 d) (constant S_ .f32 0x00000000#32) pads_S4096x1x1024_S4096x3x1024_000_110_000 h_S_
def placed2 (d : FVec Ideal S4096x1024 .f32) : FVec Ideal S4096x3x1024 .f32 :=
  pad S4096x3x1024 ![0, 2, 0] ![0, 0, 0] ![0, 0, 0] (broadcastInDim S4096x1x1024 ![0, 2] bcast_S4096x1024_S4096x1x1024_0_2 d) (constant S_ .f32 0x00000000#32) pads_S4096x1x1024_S4096x3x1024_000_200_000 h_S_
/-- The three thirds together. -/
def together (d0 d1 d2 : FVec Ideal S4096x1024 .f32) : FVec Ideal S4096x3072 .f32 :=
  shapeCast _ (addf (addf (placed2 d2) (placed1 d1)) (placed0 d0)) shapeCasts_S4096x3x1024_S4096x3072
/-- The gradient by the logits. -/
def dlogits : FVec Ideal S4096x3072 .f32 :=
  mulf (together (mulf (dsummed X WO) (branch A WA)) (mulf (dsummed X WO) (branch F WF)) (mulf (dsummed X WO) (branch E WE))) (slopes P B)
/-- The gradient by the bias: the columns' sums. -/
def dbias (d : FVec Ideal S4096x3072 .f32) : FVec Ideal S1x3072 .f32 :=
  shapeCast _ (Host.reduceAdd (shapeCast _ (Host.reduceAdd d (constant S_ .f32 0x00000000#32) reducesTo_S4096x3072_S3072_d0 h_S_) shapeCasts_S3072_S1x3072)
    (constant S_ .f32 0x00000000#32) reducesTo_S1x3072_S3072_d0 h_S_) shapeCasts_S3072_S1x3072

theorem biased_at (s : Fin 4096) (j : Fin 3072) : biased P B (ix2 s j) = P (ix2 s ⟨j.val, by omega⟩) + B (ix2 0 j) := by
  pointwise [biased]

theorem gates_at (s : Fin 4096) (j : Fin 3072) : gates P B (ix2 s j) = GateRow.gate (logits P s j + row B 0 j) := by
  have e : gates P B (ix2 s j) = Ideal.div 1 (1 + Ideal.exp (-(biased P B (ix2 s j)))) := by
    pointwise [gates]
  rw [e, biased_at, GateRow.gate, zero_sub]; rfl

theorem slopes_at (s : Fin 4096) (j : Fin 3072) : slopes P B (ix2 s j)
    = GateRow.gate (logits P s j + row B 0 j) * (1 - GateRow.gate (logits P s j + row B 0 j)) := by
  have e : slopes P B (ix2 s j) = gates P B (ix2 s j) * (1 - gates P B (ix2 s j)) := by
    pointwise [slopes]
  rw [e, gates_at]

theorem third0_at (g : FVec Ideal S4096x3072 .f32) (s : Fin 4096) (k : Fin 1024) : third0 g (ix2 s k) = g (ix2 s (GateRow.col0 k)) := by
  pointwise [third0]
  blk_point [GateRow.col0]

theorem third1_at (g : FVec Ideal S4096x3072 .f32) (s : Fin 4096) (k : Fin 1024) : third1 g (ix2 s k) = g (ix2 s (GateRow.col1 k)) := by
  pointwise [third1]
  blk_point [GateRow.col1]

theorem third2_at (g : FVec Ideal S4096x3072 .f32) (s : Fin 4096) (k : Fin 1024) : third2 g (ix2 s k) = g (ix2 s (GateRow.col2 k)) := by
  pointwise [third2]
  blk_point [GateRow.col2]

theorem branch_at (o : FVec Ideal S4096x512 .bf16) (w : FVec Ideal S512x1024 .bf16) (s : Fin 4096) (k : Fin 1024) :
    branch o w (ix2 s k) = GateRow.prod (row o s) (row w) k := by
  pointwise [branch]
  rfl

theorem dsummed_at (s : Fin 4096) (k : Fin 1024) : dsummed X WO (ix2 s k) = dRow X WO s k := by
  pointwise [dsummed]
  rfl

theorem dRows_at (d : FVec Ideal S4096x1024 .f32) (w : FVec Ideal S512x1024 .bf16) (s : Fin 4096) (n : Fin 512) :
    dRows d w (ix2 s n) = GateRow.dbranch (row d s) (row w) n := by
  pointwise [dRows]
  rfl

theorem placed0_at0 (d : FVec Ideal S4096x1024 .f32) (s : Fin 4096) (k : Fin 1024) : placed0 d (ix3 s 0 k) = d (ix2 s k) := by
  pointwise [placed0]

theorem placed0_at1 (d : FVec Ideal S4096x1024 .f32) (s : Fin 4096) (k : Fin 1024) : placed0 d (ix3 s 1 k) = 0 := by
  pointwise [placed0]

theorem placed0_at2 (d : FVec Ideal S4096x1024 .f32) (s : Fin 4096) (k : Fin 1024) : placed0 d (ix3 s 2 k) = 0 := by
  pointwise [placed0]

theorem placed1_at0 (d : FVec Ideal S4096x1024 .f32) (s : Fin 4096) (k : Fin 1024) : placed1 d (ix3 s 0 k) = 0 := by
  pointwise [placed1]

theorem placed1_at1 (d : FVec Ideal S4096x1024 .f32) (s : Fin 4096) (k : Fin 1024) : placed1 d (ix3 s 1 k) = d (ix2 s k) := by
  pointwise [placed1]

theorem placed1_at2 (d : FVec Ideal S4096x1024 .f32) (s : Fin 4096) (k : Fin 1024) : placed1 d (ix3 s 2 k) = 0 := by
  pointwise [placed1]

theorem placed2_at0 (d : FVec Ideal S4096x1024 .f32) (s : Fin 4096) (k : Fin 1024) : placed2 d (ix3 s 0 k) = 0 := by
  pointwise [placed2]

theorem placed2_at1 (d : FVec Ideal S4096x1024 .f32) (s : Fin 4096) (k : Fin 1024) : placed2 d (ix3 s 1 k) = 0 := by
  pointwise [placed2]

theorem placed2_at2 (d : FVec Ideal S4096x1024 .f32) (s : Fin 4096) (k : Fin 1024) : placed2 d (ix3 s 2 k) = d (ix2 s k) := by
  pointwise [placed2]

theorem joined_col0 (d : FVec Ideal S4096x3x1024 .f32) (s : Fin 4096) (k : Fin 1024) :
    (shapeCast S4096x3072 d shapeCasts_S4096x3x1024_S4096x3072 : FVec Ideal S4096x3072 .f32) (ix2 s (GateRow.col0 k)) = d (ix3 s 0 k) := by
  pointwise
  blk_point [GateRow.col0]

theorem together_col0 (d0 d1 d2 : FVec Ideal S4096x1024 .f32) (s : Fin 4096) (k : Fin 1024) : together d0 d1 d2 (ix2 s (GateRow.col0 k)) = d0 (ix2 s k) := by
  have e : together d0 d1 d2 (ix2 s (GateRow.col0 k)) = placed2 d2 (ix3 s 0 k) + placed1 d1 (ix3 s 0 k) + placed0 d0 (ix3 s 0 k) := joined_col0 _ s k
  rw [e, placed2_at0, placed1_at0, placed0_at0]
  simp only [zero_add, add_zero]

theorem joined_col1 (d : FVec Ideal S4096x3x1024 .f32) (s : Fin 4096) (k : Fin 1024) :
    (shapeCast S4096x3072 d shapeCasts_S4096x3x1024_S4096x3072 : FVec Ideal S4096x3072 .f32) (ix2 s (GateRow.col1 k)) = d (ix3 s 1 k) := by
  pointwise
  blk_point [GateRow.col1]

theorem together_col1 (d0 d1 d2 : FVec Ideal S4096x1024 .f32) (s : Fin 4096) (k : Fin 1024) : together d0 d1 d2 (ix2 s (GateRow.col1 k)) = d1 (ix2 s k) := by
  have e : together d0 d1 d2 (ix2 s (GateRow.col1 k)) = placed2 d2 (ix3 s 1 k) + placed1 d1 (ix3 s 1 k) + placed0 d0 (ix3 s 1 k) := joined_col1 _ s k
  rw [e, placed2_at1, placed1_at1, placed0_at1]
  simp only [zero_add, add_zero]

theorem joined_col2 (d : FVec Ideal S4096x3x1024 .f32) (s : Fin 4096) (k : Fin 1024) :
    (shapeCast S4096x3072 d shapeCasts_S4096x3x1024_S4096x3072 : FVec Ideal S4096x3072 .f32) (ix2 s (GateRow.col2 k)) = d (ix3 s 2 k) := by
  pointwise
  blk_point [GateRow.col2]

theorem together_col2 (d0 d1 d2 : FVec Ideal S4096x1024 .f32) (s : Fin 4096) (k : Fin 1024) : together d0 d1 d2 (ix2 s (GateRow.col2 k)) = d2 (ix2 s k) := by
  have e : together d0 d1 d2 (ix2 s (GateRow.col2 k)) = placed2 d2 (ix3 s 2 k) + placed1 d1 (ix3 s 2 k) + placed0 d0 (ix3 s 2 k) := joined_col2 _ s k
  rw [e, placed2_at2, placed1_at2, placed0_at2]
  simp only [zero_add, add_zero]

theorem dlogits_at (s : Fin 4096) (j : Fin 3072) : dlogits X A F E P B WA WF WE WO (ix2 s j) = dlArr X A F E P B WA WF WE WO (ix2 s j) := by
  have e : dlogits X A F E P B WA WF WE WO (ix2 s j)
      = together (mulf (dsummed X WO) (branch A WA)) (mulf (dsummed X WO) (branch F WF)) (mulf (dsummed X WO) (branch E WE)) (ix2 s j) * slopes P B (ix2 s j) := by
    pointwise [dlogits]
  have p : ∀ (o : FVec Ideal S4096x512 .bf16) (w : FVec Ideal S512x1024 .bf16) (k : Fin 1024),
      mulf (dsummed X WO) (branch o w) (ix2 s k) = dRow X WO s k * GateRow.prod (row o s) (row w) k := fun o w k =>
    congrArg₂ (fun u v : EReal => u * v) (dsummed_at X WO s k) (branch_at o w s k)
  rw [e, slopes_at]
  unfold dlArr
  rcases GateRow.col_cases j with ⟨k, rfl⟩ | ⟨k, rfl⟩ | ⟨k, rfl⟩
  · rw [together_col0, p, ← mul_assoc]
    exact (GateRow.dlogits_col0 _ _ _ _ _ _ _ _ _ k).symm
  · rw [together_col1, p, ← mul_assoc]
    exact (GateRow.dlogits_col1 _ _ _ _ _ _ _ _ _ k).symm
  · rw [together_col2, p, ← mul_assoc]
    exact (GateRow.dlogits_col2 _ _ _ _ _ _ _ _ _ k).symm

theorem dl_eq : truncf .bf16 (dlogits X A F E P B WA WF WE WO) bitsLt_bf16_f32 = (dlArr X A F E P B WA WF WE WO : FVec Ideal S4096x3072 .bf16) := by
  funext y
  obtain ⟨s, j, rfl⟩ : ∃ (s : Fin 4096) (j : Fin 3072), y = ix2 s j := ⟨y 0, y 1, by funext i; fin_cases i <;> rfl⟩
  exact dlogits_at X A F E P B WA WF WE WO s j

theorem db_eq : dbias (dlogits X A F E P B WA WF WE WO) = (dbArr X A F E P B WA WF WE WO : FVec Ideal S1x3072 .f32) := by
  funext y
  obtain ⟨z, j, rfl⟩ : ∃ (z : Fin 1) (j : Fin 3072), y = ix2 z j := ⟨y 0, y 1, by funext i; fin_cases i <;> rfl⟩
  have e : dbias (dlogits X A F E P B WA WF WE WO) (ix2 z j) = ∑ s : Fin 4096, dlogits X A F E P B WA WF WE WO (ix2 s j) := by
    pointwise [dbias]
    exact Fin.sum_univ_one _
  rw [e]
  simp only [dlogits_at]
  rfl

theorem dy0_at (s : Fin 4096) (k : Fin 1024) : mulf (third0 (gates P B)) (dsummed X WO) (ix2 s k) = dyArr X P B WO GateRow.col0 (ix2 s k) := by
  have e : mulf (third0 (gates P B)) (dsummed X WO) (ix2 s k) = third0 (gates P B) (ix2 s k) * dsummed X WO (ix2 s k) := rfl
  rw [e, third0_at, gates_at, dsummed_at, mul_comm]; rfl

theorem dy0_eq : truncf .bf16 (mulf (third0 (gates P B)) (dsummed X WO)) bitsLt_bf16_f32 = (dyArr X P B WO GateRow.col0 : FVec Ideal S4096x1024 .bf16) := by
  funext y
  obtain ⟨s, k, rfl⟩ : ∃ (s : Fin 4096) (k : Fin 1024), y = ix2 s k := ⟨y 0, y 1, by funext i; fin_cases i <;> rfl⟩
  exact dy0_at X P B WO s k

theorem do0_at (s : Fin 4096) (n : Fin 512) : dRows (mulf (third0 (gates P B)) (dsummed X WO)) WA (ix2 s n) = doArr X P B WO WA GateRow.col0 (ix2 s n) := by
  rw [dRows_at]
  exact congrArg (fun d => GateRow.dbranch d (row WA) n) (funext fun k => dy0_at X P B WO s k)

theorem dy1_at (s : Fin 4096) (k : Fin 1024) : mulf (third1 (gates P B)) (dsummed X WO) (ix2 s k) = dyArr X P B WO GateRow.col1 (ix2 s k) := by
  have e : mulf (third1 (gates P B)) (dsummed X WO) (ix2 s k) = third1 (gates P B) (ix2 s k) * dsummed X WO (ix2 s k) := rfl
  rw [e, third1_at, gates_at, dsummed_at, mul_comm]; rfl

theorem dy1_eq : truncf .bf16 (mulf (third1 (gates P B)) (dsummed X WO)) bitsLt_bf16_f32 = (dyArr X P B WO GateRow.col1 : FVec Ideal S4096x1024 .bf16) := by
  funext y
  obtain ⟨s, k, rfl⟩ : ∃ (s : Fin 4096) (k : Fin 1024), y = ix2 s k := ⟨y 0, y 1, by funext i; fin_cases i <;> rfl⟩
  exact dy1_at X P B WO s k

theorem do1_at (s : Fin 4096) (n : Fin 512) : dRows (mulf (third1 (gates P B)) (dsummed X WO)) WF (ix2 s n) = doArr X P B WO WF GateRow.col1 (ix2 s n) := by
  rw [dRows_at]
  exact congrArg (fun d => GateRow.dbranch d (row WF) n) (funext fun k => dy1_at X P B WO s k)

theorem dy2_at (s : Fin 4096) (k : Fin 1024) : mulf (third2 (gates P B)) (dsummed X WO) (ix2 s k) = dyArr X P B WO GateRow.col2 (ix2 s k) := by
  have e : mulf (third2 (gates P B)) (dsummed X WO) (ix2 s k) = third2 (gates P B) (ix2 s k) * dsummed X WO (ix2 s k) := rfl
  rw [e, third2_at, gates_at, dsummed_at, mul_comm]; rfl

theorem dy2_eq : truncf .bf16 (mulf (third2 (gates P B)) (dsummed X WO)) bitsLt_bf16_f32 = (dyArr X P B WO GateRow.col2 : FVec Ideal S4096x1024 .bf16) := by
  funext y
  obtain ⟨s, k, rfl⟩ : ∃ (s : Fin 4096) (k : Fin 1024), y = ix2 s k := ⟨y 0, y 1, by funext i; fin_cases i <;> rfl⟩
  exact dy2_at X P B WO s k

theorem do2_at (s : Fin 4096) (n : Fin 512) : dRows (mulf (third2 (gates P B)) (dsummed X WO)) WE (ix2 s n) = doArr X P B WO WE GateRow.col2 (ix2 s n) := by
  rw [dRows_at]
  exact congrArg (fun d => GateRow.dbranch d (row WE) n) (funext fun k => dy2_at X P B WO s k)

theorem do0_eq : truncf .bf16 (dRows (mulf (third0 (gates P B)) (dsummed X WO)) WA) bitsLt_bf16_f32
    = (doArr X P B WO WA GateRow.col0 : FVec Ideal S4096x512 .bf16) := by
  funext y
  obtain ⟨s, n, rfl⟩ : ∃ (s : Fin 4096) (n : Fin 512), y = ix2 s n := ⟨y 0, y 1, by funext i; fin_cases i <;> rfl⟩
  exact do0_at X P B WA WO s n

theorem do2_eq : truncf .bf16 (dRows (mulf (third2 (gates P B)) (dsummed X WO)) WE) bitsLt_bf16_f32
    = (doArr X P B WO WE GateRow.col2 : FVec Ideal S4096x512 .bf16) := by
  funext y
  obtain ⟨s, n, rfl⟩ : ∃ (s : Fin 4096) (n : Fin 512), y = ix2 s n := ⟨y 0, y 1, by funext i; fin_cases i <;> rfl⟩
  exact do2_at X P B WE WO s n

theorem dof_eq : truncf .bf16 (transpose S512x4096 [1, 0] (dRows (mulf (third1 (gates P B)) (dsummed X WO)) WF) transposes_S4096x512_S512x4096_1_0) bitsLt_bf16_f32
    = (dofArr X P B WF WO : FVec Ideal S512x4096 .bf16) := by
  funext y
  obtain ⟨n, s, rfl⟩ : ∃ (n : Fin 512) (s : Fin 4096), y = ix2 n s := ⟨y 0, y 1, by funext i; fin_cases i <;> rfl⟩
  have e : truncf .bf16 (transpose S512x4096 [1, 0] (dRows (mulf (third1 (gates P B)) (dsummed X WO)) WF) transposes_S4096x512_S512x4096_1_0) bitsLt_bf16_f32 (ix2 n s)
      = dRows (mulf (third1 (gates P B)) (dsummed X WO)) WF (ix2 s n) := by
    pointwise
  exact e.trans (do1_at X P B WF WO s n)

end

end Cert.MixClaim

end
-- ==== Proof.MixClaim.lean ====
/- The gradient of the gated sum by the kernel is the reference's, and the claim that compares the two programs. -/
module

public import proofs.«01_k».proof.Defs
public import proofs.«01_k».proof.Proof.MixFinal
public import proofs.«01_k».proof.Proof.MixGradTerm
public import Idealize.ShloMosaic.Adequacy
public import Idealize.ShloMosaic.Init

@[expose] public section

set_option maxRecDepth 16384

noncomputable section

open Idealize.ShloMosaic Idealize.ShloMosaic.TcCoe Idealize.SL.Sem

namespace Cert.MixClaim

open Cert.MixGradIdeal Cert.MixGradIdeal.Gen
open Cert.MixIdeal.Value (row logits dRow dlArr dyArr doArr dofArr dbArr)

set_option maxHeartbeats 4000000 in
/-- The kernel and the reference end with equal results. -/
theorem algebraic : Cert.algebraic_MixIdeal_MixGradIdeal (hMixIdeal := Cert.MixIdeal.Gen.facts)
    (hMixGradIdeal := Cert.MixGradIdeal.Gen.facts) := by
  pair_intro
  · run_from Cert.MixIdeal.Gen.run_main m g
    · exact hc.1 16
    · exact Cert.MixIdeal.Gen.W_main_arg4 m _ c
  · run_from Cert.MixGradIdeal.Value.run m' g'
    · refine Eq.trans ?_ (Cert.MixIdeal.Value.sliced m c).symm
      exact dl_eq _ _ _ _ _ _ _ _ _ _
    · refine Eq.trans ?_ (Cert.MixIdeal.Value.final10 m c).symm
      exact do0_eq _ _ _ _ _
    · refine Eq.trans ?_ (Cert.MixIdeal.Value.final11 m c).symm
      exact dof_eq _ _ _ _ _
    · refine Eq.trans ?_ (Cert.MixIdeal.Value.final12 m c).symm
      exact do2_eq _ _ _ _ _
    · refine Eq.trans ?_ (Cert.MixIdeal.Value.final13 m c).symm
      exact dy0_eq _ _ _ _
    · refine Eq.trans ?_ (Cert.MixIdeal.Value.final14 m c).symm
      exact dy1_eq _ _ _ _
    · refine Eq.trans ?_ (Cert.MixIdeal.Value.final15 m c).symm
      exact dy2_eq _ _ _ _
    · refine Eq.trans ?_ (Cert.MixIdeal.Value.final16 m c).symm
      exact db_eq _ _ _ _ _ _ _ _ _ _

end Cert.MixClaim

end
-- ==== Proof.AttendFinal.lean ====
/- The array `mem_fwd` leaves, as a formula over its arguments. -/
module

public import proofs.«01_k».proof.Proof.Gen.AttendIdeal.Value
public import proofs.«01_k».proof.Proof.MemRow
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.AttendIdeal.Value

open Cert.AttendIdeal Cert.AttendIdeal.Gen
open Idealize.ShloMosaic.Pipeline (Dat)

variable (m : (ℓ : Loc nD τ sig) → Buf (Elt Ideal) ℓ)

/-- Row `s` of an array over the sequence. -/
def rowOf (X : FVec Ideal S4096x512 .bf16) (s : Fin 4096) (k : Fin 512) : EReal := X (ix2 s k)
/-- An array over the memory tokens. -/
def tokens (X : FVec Ideal S256x512 .bf16) (j : Fin 256) (k : Fin 512) : EReal := X (ix2 j k)

/-- Row `r` of the query block at point `t`. -/
def qRow (c : Dev nD) (t : Fin cfg0.N) (r : Fin 512) (k : Fin 512) : EReal := (show FVec Ideal S512x512 .bf16 from iblk m c 0 t) (ix2 r k)
/-- The memory's keys at point `t`. -/
def keys (c : Dev nD) (t : Fin cfg0.N) (j : Fin 256) (k : Fin 512) : EReal := (show FVec Ideal S256x512 .bf16 from iblk m c 1 t) (ix2 j k)
/-- The memory's values at point `t`. -/
def vals (c : Dev nD) (t : Fin cfg0.N) (j : Fin 256) (k : Fin 512) : EReal := (show FVec Ideal S256x512 .bf16 from iblk m c 2 t) (ix2 j k)

/-- The first column of the head that column `k` belongs to. -/
abbrev base (k : ℕ) : ℕ := 128 * (k / 128)
theorem base_le (k : Fin 512) : base k + 128 ≤ 512 := by have := k.2; unfold base; omega

/-- A row's attention at column `k`: the values weighted by the probabilities of the column's head. -/
def readAt (q : Fin 512 → EReal) (K V : Fin 256 → Fin 512 → EReal) (k : Fin 512) : EReal :=
  ∑ j : Fin 256, MemRow.prob q K (base k) (base_le k) j * V j k

theorem readAt_at (q : Fin 512 → EReal) (K V : Fin 256 → Fin 512 → EReal) (k : Fin 512) (o : ℕ) (ho : o + 128 ≤ 512) (hk : base k = o) :
    readAt q K V k = ∑ j : Fin 256, MemRow.prob q K o ho j * V j k := by subst hk; rfl

/-- A point leaves its rows' attention in block 3. -/
theorem out3 (c : Dev nD) (t : Fin cfg0.N) (y : S512x512.Idx) :
    out0_3 (iblk m c 0 t) (iblk m c 1 t) (iblk m c 2 t) y = readAt (qRow m c t (y 0)) (keys m c t) (vals m c t) (y 1) := by
  frame_out
  canon_tiles x h
  case piece0 =>
    refine Eq.trans ?_ (readAt_at _ _ _ (y 1) 384 (by omega) (by unfold base; omega)).symm
    open_payloads
    pointwise
    simp only [MemRow.prob, MemRow.mass, MemRow.weight, MemRow.top, MemRow.score, qRow, keys, vals]
    blk_point []
  case piece1 =>
    refine Eq.trans ?_ (readAt_at _ _ _ (y 1) 256 (by omega) (by unfold base; omega)).symm
    open_payloads
    pointwise
    simp only [MemRow.prob, MemRow.mass, MemRow.weight, MemRow.top, MemRow.score, qRow, keys, vals]
    blk_point []
  case piece2 =>
    refine Eq.trans ?_ (readAt_at _ _ _ (y 1) 128 (by omega) (by unfold base; omega)).symm
    open_payloads
    pointwise
    simp only [MemRow.prob, MemRow.mass, MemRow.weight, MemRow.top, MemRow.score, qRow, keys, vals]
    blk_point []
  case piece3 =>
    refine Eq.trans ?_ (readAt_at _ _ _ (y 1) 0 (by omega) (by unfold base; omega)).symm
    open_payloads
    pointwise
    simp only [MemRow.prob, MemRow.mass, MemRow.weight, MemRow.top, MemRow.score, qRow, keys, vals]
    blk_point []

/-- The blocks' places: the sequence arrays move by the point, the memory's stay. -/
theorem idx : ∀ t : Fin cfg0.N, win0_0.index t = ![t.val, 0] ∧ win0_1.index t = ![0, 0] ∧ win0_2.index t = ![0, 0] ∧
    win0_3.index t = ![t.val, 0] ∧ t.val < 8 :=
  (by decide +kernel : ∀ t : Fin grid0.N, _)

theorem row_lt (t : Fin cfg0.N) (r : Fin 512) : t.val * 512 + r.val < 4096 := by have := (idx t).2.2.2.2; omega

theorem qRow_eq (c : Dev nD) (t : Fin cfg0.N) (r : Fin 512) :
    qRow m c t r = rowOf (m ((c : Thread nD τ).loc main_arg0)) ⟨t.val * 512 + r.val, row_lt t r⟩ := by
  funext k; unfold qRow rowOf; blk_ext! [iblk, V, idx t]
theorem keys_eq (c : Dev nD) (t : Fin cfg0.N) : keys m c t = tokens (m ((c : Thread nD τ).loc main_arg1)) := by
  funext j k; unfold keys tokens; blk_ext! [iblk, V, idx t]
theorem vals_eq (c : Dev nD) (t : Fin cfg0.N) : vals m c t = tokens (m ((c : Thread nD τ).loc main_arg2)) := by
  funext j k; unfold vals tokens; blk_ext! [iblk, V, idx t]

/-- The attention into the memory tokens. -/
def readArr (Q : FVec Ideal S4096x512 .bf16) (K V : FVec Ideal S256x512 .bf16) : FVec Ideal S4096x512 .bf16 :=
  fun y => readAt (rowOf Q (y 0)) (tokens K) (tokens V) (y 1)

theorem readAt_block (c : Dev nD) (t : Fin cfg0.N) (r k : Fin 512) :
    readAt (qRow m c t r) (keys m c t) (vals m c t) k
      = readAt (rowOf (m ((c : Thread nD τ).loc main_arg0)) ⟨t.val * 512 + r.val, row_lt t r⟩)
          (tokens (m ((c : Thread nD τ).loc main_arg1))) (tokens (m ((c : Thread nD τ).loc main_arg2))) k := by
  rw [qRow_eq, keys_eq, vals_eq]

/-- The attention after the run. -/
theorem final3 (c : Dev nD) : (dats m 0 c).arrAt 3 cfg0.N
    = readArr (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (out3 m c t y).trans ?_
  have hr : ((((cfg0.win 3).blk t).view.emb y) 0 : Fin 4096) = ⟨t.val * 512 + (y 0).val, row_lt t (y 0)⟩ := by
    apply Fin.ext; blk_simp [idx t]
  have hc : ((((cfg0.win 3).blk t).view.emb y) 1 : Fin 512) = y 1 := by
    apply Fin.ext; blk_simp [idx t]
  refine (readAt_block m c t (y 0) (y 1)).trans ?_
  exact congr (congrArg (fun s k => readAt (rowOf (m ((c : Thread nD τ).loc main_arg0)) s)
    (tokens (m ((c : Thread nD τ).loc main_arg1))) (tokens (m ((c : Thread nD τ).loc main_arg2))) k) hr.symm) hc.symm

end Cert.AttendIdeal.Value

end
-- ==== Proof.AttendTerm.lean ====
/- The reference attention into the memory tokens, tensor by tensor, read at its indices. -/
module

public import proofs.«01_k».proof.Proof.Gen.AttendPlainIdeal.Run
public import proofs.«01_k».proof.Proof.MemRow
public import Idealize.ShloMosaic.Lib.Pipeline.ValueKit

@[expose] public section

set_option maxRecDepth 16384

noncomputable section

open Idealize.ShloMosaic Idealize.ShloMosaic.TcCoe Idealize.SL.Sem

namespace Cert.AttendPlainIdeal.Value

open Cert.AttendPlainIdeal Cert.AttendPlainIdeal.Gen

section
variable (Q : FVec Ideal S4096x512 .bf16) (K V : FVec Ideal S256x512 .bf16)

/-- A sequence array's columns by heads. -/
def headsS (X : FVec Ideal S4096x512 .bf16) : FVec Ideal S4096x4x128 .f32 :=
  shapeCast _ (extf .f32 X bitsLt_bf16_f32) shapeCasts_S4096x512_S4096x4x128
/-- A memory array's columns by heads. -/
def headsM (X : FVec Ideal S256x512 .bf16) : FVec Ideal S256x4x128 .f32 :=
  shapeCast _ (extf .f32 X bitsLt_bf16_f32) shapeCasts_S256x512_S256x4x128
/-- The scores. -/
def scores : FVec Ideal S4x4096x256 .f32 :=
  mulf (Host.dotGeneral dot_S4096x4x128_S256x4x128_S4x4096x256_2_2_0_0_1_1 none (headsS Q) (headsM K))
    (broadcastInDim S4x4096x256 ![] bcast_S_S4x4096x256 (constant S_ .f32 0x3DB504F3#32))
/-- The rows' largest scores. -/
def tops : FVec Ideal S4x4096 .f32 :=
  maximumf (broadcastInDim S4x4096 ![] bcast_S_S4x4096 (constant S_ .f32 0xFF800000#32))
    (Host.reduce FloatOps.maximumf (scores Q K) (constant S_ .f32 0xFF800000#32) reducesTo_S4x4096x256_S4x4096_d2 h_S_)
/-- The unnormalised weights. -/
def weights : FVec Ideal S4x4096x256 .f32 :=
  Host.exp (subf (scores Q K) (broadcastInDim S4x4096x256 ![0, 1, 2] bcast_S4x4096x1_S4x4096x256_0_1_2
    (broadcastInDim S4x4096x1 ![0, 1] bcast_S4x4096_S4x4096x1_0_1 (tops Q K))))
/-- The rows' sums of weights. -/
def masses : FVec Ideal S4x4096x1 .f32 :=
  broadcastInDim S4x4096x1 ![0, 1] bcast_S4x4096_S4x4096x1_0_1
    (Host.reduceAdd (weights Q K) (constant S_ .f32 0x00000000#32) reducesTo_S4x4096x256_S4x4096_d2 h_S_)
/-- The probabilities. -/
def probs : FVec Ideal S4x4096x256 .f32 :=
  Host.divf (weights Q K) (broadcastInDim S4x4096x256 ![0, 1, 2] bcast_S4x4096x1_S4x4096x256_0_1_2 (masses Q K))
/-- The attention. -/
def readTerm : FVec Ideal S4096x512 .bf16 :=
  truncf .bf16 (shapeCast _ (transpose S4096x4x128 [2, 0, 1] (Host.dotGeneral dot_S256x4x128_S4x4096x256_S4x128x4096_0_2_2_1_1_0 none
    (headsM V) (probs Q K)) transposes_S4x128x4096_S4096x4x128_2_0_1) shapeCasts_S4096x4x128_S4096x512) bitsLt_bf16_f32

/-- Row `s` of an array over the sequence. -/
def rowOf (X : FVec Ideal S4096x512 .bf16) (s : Fin 4096) (k : Fin 512) : EReal := X (ix2 s k)
/-- An array over the memory tokens. -/
def tokens (X : FVec Ideal S256x512 .bf16) (j : Fin 256) (k : Fin 512) : EReal := X (ix2 j k)

theorem head_le (h : Fin 4) : 128 * h.val + 128 ≤ 512 := by omega

theorem scores_at (h : Fin 4) (s : Fin 4096) (j : Fin 256) :
    scores Q K (ix3 h s j) = MemRow.score (rowOf Q s) (tokens K) (128 * h.val) (head_le h) j := by
  pointwise [scores, headsS, headsM]
  simp only [MemRow.score, rowOf, tokens]
  blk_point []

theorem rowMax_at (X : FVec Ideal S4x4096x256 .f32) (h : Fin 4) (s : Fin 4096) :
    Host.reduce FloatOps.maximumf X (constant S_ .f32 0xFF800000#32) reducesTo_S4x4096x256_S4x4096_d2 h_S_ (ix2 h s)
      = Finset.fold max (Ideal.ofBits FTy.f32 4286578688#32) (fun j => X (ix3 h s j)) Finset.univ := by
  pointwise

theorem floor_at (h : Fin 4) (s : Fin 4096) :
    (broadcastInDim S4x4096 ![] bcast_S_S4x4096 (constant S_ .f32 0xFF800000#32) : FVec Ideal S4x4096 .f32) (ix2 h s)
      = Ideal.ofBits FTy.f32 4286578688#32 := by
  pointwise

theorem maximumf_at {S : Shape} (A B : FVec Ideal S .f32) (i : S.Idx) : maximumf A B i = max (A i) (B i) := rfl

theorem max_floor (x : EReal) : max (Ideal.ofBits FTy.f32 4286578688#32) x = x := by
  rw [show Ideal.ofBits FTy.f32 4286578688#32 = ⊥ by simp [Ideal.ofBits, Ideal.ieee]]
  exact max_bot_left _

theorem tops_at (h : Fin 4) (s : Fin 4096) :
    tops Q K (ix2 h s) = MemRow.top (rowOf Q s) (tokens K) (128 * h.val) (head_le h) := by
  unfold tops
  rw [maximumf_at, floor_at, rowMax_at, max_floor]
  simp only [MemRow.top, scores_at]

theorem weights_at (h : Fin 4) (s : Fin 4096) (j : Fin 256) :
    weights Q K (ix3 h s j) = MemRow.weight (rowOf Q s) (tokens K) (128 * h.val) (head_le h) j := by
  pointwise [weights]
  simp only [MemRow.weight, scores_at, tops_at]

theorem masses_at (h : Fin 4) (s : Fin 4096) (z : Fin 1) :
    masses Q K (ix3 h s z) = MemRow.mass (rowOf Q s) (tokens K) (128 * h.val) (head_le h) := by
  pointwise [masses]
  simp only [MemRow.mass, weights_at]

theorem probs_at (h : Fin 4) (s : Fin 4096) (j : Fin 256) :
    probs Q K (ix3 h s j) = MemRow.prob (rowOf Q s) (tokens K) (128 * h.val) (head_le h) j := by
  pointwise [probs]
  simp only [MemRow.prob, weights_at, masses_at]

theorem readTerm_at (s : Fin 4096) (k : Fin 512) :
    readTerm Q K V (ix2 s k) = ∑ j : Fin 256, V (ix2 j k) * probs Q K (ix3 ⟨k.val / 128, by omega⟩ s j) := by
  pointwise [readTerm, headsM]

end

end Cert.AttendPlainIdeal.Value

end
-- ==== Proof.AttendClaim.lean ====
/- The kernel's attention into the memory tokens is the reference's, and the claim that compares the two programs. -/
module

public import proofs.«01_k».proof.Defs
public import proofs.«01_k».proof.Proof.AttendFinal
public import proofs.«01_k».proof.Proof.AttendTerm
public import Idealize.ShloMosaic.Adequacy
public import Idealize.ShloMosaic.Init

@[expose] public section

set_option maxRecDepth 16384

noncomputable section

open Idealize.ShloMosaic Idealize.ShloMosaic.TcCoe Idealize.SL.Sem

namespace Cert.AttendClaim

open Cert.AttendIdeal Cert.AttendPlainIdeal.Value Cert.AttendIdeal.Value

theorem read_eq (Q : FVec Ideal S4096x512 .bf16) (K V : FVec Ideal S256x512 .bf16) : readTerm Q K V = readArr Q K V := by
  funext y
  obtain ⟨s, k, rfl⟩ : ∃ (s : Fin 4096) (k : Fin 512), y = ix2 s k := ⟨y 0, y 1, by funext a; fin_cases a <;> rfl⟩
  refine (readTerm_at Q K V s k).trans ?_
  unfold readArr readAt
  refine (Finset.sum_congr rfl fun j _ => ?_)
  rw [probs_at, mul_comm]
  rfl

/-- The kernel and the reference end with equal arrays. -/
theorem algebraic : Cert.algebraic_AttendIdeal_AttendPlainIdeal (hAttendIdeal := Cert.AttendIdeal.Gen.facts)
    (hAttendPlainIdeal := Cert.AttendPlainIdeal.Gen.facts) := by
  pair_intro
  · run_from Cert.AttendIdeal.Gen.run_main m g
  · run_from Cert.AttendPlainIdeal.Value.run m' g'
    refine Eq.trans ?_ (final3 m c).symm
    exact read_eq (m ((c.tc : Thread nD τ).loc main_arg0)) (m ((c.tc : Thread nD τ).loc main_arg1)) (m ((c.tc : Thread nD τ).loc main_arg2))

end Cert.AttendClaim

end
-- ==== Proof.lean ====
module

public import proofs.«01_k».proof.Defs
public import proofs.«01_k».proof.Proof.Gen.Mem
public import proofs.«01_k».proof.Proof.Gen.Mem.Frame
public import proofs.«01_k».proof.Proof.Gen.MemIdeal
public import proofs.«01_k».proof.Proof.Gen.MemIdeal.Frame
public import proofs.«01_k».proof.Proof.Gen.MemIdeal.Value
public import proofs.«01_k».proof.Proof.Gen.MemGradIdeal
public import proofs.«01_k».proof.Proof.Gen.MemGradIdeal.Run
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpGradIdeal
public import proofs.«01_k».proof.Proof.Gen.MlpGradIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownGradIdeal
public import proofs.«01_k».proof.Proof.Gen.DownGradIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpGradIdeal
public import proofs.«01_k».proof.Proof.Gen.UpGradIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjPlainIdeal
public import proofs.«01_k».proof.Proof.Gen.ProjPlainIdeal.Run
public import proofs.«01_k».proof.Proof.Gen.InX
public import proofs.«01_k».proof.Proof.Gen.InX.Frame
public import proofs.«01_k».proof.Proof.Gen.InXIdeal
public import proofs.«01_k».proof.Proof.Gen.InXIdeal.Frame
public import proofs.«01_k».proof.Proof.Gen.InXGradIdeal
public import proofs.«01_k».proof.Proof.Gen.InXGradIdeal.Run
public import proofs.«01_k».proof.Proof.Gen.InA
public import proofs.«01_k».proof.Proof.Gen.InA.Frame
public import proofs.«01_k».proof.Proof.Gen.InAIdeal
public import proofs.«01_k».proof.Proof.Gen.InAIdeal.Frame
public import proofs.«01_k».proof.Proof.Gen.InAGradIdeal
public import proofs.«01_k».proof.Proof.Gen.InAGradIdeal.Run
public import proofs.«01_k».proof.Proof.Gen.InB
public import proofs.«01_k».proof.Proof.Gen.InB.Frame
public import proofs.«01_k».proof.Proof.Gen.InBIdeal
public import proofs.«01_k».proof.Proof.Gen.InBIdeal.Frame
public import proofs.«01_k».proof.Proof.Gen.InBGradIdeal
public import proofs.«01_k».proof.Proof.Gen.InBGradIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutGradIdeal
public import proofs.«01_k».proof.Proof.Gen.OutGradIdeal.Run
public import proofs.«01_k».proof.Proof.Gen.Branch
public import proofs.«01_k».proof.Proof.Gen.Branch.Frame
public import proofs.«01_k».proof.Proof.Gen.BranchIdeal
public import proofs.«01_k».proof.Proof.Gen.BranchIdeal.Frame
public import proofs.«01_k».proof.Proof.Gen.BranchGradIdeal
public import proofs.«01_k».proof.Proof.Gen.BranchGradIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergePlainIdeal
public import proofs.«01_k».proof.Proof.Gen.MergePlainIdeal.Run
public import proofs.«01_k».proof.Proof.Gen.Mix
public import proofs.«01_k».proof.Proof.MixFrame
public import proofs.«01_k».proof.Proof.Gen.MixIdeal
public import proofs.«01_k».proof.Proof.MixIdealFrame
public import proofs.«01_k».proof.Proof.Gen.MixGradIdeal
public import proofs.«01_k».proof.Proof.Gen.MixGradIdeal.Run
public import proofs.«01_k».proof.Proof.Gen.Attend
public import proofs.«01_k».proof.Proof.Gen.Attend.Frame
public import proofs.«01_k».proof.Proof.Gen.AttendIdeal
public import proofs.«01_k».proof.Proof.Gen.AttendIdeal.Frame
public import proofs.«01_k».proof.Proof.Gen.AttendPlainIdeal
public import proofs.«01_k».proof.Proof.Gen.AttendPlainIdeal.Run
public import proofs.«01_k».proof.Proof.Gen.Pre_mem_finite
public import proofs.«01_k».proof.Proof.MemClaim
public import proofs.«01_k».proof.Proof.MlpClaim
public import proofs.«01_k».proof.Proof.DownClaim
public import proofs.«01_k».proof.Proof.UpClaim
public import proofs.«01_k».proof.Proof.ProjClaim
public import proofs.«01_k».proof.Proof.InXClaim
public import proofs.«01_k».proof.Proof.InAClaim
public import proofs.«01_k».proof.Proof.InBClaim
public import proofs.«01_k».proof.Proof.OutClaim
public import proofs.«01_k».proof.Proof.BranchClaim
public import proofs.«01_k».proof.Proof.MergeClaim
public import proofs.«01_k».proof.Proof.MixClaim
public import proofs.«01_k».proof.Proof.AttendClaim
public import Idealize.ShloMosaic.Adequacy
public import Idealize.ShloMosaic.Init

@[expose] public section

noncomputable section

namespace Cert.Proof

open Idealize.ShloMosaic Idealize.SL.Sem

/-! A reference's frame: its run, read at the arguments; it has no semaphore. -/

theorem memGrad_frame : Cert.quiescent_MemGradIdeal (hMemGradIdeal := Cert.MemGradIdeal.Gen.facts) := by
  intro m g _
  exact (θ_run Cert.MemGradIdeal.defs _ _).mono (fun r h => ⟨fun c => (h c).2.2.2,
      Idealize.ShloMosaic.sem_eq_zero_of_no_sems (by decide) r.2⟩) (Cert.MemGradIdeal.Value.run m g)

theorem mlpGrad_frame : Cert.quiescent_MlpGradIdeal (hMlpGradIdeal := Cert.MlpGradIdeal.Gen.facts) := by
  intro m g _
  exact (θ_run Cert.MlpGradIdeal.defs _ _).mono (fun r h => ⟨fun c => (h c).2.2.2,
      Idealize.ShloMosaic.sem_eq_zero_of_no_sems (by decide) r.2⟩) (Cert.MlpGradIdeal.Value.run m g)

theorem downGrad_frame : Cert.quiescent_DownGradIdeal (hDownGradIdeal := Cert.DownGradIdeal.Gen.facts) := by
  intro m g _
  exact (θ_run Cert.DownGradIdeal.defs _ _).mono (fun r h => ⟨fun c => (h c).2,
      Idealize.ShloMosaic.sem_eq_zero_of_no_sems (by decide) r.2⟩) (Cert.DownGradIdeal.Value.run m g)

theorem upGrad_frame : Cert.quiescent_UpGradIdeal (hUpGradIdeal := Cert.UpGradIdeal.Gen.facts) := by
  intro m g _
  exact (θ_run Cert.UpGradIdeal.defs _ _).mono (fun r h => ⟨fun c => (h c).2,
      Idealize.ShloMosaic.sem_eq_zero_of_no_sems (by decide) r.2⟩) (Cert.UpGradIdeal.Value.run m g)

theorem projPlain_frame : Cert.quiescent_ProjPlainIdeal (hProjPlainIdeal := Cert.ProjPlainIdeal.Gen.facts) := by
  intro m g _
  exact (θ_run Cert.ProjPlainIdeal.defs _ _).mono (fun r h => ⟨fun c => (h c).2.2,
      Idealize.ShloMosaic.sem_eq_zero_of_no_sems (by decide) r.2⟩) (Cert.ProjPlainIdeal.Value.run m g)

theorem inXGrad_frame : Cert.quiescent_InXGradIdeal (hInXGradIdeal := Cert.InXGradIdeal.Gen.facts) := by
  intro m g _
  exact (θ_run Cert.InXGradIdeal.defs _ _).mono (fun r h => ⟨fun c => (h c).2.2,
      Idealize.ShloMosaic.sem_eq_zero_of_no_sems (by decide) r.2⟩) (Cert.InXGradIdeal.Value.run m g)

theorem inAGrad_frame : Cert.quiescent_InAGradIdeal (hInAGradIdeal := Cert.InAGradIdeal.Gen.facts) := by
  intro m g _
  exact (θ_run Cert.InAGradIdeal.defs _ _).mono (fun r h => ⟨fun c => (h c).2,
      Idealize.ShloMosaic.sem_eq_zero_of_no_sems (by decide) r.2⟩) (Cert.InAGradIdeal.Value.run m g)

theorem inBGrad_frame : Cert.quiescent_InBGradIdeal (hInBGradIdeal := Cert.InBGradIdeal.Gen.facts) := by
  intro m g _
  exact (θ_run Cert.InBGradIdeal.defs _ _).mono (fun r h => ⟨fun c => (h c).2,
      Idealize.ShloMosaic.sem_eq_zero_of_no_sems (by decide) r.2⟩) (Cert.InBGradIdeal.Value.run m g)

theorem outGrad_frame : Cert.quiescent_OutGradIdeal (hOutGradIdeal := Cert.OutGradIdeal.Gen.facts) := by
  intro m g _
  exact (θ_run Cert.OutGradIdeal.defs _ _).mono (fun r h => ⟨fun c => (h c).2,
      Idealize.ShloMosaic.sem_eq_zero_of_no_sems (by decide) r.2⟩) (Cert.OutGradIdeal.Value.run m g)

theorem branchGrad_frame : Cert.quiescent_BranchGradIdeal (hBranchGradIdeal := Cert.BranchGradIdeal.Gen.facts) := by
  intro m g _
  exact (θ_run Cert.BranchGradIdeal.defs _ _).mono (fun r h => ⟨fun c => (h c).2.2.2,
      Idealize.ShloMosaic.sem_eq_zero_of_no_sems (by decide) r.2⟩) (Cert.BranchGradIdeal.Value.run m g)

theorem mergePlain_frame : Cert.quiescent_MergePlainIdeal (hMergePlainIdeal := Cert.MergePlainIdeal.Gen.facts) := by
  intro m g _
  exact (θ_run Cert.MergePlainIdeal.defs _ _).mono (fun r h => ⟨fun c => (h c).2.2.2,
      Idealize.ShloMosaic.sem_eq_zero_of_no_sems (by decide) r.2⟩) (Cert.MergePlainIdeal.Value.run m g)

theorem mixGrad_frame : Cert.quiescent_MixGradIdeal (hMixGradIdeal := Cert.MixGradIdeal.Gen.facts) := by
  intro m g _
  exact (θ_run Cert.MixGradIdeal.defs _ _).mono (fun r h => ⟨fun c => (h c).2.2.2.2.2.2.2.2,
      Idealize.ShloMosaic.sem_eq_zero_of_no_sems (by decide) r.2⟩) (Cert.MixGradIdeal.Value.run m g)

theorem attendPlain_frame : Cert.quiescent_AttendPlainIdeal (hAttendPlainIdeal := Cert.AttendPlainIdeal.Gen.facts) := by
  intro m g _
  exact (θ_run Cert.AttendPlainIdeal.defs _ _).mono (fun r h => ⟨fun c => (h c).2,
      Idealize.ShloMosaic.sem_eq_zero_of_no_sems (by decide) r.2⟩) (Cert.AttendPlainIdeal.Value.run m g)

theorem claim : Cert.Claim := ⟨Cert.Mem.Gen.facts, Cert.MemIdeal.Gen.facts, Cert.MemGradIdeal.Gen.facts, Cert.Mlp.Gen.facts,
  Cert.MlpIdeal.Gen.facts, Cert.MlpGradIdeal.Gen.facts, Cert.Down.Gen.facts, Cert.DownIdeal.Gen.facts,
  Cert.DownGradIdeal.Gen.facts, Cert.Up.Gen.facts, Cert.UpIdeal.Gen.facts, Cert.UpGradIdeal.Gen.facts, Cert.Proj.Gen.facts,
  Cert.ProjIdeal.Gen.facts, Cert.ProjPlainIdeal.Gen.facts, Cert.InX.Gen.facts, Cert.InXIdeal.Gen.facts,
  Cert.InXGradIdeal.Gen.facts, Cert.InA.Gen.facts, Cert.InAIdeal.Gen.facts, Cert.InAGradIdeal.Gen.facts, Cert.InB.Gen.facts,
  Cert.InBIdeal.Gen.facts, Cert.InBGradIdeal.Gen.facts, Cert.Out.Gen.facts, Cert.OutIdeal.Gen.facts, Cert.OutGradIdeal.Gen.facts,
  Cert.Branch.Gen.facts, Cert.BranchIdeal.Gen.facts, Cert.BranchGradIdeal.Gen.facts, Cert.Merge.Gen.facts,
  Cert.MergeIdeal.Gen.facts, Cert.MergePlainIdeal.Gen.facts, Cert.Mix.Gen.facts, Cert.MixIdeal.Gen.facts,
  Cert.MixGradIdeal.Gen.facts, Cert.Attend.Gen.facts, Cert.AttendIdeal.Gen.facts, Cert.AttendPlainIdeal.Gen.facts,
  Cert.Pre_mem_finite.Gen.facts,
  fun m ρ _ => Cert.Mem.Gen.frame m ρ,
  fun m ρ _ => Cert.MemIdeal.Gen.frame m ρ,
  fun m ρ _ => Cert.MemIdeal.Gen.frame m ρ,
  memGrad_frame,
  fun m ρ _ => memGrad_frame m ρ trivial,
  fun m ρ _ => Cert.Mlp.Gen.frame m ρ,
  fun m ρ _ => Cert.MlpIdeal.Gen.frame m ρ,
  mlpGrad_frame,
  fun m ρ _ => Cert.Down.Gen.frame m ρ,
  fun m ρ _ => Cert.DownIdeal.Gen.frame m ρ,
  downGrad_frame,
  fun m ρ _ => Cert.Up.Gen.frame m ρ,
  fun m ρ _ => Cert.UpIdeal.Gen.frame m ρ,
  upGrad_frame,
  fun m ρ _ => Cert.Proj.Gen.frame m ρ,
  fun m ρ _ => Cert.ProjIdeal.Gen.frame m ρ,
  projPlain_frame,
  fun m ρ _ => Cert.InX.Gen.frame m ρ,
  fun m ρ _ => Cert.InXIdeal.Gen.frame m ρ,
  inXGrad_frame,
  fun m ρ _ => Cert.InA.Gen.frame m ρ,
  fun m ρ _ => Cert.InAIdeal.Gen.frame m ρ,
  inAGrad_frame,
  fun m ρ _ => Cert.InB.Gen.frame m ρ,
  fun m ρ _ => Cert.InBIdeal.Gen.frame m ρ,
  inBGrad_frame,
  fun m ρ _ => Cert.Out.Gen.frame m ρ,
  fun m ρ _ => Cert.OutIdeal.Gen.frame m ρ,
  outGrad_frame,
  fun m ρ _ => Cert.Branch.Gen.frame m ρ,
  fun m ρ _ => Cert.BranchIdeal.Gen.frame m ρ,
  branchGrad_frame,
  fun m ρ _ => Cert.Merge.Gen.frame m ρ,
  fun m ρ _ => Cert.MergeIdeal.Gen.frame m ρ,
  mergePlain_frame,
  fun m ρ _ => Cert.Mix.Gen.frame m ρ,
  fun m ρ _ => Cert.MixIdeal.Gen.frame m ρ,
  mixGrad_frame,
  fun m ρ _ => Cert.Attend.Gen.frame m ρ,
  fun m ρ _ => Cert.AttendIdeal.Gen.frame m ρ,
  attendPlain_frame,
  trivial,
  Cert.MemClaim.algebraic,
  trivial,
  Cert.MlpClaim.algebraic,
  trivial,
  Cert.DownClaim.algebraic,
  trivial,
  Cert.UpClaim.algebraic,
  trivial,
  Cert.ProjClaim.algebraic,
  trivial,
  Cert.InXClaim.algebraic,
  trivial,
  Cert.InAClaim.algebraic,
  trivial,
  Cert.InBClaim.algebraic,
  trivial,
  Cert.OutClaim.algebraic,
  trivial,
  Cert.BranchClaim.algebraic,
  trivial,
  Cert.MergeClaim.algebraic,
  trivial,
  Cert.MixClaim.algebraic,
  trivial,
  Cert.AttendClaim.algebraic⟩

end Cert.Proof

end
